-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_out_finite [hPre_out_finite : Cert.Pre_out_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).2.2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).2.2.2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).2.2.2.2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).2.2.2.2.2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).2.2.2.2.2.2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8))).2.2.2.2.2.2.2 = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_out_finite [hPre_out_finite : Cert.Pre_out_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).2.2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).2.2.2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).2.2.2.2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).2.2.2.2.2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).2.2.2.2.2.2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8))).2.2.2.2.2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ r.2.sem = fun _ => 0)

def quiescent_OutKernelIdeal_pre_out_finite [hOutKernelIdeal : Cert.OutKernelIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_out_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_OutReferenceIdeal_pre_out_finite [hOutReferenceIdeal : Cert.OutReferenceIdeal.Facts] [hPre_out_finite : Cert.Pre_out_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_out_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6)
      ∧ r.2.mem ((c.tc : Thread Cert.FwdKernel.nD Cert.FwdKernel.τ).loc Cert.FwdKernel.main_arg7) = m ((c.tc : Thread Cert.FwdKernel.nD Cert.FwdKernel.τ).loc Cert.FwdKernel.main_arg7)
      ∧ r.2.mem ((c.tc : Thread Cert.FwdKernel.nD Cert.FwdKernel.τ).loc Cert.FwdKernel.main_arg8) = m ((c.tc : Thread Cert.FwdKernel.nD Cert.FwdKernel.τ).loc Cert.FwdKernel.main_arg8)
      ∧ r.2.mem ((c.tc : Thread Cert.FwdKernel.nD Cert.FwdKernel.τ).loc Cert.FwdKernel.main_arg9) = m ((c.tc : Thread Cert.FwdKernel.nD Cert.FwdKernel.τ).loc Cert.FwdKernel.main_arg9)
      ∧ r.2.mem ((c.tc : Thread Cert.FwdKernel.nD Cert.FwdKernel.τ).loc Cert.FwdKernel.main_arg10) = m ((c.tc : Thread Cert.FwdKernel.nD Cert.FwdKernel.τ).loc Cert.FwdKernel.main_arg10)
      ∧ r.2.mem ((c.tc : Thread Cert.FwdKernel.nD Cert.FwdKernel.τ).loc Cert.FwdKernel.main_arg11) = m ((c.tc : Thread Cert.FwdKernel.nD Cert.FwdKernel.τ).loc Cert.FwdKernel.main_arg11)
      ∧ r.2.mem ((c.tc : Thread Cert.FwdKernel.nD Cert.FwdKernel.τ).loc Cert.FwdKernel.main_arg12) = m ((c.tc : Thread Cert.FwdKernel.nD Cert.FwdKernel.τ).loc Cert.FwdKernel.main_arg12)
      ∧ r.2.mem ((c.tc : Thread Cert.FwdKernel.nD Cert.FwdKernel.τ).loc Cert.FwdKernel.main_arg13) = m ((c.tc : Thread Cert.FwdKernel.nD Cert.FwdKernel.τ).loc Cert.FwdKernel.main_arg13)
      ∧ r.2.mem ((c.tc : Thread Cert.FwdKernel.nD Cert.FwdKernel.τ).loc Cert.FwdKernel.main_arg14) = m ((c.tc : Thread Cert.FwdKernel.nD Cert.FwdKernel.τ).loc Cert.FwdKernel.main_arg14)
      ∧ r.2.mem ((c.tc : Thread Cert.FwdKernel.nD Cert.FwdKernel.τ).loc Cert.FwdKernel.main_arg15) = m ((c.tc : Thread Cert.FwdKernel.nD Cert.FwdKernel.τ).loc Cert.FwdKernel.main_arg15))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
      ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8)
      ∧ r.2.mem ((c.tc : Thread Cert.FwdKernelIdeal.nD Cert.FwdKernelIdeal.τ).loc Cert.FwdKernelIdeal.main_arg9) = m ((c.tc : Thread Cert.FwdKernelIdeal.nD Cert.FwdKernelIdeal.τ).loc Cert.FwdKernelIdeal.main_arg9)
      ∧ r.2.mem ((c.tc : Thread Cert.FwdKernelIdeal.nD Cert.FwdKernelIdeal.τ).loc Cert.FwdKernelIdeal.main_arg10) = m ((c.tc : Thread Cert.FwdKernelIdeal.nD Cert.FwdKernelIdeal.τ).loc Cert.FwdKernelIdeal.main_arg10)
      ∧ r.2.mem ((c.tc : Thread Cert.FwdKernelIdeal.nD Cert.FwdKernelIdeal.τ).loc Cert.FwdKernelIdeal.main_arg11) = m ((c.tc : Thread Cert.FwdKernelIdeal.nD Cert.FwdKernelIdeal.τ).loc Cert.FwdKernelIdeal.main_arg11)
      ∧ r.2.mem ((c.tc : Thread Cert.FwdKernelIdeal.nD Cert.FwdKernelIdeal.τ).loc Cert.FwdKernelIdeal.main_arg12) = m ((c.tc : Thread Cert.FwdKernelIdeal.nD Cert.FwdKernelIdeal.τ).loc Cert.FwdKernelIdeal.main_arg12)
      ∧ r.2.mem ((c.tc : Thread Cert.FwdKernelIdeal.nD Cert.FwdKernelIdeal.τ).loc Cert.FwdKernelIdeal.main_arg13) = m ((c.tc : Thread Cert.FwdKernelIdeal.nD Cert.FwdKernelIdeal.τ).loc Cert.FwdKernelIdeal.main_arg13)
      ∧ r.2.mem ((c.tc : Thread Cert.FwdKernelIdeal.nD Cert.FwdKernelIdeal.τ).loc Cert.FwdKernelIdeal.main_arg14) = m ((c.tc : Thread Cert.FwdKernelIdeal.nD Cert.FwdKernelIdeal.τ).loc Cert.FwdKernelIdeal.main_arg14)
      ∧ r.2.mem ((c.tc : Thread Cert.FwdKernelIdeal.nD Cert.FwdKernelIdeal.τ).loc Cert.FwdKernelIdeal.main_arg15) = m ((c.tc : Thread Cert.FwdKernelIdeal.nD Cert.FwdKernelIdeal.τ).loc Cert.FwdKernelIdeal.main_arg15))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8)
      ∧ r.2.mem ((c.tc : Thread Cert.FwdReferenceIdeal.nD Cert.FwdReferenceIdeal.τ).loc Cert.FwdReferenceIdeal.main_arg9) = m ((c.tc : Thread Cert.FwdReferenceIdeal.nD Cert.FwdReferenceIdeal.τ).loc Cert.FwdReferenceIdeal.main_arg9)
      ∧ r.2.mem ((c.tc : Thread Cert.FwdReferenceIdeal.nD Cert.FwdReferenceIdeal.τ).loc Cert.FwdReferenceIdeal.main_arg10) = m ((c.tc : Thread Cert.FwdReferenceIdeal.nD Cert.FwdReferenceIdeal.τ).loc Cert.FwdReferenceIdeal.main_arg10)
      ∧ r.2.mem ((c.tc : Thread Cert.FwdReferenceIdeal.nD Cert.FwdReferenceIdeal.τ).loc Cert.FwdReferenceIdeal.main_arg11) = m ((c.tc : Thread Cert.FwdReferenceIdeal.nD Cert.FwdReferenceIdeal.τ).loc Cert.FwdReferenceIdeal.main_arg11)
      ∧ r.2.mem ((c.tc : Thread Cert.FwdReferenceIdeal.nD Cert.FwdReferenceIdeal.τ).loc Cert.FwdReferenceIdeal.main_arg12) = m ((c.tc : Thread Cert.FwdReferenceIdeal.nD Cert.FwdReferenceIdeal.τ).loc Cert.FwdReferenceIdeal.main_arg12)
      ∧ r.2.mem ((c.tc : Thread Cert.FwdReferenceIdeal.nD Cert.FwdReferenceIdeal.τ).loc Cert.FwdReferenceIdeal.main_arg13) = m ((c.tc : Thread Cert.FwdReferenceIdeal.nD Cert.FwdReferenceIdeal.τ).loc Cert.FwdReferenceIdeal.main_arg13)
      ∧ r.2.mem ((c.tc : Thread Cert.FwdReferenceIdeal.nD Cert.FwdReferenceIdeal.τ).loc Cert.FwdReferenceIdeal.main_arg14) = m ((c.tc : Thread Cert.FwdReferenceIdeal.nD Cert.FwdReferenceIdeal.τ).loc Cert.FwdReferenceIdeal.main_arg14)
      ∧ r.2.mem ((c.tc : Thread Cert.FwdReferenceIdeal.nD Cert.FwdReferenceIdeal.τ).loc Cert.FwdReferenceIdeal.main_arg15) = m ((c.tc : Thread Cert.FwdReferenceIdeal.nD Cert.FwdReferenceIdeal.τ).loc Cert.FwdReferenceIdeal.main_arg15))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5)
      ∧ r.2.mem ((c.tc : Thread Cert.AdamKernel.nD Cert.AdamKernel.τ).loc Cert.AdamKernel.main_arg6) = m ((c.tc : Thread Cert.AdamKernel.nD Cert.AdamKernel.τ).loc Cert.AdamKernel.main_arg6)
      ∧ r.2.mem ((c.tc : Thread Cert.AdamKernel.nD Cert.AdamKernel.τ).loc Cert.AdamKernel.main_arg7) = m ((c.tc : Thread Cert.AdamKernel.nD Cert.AdamKernel.τ).loc Cert.AdamKernel.main_arg7))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
      ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
      ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutKernel_OutKernelIdeal : Prop :=
  True

def algebraic_OutKernelIdeal_OutReferenceIdeal_pre_out_finite [hOutKernelIdeal : Cert.OutKernelIdeal.Facts] [hOutReferenceIdeal : Cert.OutReferenceIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_out_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)) →
    ∃ (v0 : (c : Dev Cert.OutKernelIdeal.nD) → Buf (Elt Ideal) ((c.tc : Thread Cert.OutKernelIdeal.nD Cert.OutKernelIdeal.τ).loc Cert.OutKernelIdeal.main_v24)) (v1 : (c : Dev Cert.OutKernelIdeal.nD) → Buf (Elt Ideal) ((c.tc : Thread Cert.OutKernelIdeal.nD Cert.OutKernelIdeal.τ).loc Cert.OutKernelIdeal.main_v23)) (v2 : (c : Dev Cert.OutKernelIdeal.nD) → Buf (Elt Ideal) ((c.tc : Thread Cert.OutKernelIdeal.nD Cert.OutKernelIdeal.τ).loc Cert.OutKernelIdeal.main_v25)) (v3 : (c : Dev Cert.OutKernelIdeal.nD) → Buf (Elt Ideal) ((c.tc : Thread Cert.OutKernelIdeal.nD Cert.OutKernelIdeal.τ).loc Cert.OutKernelIdeal.main_v26)) (v4 : (c : Dev Cert.OutKernelIdeal.nD) → Buf (Elt Ideal) ((c.tc : Thread Cert.OutKernelIdeal.nD Cert.OutKernelIdeal.τ).loc Cert.OutKernelIdeal.main_v27)) (v5 : (c : Dev Cert.OutKernelIdeal.nD) → Buf (Elt Ideal) ((c.tc : Thread Cert.OutKernelIdeal.nD Cert.OutKernelIdeal.τ).loc Cert.OutKernelIdeal.main_v28)) (v6 : (c : Dev Cert.OutKernelIdeal.nD) → Buf (Elt Ideal) ((c.tc : Thread Cert.OutKernelIdeal.nD Cert.OutKernelIdeal.τ).loc Cert.OutKernelIdeal.main_v21_6)) (v7 : (c : Dev Cert.OutKernelIdeal.nD) → Buf (Elt Ideal) ((c.tc : Thread Cert.OutKernelIdeal.nD Cert.OutKernelIdeal.τ).loc Cert.OutKernelIdeal.main_v21_7)) (v8 : (c : Dev Cert.OutKernelIdeal.nD) → Buf (Elt Ideal) ((c.tc : Thread Cert.OutKernelIdeal.nD Cert.OutKernelIdeal.τ).loc Cert.OutKernelIdeal.main_v29)) (v9 : (c : Dev Cert.OutKernelIdeal.nD) → Buf (Elt Ideal) ((c.tc : Thread Cert.OutKernelIdeal.nD Cert.OutKernelIdeal.τ).loc Cert.OutKernelIdeal.main_v30)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v24) = v0 c
          ∧ r.2.mem ((c.tc : Thread Cert.OutKernelIdeal.nD Cert.OutKernelIdeal.τ).loc Cert.OutKernelIdeal.main_v23) = v1 c
          ∧ r.2.mem ((c.tc : Thread Cert.OutKernelIdeal.nD Cert.OutKernelIdeal.τ).loc Cert.OutKernelIdeal.main_v25) = v2 c
          ∧ r.2.mem ((c.tc : Thread Cert.OutKernelIdeal.nD Cert.OutKernelIdeal.τ).loc Cert.OutKernelIdeal.main_v26) = v3 c
          ∧ r.2.mem ((c.tc : Thread Cert.OutKernelIdeal.nD Cert.OutKernelIdeal.τ).loc Cert.OutKernelIdeal.main_v27) = v4 c
          ∧ r.2.mem ((c.tc : Thread Cert.OutKernelIdeal.nD Cert.OutKernelIdeal.τ).loc Cert.OutKernelIdeal.main_v28) = v5 c
          ∧ r.2.mem ((c.tc : Thread Cert.OutKernelIdeal.nD Cert.OutKernelIdeal.τ).loc Cert.OutKernelIdeal.main_v21_6) = v6 c
          ∧ r.2.mem ((c.tc : Thread Cert.OutKernelIdeal.nD Cert.OutKernelIdeal.τ).loc Cert.OutKernelIdeal.main_v21_7) = v7 c
          ∧ r.2.mem ((c.tc : Thread Cert.OutKernelIdeal.nD Cert.OutKernelIdeal.τ).loc Cert.OutKernelIdeal.main_v29) = v8 c
          ∧ r.2.mem ((c.tc : Thread Cert.OutKernelIdeal.nD Cert.OutKernelIdeal.τ).loc Cert.OutKernelIdeal.main_v30) = v9 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v69) = v0 c
          ∧ r.2.mem ((c.tc : Thread Cert.OutReferenceIdeal.nD Cert.OutReferenceIdeal.τ).loc Cert.OutReferenceIdeal.main_v86) = v1 c
          ∧ r.2.mem ((c.tc : Thread Cert.OutReferenceIdeal.nD Cert.OutReferenceIdeal.τ).loc Cert.OutReferenceIdeal.main_v104) = v2 c
          ∧ r.2.mem ((c.tc : Thread Cert.OutReferenceIdeal.nD Cert.OutReferenceIdeal.τ).loc Cert.OutReferenceIdeal.main_v105) = v3 c
          ∧ r.2.mem ((c.tc : Thread Cert.OutReferenceIdeal.nD Cert.OutReferenceIdeal.τ).loc Cert.OutReferenceIdeal.main_v103) = v4 c
          ∧ r.2.mem ((c.tc : Thread Cert.OutReferenceIdeal.nD Cert.OutReferenceIdeal.τ).loc Cert.OutReferenceIdeal.main_v78) = v5 c
          ∧ r.2.mem ((c.tc : Thread Cert.OutReferenceIdeal.nD Cert.OutReferenceIdeal.τ).loc Cert.OutReferenceIdeal.main_v80) = v6 c
          ∧ r.2.mem ((c.tc : Thread Cert.OutReferenceIdeal.nD Cert.OutReferenceIdeal.τ).loc Cert.OutReferenceIdeal.main_v95) = v7 c
          ∧ r.2.mem ((c.tc : Thread Cert.OutReferenceIdeal.nD Cert.OutReferenceIdeal.τ).loc Cert.OutReferenceIdeal.main_v102) = v8 c
          ∧ r.2.mem ((c.tc : Thread Cert.OutReferenceIdeal.nD Cert.OutReferenceIdeal.τ).loc Cert.OutReferenceIdeal.main_v63) = v9 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)
      ∧ m' ((c.tc : Thread Cert.FwdReferenceIdeal.nD Cert.FwdReferenceIdeal.τ).loc Cert.FwdReferenceIdeal.main_arg7) = m ((c.tc : Thread Cert.FwdKernelIdeal.nD Cert.FwdKernelIdeal.τ).loc Cert.FwdKernelIdeal.main_arg7)
      ∧ m' ((c.tc : Thread Cert.FwdReferenceIdeal.nD Cert.FwdReferenceIdeal.τ).loc Cert.FwdReferenceIdeal.main_arg8) = m ((c.tc : Thread Cert.FwdKernelIdeal.nD Cert.FwdKernelIdeal.τ).loc Cert.FwdKernelIdeal.main_arg8)
      ∧ m' ((c.tc : Thread Cert.FwdReferenceIdeal.nD Cert.FwdReferenceIdeal.τ).loc Cert.FwdReferenceIdeal.main_arg9) = m ((c.tc : Thread Cert.FwdKernelIdeal.nD Cert.FwdKernelIdeal.τ).loc Cert.FwdKernelIdeal.main_arg9)
      ∧ m' ((c.tc : Thread Cert.FwdReferenceIdeal.nD Cert.FwdReferenceIdeal.τ).loc Cert.FwdReferenceIdeal.main_arg10) = m ((c.tc : Thread Cert.FwdKernelIdeal.nD Cert.FwdKernelIdeal.τ).loc Cert.FwdKernelIdeal.main_arg10)
      ∧ m' ((c.tc : Thread Cert.FwdReferenceIdeal.nD Cert.FwdReferenceIdeal.τ).loc Cert.FwdReferenceIdeal.main_arg11) = m ((c.tc : Thread Cert.FwdKernelIdeal.nD Cert.FwdKernelIdeal.τ).loc Cert.FwdKernelIdeal.main_arg11)
      ∧ m' ((c.tc : Thread Cert.FwdReferenceIdeal.nD Cert.FwdReferenceIdeal.τ).loc Cert.FwdReferenceIdeal.main_arg12) = m ((c.tc : Thread Cert.FwdKernelIdeal.nD Cert.FwdKernelIdeal.τ).loc Cert.FwdKernelIdeal.main_arg12)
      ∧ m' ((c.tc : Thread Cert.FwdReferenceIdeal.nD Cert.FwdReferenceIdeal.τ).loc Cert.FwdReferenceIdeal.main_arg13) = m ((c.tc : Thread Cert.FwdKernelIdeal.nD Cert.FwdKernelIdeal.τ).loc Cert.FwdKernelIdeal.main_arg13)
      ∧ m' ((c.tc : Thread Cert.FwdReferenceIdeal.nD Cert.FwdReferenceIdeal.τ).loc Cert.FwdReferenceIdeal.main_arg14) = m ((c.tc : Thread Cert.FwdKernelIdeal.nD Cert.FwdKernelIdeal.τ).loc Cert.FwdKernelIdeal.main_arg14)
      ∧ m' ((c.tc : Thread Cert.FwdReferenceIdeal.nD Cert.FwdReferenceIdeal.τ).loc Cert.FwdReferenceIdeal.main_arg15) = m ((c.tc : Thread Cert.FwdKernelIdeal.nD Cert.FwdKernelIdeal.τ).loc Cert.FwdKernelIdeal.main_arg15)) →
    ∃ (v0 : (c : Dev Cert.FwdKernelIdeal.nD) → Buf (Elt Ideal) ((c.tc : Thread Cert.FwdKernelIdeal.nD Cert.FwdKernelIdeal.τ).loc Cert.FwdKernelIdeal.main_v43)) (v1 : (c : Dev Cert.FwdKernelIdeal.nD) → Buf (Elt Ideal) ((c.tc : Thread Cert.FwdKernelIdeal.nD Cert.FwdKernelIdeal.τ).loc Cert.FwdKernelIdeal.main_v45)) (v2 : (c : Dev Cert.FwdKernelIdeal.nD) → Buf (Elt Ideal) ((c.tc : Thread Cert.FwdKernelIdeal.nD Cert.FwdKernelIdeal.τ).loc Cert.FwdKernelIdeal.main_v46)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v43) = v0 c
          ∧ r.2.mem ((c.tc : Thread Cert.FwdKernelIdeal.nD Cert.FwdKernelIdeal.τ).loc Cert.FwdKernelIdeal.main_v45) = v1 c
          ∧ r.2.mem ((c.tc : Thread Cert.FwdKernelIdeal.nD Cert.FwdKernelIdeal.τ).loc Cert.FwdKernelIdeal.main_v46) = v2 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
          ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
          ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8)
          ∧ r.2.mem ((c.tc : Thread Cert.FwdKernelIdeal.nD Cert.FwdKernelIdeal.τ).loc Cert.FwdKernelIdeal.main_arg9) = m ((c.tc : Thread Cert.FwdKernelIdeal.nD Cert.FwdKernelIdeal.τ).loc Cert.FwdKernelIdeal.main_arg9)
          ∧ r.2.mem ((c.tc : Thread Cert.FwdKernelIdeal.nD Cert.FwdKernelIdeal.τ).loc Cert.FwdKernelIdeal.main_arg10) = m ((c.tc : Thread Cert.FwdKernelIdeal.nD Cert.FwdKernelIdeal.τ).loc Cert.FwdKernelIdeal.main_arg10)
          ∧ r.2.mem ((c.tc : Thread Cert.FwdKernelIdeal.nD Cert.FwdKernelIdeal.τ).loc Cert.FwdKernelIdeal.main_arg11) = m ((c.tc : Thread Cert.FwdKernelIdeal.nD Cert.FwdKernelIdeal.τ).loc Cert.FwdKernelIdeal.main_arg11)
          ∧ r.2.mem ((c.tc : Thread Cert.FwdKernelIdeal.nD Cert.FwdKernelIdeal.τ).loc Cert.FwdKernelIdeal.main_arg12) = m ((c.tc : Thread Cert.FwdKernelIdeal.nD Cert.FwdKernelIdeal.τ).loc Cert.FwdKernelIdeal.main_arg12)
          ∧ r.2.mem ((c.tc : Thread Cert.FwdKernelIdeal.nD Cert.FwdKernelIdeal.τ).loc Cert.FwdKernelIdeal.main_arg13) = m ((c.tc : Thread Cert.FwdKernelIdeal.nD Cert.FwdKernelIdeal.τ).loc Cert.FwdKernelIdeal.main_arg13)
          ∧ r.2.mem ((c.tc : Thread Cert.FwdKernelIdeal.nD Cert.FwdKernelIdeal.τ).loc Cert.FwdKernelIdeal.main_arg14) = m ((c.tc : Thread Cert.FwdKernelIdeal.nD Cert.FwdKernelIdeal.τ).loc Cert.FwdKernelIdeal.main_arg14)
          ∧ r.2.mem ((c.tc : Thread Cert.FwdKernelIdeal.nD Cert.FwdKernelIdeal.τ).loc Cert.FwdKernelIdeal.main_arg15) = m ((c.tc : Thread Cert.FwdKernelIdeal.nD Cert.FwdKernelIdeal.τ).loc Cert.FwdKernelIdeal.main_arg15))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v49) = v0 c
          ∧ r.2.mem ((c.tc : Thread Cert.FwdReferenceIdeal.nD Cert.FwdReferenceIdeal.τ).loc Cert.FwdReferenceIdeal.main_v51) = v1 c
          ∧ r.2.mem ((c.tc : Thread Cert.FwdReferenceIdeal.nD Cert.FwdReferenceIdeal.τ).loc Cert.FwdReferenceIdeal.main_v90) = v2 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7)
          ∧ r.2.mem ((c.tc : Thread Cert.FwdReferenceIdeal.nD Cert.FwdReferenceIdeal.τ).loc Cert.FwdReferenceIdeal.main_arg8) = m' ((c.tc : Thread Cert.FwdReferenceIdeal.nD Cert.FwdReferenceIdeal.τ).loc Cert.FwdReferenceIdeal.main_arg8)
          ∧ r.2.mem ((c.tc : Thread Cert.FwdReferenceIdeal.nD Cert.FwdReferenceIdeal.τ).loc Cert.FwdReferenceIdeal.main_arg9) = m' ((c.tc : Thread Cert.FwdReferenceIdeal.nD Cert.FwdReferenceIdeal.τ).loc Cert.FwdReferenceIdeal.main_arg9)
          ∧ r.2.mem ((c.tc : Thread Cert.FwdReferenceIdeal.nD Cert.FwdReferenceIdeal.τ).loc Cert.FwdReferenceIdeal.main_arg10) = m' ((c.tc : Thread Cert.FwdReferenceIdeal.nD Cert.FwdReferenceIdeal.τ).loc Cert.FwdReferenceIdeal.main_arg10)
          ∧ r.2.mem ((c.tc : Thread Cert.FwdReferenceIdeal.nD Cert.FwdReferenceIdeal.τ).loc Cert.FwdReferenceIdeal.main_arg11) = m' ((c.tc : Thread Cert.FwdReferenceIdeal.nD Cert.FwdReferenceIdeal.τ).loc Cert.FwdReferenceIdeal.main_arg11)
          ∧ r.2.mem ((c.tc : Thread Cert.FwdReferenceIdeal.nD Cert.FwdReferenceIdeal.τ).loc Cert.FwdReferenceIdeal.main_arg12) = m' ((c.tc : Thread Cert.FwdReferenceIdeal.nD Cert.FwdReferenceIdeal.τ).loc Cert.FwdReferenceIdeal.main_arg12)
          ∧ r.2.mem ((c.tc : Thread Cert.FwdReferenceIdeal.nD Cert.FwdReferenceIdeal.τ).loc Cert.FwdReferenceIdeal.main_arg13) = m' ((c.tc : Thread Cert.FwdReferenceIdeal.nD Cert.FwdReferenceIdeal.τ).loc Cert.FwdReferenceIdeal.main_arg13)
          ∧ r.2.mem ((c.tc : Thread Cert.FwdReferenceIdeal.nD Cert.FwdReferenceIdeal.τ).loc Cert.FwdReferenceIdeal.main_arg14) = m' ((c.tc : Thread Cert.FwdReferenceIdeal.nD Cert.FwdReferenceIdeal.τ).loc Cert.FwdReferenceIdeal.main_arg14)
          ∧ r.2.mem ((c.tc : Thread Cert.FwdReferenceIdeal.nD Cert.FwdReferenceIdeal.τ).loc Cert.FwdReferenceIdeal.main_arg15) = m' ((c.tc : Thread Cert.FwdReferenceIdeal.nD Cert.FwdReferenceIdeal.τ).loc Cert.FwdReferenceIdeal.main_arg15))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)
      ∧ m' ((c.tc : Thread Cert.AdamReferenceIdeal.nD Cert.AdamReferenceIdeal.τ).loc Cert.AdamReferenceIdeal.main_arg6) = m ((c.tc : Thread Cert.AdamKernelIdeal.nD Cert.AdamKernelIdeal.τ).loc Cert.AdamKernelIdeal.main_arg6)
      ∧ m' ((c.tc : Thread Cert.AdamReferenceIdeal.nD Cert.AdamReferenceIdeal.τ).loc Cert.AdamReferenceIdeal.main_arg7) = m ((c.tc : Thread Cert.AdamKernelIdeal.nD Cert.AdamKernelIdeal.τ).loc Cert.AdamKernelIdeal.main_arg7)) →
    ∃ (v0 : (c : Dev Cert.AdamKernelIdeal.nD) → Buf (Elt Ideal) ((c.tc : Thread Cert.AdamKernelIdeal.nD Cert.AdamKernelIdeal.τ).loc Cert.AdamKernelIdeal.main_v14)) (v1 : (c : Dev Cert.AdamKernelIdeal.nD) → Buf (Elt Ideal) ((c.tc : Thread Cert.AdamKernelIdeal.nD Cert.AdamKernelIdeal.τ).loc Cert.AdamKernelIdeal.main_v15)) (v2 : (c : Dev Cert.AdamKernelIdeal.nD) → Buf (Elt Ideal) ((c.tc : Thread Cert.AdamKernelIdeal.nD Cert.AdamKernelIdeal.τ).loc Cert.AdamKernelIdeal.main_v17)) (v3 : (c : Dev Cert.AdamKernelIdeal.nD) → Buf (Elt Ideal) ((c.tc : Thread Cert.AdamKernelIdeal.nD Cert.AdamKernelIdeal.τ).loc Cert.AdamKernelIdeal.main_v18)) (v4 : (c : Dev Cert.AdamKernelIdeal.nD) → Buf (Elt Ideal) ((c.tc : Thread Cert.AdamKernelIdeal.nD Cert.AdamKernelIdeal.τ).loc Cert.AdamKernelIdeal.main_v20)) (v5 : (c : Dev Cert.AdamKernelIdeal.nD) → Buf (Elt Ideal) ((c.tc : Thread Cert.AdamKernelIdeal.nD Cert.AdamKernelIdeal.τ).loc Cert.AdamKernelIdeal.main_v21)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v14) = v0 c
          ∧ r.2.mem ((c.tc : Thread Cert.AdamKernelIdeal.nD Cert.AdamKernelIdeal.τ).loc Cert.AdamKernelIdeal.main_v15) = v1 c
          ∧ r.2.mem ((c.tc : Thread Cert.AdamKernelIdeal.nD Cert.AdamKernelIdeal.τ).loc Cert.AdamKernelIdeal.main_v17) = v2 c
          ∧ r.2.mem ((c.tc : Thread Cert.AdamKernelIdeal.nD Cert.AdamKernelIdeal.τ).loc Cert.AdamKernelIdeal.main_v18) = v3 c
          ∧ r.2.mem ((c.tc : Thread Cert.AdamKernelIdeal.nD Cert.AdamKernelIdeal.τ).loc Cert.AdamKernelIdeal.main_v20) = v4 c
          ∧ r.2.mem ((c.tc : Thread Cert.AdamKernelIdeal.nD Cert.AdamKernelIdeal.τ).loc Cert.AdamKernelIdeal.main_v21) = v5 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
          ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
          ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v47) = v1 c
          ∧ r.2.mem ((c.tc : Thread Cert.AdamReferenceIdeal.nD Cert.AdamReferenceIdeal.τ).loc Cert.AdamReferenceIdeal.main_v4) = v2 c
          ∧ r.2.mem ((c.tc : Thread Cert.AdamReferenceIdeal.nD Cert.AdamReferenceIdeal.τ).loc Cert.AdamReferenceIdeal.main_v28) = v3 c
          ∧ r.2.mem ((c.tc : Thread Cert.AdamReferenceIdeal.nD Cert.AdamReferenceIdeal.τ).loc Cert.AdamReferenceIdeal.main_v10) = v4 c
          ∧ r.2.mem ((c.tc : Thread Cert.AdamReferenceIdeal.nD Cert.AdamReferenceIdeal.τ).loc Cert.AdamReferenceIdeal.main_v34) = v5 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hFwdKernel : Cert.FwdKernel.Facts) (hFwdKernelIdeal : Cert.FwdKernelIdeal.Facts) (hFwdReferenceIdeal : Cert.FwdReferenceIdeal.Facts) (hAdamKernel : Cert.AdamKernel.Facts) (hAdamKernelIdeal : Cert.AdamKernelIdeal.Facts) (hAdamReferenceIdeal : Cert.AdamReferenceIdeal.Facts) (hPre_finite : Cert.Pre_finite.Facts) (hPre_out_finite : Cert.Pre_out_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutKernel (hOutKernel := hOutKernel)
    ∧ quiescent_OutKernelIdeal (hOutKernelIdeal := hOutKernelIdeal)
    ∧ quiescent_OutKernelIdeal_pre_out_finite (hOutKernelIdeal := hOutKernelIdeal) (hPre_out_finite := hPre_out_finite)
    ∧ quiescent_OutReferenceIdeal (hOutReferenceIdeal := hOutReferenceIdeal)
    ∧ quiescent_OutReferenceIdeal_pre_out_finite (hOutReferenceIdeal := hOutReferenceIdeal) (hPre_out_finite := hPre_out_finite)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutKernel_OutKernelIdeal
    ∧ algebraic_OutKernelIdeal_OutReferenceIdeal_pre_out_finite (hOutKernelIdeal := hOutKernelIdeal) (hOutReferenceIdeal := hOutReferenceIdeal) (hPre_out_finite := hPre_out_finite)
    ∧ preserves_FwdKernel_FwdKernelIdeal
    ∧ algebraic_FwdKernelIdeal_FwdReferenceIdeal (hFwdKernelIdeal := hFwdKernelIdeal) (hFwdReferenceIdeal := hFwdReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite.lean ====
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S_ : Shape := ⟨0, ![]⟩

class Facts : Prop where
  bcast_S_S1x4x4096x192 : S_.BroadcastsInDim S1x4x4096x192 (![] : Fin 0 → Fin S1x4x4096x192.rank)
  bcast_S_S1x4x4352x192 : S_.BroadcastsInDim S1x4x4352x192 (![] : Fin 0 → Fin S1x4x4352x192.rank)
  bcast_S_S1x4x4352x128 : S_.BroadcastsInDim S1x4x4352x128 (![] : Fin 0 → Fin S1x4x4352x128.rank)
  bcast_S_S1x4096x512 : S_.BroadcastsInDim S1x4096x512 (![] : Fin 0 → Fin S1x4096x512.rank)

variable [Facts]

def fn {F : FTy → Type} [FloatOps F] (main_arg0 : FVec F S1x4x4096x192 .f32) (main_arg1 : FVec F S1x4x4352x192 .f32) (main_arg2 : FVec F S1x4x4352x128 .f32) (main_arg3 : FVec F S1x4096x512 .f32) : IVec S1x4x4096x192 1 × IVec S1x4x4352x192 1 × IVec S1x4x4352x128 1 × IVec S1x4096x512 1 :=
  let main_v0 : FVec F S1x4x4096x192 .f32 := Host.absf main_arg0
  let main_cst : FVec F S_ .f32 := constant S_ .f32 0x7F800000#32
  let main_v1 : FVec F S1x4x4096x192 .f32 := broadcastInDim S1x4x4096x192 ![] bcast_S_S1x4x4096x192 main_cst
  let main_v2 : IVec S1x4x4096x192 1 := cmpf .olt main_v0 main_v1
  let main_v3 : FVec F S1x4x4352x192 .f32 := Host.absf main_arg1
  let main_cst_0 : FVec F S_ .f32 := constant S_ .f32 0x7F800000#32
  let main_v4 : FVec F S1x4x4352x192 .f32 := broadcastInDim S1x4x4352x192 ![] bcast_S_S1x4x4352x192 main_cst_0
  let main_v5 : IVec S1x4x4352x192 1 := cmpf .olt main_v3 main_v4
  let main_v6 : FVec F S1x4x4352x128 .f32 := Host.absf main_arg2
  let main_cst_1 : FVec F S_ .f32 := constant S_ .f32 0x7F800000#32
  let main_v7 : FVec F S1x4x4352x128 .f32 := broadcastInDim S1x4x4352x128 ![] bcast_S_S1x4x4352x128 main_cst_1
  let main_v8 : IVec S1x4x4352x128 1 := cmpf .olt main_v6 main_v7
  let main_v9 : FVec F S1x4096x512 .f32 := Host.absf main_arg3
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  (main_v2, main_v5, main_v8, main_v11)
-- ==== Pre_out_finite.lean ====
abbrev S1x4096x512 : Shape := ⟨3, ![1, 4096, 512]⟩
abbrev S1x4096x1984 : Shape := ⟨3, ![1, 4096, 1984]⟩
abbrev S1x256x1984 : Shape := ⟨3, ![1, 256, 1984]⟩
abbrev S1x4096x1024 : Shape := ⟨3, ![1, 4096, 1024]⟩
abbrev S1x3072 : Shape := ⟨2, ![1, 3072]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩

class Facts : Prop where
  bcast_S_S1x4096x512 : S_.BroadcastsInDim S1x4096x512 (![] : Fin 0 → Fin S1x4096x512.rank)
  bcast_S_S1x4096x1984 : S_.BroadcastsInDim S1x4096x1984 (![] : Fin 0 → Fin S1x4096x1984.rank)
  bcast_S_S1x4096x1024 : S_.BroadcastsInDim S1x4096x1024 (![] : Fin 0 → Fin S1x4096x1024.rank)
  bcast_S_S1x3072 : S_.BroadcastsInDim S1x3072 (![] : Fin 0 → Fin S1x3072.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x1024x1024 : S_.BroadcastsInDim S1x1024x1024 (![] : Fin 0 → Fin S1x1024x1024.rank)

variable [Facts]

def fn_part1 {F : FTy → Type} [FloatOps F] (main_arg7 : FVec F S1x512 .f32) (main_arg8 : FVec F S1x1024x1024 .f32) (main_v2 : IVec S1x4096x512 1) (main_v5 : IVec S1x4096x1984 1) (main_v8 : IVec S1x4096x1024 1) (main_v11 : IVec S1x4096x1024 1) (main_v14 : IVec S1x3072 1) (main_v17 : IVec S1x4x128x128 1) : IVec S1x4096x512 1 × IVec S1x4096x1984 1 × IVec S1x4096x1024 1 × IVec S1x4096x1024 1 × IVec S1x3072 1 × IVec S1x4x128x128 1 × IVec S1x512 1 × IVec S1x1024x1024 1 :=
  let main_v18 : FVec F S1x512 .f32 := Host.absf main_arg7
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x1024x1024 .f32 := Host.absf main_arg8
  let main_cst_6 : FVec F S_ .f32 := constant S_ .f32 0x7F800000#32
  let main_v22 : FVec F S1x1024x1024 .f32 := broadcastInDim S1x1024x1024 ![] bcast_S_S1x1024x1024 main_cst_6
  let main_v23 : IVec S1x1024x1024 1 := cmpf .olt main_v21 main_v22
  (main_v2, main_v5, main_v8, main_v11, main_v14, main_v17, main_v20, main_v23)

def fn {F : FTy → Type} [FloatOps F] (main_arg0 : FVec F S1x4096x512 .f32) (main_arg1 : FVec F S1x4096x1984 .f32) (main_arg2 : FVec F S1x256x1984 .f32) (main_arg3 : FVec F S1x4096x1024 .f32) (main_arg4 : FVec F S1x4096x1024 .f32) (main_arg5 : FVec F S1x3072 .f32) (main_arg6 : FVec F S1x4x128x128 .f32) (main_arg7 : FVec F S1x512 .f32) (main_arg8 : FVec F S1x1024x1024 .f32) : IVec S1x4096x512 1 × IVec S1x4096x1984 1 × IVec S1x4096x1024 1 × IVec S1x4096x1024 1 × IVec S1x3072 1 × IVec S1x4x128x128 1 × IVec S1x512 1 × IVec S1x1024x1024 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_v3 : FVec F S1x4096x1984 .f32 := Host.absf main_arg1
  let main_cst_0 : FVec F S_ .f32 := constant S_ .f32 0x7F800000#32
  let main_v4 : FVec F S1x4096x1984 .f32 := broadcastInDim S1x4096x1984 ![] bcast_S_S1x4096x1984 main_cst_0
  let main_v5 : IVec S1x4096x1984 1 := cmpf .olt main_v3 main_v4
  let main_v6 : FVec F S1x4096x1024 .f32 := Host.absf main_arg3
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1x4096x1024 .f32 := Host.absf main_arg4
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x3072 .f32 := Host.absf main_arg5
  let main_cst_3 : FVec F S_ .f32 := constant S_ .f32 0x7F800000#32
  let main_v13 : FVec F S1x3072 .f32 := broadcastInDim S1x3072 ![] bcast_S_S1x3072 main_cst_3
  let main_v14 : IVec S1x3072 1 := cmpf .olt main_v12 main_v13
  let main_v15 : FVec F S1x4x128x128 .f32 := Host.absf main_arg6
  let main_cst_4 : FVec F S_ .f32 := constant S_ .f32 0x7F800000#32
  let main_v16 : FVec F S1x4x128x128 .f32 := broadcastInDim S1x4x128x128 ![] bcast_S_S1x4x128x128 main_cst_4
  let main_v17 : IVec S1x4x128x128 1 := cmpf .olt main_v15 main_v16
  fn_part1 (F := F) main_arg7 main_arg8 main_v2 main_v5 main_v8 main_v11 main_v14 main_v17
-- ==== Kernel.lean ====
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S_ : Shape := ⟨0, ![]⟩
abbrev S4x4096x192 : Shape := ⟨3, ![4, 4096, 192]⟩
abbrev S4x4352x256 : Shape := ⟨3, ![4, 4352, 256]⟩
abbrev S4x4352x192 : Shape := ⟨3, ![4, 4352, 192]⟩
abbrev S4x4352x128 : Shape := ⟨3, ![4, 4352, 128]⟩
abbrev S128x32x512 : Shape := ⟨3, ![128, 32, 512]⟩
abbrev S32x128x512 : Shape := ⟨3, ![32, 128, 512]⟩
abbrev S4096x512 : Shape := ⟨2, ![4096, 512]⟩
abbrev S4x16x8x256 : Shape := ⟨4, ![4, 16, 8, 256]⟩
abbrev S1x256x256 : Shape := ⟨3, ![1, 256, 256]⟩
abbrev S1x4352x256 : Shape := ⟨3, ![1, 4352, 256]⟩
abbrev S1x4352x128 : Shape := ⟨3, ![1, 4352, 128]⟩
abbrev S1024x128 : Shape := ⟨2, ![1024, 128]⟩
abbrev S1x4x8x256 : Shape := ⟨4, ![1, 4, 8, 256]⟩
abbrev S256x256 : Shape := ⟨2, ![256, 256]⟩
abbrev S4352x256 : Shape := ⟨2, ![4352, 256]⟩
abbrev S256x4352 : Shape := ⟨2, ![256, 4352]⟩
abbrev S256 : Shape := ⟨1, ![256]⟩
abbrev S256x1 : Shape := ⟨2, ![256, 1]⟩
abbrev S4352x128 : Shape := ⟨2, ![4352, 128]⟩
abbrev S256x128 : Shape := ⟨2, ![256, 128]⟩
abbrev S128x256 : Shape := ⟨2, ![128, 256]⟩
abbrev S8x256 : Shape := ⟨2, ![8, 256]⟩
abbrev S1x1x8x256 : Shape := ⟨4, ![1, 1, 8, 256]⟩
abbrev S4x4096x256 : Shape := ⟨3, ![4, 4096, 256]⟩
abbrev S1x256 : Shape := ⟨2, ![1, 256]⟩
abbrev S1x1088x256 : Shape := ⟨3, ![1, 1088, 256]⟩
abbrev S1088x256 : Shape := ⟨2, ![1088, 256]⟩
abbrev S1x1088x128 : Shape := ⟨3, ![1, 1088, 128]⟩
abbrev S1088x128 : Shape := ⟨2, ![1088, 128]⟩

abbrev nBuf : Space → Nat
  | .hbm => 43
  | .vmem => 34
  | .smem => 0
  | _ => 0

abbrev bufTy : (tb : Table) → Fin (tcTables nBuf tb) → BufTy
  | .hbm, ⟨0, _⟩ => ⟨S1x4x4096x192, .f32⟩
  | .hbm, ⟨1, _⟩ => ⟨S1x4x4352x192, .f32⟩
  | .hbm, ⟨2, _⟩ => ⟨S1x4x4352x128, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S4x4096x192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x192, .f32⟩
  | .hbm, ⟨13, _⟩ => ⟨S4x4096x192, .f32⟩
  | .hbm, ⟨14, _⟩ => ⟨S_, .i32⟩
  | .hbm, ⟨15, _⟩ => ⟨S_, .f32⟩
  | .hbm, ⟨16, _⟩ => ⟨S4x4352x256, .f32⟩
  | .hbm, ⟨17, _⟩ => ⟨S4x4352x256, .bf16⟩
  | .hbm, ⟨18, _⟩ => ⟨S4x4352x192, .f32⟩
  | .hbm, ⟨19, _⟩ => ⟨S_, .i32⟩
  | .hbm, ⟨20, _⟩ => ⟨S_, .f32⟩
  | .hbm, ⟨21, _⟩ => ⟨S4x4352x256, .f32⟩
  | .hbm, ⟨22, _⟩ => ⟨S4x4352x256, .bf16⟩
  | .hbm, ⟨23, _⟩ => ⟨S4x4352x128, .f32⟩
  | .hbm, ⟨24, _⟩ => ⟨S4x4352x128, .bf16⟩
  | .hbm, ⟨25, _⟩ => ⟨S128x32x512, .f32⟩
  | .hbm, ⟨26, _⟩ => ⟨S32x128x512, .f32⟩
  | .hbm, ⟨27, _⟩ => ⟨S4096x512, .f32⟩
  | .hbm, ⟨28, _⟩ => ⟨S4096x512, .f32⟩
  | .hbm, ⟨29, _⟩ => ⟨S4x16x8x256, .f32⟩
  | .hbm, ⟨30, _⟩ => ⟨S4x4096x256, .f32⟩
  | .hbm, ⟨31, _⟩ => ⟨S4x4352x256, .f32⟩
  | .hbm, ⟨32, _⟩ => ⟨S4x4352x128, .f32⟩
  | .hbm, ⟨33, _⟩ => ⟨S32x128x512, .f32⟩
  | .hbm, ⟨34, _⟩ => ⟨S128x32x512, .f32⟩
  | .hbm, ⟨35, _⟩ => ⟨S1x4096x512, .f32⟩
  | .hbm, ⟨36, _⟩ => ⟨S4x4096x192, .f32⟩
  | .hbm, ⟨37, _⟩ => ⟨S1x4x4096x192, .f32⟩
  | .hbm, ⟨38, _⟩ => ⟨S4x4352x256, .f32⟩
  | .hbm, ⟨39, _⟩ => ⟨S4x4352x256, .f32⟩
  | .hbm, ⟨40, _⟩ => ⟨S4x4352x192, .f32⟩
  | .hbm, ⟨41, _⟩ => ⟨S1x4x4352x192, .f32⟩
  | .hbm, ⟨42, _⟩ => ⟨S1x4x4352x128, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x4352x256, .bf16⟩
  | .local _ .vmem, ⟨9, _⟩ => ⟨S1x4352x256, .bf16⟩
  | .local _ .vmem, ⟨10, _⟩ => ⟨S1x4352x128, .bf16⟩
  | .local _ .vmem, ⟨11, _⟩ => ⟨S1x4352x128, .bf16⟩
  | .local _ .vmem, ⟨12, _⟩ => ⟨S1024x128, .f32⟩
  | .local _ .vmem, ⟨13, _⟩ => ⟨S1024x128, .f32⟩
  | .local _ .vmem, ⟨14, _⟩ => ⟨S1x4x8x256, .f32⟩
  | .local _ .vmem, ⟨15, _⟩ => ⟨S1x4x8x256, .f32⟩
  | .local _ .vmem, ⟨16, _⟩ => ⟨S1x256x256, .bf16⟩
  | .local _ .vmem, ⟨17, _⟩ => ⟨S1x256x256, .bf16⟩
  | .local _ .vmem, ⟨18, _⟩ => ⟨S1x4352x256, .bf16⟩
  | .local _ .vmem, ⟨19, _⟩ => ⟨S1x4352x256, .bf16⟩
  | .local _ .vmem, ⟨20, _⟩ => ⟨S1x4352x128, .bf16⟩
  | .local _ .vmem, ⟨21, _⟩ => ⟨S1x4352x128, .bf16⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S1x1x8x256, .f32⟩
  | .local _ .vmem, ⟨27, _⟩ => ⟨S1x1x8x256, .f32⟩
  | .local _ .vmem, ⟨28, _⟩ => ⟨S1x256x256, .f32⟩
  | .local _ .vmem, ⟨29, _⟩ => ⟨S1x256x256, .f32⟩
  | .local _ .vmem, ⟨30, _⟩ => ⟨S1x4352x256, .f32⟩
  | .local _ .vmem, ⟨31, _⟩ => ⟨S1x4352x256, .f32⟩
  | .local _ .vmem, ⟨32, _⟩ => ⟨S1x4352x128, .f32⟩
  | .local _ .vmem, ⟨33, _⟩ => ⟨S1x4352x128, .f32⟩
  | _, _ => ⟨S1x4x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4352x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c1_i32_0 : BitVec 32 := 1#32
  let v2 : BitVec 32 := Scalar.addi v1 c1_i32_0
  let c0_i32_1 : BitVec 32 := 0#32
  let c0_i32_2 : BitVec 32 := 0#32
  ![arg0.toNat, v2.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4352x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4352x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x4352x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | _ => none
-- ==== ReferenceIdeal.lean ====
abbrev S1x4x4096x192 : Shape := ⟨4, ![1, 4, 4096, 192]⟩
abbrev S1x4x4352x192 : Shape := ⟨4, ![1, 4, 4352, 192]⟩
abbrev S1x4x4352x128 : Shape := ⟨4, ![1, 4, 4352, 128]⟩
abbrev S1x4096x512 : Shape := ⟨3, ![1, 4096, 512]⟩
abbrev S1x4x4096x4352 : Shape := ⟨4, ![1, 4, 4096, 4352]⟩
abbrev S_ : Shape := ⟨0, ![]⟩
abbrev S1x4x4096 : Shape := ⟨3, ![1, 4, 4096]⟩
abbrev S1x4x4096x1 : Shape := ⟨4, ![1, 4, 4096, 1]⟩
abbrev S1x4x4096x128 : Shape := ⟨4, ![1, 4, 4096, 128]⟩
abbrev S1x4x32x128x128 : Shape := ⟨5, ![1, 4, 32, 128, 128]⟩
abbrev S1x128x32x4x128 : Shape := ⟨5, ![1, 128, 32, 4, 128]⟩
abbrev S1x4x128x4352 : Shape := ⟨4, ![1, 4, 128, 4352]⟩
abbrev S4x4096 : Shape := ⟨2, ![4, 4096]⟩

abbrev nBuf : Space → Nat
  | .hbm => 78
  | .vmem => 0
  | .smem => 0
  | _ => 0

abbrev bufTy : (tb : Table) → Fin (tcTables nBuf tb) → BufTy
  | .hbm, ⟨0, _⟩ => ⟨S1x4x4096x192, .f32⟩
  | .hbm, ⟨1, _⟩ => ⟨S1x4x4352x192, .f32⟩
  | .hbm, ⟨2, _⟩ => ⟨S1x4x4352x128, .f32⟩
  | .hbm, ⟨3, _⟩ => ⟨S1x4096x512, .f32⟩
  | .hbm, ⟨4, _⟩ => ⟨S1x4x4096x4352, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x4x4096x4352, .f32⟩
  | .hbm, ⟨10, _⟩ => ⟨S1x4x4096x4352, .f32⟩
  | .hbm, ⟨11, _⟩ => ⟨S_, .f32⟩
  | .hbm, ⟨12, _⟩ => ⟨S1x4x4096, .f32⟩
  | .hbm, ⟨13, _⟩ => ⟨S1x4x4096x1, .f32⟩
  | .hbm, ⟨14, _⟩ => ⟨S1x4x4096x4352, .f32⟩
  | .hbm, ⟨15, _⟩ => ⟨S1x4x4096x4352, .i1⟩
  | .hbm, ⟨16, _⟩ => ⟨S1x4x4096x4352, .f32⟩
  | .hbm, ⟨17, _⟩ => ⟨S_, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .f32⟩
  | .hbm, ⟨22, _⟩ => ⟨S_, .f32⟩
  | .hbm, ⟨23, _⟩ => ⟨S1x4x4096, .f32⟩
  | .hbm, ⟨24, _⟩ => ⟨S1x4x4096, .i1⟩
  | .hbm, ⟨25, _⟩ => ⟨S_, .f32⟩
  | .hbm, ⟨26, _⟩ => ⟨S1x4x4096, .f32⟩
  | .hbm, ⟨27, _⟩ => ⟨S1x4x4096, .i1⟩
  | .hbm, ⟨28, _⟩ => ⟨S_, .f32⟩
  | .hbm, ⟨29, _⟩ => ⟨S1x4x4096, .f32⟩
  | .hbm, ⟨30, _⟩ => ⟨S_, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S1x4x4096, .f32⟩
  | .hbm, ⟨35, _⟩ => ⟨S1x4x4096, .f32⟩
  | .hbm, ⟨36, _⟩ => ⟨S1x4x4096x1, .f32⟩
  | .hbm, ⟨37, _⟩ => ⟨S1x4x4096x4352, .f32⟩
  | .hbm, ⟨38, _⟩ => ⟨S1x4x4096x4352, .f32⟩
  | .hbm, ⟨39, _⟩ => ⟨S1x4x4096x4352, .f32⟩
  | .hbm, ⟨40, _⟩ => ⟨S_, .f32⟩
  | .hbm, ⟨41, _⟩ => ⟨S1x4x4096, .f32⟩
  | .hbm, ⟨42, _⟩ => ⟨S1x4x4096x1, .f32⟩
  | .hbm, ⟨43, _⟩ => ⟨S1x4x4096x4352, .f32⟩
  | .hbm, ⟨44, _⟩ => ⟨S1x4x4096x4352, .f32⟩
  | .hbm, ⟨45, _⟩ => ⟨S1x4x4096x1, .f32⟩
  | .hbm, ⟨46, _⟩ => ⟨S_, .f32⟩
  | .hbm, ⟨47, _⟩ => ⟨S1x4x4096x1, .f32⟩
  | .hbm, ⟨48, _⟩ => ⟨S1x4x4096x1, .f32⟩
  | .hbm, ⟨49, _⟩ => ⟨S1x4x4096x128, .f32⟩
  | .hbm, ⟨50, _⟩ => ⟨S1x4x32x128x128, .f32⟩
  | .hbm, ⟨51, _⟩ => ⟨S1x128x32x4x128, .f32⟩
  | .hbm, ⟨52, _⟩ => ⟨S1x4096x512, .f32⟩
  | .hbm, ⟨53, _⟩ => ⟨S1x128x32x4x128, .f32⟩
  | .hbm, ⟨54, _⟩ => ⟨S1x4x32x128x128, .f32⟩
  | .hbm, ⟨55, _⟩ => ⟨S1x4x4096x128, .f32⟩
  | .hbm, ⟨56, _⟩ => ⟨S1x4x128x4352, .f32⟩
  | .hbm, ⟨57, _⟩ => ⟨S1x4x4352x128, .f32⟩
  | .hbm, ⟨58, _⟩ => ⟨S1x4x4096x4352, .f32⟩
  | .hbm, ⟨59, _⟩ => ⟨S1x4x4096x4352, .f32⟩
  | .hbm, ⟨60, _⟩ => ⟨S1x4x4096x4352, .f32⟩
  | .hbm, ⟨61, _⟩ => ⟨S1x4x4096x4352, .f32⟩
  | .hbm, ⟨62, _⟩ => ⟨S_, .f32⟩
  | .hbm, ⟨63, _⟩ => ⟨S1x4x4096, .f32⟩
  | .hbm, ⟨64, _⟩ => ⟨S1x4x4096x1, .f32⟩
  | .hbm, ⟨65, _⟩ => ⟨S1x4x4096x1, .f32⟩
  | .hbm, ⟨66, _⟩ => ⟨S1x4x4096x4352, .f32⟩
  | .hbm, ⟨67, _⟩ => ⟨S1x4x4096x4352, .f32⟩
  | .hbm, ⟨68, _⟩ => ⟨S_, .f32⟩
  | .hbm, ⟨69, _⟩ => ⟨S4x4096, .f32⟩
  | .hbm, ⟨70, _⟩ => ⟨S1x4x4096, .f32⟩
  | .hbm, ⟨71, _⟩ => ⟨S1x4x4096x4352, .f32⟩
  | .hbm, ⟨72, _⟩ => ⟨S1x4x4096x4352, .f32⟩
  | .hbm, ⟨73, _⟩ => ⟨S1x4x4096x4352, .f32⟩
  | .hbm, ⟨74, _⟩ => ⟨S1x4x4096x4352, .f32⟩
  | .hbm, ⟨75, _⟩ => ⟨S1x4x4096x4352, .f32⟩
  | .hbm, ⟨76, _⟩ => ⟨S1x4x4352x192, .f32⟩
  | .hbm, ⟨77, _⟩ => ⟨S1x4x4096x192, .f32⟩
  | _, _ => ⟨S1x4x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== OutKernel.lean ====
abbrev S1x4096x512 : Shape := ⟨3, ![1, 4096, 512]⟩
abbrev S1x4096x1984 : Shape := ⟨3, ![1, 4096, 1984]⟩
abbrev S1x256x1984 : Shape := ⟨3, ![1, 256, 1984]⟩
abbrev S1x4096x1024 : Shape := ⟨3, ![1, 4096, 1024]⟩
abbrev S1x3072 : Shape := ⟨2, ![1, 3072]⟩
abbrev S1x4x128x128 : Shape := ⟨4, ![1, 4, 128, 128]⟩
abbrev S1x512 : Shape := ⟨2, ![1, 512]⟩
abbrev S1x1024x1024 : Shape := ⟨3, ![1, 1024, 1024]⟩
abbrev S256x1984 : Shape := ⟨2, ![256, 1984]⟩
abbrev S4096x1984 : Shape := ⟨2, ![4096, 1984]⟩
abbrev S4352x1984 : Shape := ⟨2, ![4352, 1984]⟩
abbrev S4352x448 : Shape := ⟨2, ![4352, 448]⟩
abbrev S_ : Shape := ⟨0, ![]⟩
abbrev S4352x64 : Shape := ⟨2, ![4352, 64]⟩
abbrev S4352x1536 : Shape := ⟨2, ![4352, 1536]⟩
abbrev S4352x2048 : Shape := ⟨2, ![4352, 2048]⟩
abbrev S3072 : Shape := ⟨1, ![3072]⟩
abbrev S3x1024 : Shape := ⟨2, ![3, 1024]⟩
abbrev S1x3x1024 : Shape := ⟨3, ![1, 3, 1024]⟩
abbrev S2x3x1024 : Shape := ⟨3, ![2, 3, 1024]⟩
abbrev S128x32x512 : Shape := ⟨3, ![128, 32, 512]⟩
abbrev S32x128x512 : Shape := ⟨3, ![32, 128, 512]⟩
abbrev S4096x1024 : Shape := ⟨2, ![4096, 1024]⟩
abbrev S4x128x128 : Shape := ⟨3, ![4, 128, 128]⟩
abbrev S1024x1024 : Shape := ⟨2, ![1024, 1024]⟩
abbrev S4096x512 : Shape := ⟨2, ![4096, 512]⟩
abbrev S1x1024 : Shape := ⟨2, ![1, 1024]⟩
abbrev S1x1 : Shape := ⟨2, ![1, 1]⟩
abbrev S32x8x512 : Shape := ⟨3, ![32, 8, 512]⟩
abbrev S256x512 : Shape := ⟨2, ![256, 512]⟩
abbrev S8x512 : Shape := ⟨2, ![8, 512]⟩
abbrev S256x1024 : Shape := ⟨2, ![256, 1024]⟩
abbrev S32x1x512 : Shape := ⟨3, ![32, 1, 512]⟩
abbrev S32x512 : Shape := ⟨2, ![32, 512]⟩
abbrev S272x512 : Shape := ⟨2, ![272, 512]⟩
abbrev S256x1 : Shape := ⟨2, ![256, 1]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩
abbrev S1x1x1024 : Shape := ⟨3, ![1, 1, 1024]⟩
abbrev S256 : Shape := ⟨1, ![256]⟩
abbrev S1 : Shape := ⟨1, ![1]⟩
abbrev S1024 : Shape := ⟨1, ![1024]⟩
abbrev S512 : Shape := ⟨1, ![512]⟩

abbrev nBuf : Space → Nat
  | .hbm => 50
  | .vmem => 35
  | .smem => 0
  | _ => 0

abbrev bufTy : (tb : Table) → Fin (tcTables nBuf tb) → BufTy
  | .hbm, ⟨0, _⟩ => ⟨S1x4096x512, .f32⟩
  | .hbm, ⟨1, _⟩ => ⟨S1x4096x1984, .f32⟩
  | .hbm, ⟨2, _⟩ => ⟨S1x256x1984, .f32⟩
  | .hbm, ⟨3, _⟩ => ⟨S1x4096x1024, .f32⟩
  | .hbm, ⟨4, _⟩ => ⟨S1x4096x1024, .f32⟩
  | .hbm, ⟨5, _⟩ => ⟨S1x3072, .f32⟩
  | .hbm, ⟨6, _⟩ => ⟨S1x4x128x128, .f32⟩
  | .hbm, ⟨7, _⟩ => ⟨S1x512, .f32⟩
  | .hbm, ⟨8, _⟩ => ⟨S1x1024x1024, .f32⟩
  | .hbm, ⟨9, _⟩ => ⟨S256x1984, .f32⟩
  | .hbm, ⟨10, _⟩ => ⟨S4096x1984, .f32⟩
  | .hbm, ⟨11, _⟩ => ⟨S4352x1984, .f32⟩
  | .hbm, ⟨12, _⟩ => ⟨S4352x448, .f32⟩
  | .hbm, ⟨13, _⟩ => ⟨S_, .f32⟩
  | .hbm, ⟨14, _⟩ => ⟨S4352x64, .f32⟩
  | .hbm, ⟨15, _⟩ => ⟨S4352x1536, .f32⟩
  | .hbm, ⟨16, _⟩ => ⟨S4352x2048, .f32⟩
  | .hbm, ⟨17, _⟩ => ⟨S3072, .f32⟩
  | .hbm, ⟨18, _⟩ => ⟨S3x1024, .f32⟩
  | .hbm, ⟨19, _⟩ => ⟨S3072, .f32⟩
  | .hbm, ⟨20, _⟩ => ⟨S3x1024, .f32⟩
  | .hbm, ⟨21, _⟩ => ⟨S1x3x1024, .f32⟩
  | .hbm, ⟨22, _⟩ => ⟨S1x3x1024, .f32⟩
  | .hbm, ⟨23, _⟩ => ⟨S2x3x1024, .f32⟩
  | .hbm, ⟨24, _⟩ => ⟨S128x32x512, .f32⟩
  | .hbm, ⟨25, _⟩ => ⟨S32x128x512, .f32⟩
  | .hbm, ⟨26, _⟩ => ⟨S4096x1024, .f32⟩
  | .hbm, ⟨27, _⟩ => ⟨S4096x1024, .f32⟩
  | .hbm, ⟨28, _⟩ => ⟨S4x128x128, .f32⟩
  | .hbm, ⟨29, _⟩ => ⟨S1024x1024, .f32⟩
  | .hbm, ⟨30, _⟩ => ⟨S1024x1024, .bf16⟩
  | .hbm, ⟨31, _⟩ => ⟨S4096x1024, .f32⟩
  | .hbm, ⟨32, _⟩ => ⟨S32x128x512, .f32⟩
  | .hbm, ⟨33, _⟩ => ⟨S4096x512, .bf16⟩
  | .hbm, ⟨34, _⟩ => ⟨S4096x512, .bf16⟩
  | .hbm, ⟨35, _⟩ => ⟨S4096x512, .f32⟩
  | .hbm, ⟨36, _⟩ => ⟨S1024x1024, .f32⟩
  | .hbm, ⟨37, _⟩ => ⟨S1x1024, .f32⟩
  | .hbm, ⟨38, _⟩ => ⟨S1x512, .f32⟩
  | .hbm, ⟨39, _⟩ => ⟨S4x128x128, .f32⟩
  | .hbm, ⟨40, _⟩ => ⟨S1x1, .f32⟩
  | .hbm, ⟨41, _⟩ => ⟨S128x32x512, .f32⟩
  | .hbm, ⟨42, _⟩ => ⟨S1x4096x512, .f32⟩
  | .hbm, ⟨43, _⟩ => ⟨S1x4096x1024, .f32⟩
  | .hbm, ⟨44, _⟩ => ⟨S1x4096x512, .bf16⟩
  | .hbm, ⟨45, _⟩ => ⟨S1x4096x512, .bf16⟩
  | .hbm, ⟨46, _⟩ => ⟨S1x4096x512, .f32⟩
  | .hbm, ⟨47, _⟩ => ⟨S1x1024x1024, .f32⟩
  | .hbm, ⟨48, _⟩ => ⟨S1x4x128x128, .f32⟩
  | .hbm, ⟨49, _⟩ => ⟨S_, .f32⟩
  | .local _ .vmem, ⟨0, _⟩ => ⟨S32x8x512, .f32⟩
  | .local _ .vmem, ⟨1, _⟩ => ⟨S32x8x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x3x1024, .f32⟩
  | .local _ .vmem, ⟨17, _⟩ => ⟨S4x128x128, .f32⟩
  | .local _ .vmem, ⟨18, _⟩ => ⟨S1x512, .f32⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | .local _ .vmem, ⟨22, _⟩ => ⟨S32x8x512, .f32⟩
  | .local _ .vmem, ⟨23, _⟩ => ⟨S32x8x512, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .f32⟩
  | .local _ .vmem, ⟨29, _⟩ => ⟨S256x512, .f32⟩
  | .local _ .vmem, ⟨30, _⟩ => ⟨S1024x1024, .f32⟩
  | .local _ .vmem, ⟨31, _⟩ => ⟨S1x1024, .f32⟩
  | .local _ .vmem, ⟨32, _⟩ => ⟨S1x512, .f32⟩
  | .local _ .vmem, ⟨33, _⟩ => ⟨S4x128x128, .f32⟩
  | .local _ .vmem, ⟨34, _⟩ => ⟨S1x1, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev main_v21_6 : Ref sig .tc := ⟨.hbm, 37, rfl⟩
abbrev main_v21_7 : Ref sig .tc := ⟨.hbm, 38, rfl⟩
abbrev main_v21_8 : Ref sig .tc := ⟨.hbm, 39, rfl⟩
abbrev main_v21_9 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let c0_i32 : BitVec 32 := 0#32
  ![v0.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1_i32_0 : BitVec 32 := 1#32
  let v2 : BitVec 32 := Scalar.subi v1 c1_i32_0
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.addi v0 c1_i32_0
  let c32_i32 : BitVec 32 := 32#32
  let v2 : BitVec 32 := Scalar.muli v1 c32_i32
  let c543_i32 : BitVec 32 := 543#32
  let v3 : BitVec 32 := Scalar.minsi v2 c543_i32
  let c2_i32 : BitVec 32 := 2#32
  let c0_i32 : BitVec 32 := 0#32
  ![v3.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== OutReferenceIdeal.lean ====
abbrev S1x4096x512 : Shape := ⟨3, ![1, 4096, 512]⟩
abbrev S1x4096x1984 : Shape := ⟨3, ![1, 4096, 1984]⟩
abbrev S1x256x1984 : Shape := ⟨3, ![1, 256, 1984]⟩
abbrev S1x4096x1024 : Shape := ⟨3, ![1, 4096, 1024]⟩
abbrev S1x3072 : Shape := ⟨2, ![1, 3072]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S_ : Shape := ⟨0, ![]⟩
abbrev S1x1x1 : Shape := ⟨3, ![1, 1, 1]⟩
abbrev S4x1x1 : Shape := ⟨3, ![4, 1, 1]⟩
abbrev S4x4096x1 : Shape := ⟨3, ![4, 4096, 1]⟩
abbrev S4x4096x4096 : Shape := ⟨3, ![4, 4096, 4096]⟩
abbrev S4096x4x128 : Shape := ⟨3, ![4096, 4, 128]⟩
abbrev S4x4096x128 : Shape := ⟨3, ![4, 4096, 128]⟩
abbrev S1x4096x4x128 : Shape := ⟨4, ![1, 4096, 4, 128]⟩
abbrev S4x128x128 : Shape := ⟨3, ![4, 128, 128]⟩
abbrev S4x128x1x4096 : Shape := ⟨4, ![4, 128, 1, 4096]⟩
abbrev S512 : Shape := ⟨1, ![512]⟩
abbrev S1x1x512 : Shape := ⟨3, ![1, 1, 512]⟩
abbrev S1x1x1024 : Shape := ⟨3, ![1, 1, 1024]⟩
abbrev S1024x1024 : Shape := ⟨2, ![1024, 1024]⟩
abbrev S1x4096 : Shape := ⟨2, ![1, 4096]⟩
abbrev S1024 : Shape := ⟨1, ![1024]⟩
abbrev S4x1x4096x128 : Shape := ⟨4, ![4, 1, 4096, 128]⟩

abbrev nBuf : Space → Nat
  | .hbm => 163
  | .vmem => 0
  | .smem => 0
  | _ => 0

abbrev hbmTy0_0 (i : Nat) : BufTy := match i % 128 with
  | 0 => ⟨S1x4096x512, .f32⟩
  | 1 => ⟨S1x4096x1984, .f32⟩
  | 2 => ⟨S1x256x1984, .f32⟩
  | 3 => ⟨S1x4096x1024, .f32⟩
  | 4 => ⟨S1x4096x1024, .f32⟩
  | 5 => ⟨S1x3072, .f32⟩
  | 6 => ⟨S1x4x128x128, .f32⟩
  | 7 => ⟨S1x512, .f32⟩
  | 8 => ⟨S1x1024x1024, .f32⟩
  | 9 => ⟨S1x1024, .f32⟩
  | 10 => ⟨S1x4096x512, .f32⟩
  | 11 => ⟨S1x4096x512, .f32⟩
  | 12 => ⟨S_, .i32⟩
  | 13 => ⟨S1x1x1, .i32⟩
  | 14 => ⟨S_, .i32⟩
  | 15 => ⟨S1x1x1, .i32⟩
  | 16 => ⟨S_, .i32⟩
  | 17 => ⟨S1x1x1, .i32⟩
  | 18 => ⟨S_, .i32⟩
  | 19 => ⟨S1x1x1, .i32⟩
  | 20 => ⟨S4x1x1, .i32⟩
  | 21 => ⟨S4x4096x1, .i32⟩
  | 22 => ⟨S4x4096x4096, .i32⟩
  | 23 => ⟨S4x4096x1, .i32⟩
  | 24 => ⟨S4x4096x1, .i32⟩
  | 25 => ⟨S_, .i32⟩
  | 26 => ⟨S4x4096x1, .i32⟩
  | 27 => ⟨S4x4096x1, .i32⟩
  | 28 => ⟨S4x4096x1, .i32⟩
  | 29 => ⟨S4x4096x1, .i32⟩
  | 30 => ⟨S_, .i32⟩
  | 31 => ⟨S4x4096x1, .i32⟩
  | 32 => ⟨S4x4096x1, .i32⟩
  | 33 => ⟨S4x4096x4096, .i32⟩
  | 34 => ⟨S4x4096x4096, .i1⟩
  | 35 => ⟨S4x4096x4096, .i32⟩
  | 36 => ⟨S4x4096x4096, .i1⟩
  | 37 => ⟨S4x4096x4096, .i1⟩
  | 38 => ⟨S4x4096x4096, .f32⟩
  | 39 => ⟨S4096x4x128, .f32⟩
  | 40 => ⟨S4x4096x128, .f32⟩
  | 41 => ⟨S4x4096x128, .f32⟩
  | 42 => ⟨S4x4096x1, .i32⟩
  | 43 => ⟨S4x4096x1, .f32⟩
  | 44 => ⟨S4x4096x128, .f32⟩
  | 45 => ⟨S4x4096x128, .f32⟩
  | 46 => ⟨S4x4096x128, .f32⟩
  | 47 => ⟨S4096x4x128, .f32⟩
  | 48 => ⟨S1x4096x512, .f32⟩
  | 49 => ⟨S1x4096x512, .f32⟩
  | 50 => ⟨S1x4096x4x128, .f32⟩
  | 51 => ⟨S4x128x128, .f32⟩
  | 52 => ⟨S4x128x1x4096, .f32⟩
  | 53 => ⟨S1x4096x4x128, .f32⟩
  | 54 => ⟨S1x4096x512, .f32⟩
  | 55 => ⟨S512, .f32⟩
  | 56 => ⟨S1x1x512, .f32⟩
  | 57 => ⟨S1x4096x512, .f32⟩
  | 58 => ⟨S1x4096x512, .f32⟩
  | 59 => ⟨S1x4096x512, .f32⟩
  | 60 => ⟨S1x4096x512, .f32⟩
  | 61 => ⟨S_, .f32⟩
  | 62 => ⟨S1x4096x512, .f32⟩
  | 63 => ⟨S1x4096x512, .f32⟩
  | 64 => ⟨S_, .f32⟩
  | 65 => ⟨S1x4096x512, .f32⟩
  | 66 => ⟨S1x4096x512, .f32⟩
  | 67 => ⟨S_, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S_, .f32⟩
  | 76 => ⟨S1x4096x512, .f32⟩
  | 77 => ⟨S1x4096x512, .f32⟩
  | 78 => ⟨S_, .f32⟩
  | 79 => ⟨S1x4096x512, .f32⟩
  | 80 => ⟨S1x4096x512, .f32⟩
  | 81 => ⟨S_, .f32⟩
  | 82 => ⟨S1x4096x512, .f32⟩
  | 83 => ⟨S1x4096x512, .f32⟩
  | 84 => ⟨S1x4096x512, .f32⟩
  | 85 => ⟨S1x4096x512, .f32⟩
  | 86 => ⟨S1x4096x512, .f32⟩
  | 87 => ⟨S1x4096x1024, .f32⟩
  | 88 => ⟨S1x1x1024, .f32⟩
  | 89 => ⟨S1024x1024, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S_, .f32⟩
  | 97 => ⟨S1x4096x1024, .f32⟩
  | 98 => ⟨S1x4096x1024, .f32⟩
  | 99 => ⟨S_, .f32⟩
  | 100 => ⟨S1x4096, .f32⟩
  | 101 => ⟨S_, .f32⟩
  | 102 => ⟨S1x4096, .f32⟩
  | 103 => ⟨S1x4096, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S1x4096, .f32⟩
  | 112 => ⟨S_, .f32⟩
  | 113 => ⟨S1x4096, .f32⟩
  | 114 => ⟨S1x4096, .f32⟩
  | 115 => ⟨S1x4096x1024, .f32⟩
  | 116 => ⟨S1x4096x1024, .f32⟩
  | 117 => ⟨S1x4096x1024, .f32⟩
  | 118 => ⟨S1x4096x1024, .f32⟩
  | 119 => ⟨S1x4096x1024, .f32⟩
  | 120 => ⟨S_, .f32⟩
  | 121 => ⟨S1x1024, .f32⟩
  | 122 => ⟨S1x1x1024, .f32⟩
  | 123 => ⟨S1024x1024, .f32⟩
  | 124 => ⟨S1024x1024, .f32⟩
  | 125 => ⟨S1x4096x1024, .f32⟩
  | 126 => ⟨S1x1024x1024, .f32⟩
  | 127 => ⟨S_, .f32⟩
  | _ => ⟨S1x4096x512, .f32⟩

abbrev hbmTy0_1 (i : Nat) : BufTy := match i % 128 with
  | 0 => ⟨S1024, .f32⟩
  | 1 => ⟨S1x1024, .f32⟩
  | 2 => ⟨S1x4096x512, .f32⟩
  | 3 => ⟨S1x4096x512, .f32⟩
  | 4 => ⟨S1x4096x512, .f32⟩
  | 5 => ⟨S1x4096x512, .f32⟩
  | 6 => ⟨S1x4096x512, .f32⟩
  | 7 => ⟨S1x4096x512, .f32⟩
  | 8 => ⟨S1x4096x512, .f32⟩
  | 9 => ⟨S1x4096x512, .f32⟩
  | 10 => ⟨S1x4096x512, .f32⟩
  | 11 => ⟨S1x4096x512, .f32⟩
  | 12 => ⟨S1x4096x512, .f32⟩
  | 13 => ⟨S1x4096x512, .f32⟩
  | 14 => ⟨S1x4096x512, .f32⟩
  | 15 => ⟨S1x4096x512, .f32⟩
  | 16 => ⟨S1x4096x512, .f32⟩
  | 17 => ⟨S_, .f32⟩
  | 18 => ⟨S1x512, .f32⟩
  | 19 => ⟨S1x1x512, .f32⟩
  | 20 => ⟨S1x4096x512, .f32⟩
  | 21 => ⟨S1x4096x512, .f32⟩
  | 22 => ⟨S_, .f32⟩
  | 23 => ⟨S512, .f32⟩
  | 24 => ⟨S1x512, .f32⟩
  | 25 => ⟨S1x4096x4x128, .f32⟩
  | 26 => ⟨S4x128x1x4096, .f32⟩
  | 27 => ⟨S4x1x4096x128, .f32⟩
  | 28 => ⟨S1x4096x4x128, .f32⟩
  | 29 => ⟨S4x128x128, .f32⟩
  | 30 => ⟨S4x128x128, .f32⟩
  | 31 => ⟨S1x4x128x128, .f32⟩
  | 32 => ⟨S1x4096x512, .f32⟩
  | 33 => ⟨S1x4096x512, .bf16⟩
  | 34 => ⟨S1x4096x512, .bf16⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v44_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v44_1 : Ref sig .tc := ⟨.hbm, 70, rfl⟩
abbrev main_v44_0 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_v46_2 : Ref sig .tc := ⟨.hbm, 80, rfl⟩
abbrev main_call1_cst_1 : Ref sig .tc := ⟨.hbm, 81, rfl⟩
abbrev main_call1_v6 : Ref sig .tc := ⟨.hbm, 82, rfl⟩
abbrev main_call1_v7 : Ref sig .tc := ⟨.hbm, 83, rfl⟩
abbrev main_v46_1 : Ref sig .tc := ⟨.hbm, 84, rfl⟩
abbrev main_v46_0 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst : Ref sig .tc := ⟨.hbm, 96, rfl⟩
abbrev main_v57 : Ref sig .tc := ⟨.hbm, 97, rfl⟩
abbrev main_v58 : Ref sig .tc := ⟨.hbm, 98, rfl⟩
abbrev main_cst_5 : Ref sig .tc := ⟨.hbm, 99, rfl⟩
abbrev main_v59 : Ref sig .tc := ⟨.hbm, 100, rfl⟩
abbrev main_cst_6 : Ref sig .tc := ⟨.hbm, 101, rfl⟩
abbrev main_v60 : Ref sig .tc := ⟨.hbm, 102, rfl⟩
abbrev main_v61 : Ref sig .tc := ⟨.hbm, 103, rfl⟩
abbrev main_cst_7 : Ref sig .tc := ⟨.hbm, 104, rfl⟩
abbrev main_v62 : Ref sig .tc := ⟨.hbm, 105, rfl⟩
abbrev main_cst_8 : Ref sig .tc := ⟨.hbm, 106, rfl⟩
abbrev main_v63 : Ref sig .tc := ⟨.hbm, 107, rfl⟩
abbrev main_cst_9 : Ref sig .tc := ⟨.hbm, 108, rfl⟩
abbrev main_cst_10 : Ref sig .tc := ⟨.hbm, 109, rfl⟩
abbrev main_v64 : Ref sig .tc := ⟨.hbm, 110, rfl⟩
abbrev main_v65 : Ref sig .tc := ⟨.hbm, 111, rfl⟩
abbrev main_cst_11 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_12 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_13 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v88 : Ref sig .tc := ⟨.hbm, 143, rfl⟩
abbrev main_v89 : Ref sig .tc := ⟨.hbm, 144, rfl⟩
abbrev main_cst_14 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_15 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩

abbrev nD : Nat := 1
abbrev τ : Topo := Topo.v7x

variable {F : FTy → Type} [FloatOps F]
-- ==== FwdKernel.lean ====
abbrev S1x4096x1024 : Shape := ⟨3, ![1, 4096, 1024]⟩
abbrev S1x256x1024 : Shape := ⟨3, ![1, 256, 1024]⟩
abbrev S1x3072 : Shape := ⟨2, ![1, 3072]⟩
abbrev S3072 : Shape := ⟨1, ![3072]⟩
abbrev S1x1024 : Shape := ⟨2, ![1, 1024]⟩
abbrev S1x1024x1984 : Shape := ⟨3, ![1, 1024, 1984]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x192 : Shape := ⟨2, ![1, 192]⟩
abbrev S64x16 : Shape := ⟨2, ![64, 16]⟩
abbrev S_ : Shape := ⟨0, ![]⟩
abbrev S64x96 : Shape := ⟨2, ![64, 96]⟩
abbrev S64x128 : Shape := ⟨2, ![64, 128]⟩
abbrev S16x4x128 : Shape := ⟨3, ![16, 4, 128]⟩
abbrev S16x8x128 : Shape := ⟨3, ![16, 8, 128]⟩
abbrev S64x32 : Shape := ⟨2, ![64, 32]⟩
abbrev S64x64 : Shape := ⟨2, ![64, 64]⟩
abbrev S256x128 : Shape := ⟨2, ![256, 128]⟩
abbrev S16x8x256 : Shape := ⟨3, ![16, 8, 256]⟩
abbrev S256x256 : Shape := ⟨2, ![256, 256]⟩
abbrev S3x1024 : Shape := ⟨2, ![3, 1024]⟩
abbrev S1x3x1024 : Shape := ⟨3, ![1, 3, 1024]⟩
abbrev S2x3x1024 : Shape := ⟨3, ![2, 3, 1024]⟩
abbrev S256x768 : Shape := ⟨2, ![256, 768]⟩
abbrev S768x256 : Shape := ⟨2, ![768, 256]⟩
abbrev S4x192x256 : Shape := ⟨3, ![4, 192, 256]⟩
abbrev S4x256x256 : Shape := ⟨3, ![4, 256, 256]⟩
abbrev S128x1024 : Shape := ⟨2, ![128, 1024]⟩
abbrev S128x4x256 : Shape := ⟨3, ![128, 4, 256]⟩
abbrev S4x128x256 : Shape := ⟨3, ![4, 128, 256]⟩
abbrev S256x1024 : Shape := ⟨2, ![256, 1024]⟩
abbrev S4096x1024 : Shape := ⟨2, ![4096, 1024]⟩
abbrev S1024x1984 : Shape := ⟨2, ![1024, 1984]⟩
abbrev S1984x1024 : Shape := ⟨2, ![1984, 1024]⟩
abbrev S4352x2048 : Shape := ⟨2, ![4352, 2048]⟩
abbrev S4x4352x256 : Shape := ⟨3, ![4, 4352, 256]⟩
abbrev S4x4352x128 : Shape := ⟨3, ![4, 4352, 128]⟩
abbrev S1x8x256 : Shape := ⟨3, ![1, 8, 256]⟩
abbrev S256x2048 : Shape := ⟨2, ![256, 2048]⟩
abbrev S4x256x128 : Shape := ⟨3, ![4, 256, 128]⟩
abbrev S2x256 : Shape := ⟨2, ![2, 256]⟩
abbrev S1x1x1024 : Shape := ⟨3, ![1, 1, 1024]⟩
abbrev S256 : Shape := ⟨1, ![256]⟩
abbrev S256x1 : Shape := ⟨2, ![256, 1]⟩
abbrev S256x512 : Shape := ⟨2, ![256, 512]⟩
abbrev S512x1024 : Shape := ⟨2, ![512, 1024]⟩
abbrev S1x1x256 : Shape := ⟨3, ![1, 1, 256]⟩
abbrev S64x256 : Shape := ⟨2, ![64, 256]⟩
abbrev S1x256x256 : Shape := ⟨3, ![1, 256, 256]⟩
abbrev S1x128x256 : Shape := ⟨3, ![1, 128, 256]⟩
abbrev S128x256 : Shape := ⟨2, ![128, 256]⟩
abbrev S128x128 : Shape := ⟨2, ![128, 128]⟩
abbrev S1x256x128 : Shape := ⟨3, ![1, 256, 128]⟩
abbrev S4352x448 : Shape := ⟨2, ![4352, 448]⟩
abbrev S4352x1536 : Shape := ⟨2, ![4352, 1536]⟩
abbrev S4352x1984 : Shape := ⟨2, ![4352, 1984]⟩
abbrev S4096x1984 : Shape := ⟨2, ![4096, 1984]⟩
abbrev S1x4096x1984 : Shape := ⟨3, ![1, 4096, 1984]⟩
abbrev S256x1984 : Shape := ⟨2, ![256, 1984]⟩
abbrev S1x256x1984 : Shape := ⟨3, ![1, 256, 1984]⟩
abbrev S1x4x4352x128 : Shape := ⟨4, ![1, 4, 4352, 128]⟩

abbrev nBuf : Space → Nat
  | .hbm => 78
  | .vmem => 26
  | .smem => 0
  | _ => 0

abbrev bufTy : (tb : Table) → Fin (tcTables nBuf tb) → BufTy
  | .hbm, ⟨0, _⟩ => ⟨S1x4096x1024, .f32⟩
  | .hbm, ⟨1, _⟩ => ⟨S1x256x1024, .f32⟩
  | .hbm, ⟨2, _⟩ => ⟨S1x3072, .f32⟩
  | .hbm, ⟨3, _⟩ => ⟨S3072, .f32⟩
  | .hbm, ⟨4, _⟩ => ⟨S1x1024, .f32⟩
  | .hbm, ⟨5, _⟩ => ⟨S1x1024x1984, .f32⟩
  | .hbm, ⟨6, _⟩ => ⟨S1x256, .f32⟩
  | .hbm, ⟨7, _⟩ => ⟨S1x256x768, .f32⟩
  | .hbm, ⟨8, _⟩ => ⟨S1x128, .f32⟩
  | .hbm, ⟨9, _⟩ => ⟨S1x128x1024, .f32⟩
  | .hbm, ⟨10, _⟩ => ⟨S1x192, .f32⟩
  | .hbm, ⟨11, _⟩ => ⟨S1x192, .f32⟩
  | .hbm, ⟨12, _⟩ => ⟨S64x16, .f32⟩
  | .hbm, ⟨13, _⟩ => ⟨S64x16, .f32⟩
  | .hbm, ⟨14, _⟩ => ⟨S64x16, .f32⟩
  | .hbm, ⟨15, _⟩ => ⟨S64x16, .f32⟩
  | .hbm, ⟨16, _⟩ => ⟨S_, .f32⟩
  | .hbm, ⟨17, _⟩ => ⟨S64x96, .f32⟩
  | .hbm, ⟨18, _⟩ => ⟨S64x128, .f32⟩
  | .hbm, ⟨19, _⟩ => ⟨S16x4x128, .f32⟩
  | .hbm, ⟨20, _⟩ => ⟨S_, .i32⟩
  | .hbm, ⟨21, _⟩ => ⟨S_, .f32⟩
  | .hbm, ⟨22, _⟩ => ⟨S16x8x128, .f32⟩
  | .hbm, ⟨23, _⟩ => ⟨S_, .f32⟩
  | .hbm, ⟨24, _⟩ => ⟨S64x32, .f32⟩
  | .hbm, ⟨25, _⟩ => ⟨S_, .f32⟩
  | .hbm, ⟨26, _⟩ => ⟨S64x64, .f32⟩
  | .hbm, ⟨27, _⟩ => ⟨S64x128, .f32⟩
  | .hbm, ⟨28, _⟩ => ⟨S256x128, .f32⟩
  | .hbm, ⟨29, _⟩ => ⟨S_, .f32⟩
  | .hbm, ⟨30, _⟩ => ⟨S64x96, .f32⟩
  | .hbm, ⟨31, _⟩ => ⟨S64x128, .f32⟩
  | .hbm, ⟨32, _⟩ => ⟨S16x4x128, .f32⟩
  | .hbm, ⟨33, _⟩ => ⟨S_, .i32⟩
  | .hbm, ⟨34, _⟩ => ⟨S_, .f32⟩
  | .hbm, ⟨35, _⟩ => ⟨S16x8x128, .f32⟩
  | .hbm, ⟨36, _⟩ => ⟨S_, .f32⟩
  | .hbm, ⟨37, _⟩ => ⟨S64x32, .f32⟩
  | .hbm, ⟨38, _⟩ => ⟨S_, .f32⟩
  | .hbm, ⟨39, _⟩ => ⟨S64x64, .f32⟩
  | .hbm, ⟨40, _⟩ => ⟨S64x128, .f32⟩
  | .hbm, ⟨41, _⟩ => ⟨S256x128, .f32⟩
  | .hbm, ⟨42, _⟩ => ⟨S16x8x256, .f32⟩
  | .hbm, ⟨43, _⟩ => ⟨S256x256, .f32⟩
  | .hbm, ⟨44, _⟩ => ⟨S3x1024, .f32⟩
  | .hbm, ⟨45, _⟩ => ⟨S3072, .f32⟩
  | .hbm, ⟨46, _⟩ => ⟨S3x1024, .f32⟩
  | .hbm, ⟨47, _⟩ => ⟨S1x3x1024, .f32⟩
  | .hbm, ⟨48, _⟩ => ⟨S1x3x1024, .f32⟩
  | .hbm, ⟨49, _⟩ => ⟨S2x3x1024, .f32⟩
  | .hbm, ⟨50, _⟩ => ⟨S256x768, .f32⟩
  | .hbm, ⟨51, _⟩ => ⟨S768x256, .f32⟩
  | .hbm, ⟨52, _⟩ => ⟨S4x192x256, .f32⟩
  | .hbm, ⟨53, _⟩ => ⟨S_, .i32⟩
  | .hbm, ⟨54, _⟩ => ⟨S_, .f32⟩
  | .hbm, ⟨55, _⟩ => ⟨S4x256x256, .f32⟩
  | .hbm, ⟨56, _⟩ => ⟨S4x256x256, .bf16⟩
  | .hbm, ⟨57, _⟩ => ⟨S128x1024, .f32⟩
  | .hbm, ⟨58, _⟩ => ⟨S128x4x256, .f32⟩
  | .hbm, ⟨59, _⟩ => ⟨S4x128x256, .f32⟩
  | .hbm, ⟨60, _⟩ => ⟨S4x128x256, .bf16⟩
  | .hbm, ⟨61, _⟩ => ⟨S256x1024, .f32⟩
  | .hbm, ⟨62, _⟩ => ⟨S4096x1024, .f32⟩
  | .hbm, ⟨63, _⟩ => ⟨S1024x1984, .f32⟩
  | .hbm, ⟨64, _⟩ => ⟨S1984x1024, .f32⟩
  | .hbm, ⟨65, _⟩ => ⟨S1984x1024, .bf16⟩
  | .hbm, ⟨66, _⟩ => ⟨S4352x2048, .f32⟩
  | .hbm, ⟨67, _⟩ => ⟨S4x4352x256, .bf16⟩
  | .hbm, ⟨68, _⟩ => ⟨S4x4352x256, .bf16⟩
  | .hbm, ⟨69, _⟩ => ⟨S4x4352x128, .bf16⟩
  | .hbm, ⟨70, _⟩ => ⟨S4352x448, .f32⟩
  | .hbm, ⟨71, _⟩ => ⟨S4352x1536, .f32⟩
  | .hbm, ⟨72, _⟩ => ⟨S4352x1984, .f32⟩
  | .hbm, ⟨73, _⟩ => ⟨S4096x1984, .f32⟩
  | .hbm, ⟨74, _⟩ => ⟨S1x4096x1984, .f32⟩
  | .hbm, ⟨75, _⟩ => ⟨S256x1984, .f32⟩
  | .hbm, ⟨76, _⟩ => ⟨S1x256x1984, .f32⟩
  | .hbm, ⟨77, _⟩ => ⟨S1x4x4352x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S1984x1024, .bf16⟩
  | .local _ .vmem, ⟨8, _⟩ => ⟨S1x256, .f32⟩
  | .local _ .vmem, ⟨9, _⟩ => ⟨S4x256x256, .bf16⟩
  | .local _ .vmem, ⟨10, _⟩ => ⟨S1x128, .f32⟩
  | .local _ .vmem, ⟨11, _⟩ => ⟨S4x128x256, .bf16⟩
  | .local _ .vmem, ⟨12, _⟩ => ⟨S1x192, .f32⟩
  | .local _ .vmem, ⟨13, _⟩ => ⟨S1x192, .f32⟩
  | .local _ .vmem, ⟨14, _⟩ => ⟨S1x8x256, .f32⟩
  | .local _ .vmem, ⟨15, _⟩ => ⟨S1x8x256, .f32⟩
  | .local _ .vmem, ⟨16, _⟩ => ⟨S256x256, .f32⟩
  | .local _ .vmem, ⟨17, _⟩ => ⟨S256x2048, .f32⟩
  | .local _ .vmem, ⟨18, _⟩ => ⟨S256x2048, .f32⟩
  | .local _ .vmem, ⟨19, _⟩ => ⟨S4x256x256, .bf16⟩
  | .local _ .vmem, ⟨20, _⟩ => ⟨S4x256x256, .bf16⟩
  | .local _ .vmem, ⟨21, _⟩ => ⟨S4x256x256, .bf16⟩
  | .local _ .vmem, ⟨22, _⟩ => ⟨S4x256x256, .bf16⟩
  | .local _ .vmem, ⟨23, _⟩ => ⟨S4x256x128, .bf16⟩
  | .local _ .vmem, ⟨24, _⟩ => ⟨S4x256x128, .bf16⟩
  | .local _ .vmem, ⟨25, _⟩ => ⟨S2x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_v0 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_call1_v0 : Ref sig .tc := ⟨.hbm, 34, rfl⟩
abbrev main_v11 : Ref sig .tc := ⟨.hbm, 35, rfl⟩
abbrev main_cst_4 : Ref sig .tc := ⟨.hbm, 36, rfl⟩
abbrev main_v12 : Ref sig .tc := ⟨.hbm, 37, rfl⟩
abbrev main_cst_5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_call2_v0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev main_v38_2 : Ref sig .tc := ⟨.hbm, 68, rfl⟩
abbrev main_v38_3 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1984x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FwdReferenceIdeal.lean ====
abbrev S1x4096x1024 : Shape := ⟨3, ![1, 4096, 1024]⟩
abbrev S1x256x1024 : Shape := ⟨3, ![1, 256, 1024]⟩
abbrev S1x3072 : Shape := ⟨2, ![1, 3072]⟩
abbrev S3072 : Shape := ⟨1, ![3072]⟩
abbrev S1x1024 : Shape := ⟨2, ![1, 1024]⟩
abbrev S1x1024x1984 : Shape := ⟨3, ![1, 1024, 1984]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x192 : Shape := ⟨2, ![1, 192]⟩
abbrev S64x16 : Shape := ⟨2, ![64, 16]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x256x1 : Shape := ⟨3, ![1, 256, 1]⟩
abbrev S1024x1984 : Shape := ⟨2, ![1024, 1984]⟩
abbrev S1x4096x1984 : Shape := ⟨3, ![1, 4096, 1984]⟩
abbrev S1x256x1984 : Shape := ⟨3, ![1, 256, 1984]⟩
abbrev S1x256x128 : Shape := ⟨3, ![1, 256, 128]⟩
abbrev S1x1x128 : Shape := ⟨3, ![1, 1, 128]⟩
abbrev S128x1024 : Shape := ⟨2, ![128, 1024]⟩
abbrev S1x256x4x256 : Shape := ⟨4, ![1, 256, 4, 256]⟩
abbrev S1x256x4x128 : Shape := ⟨4, ![1, 256, 4, 128]⟩
abbrev S1x4096x128 : Shape := ⟨3, ![1, 4096, 128]⟩
abbrev S1x4096x4x256 : Shape := ⟨4, ![1, 4096, 4, 256]⟩
abbrev S1x4096x4x128 : Shape := ⟨4, ![1, 4096, 4, 128]⟩
abbrev S1x4352x4x128 : Shape := ⟨4, ![1, 4352, 4, 128]⟩
abbrev S1x4x4352x128 : Shape := ⟨4, ![1, 4, 4352, 128]⟩

abbrev nBuf : Space → Nat
  | .hbm => 121
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x256x1024, .f32⟩
  | .hbm, ⟨2, _⟩ => ⟨S1x3072, .f32⟩
  | .hbm, ⟨3, _⟩ => ⟨S3072, .f32⟩
  | .hbm, ⟨4, _⟩ => ⟨S1x1024, .f32⟩
  | .hbm, ⟨5, _⟩ => ⟨S1x1024x1984, .f32⟩
  | .hbm, ⟨6, _⟩ => ⟨S1x256, .f32⟩
  | .hbm, ⟨7, _⟩ => ⟨S1x256x768, .f32⟩
  | .hbm, ⟨8, _⟩ => ⟨S1x128, .f32⟩
  | .hbm, ⟨9, _⟩ => ⟨S1x128x1024, .f32⟩
  | .hbm, ⟨10, _⟩ => ⟨S1x192, .f32⟩
  | .hbm, ⟨11, _⟩ => ⟨S1x192, .f32⟩
  | .hbm, ⟨12, _⟩ => ⟨S64x16, .f32⟩
  | .hbm, ⟨13, _⟩ => ⟨S64x16, .f32⟩
  | .hbm, ⟨14, _⟩ => ⟨S64x16, .f32⟩
  | .hbm, ⟨15, _⟩ => ⟨S64x16, .f32⟩
  | .hbm, ⟨16, _⟩ => ⟨S1024, .f32⟩
  | .hbm, ⟨17, _⟩ => ⟨S1x4096x1024, .f32⟩
  | .hbm, ⟨18, _⟩ => ⟨S_, .f32⟩
  | .hbm, ⟨19, _⟩ => ⟨S1x4096, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S_, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x1024, .f32⟩
  | .hbm, ⟨34, _⟩ => ⟨S1x1x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S1x4096x1024, .f32⟩
  | .hbm, ⟨39, _⟩ => ⟨S1x4096x1024, .f32⟩
  | .hbm, ⟨40, _⟩ => ⟨S1x1024, .f32⟩
  | .hbm, ⟨41, _⟩ => ⟨S1x1x1024, .f32⟩
  | .hbm, ⟨42, _⟩ => ⟨S1x4096x1024, .f32⟩
  | .hbm, ⟨43, _⟩ => ⟨S1x4096x1024, .f32⟩
  | .hbm, ⟨44, _⟩ => ⟨S1024, .f32⟩
  | .hbm, ⟨45, _⟩ => ⟨S1x256x1024, .f32⟩
  | .hbm, ⟨46, _⟩ => ⟨S_, .f32⟩
  | .hbm, ⟨47, _⟩ => ⟨S1x256, .f32⟩
  | .hbm, ⟨48, _⟩ => ⟨S1x256x1, .f32⟩
  | .hbm, ⟨49, _⟩ => ⟨S_, .f32⟩
  | .hbm, ⟨50, _⟩ => ⟨S1x256x1, .f32⟩
  | .hbm, ⟨51, _⟩ => ⟨S1x256x1, .f32⟩
  | .hbm, ⟨52, _⟩ => ⟨S_, .f32⟩
  | .hbm, ⟨53, _⟩ => ⟨S1x256x1, .f32⟩
  | .hbm, ⟨54, _⟩ => ⟨S1x256x1, .f32⟩
  | .hbm, ⟨55, _⟩ => ⟨S1x256x1, .f32⟩
  | .hbm, ⟨56, _⟩ => ⟨S1x256x1024, .f32⟩
  | .hbm, ⟨57, _⟩ => ⟨S1x256x1024, .f32⟩
  | .hbm, ⟨58, _⟩ => ⟨S1x1x1024, .f32⟩
  | .hbm, ⟨59, _⟩ => ⟨S1x256x1024, .f32⟩
  | .hbm, ⟨60, _⟩ => ⟨S1x256x1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1x1x1024, .f32⟩
  | .hbm, ⟨66, _⟩ => ⟨S1x256x1024, .f32⟩
  | .hbm, ⟨67, _⟩ => ⟨S1x256x1024, .f32⟩
  | .hbm, ⟨68, _⟩ => ⟨S1024, .f32⟩
  | .hbm, ⟨69, _⟩ => ⟨S1x1x1024, .f32⟩
  | .hbm, ⟨70, _⟩ => ⟨S1x256x1024, .f32⟩
  | .hbm, ⟨71, _⟩ => ⟨S1x256x1024, .f32⟩
  | .hbm, ⟨72, _⟩ => ⟨S1024x1984, .f32⟩
  | .hbm, ⟨73, _⟩ => ⟨S1x4096x1984, .f32⟩
  | .hbm, ⟨74, _⟩ => ⟨S1024x1984, .f32⟩
  | .hbm, ⟨75, _⟩ => ⟨S1x256x1984, .f32⟩
  | .hbm, ⟨76, _⟩ => ⟨S1x256x128, .f32⟩
  | .hbm, ⟨77, _⟩ => ⟨S1x256x128, .f32⟩
  | .hbm, ⟨78, _⟩ => ⟨S_, .f32⟩
  | .hbm, ⟨79, _⟩ => ⟨S1x256, .f32⟩
  | .hbm, ⟨80, _⟩ => ⟨S1x256x1, .f32⟩
  | .hbm, ⟨81, _⟩ => ⟨S_, .f32⟩
  | .hbm, ⟨82, _⟩ => ⟨S1x256x1, .f32⟩
  | .hbm, ⟨83, _⟩ => ⟨S1x256x1, .f32⟩
  | .hbm, ⟨84, _⟩ => ⟨S_, .f32⟩
  | .hbm, ⟨85, _⟩ => ⟨S1x256x1, .f32⟩
  | .hbm, ⟨86, _⟩ => ⟨S1x256x1, .f32⟩
  | .hbm, ⟨87, _⟩ => ⟨S1x256x1, .f32⟩
  | .hbm, ⟨88, _⟩ => ⟨S1x256x128, .f32⟩
  | .hbm, ⟨89, _⟩ => ⟨S1x256x128, .f32⟩
  | .hbm, ⟨90, _⟩ => ⟨S1x1x128, .f32⟩
  | .hbm, ⟨91, _⟩ => ⟨S1x256x128, .f32⟩
  | .hbm, ⟨92, _⟩ => ⟨S1x256x128, .f32⟩
  | .hbm, ⟨93, _⟩ => ⟨S128x1024, .f32⟩
  | .hbm, ⟨94, _⟩ => ⟨S1x256x1024, .f32⟩
  | .hbm, ⟨95, _⟩ => ⟨S1x256x4x256, .f32⟩
  | .hbm, ⟨96, _⟩ => ⟨S1x256x4x128, .f32⟩
  | .hbm, ⟨97, _⟩ => ⟨S1x4096x128, .f32⟩
  | .hbm, ⟨98, _⟩ => ⟨S1x4096x128, .f32⟩
  | .hbm, ⟨99, _⟩ => ⟨S_, .f32⟩
  | .hbm, ⟨100, _⟩ => ⟨S1x4096, .f32⟩
  | .hbm, ⟨101, _⟩ => ⟨S1x4096x1, .f32⟩
  | .hbm, ⟨102, _⟩ => ⟨S_, .f32⟩
  | .hbm, ⟨103, _⟩ => ⟨S1x4096x1, .f32⟩
  | .hbm, ⟨104, _⟩ => ⟨S1x4096x1, .f32⟩
  | .hbm, ⟨105, _⟩ => ⟨S_, .f32⟩
  | .hbm, ⟨106, _⟩ => ⟨S1x4096x1, .f32⟩
  | .hbm, ⟨107, _⟩ => ⟨S1x4096x1, .f32⟩
  | .hbm, ⟨108, _⟩ => ⟨S1x4096x1, .f32⟩
  | .hbm, ⟨109, _⟩ => ⟨S1x4096x128, .f32⟩
  | .hbm, ⟨110, _⟩ => ⟨S1x4096x128, .f32⟩
  | .hbm, ⟨111, _⟩ => ⟨S1x1x128, .f32⟩
  | .hbm, ⟨112, _⟩ => ⟨S1x4096x128, .f32⟩
  | .hbm, ⟨113, _⟩ => ⟨S1x4096x128, .f32⟩
  | .hbm, ⟨114, _⟩ => ⟨S128x1024, .f32⟩
  | .hbm, ⟨115, _⟩ => ⟨S1x4096x1024, .f32⟩
  | .hbm, ⟨116, _⟩ => ⟨S1x4096x4x256, .f32⟩
  | .hbm, ⟨117, _⟩ => ⟨S1x4096x4x128, .f32⟩
  | .hbm, ⟨118, _⟩ => ⟨S1x4352x4x128, .f32⟩
  | .hbm, ⟨119, _⟩ => ⟨S1x4x4352x128, .f32⟩
  | .hbm, ⟨120, _⟩ => ⟨S1x4x4352x128, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== AdamKernel.lean ====
abbrev S1x1024x496 : Shape := ⟨3, ![1, 1024, 496]⟩
abbrev S1x256x1024 : Shape := ⟨3, ![1, 256, 1024]⟩
abbrev S1024x496 : Shape := ⟨2, ![1024, 496]⟩
abbrev S496x1024 : Shape := ⟨2, ![496, 1024]⟩
abbrev S256x1024 : Shape := ⟨2, ![256, 1024]⟩
abbrev S496x256 : Shape := ⟨2, ![496, 256]⟩
abbrev S64x1024 : Shape := ⟨2, ![64, 1024]⟩

abbrev nBuf : Space → Nat
  | .hbm => 37
  | .vmem => 32
  | .smem => 0
  | _ => 0

abbrev bufTy : (tb : Table) → Fin (tcTables nBuf tb) → BufTy
  | .hbm, ⟨0, _⟩ => ⟨S1x1024x496, .f32⟩
  | .hbm, ⟨1, _⟩ => ⟨S1x256x1024, .f32⟩
  | .hbm, ⟨2, _⟩ => ⟨S1x1024x496, .f32⟩
  | .hbm, ⟨3, _⟩ => ⟨S1x256x1024, .f32⟩
  | .hbm, ⟨4, _⟩ => ⟨S1x1024x496, .f32⟩
  | .hbm, ⟨5, _⟩ => ⟨S1x256x1024, .f32⟩
  | .hbm, ⟨6, _⟩ => ⟨S1x1024x496, .f32⟩
  | .hbm, ⟨7, _⟩ => ⟨S1x256x1024, .f32⟩
  | .hbm, ⟨8, _⟩ => ⟨S1024x496, .f32⟩
  | .hbm, ⟨9, _⟩ => ⟨S496x1024, .f32⟩
  | .hbm, ⟨10, _⟩ => ⟨S256x1024, .f32⟩
  | .hbm, ⟨11, _⟩ => ⟨S1024x496, .f32⟩
  | .hbm, ⟨12, _⟩ => ⟨S496x1024, .f32⟩
  | .hbm, ⟨13, _⟩ => ⟨S256x1024, .f32⟩
  | .hbm, ⟨14, _⟩ => ⟨S1024x496, .f32⟩
  | .hbm, ⟨15, _⟩ => ⟨S496x1024, .f32⟩
  | .hbm, ⟨16, _⟩ => ⟨S256x1024, .f32⟩
  | .hbm, ⟨17, _⟩ => ⟨S1024x496, .f32⟩
  | .hbm, ⟨18, _⟩ => ⟨S496x1024, .f32⟩
  | .hbm, ⟨19, _⟩ => ⟨S256x1024, .f32⟩
  | .hbm, ⟨20, _⟩ => ⟨S496x1024, .f32⟩
  | .hbm, ⟨21, _⟩ => ⟨S256x1024, .f32⟩
  | .hbm, ⟨22, _⟩ => ⟨S496x1024, .f32⟩
  | .hbm, ⟨23, _⟩ => ⟨S256x1024, .f32⟩
  | .hbm, ⟨24, _⟩ => ⟨S496x1024, .f32⟩
  | .hbm, ⟨25, _⟩ => ⟨S256x1024, .f32⟩
  | .hbm, ⟨26, _⟩ => ⟨S496x1024, .f32⟩
  | .hbm, ⟨27, _⟩ => ⟨S256x1024, .f32⟩
  | .hbm, ⟨28, _⟩ => ⟨S1024x496, .f32⟩
  | .hbm, ⟨29, _⟩ => ⟨S1x1024x496, .f32⟩
  | .hbm, ⟨30, _⟩ => ⟨S1x256x1024, .f32⟩
  | .hbm, ⟨31, _⟩ => ⟨S1024x496, .f32⟩
  | .hbm, ⟨32, _⟩ => ⟨S1x1024x496, .f32⟩
  | .hbm, ⟨33, _⟩ => ⟨S1x256x1024, .f32⟩
  | .hbm, ⟨34, _⟩ => ⟨S1024x496, .f32⟩
  | .hbm, ⟨35, _⟩ => ⟨S1x1024x496, .f32⟩
  | .hbm, ⟨36, _⟩ => ⟨S1x256x1024, .f32⟩
  | .local _ .vmem, ⟨0, _⟩ => ⟨S496x256, .f32⟩
  | .local _ .vmem, ⟨1, _⟩ => ⟨S496x256, .f32⟩
  | .local _ .vmem, ⟨2, _⟩ => ⟨S64x1024, .f32⟩
  | .local _ .vmem, ⟨3, _⟩ => ⟨S64x1024, .f32⟩
  | .local _ .vmem, ⟨4, _⟩ => ⟨S496x256, .f32⟩
  | .local _ .vmem, ⟨5, _⟩ => ⟨S496x256, .f32⟩
  | .local _ .vmem, ⟨6, _⟩ => ⟨S64x1024, .f32⟩
  | .local _ .vmem, ⟨7, _⟩ => ⟨S64x1024, .f32⟩
  | .local _ .vmem, ⟨8, _⟩ => ⟨S496x256, .f32⟩
  | .local _ .vmem, ⟨9, _⟩ => ⟨S496x256, .f32⟩
  | .local _ .vmem, ⟨10, _⟩ => ⟨S64x1024, .f32⟩
  | .local _ .vmem, ⟨11, _⟩ => ⟨S64x1024, .f32⟩
  | .local _ .vmem, ⟨12, _⟩ => ⟨S496x256, .f32⟩
  | .local _ .vmem, ⟨13, _⟩ => ⟨S496x256, .f32⟩
  | .local _ .vmem, ⟨14, _⟩ => ⟨S64x1024, .f32⟩
  | .local _ .vmem, ⟨15, _⟩ => ⟨S64x1024, .f32⟩
  | .local _ .vmem, ⟨16, _⟩ => ⟨S496x256, .f32⟩
  | .local _ .vmem, ⟨17, _⟩ => ⟨S496x256, .f32⟩
  | .local _ .vmem, ⟨18, _⟩ => ⟨S64x1024, .f32⟩
  | .local _ .vmem, ⟨19, _⟩ => ⟨S64x1024, .f32⟩
  | .local _ .vmem, ⟨20, _⟩ => ⟨S496x256, .f32⟩
  | .local _ .vmem, ⟨21, _⟩ => ⟨S496x256, .f32⟩
  | .local _ .vmem, ⟨22, _⟩ => ⟨S64x1024, .f32⟩
  | .local _ .vmem, ⟨23, _⟩ => ⟨S64x1024, .f32⟩
  | .local _ .vmem, ⟨24, _⟩ => ⟨S496x256, .f32⟩
  | .local _ .vmem, ⟨25, _⟩ => ⟨S496x256, .f32⟩
  | .local _ .vmem, ⟨26, _⟩ => ⟨S64x1024, .f32⟩
  | .local _ .vmem, ⟨27, _⟩ => ⟨S64x1024, .f32⟩
  | .local _ .vmem, ⟨28, _⟩ => ⟨S496x256, .f32⟩
  | .local _ .vmem, ⟨29, _⟩ => ⟨S496x256, .f32⟩
  | .local _ .vmem, ⟨30, _⟩ => ⟨S64x1024, .f32⟩
  | .local _ .vmem, ⟨31, _⟩ => ⟨S64x1024, .f32⟩
  | _, _ => ⟨S1x1024x496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_v12_7 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S496x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S496x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S496x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S496x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S496x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S496x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S496x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S496x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AdamReferenceIdeal.lean ====
abbrev S1x1024x496 : Shape := ⟨3, ![1, 1024, 496]⟩
abbrev S1x256x1024 : Shape := ⟨3, ![1, 256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x1024x496, .f32⟩
  | .hbm, ⟨1, _⟩ => ⟨S1x256x1024, .f32⟩
  | .hbm, ⟨2, _⟩ => ⟨S1x1024x496, .f32⟩
  | .hbm, ⟨3, _⟩ => ⟨S1x256x1024, .f32⟩
  | .hbm, ⟨4, _⟩ => ⟨S1x1024x496, .f32⟩
  | .hbm, ⟨5, _⟩ => ⟨S1x256x1024, .f32⟩
  | .hbm, ⟨6, _⟩ => ⟨S1x1024x496, .f32⟩
  | .hbm, ⟨7, _⟩ => ⟨S1x256x1024, .f32⟩
  | .hbm, ⟨8, _⟩ => ⟨S_, .f32⟩
  | .hbm, ⟨9, _⟩ => ⟨S1x1024x496, .f32⟩
  | .hbm, ⟨10, _⟩ => ⟨S1x1024x496, .f32⟩
  | .hbm, ⟨11, _⟩ => ⟨S_, .f32⟩
  | .hbm, ⟨12, _⟩ => ⟨S1x1024x496, .f32⟩
  | .hbm, ⟨13, _⟩ => ⟨S1x1024x496, .f32⟩
  | .hbm, ⟨14, _⟩ => ⟨S1x1024x496, .f32⟩
  | .hbm, ⟨15, _⟩ => ⟨S_, .f32⟩
  | .hbm, ⟨16, _⟩ => ⟨S1x1024x496, .f32⟩
  | .hbm, ⟨17, _⟩ => ⟨S1x1024x496, .f32⟩
  | .hbm, ⟨18, _⟩ => ⟨S1x1024x496, .f32⟩
  | .hbm, ⟨19, _⟩ => ⟨S_, .f32⟩
  | .hbm, ⟨20, _⟩ => ⟨S1x1024x496, .f32⟩
  | .hbm, ⟨21, _⟩ => ⟨S1x1024x496, .f32⟩
  | .hbm, ⟨22, _⟩ => ⟨S1x1024x496, .f32⟩
  | .hbm, ⟨23, _⟩ => ⟨S_, .f32⟩
  | .hbm, ⟨24, _⟩ => ⟨S1x1024x496, .f32⟩
  | .hbm, ⟨25, _⟩ => ⟨S1x1024x496, .f32⟩
  | .hbm, ⟨26, _⟩ => ⟨S_, .f32⟩
  | .hbm, ⟨27, _⟩ => ⟨S1x1024x496, .f32⟩
  | .hbm, ⟨28, _⟩ => ⟨S1x1024x496, .f32⟩
  | .hbm, ⟨29, _⟩ => ⟨S1x1024x496, .f32⟩
  | .hbm, ⟨30, _⟩ => ⟨S_, .f32⟩
  | .hbm, ⟨31, _⟩ => ⟨S1x1024x496, .f32⟩
  | .hbm, ⟨32, _⟩ => ⟨S1x1024x496, .f32⟩
  | .hbm, ⟨33, _⟩ => ⟨S1x1024x496, .f32⟩
  | .hbm, ⟨34, _⟩ => ⟨S_, .f32⟩
  | .hbm, ⟨35, _⟩ => ⟨S1x1024x496, .f32⟩
  | .hbm, ⟨36, _⟩ => ⟨S1x1024x496, .f32⟩
  | .hbm, ⟨37, _⟩ => ⟨S1x1024x496, .f32⟩
  | .hbm, ⟨38, _⟩ => ⟨S_, .f32⟩
  | .hbm, ⟨39, _⟩ => ⟨S1x1024x496, .f32⟩
  | .hbm, ⟨40, _⟩ => ⟨S1x1024x496, .f32⟩
  | .hbm, ⟨41, _⟩ => ⟨S_, .f32⟩
  | .hbm, ⟨42, _⟩ => ⟨S1x256x1024, .f32⟩
  | .hbm, ⟨43, _⟩ => ⟨S1x256x1024, .f32⟩
  | .hbm, ⟨44, _⟩ => ⟨S_, .f32⟩
  | .hbm, ⟨45, _⟩ => ⟨S1x256x1024, .f32⟩
  | .hbm, ⟨46, _⟩ => ⟨S1x256x1024, .f32⟩
  | .hbm, ⟨47, _⟩ => ⟨S1x256x1024, .f32⟩
  | .hbm, ⟨48, _⟩ => ⟨S_, .f32⟩
  | .hbm, ⟨49, _⟩ => ⟨S1x256x1024, .f32⟩
  | .hbm, ⟨50, _⟩ => ⟨S1x256x1024, .f32⟩
  | .hbm, ⟨51, _⟩ => ⟨S1x256x1024, .f32⟩
  | .hbm, ⟨52, _⟩ => ⟨S_, .f32⟩
  | .hbm, ⟨53, _⟩ => ⟨S1x256x1024, .f32⟩
  | .hbm, ⟨54, _⟩ => ⟨S1x256x1024, .f32⟩
  | .hbm, ⟨55, _⟩ => ⟨S1x256x1024, .f32⟩
  | .hbm, ⟨56, _⟩ => ⟨S_, .f32⟩
  | .hbm, ⟨57, _⟩ => ⟨S1x256x1024, .f32⟩
  | .hbm, ⟨58, _⟩ => ⟨S1x256x1024, .f32⟩
  | .hbm, ⟨59, _⟩ => ⟨S_, .f32⟩
  | .hbm, ⟨60, _⟩ => ⟨S1x256x1024, .f32⟩
  | .hbm, ⟨61, _⟩ => ⟨S1x256x1024, .f32⟩
  | .hbm, ⟨62, _⟩ => ⟨S1x256x1024, .f32⟩
  | .hbm, ⟨63, _⟩ => ⟨S_, .f32⟩
  | .hbm, ⟨64, _⟩ => ⟨S1x256x1024, .f32⟩
  | .hbm, ⟨65, _⟩ => ⟨S1x256x1024, .f32⟩
  | .hbm, ⟨66, _⟩ => ⟨S1x256x1024, .f32⟩
  | .hbm, ⟨67, _⟩ => ⟨S_, .f32⟩
  | .hbm, ⟨68, _⟩ => ⟨S1x256x1024, .f32⟩
  | .hbm, ⟨69, _⟩ => ⟨S1x256x1024, .f32⟩
  | .hbm, ⟨70, _⟩ => ⟨S1x256x1024, .f32⟩
  | .hbm, ⟨71, _⟩ => ⟨S_, .f32⟩
  | .hbm, ⟨72, _⟩ => ⟨S1x256x1024, .f32⟩
  | .hbm, ⟨73, _⟩ => ⟨S1x256x1024, .f32⟩
  | _, _ => ⟨S1x1024x496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Attn.Run.lean ====
module

public import proofs.«01_k».proof.Proof.Gen.KernelIdeal.Frame

@[expose] public section

/-! The attention program's run, its results read at the last boundary of its segments. -/

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with the four results at the last boundary's contents, the arguments as launched and every
semaphore counter at zero. -/
theorem run_main : θ_run defs (onTc (τ := τ) (main (F := F))) ⟨m, fun _ => 0, ρ⟩ (fun r => (∀ c : Dev nD,
      r.2.mem ((c.tc : Thread nD τ).loc main_v21) = W8 m ρ c (Proc.devRef .tc main_v21)
      ∧ r.2.mem ((c.tc : Thread nD τ).loc main_v23) = W8 m ρ c (Proc.devRef .tc main_v23)
      ∧ r.2.mem ((c.tc : Thread nD τ).loc main_v27) = W8 m ρ c (Proc.devRef .tc main_v27)
      ∧ r.2.mem ((c.tc : Thread nD τ).loc main_v28) = W8 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v21 (by decide)),
       h c _ (mem_uc main_v23 (by decide)),
       h c _ (mem_uc main_v27 (by decide)),
       h c _ (mem_uc main_v28 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩), funext fun g => hz g (.inr (no_unscoped g.2))⟩)

end Cert.KernelIdeal.Attn
-- ==== Proof.Finite.lean ====
module

public import Idealize.ShloMosaic.PureOps.Ideal
public import Mathlib.Analysis.SpecialFunctions.Pow.Real

@[expose] public section

/-! A number that passes the test of finiteness is real. -/

noncomputable section

open Idealize.ShloMosaic

namespace Cert.Attn

theorem ofBits_top : Ideal.ofBits FTy.f32 0x7F800000#32 = (⊤ : EReal) := by simp [Ideal.ofBits, Ideal.ieee]

/-- A number whose absolute value is below infinity is real. -/
theorem real_of_lt (x : EReal) (h : BitVec.ofBool (decide (max x (-x) < Ideal.ofBits FTy.f32 0x7F800000#32)) = 1#1) : x = ((x.toReal : ℝ) : EReal) := by
  rw [ofBits_top] at h
  have h' : max x (-x) < ⊤ := by
    by_contra hc
    rw [decide_eq_false hc] at h
    exact absurd h (by decide)
  have h1 := (max_lt_iff.mp h').1
  have h2 := (max_lt_iff.mp h').2
  refine (EReal.coe_toReal h1.ne ?_).symm
  rintro rfl
  exact absurd h2 (by simp)

end Cert.Attn
-- ==== Proof.Attn.Math.lean ====
module

public import Idealize.ShloMosaic.PureOps.Ideal
public import Mathlib.Analysis.SpecialFunctions.Pow.Real

@[expose] public section

/-! Real numbers among the extended reals: sums, quotients, exponentials and maxima of real
numbers are real. -/

noncomputable section

open Idealize.ShloMosaic

namespace Cert.Attn

/-- A finite sum of real numbers, taken among the extended reals, is their real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers whose divisor is not zero. -/
theorem div_coe_coe (a b : ℝ) (hb : b ≠ 0) : Ideal.div (a : EReal) (b : EReal) = ((a / b : ℝ) : EReal) := by
  rw [Ideal.div_coe hb, ← EReal.coe_mul]
  congr 1
  field_simp

/-- The maximum of −∞ and finitely many real numbers, one at least, is a real number. -/
theorem fold_max_coe {ι : Type*} (s : Finset ι) (hs : s.Nonempty) (f : ι → ℝ) :
    ∃ m : ℝ, s.fold max (⊥ : EReal) (fun i => ((f i : ℝ) : EReal)) = (m : EReal) := by
  classical
  induction s using Finset.induction_on with
  | empty => exact absurd hs (by simp)
  | insert a s ha ih =>
      rw [Finset.fold_insert ha]
      rcases s.eq_empty_or_nonempty with h | h
      · subst h; exact ⟨f a, by simp⟩
      · obtain ⟨m, hm⟩ := ih h
        exact ⟨max (f a) m, by rw [hm]; exact (EReal.coe_strictMono.monotone.map_max).symm⟩

/-- A power of two is the exponential of the exponent times the logarithm of two. -/
theorem rpow_two (x : ℝ) : Real.rpow 2 x = Real.exp (Real.log 2 * x) :=
  Real.rpow_def_of_pos (by norm_num) x

theorem log_two_ne : Real.log 2 ≠ 0 := (Real.log_pos (by norm_num)).ne'

end Cert.Attn
end
-- ==== Proof.Attn.Pay.lean ====
module

public import proofs.«01_k».proof.Proof.Gen.KernelIdeal.Skeleton
public import proofs.«01_k».proof.Proof.Attn.Math
public import Idealize.ShloMosaic.Lib.Pointwise

@[expose] public section

/-! What the two attention calls compute in one block, read at an index. -/

set_option maxRecDepth 16384

noncomputable section

open Idealize.ShloMosaic

namespace Cert.KernelIdeal.Attn

open Cert.KernelIdeal Cert.KernelIdeal.Gen Cert.Attn

/-- The named constant of the row logarithms: 1 / log 2. -/
theorem named_log2e : (Named.named κ "log2e" 0x3FB8AA3B#32 : Ideal .f32) = (((Real.log 2)⁻¹ : ℝ) : EReal) :=
  IdealRules.named_const.ideal_named_scalar _ _ _ _ rfl

/-- The named constant of the scores: 1 / √192. -/
theorem named_scale : (Named.named κ "scale" 0x3D93CD3A#32 : Ideal .f32) = (((Real.sqrt 192)⁻¹ : ℝ) : EReal) :=
  IdealRules.named_const.ideal_named_scalar _ _ _ _ rfl

/-- The float word of −∞. -/
theorem ofBits_bot : Ideal.ofBits FTy.f32 0xFF800000#32 = (⊥ : EReal) := by
  simp [Ideal.ofBits, Ideal.ieee]

section Forward

variable (x : Vec Ideal S1x256x256 .bf16) (k : Vec Ideal S1x4352x256 .bf16) (v : Vec Ideal S1x4352x128 .bf16)

/-- The scores of a block of query rows against all key rows. -/
theorem pay3_apply (r : Fin 256) (j : Fin 4352) :
    k0_pay3 x k (ix2 r j) = ∑ d : Fin 256, x (ix3 0 r d) * k (ix3 0 j d) := by
  pointwise [k0_pay3, dot_S256x256_S4352x256_S256x4352_1_1_0_0_n_n]

/-- The row maximum of the scores. -/
theorem pay4_apply (r : Fin 256) :
    k0_pay4 x k (ix2 r 0) = Finset.univ.fold max (⊥ : EReal) (fun j => k0_pay3 x k (ix2 r j)) := by
  rw [← ofBits_bot]
  pointwise [k0_pay4]

/-- The output row: the weighted values over the row sum of the weights. -/
theorem pay7_apply (r : Fin 256) (c : Fin 128) :
    k0_pay7 x k v (ix2 r c) = Ideal.div (∑ j, Ideal.exp2 (k0_pay3 x k (ix2 r j) - k0_pay4 x k (ix2 r 0)) * v (ix3 0 j c))
      (∑ j, Ideal.exp2 (k0_pay3 x k (ix2 r j) - k0_pay4 x k (ix2 r 0))) := by
  pointwise [k0_pay7, k0_pay6, k0_pay5, dot_S256x4352_S4352x128_S256x128_1_0_0_1_n_n]
  rfl

/-- The row sum of the weights. -/
theorem pay6_apply (r : Fin 256) :
    k0_pay6 x k (ix2 r 0) = ∑ j, Ideal.exp2 (k0_pay3 x k (ix2 r j) - k0_pay4 x k (ix2 r 0)) := by
  pointwise [k0_pay6, k0_pay5]
  rfl

/-- A column laid out as eight equal rows. -/
theorem rows_apply (w : FVec Ideal S256x1 .f32) (u : Fin 8) (r : Fin 256) :
    shapeCast S1x1x8x256 (extractStridedSlice S8x256 ![0, 0] (transpose S128x256 [1, 0] (broadcastTo S256x128 (shapeCast S256x1 w shapeCasts_S256x1_S256x1) broadcasts_S256x1_S256x128) transposes_S256x128_p1_0_S128x256) slices_S128x256_o0_0_S8x256) shapeCasts_S8x256_S1x1x8x256 (ix4 0 0 u r) = w (ix2 r 0) := by
  pointwise

/-- The row logarithms, eight times. -/
theorem pay8_apply (u : Fin 8) (r : Fin 256) :
    k0_pay8 x k (ix4 0 0 u r) = k0_pay4 x k (ix2 r 0) + Ideal.log (k0_pay6 x k (ix2 r 0)) * (((Real.log 2)⁻¹ : ℝ) : EReal) := by
  rw [← named_log2e]
  have e : k0_pay8 x k = shapeCast S1x1x8x256 (extractStridedSlice S8x256 ![0, 0] (transpose S128x256 [1, 0] (broadcastTo S256x128 (shapeCast S256x1 (addf (k0_pay4 x k) (mulf (log (k0_pay6 x k)) (broadcast S256x1 (Named.named κ "log2e" 0x3FB8AA3B#32)))) shapeCasts_S256x1_S256x1) broadcasts_S256x1_S256x128) transposes_S256x128_p1_0_S128x256) slices_S128x256_o0_0_S8x256) shapeCasts_S8x256_S1x1x8x256 := rfl
  rw [e, rows_apply]
  rw [show ∀ (m l : FVec Ideal S256x1 .f32) (z : Ideal .f32), addf m (mulf (log l) (broadcast S256x1 z)) (ix2 r 0) = m (ix2 r 0) + Ideal.log (l (ix2 r 0)) * z from fun _ _ _ => rfl]

variable {x k v} {X : Fin 256 → Fin 256 → ℝ} {K : Fin 4352 → Fin 256 → ℝ} {W : Fin 4352 → Fin 128 → ℝ}

/-- The weight of key row `j` for query row `r`, over real arguments: two to the score. -/
def wt (X : Fin 256 → Fin 256 → ℝ) (K : Fin 4352 → Fin 256 → ℝ) (r : Fin 256) (j : Fin 4352) : ℝ :=
  Real.exp (Real.log 2 * ∑ d, X r d * K j d)

theorem wt_sum_pos (X : Fin 256 → Fin 256 → ℝ) (K : Fin 4352 → Fin 256 → ℝ) (r : Fin 256) : 0 < ∑ j, wt X K r j :=
  Finset.sum_pos (fun _ _ => Real.exp_pos _) ⟨0, Finset.mem_univ _⟩

/-- Over real arguments the shifted weights are the weights times one positive number per row. -/
theorem shifted (hx : ∀ r d, x (ix3 0 r d) = ((X r d : ℝ) : EReal)) (hk : ∀ j d, k (ix3 0 j d) = ((K j d : ℝ) : EReal)) (r : Fin 256) :
    ∃ m : ℝ, k0_pay4 x k (ix2 r 0) = (m : EReal) ∧
      ∀ j, Ideal.exp2 (k0_pay3 x k (ix2 r j) - k0_pay4 x k (ix2 r 0)) = ((wt X K r j * Real.exp (-(Real.log 2 * m)) : ℝ) : EReal) := by
  have h3 : ∀ j, k0_pay3 x k (ix2 r j) = ((∑ d, X r d * K j d : ℝ) : EReal) := fun j => by
    rw [pay3_apply, ← sum_coe]
    exact Finset.sum_congr rfl fun d _ => by rw [hx, hk, ← EReal.coe_mul]
  obtain ⟨m, hm⟩ := fold_max_coe (Finset.univ : Finset (Fin 4352)) ⟨0, Finset.mem_univ _⟩ (fun j => ∑ d, X r d * K j d)
  have h4 : k0_pay4 x k (ix2 r 0) = (m : EReal) := by rw [pay4_apply, ← hm]; simp only [h3]
  refine ⟨m, h4, fun j => ?_⟩
  rw [h3, h4, ← EReal.coe_sub, Ideal.exp2_coe, rpow_two]
  unfold wt
  rw [← Real.exp_add]
  refine congrArg (fun z : ℝ => ((Real.exp z : ℝ) : EReal)) ?_
  ring

/-- The output block over real arguments. -/
theorem pay7_real (hx : ∀ r d, x (ix3 0 r d) = ((X r d : ℝ) : EReal)) (hk : ∀ j d, k (ix3 0 j d) = ((K j d : ℝ) : EReal))
    (hv : ∀ j c, v (ix3 0 j c) = ((W j c : ℝ) : EReal)) (r : Fin 256) (c : Fin 128) :
    k0_pay7 x k v (ix2 r c) = (((∑ j, wt X K r j * W j c) / ∑ j, wt X K r j : ℝ) : EReal) := by
  obtain ⟨m, -, he⟩ := shifted hx hk r
  have e : Real.exp (-(Real.log 2 * m)) ≠ 0 := (Real.exp_pos _).ne'
  have hl := (wt_sum_pos X K r).ne'
  rw [pay7_apply]
  simp only [he, hv, ← EReal.coe_mul]
  rw [sum_coe, sum_coe, ← Finset.sum_mul, div_coe_coe _ _ (mul_ne_zero hl e)]
  refine congrArg (fun z : ℝ => (z : EReal)) ?_
  rw [show (∑ j, wt X K r j * Real.exp (-(Real.log 2 * m)) * W j c) = (∑ j, wt X K r j * W j c) * Real.exp (-(Real.log 2 * m)) by
    rw [Finset.sum_mul]; exact Finset.sum_congr rfl fun _ _ => by ring]
  exact mul_div_mul_right _ _ e

/-- The row logarithms over real arguments: the base-two logarithm of the row sum. -/
theorem pay8_real (hx : ∀ r d, x (ix3 0 r d) = ((X r d : ℝ) : EReal)) (hk : ∀ j d, k (ix3 0 j d) = ((K j d : ℝ) : EReal))
    (u : Fin 8) (r : Fin 256) :
    k0_pay8 x k (ix4 0 0 u r) = ((Real.log (∑ j, wt X K r j) * (Real.log 2)⁻¹ : ℝ) : EReal) := by
  obtain ⟨m, h4, he⟩ := shifted hx hk r
  have hl := wt_sum_pos X K r
  have e := Real.exp_pos (-(Real.log 2 * m))
  rw [pay8_apply, pay6_apply]
  simp only [he]
  rw [sum_coe, ← Finset.sum_mul, h4, Ideal.log_coe, if_neg (not_le.mpr (mul_pos hl e)), ← EReal.coe_mul, ← EReal.coe_add]
  refine congrArg (fun z : ℝ => (z : EReal)) ?_
  rw [Real.log_mul hl.ne' e.ne', Real.log_exp]
  field_simp [log_two_ne]
  ring

end Forward

section Parts

variable {F : FTy → Type} [FloatOps F] [Named F]
variable (x : Vec F S1x256x256 .bf16) (k : Vec F S1x4352x256 .bf16) (v : Vec F S1x4352x128 .bf16)

/-- The four sub-blocks of a forward step are one function of their query rows: the outputs. -/
theorem out_parts : k0_pay14 (k0_pay9 x) k v = k0_pay7 x k v ∧ k0_pay21 (k0_pay16 x k) (k0_pay17 x k) v = k0_pay7 x k v
    ∧ k0_pay1 (k0_pay26 x k) (k0_pay27 x k) v = k0_pay7 x k v := ⟨rfl, rfl, rfl⟩

/-- The four sub-blocks of a forward step are one function of their query rows: the row logarithms. -/
theorem row_parts : k0_pay15 (k0_pay9 x) k = k0_pay8 x k ∧ k0_pay22 (k0_pay16 x k) (k0_pay17 x k) = k0_pay8 x k
    ∧ k0_pay2 (k0_pay24 x k) (k0_pay26 x k) = k0_pay8 x k := ⟨rfl, rfl, rfl⟩

end Parts

section Backward

variable (q : Vec Ideal S1x256x256 .bf16) (a b : Vec Ideal S256x128 .f32) (l : Vec Ideal S1x1x8x256 .f32)

/-- The probability of a key row (its entries `kr`) for query row `r` of a block. -/
def pv (kr : Fin 256 → EReal) (r : Fin 256) : EReal := Ideal.exp2 ((∑ d, kr d * q (ix3 0 r d)) - l (ix4 0 0 0 r))

/-- The cotangent of the score of a key row (its entries `kr`, its value's `vr`) for query row `r`. -/
def dsv (kr : Fin 256 → EReal) (vr : Fin 128 → EReal) (r : Fin 256) : EReal :=
  pv q l kr r * ((∑ c, vr c * a (ix2 r c)) - ∑ c, a (ix2 r c) * b (ix2 r c))

theorem pay7b_apply (r : Fin 256) : k1_pay7 a b (ix2 0 r) = ∑ c, a (ix2 r c) * b (ix2 r c) := by
  pointwise [k1_pay7]

theorem pay8b_apply (r : Fin 256) (c : Fin 128) : k1_pay8 a (ix2 r c) = a (ix2 r c) := by
  pointwise [k1_pay8]

theorem pay12_apply (kc : Vec Ideal S1x1088x256 .bf16) (j : Fin 1088) (r : Fin 256) :
    k1_pay12 q l kc (ix2 j r) = pv q l (fun d => kc (ix3 0 j d)) r := by
  pointwise [k1_pay12, k1_pay11, k1_pay6, k1_pay9, dot_S1088x256_S256x256_S1088x256_1_1_0_0_n_n]
  rfl

/-- The score cotangents of a chunk of key rows. -/
abbrev dsC (kc : Vec Ideal S1x1088x256 .bf16) (vc : Vec Ideal S1x1088x128 .bf16) : FVec Ideal S1088x256 .bf16 :=
  k1_pay14 (k1_pay7 a b) (k1_pay8 a) (k1_pay12 q l kc) (k1_pay13 vc) (constant S1088x256 FTy.f32 0#32)

theorem ds_apply (kc : Vec Ideal S1x1088x256 .bf16) (vc : Vec Ideal S1x1088x128 .bf16) (j : Fin 1088) (r : Fin 256) :
    dsC q a b l kc vc (ix2 j r) = dsv q a b l (fun d => kc (ix3 0 j d)) (fun c => vc (ix3 0 j c)) r := by
  unfold dsv
  rw [← pay12_apply, ← pay7b_apply]
  pointwise [k1_pay14, k1_pay13, k1_pay8, dot_S1088x128_S256x128_S1088x256_1_1_0_0_n_n]

/-- A chunk's contribution to the value cotangent. -/
theorem dv_apply (kc : Vec Ideal S1x1088x256 .bf16) (old : Vec Ideal S1x1088x128 .f32) (j : Fin 1088) (c : Fin 128) :
    k1_pay15 (k1_pay8 a) (k1_pay12 q l kc) old (ix3 0 j c) = old (ix3 0 j c) + ∑ r, pv q l (fun d => kc (ix3 0 j d)) r * a (ix2 r c) := by
  simp only [← pay12_apply]
  pointwise [k1_pay15, k1_pay8, dot_S1088x256_S256x128_S1088x128_1_0_0_1_n_n]

/-- A chunk's contribution to the key cotangent. -/
theorem dk_apply (kc : Vec Ideal S1x1088x256 .bf16) (vc : Vec Ideal S1x1088x128 .bf16) (old : Vec Ideal S1x1088x256 .f32) (j : Fin 1088) (d : Fin 256) :
    k1_pay2 (k1_pay6 q) (dsC q a b l kc vc) old (ix3 0 j d)
      = old (ix3 0 j d) + ∑ r, dsv q a b l (fun d => kc (ix3 0 j d)) (fun c => vc (ix3 0 j c)) r * q (ix3 0 r d) := by
  simp only [← ds_apply]
  generalize dsC q a b l kc vc = w
  pointwise [k1_pay2, k1_pay6, dot_S1088x256_S256x256_S1088x256_1_0_0_1_n_n]

/-- One chunk's step of the query cotangent. -/
theorem dq_step (w : FVec Ideal S1088x256 .bf16) (old : FVec Ideal S256x256 .f32) (kc : Vec Ideal S1x1088x256 .bf16) (r d : Fin 256) :
    k1_pay23 old (k1_pay18 kc) w (ix2 r d) = old (ix2 r d) + ∑ j, w (ix2 j r) * kc (ix3 0 j d) := by
  pointwise [k1_pay23, k1_pay18, dot_S1088x256_S1088x256_S256x256_0_0_1_1_n_n]

/-- The last chunk's step of the query cotangent, times the scale. -/
theorem dq_last (w : FVec Ideal S1088x256 .bf16) (old : FVec Ideal S256x256 .f32) (kc : Vec Ideal S1x1088x256 .bf16) (r d : Fin 256) :
    k1_pay3 old (k1_pay31 kc) w (ix3 0 r d)
      = (old (ix2 r d) + ∑ j, w (ix2 j r) * kc (ix3 0 j d)) * (((Real.sqrt 192)⁻¹ : ℝ) : EReal) := by
  rw [← named_scale, ← dq_step]
  generalize hw : k1_pay23 old (k1_pay18 kc) w = z
  have e : k1_pay3 old (k1_pay31 kc) w = shapeCast S1x256x256 (mulf z (broadcast S256x256 (Named.named κ "scale" 0x3D93CD3A#32))) shapeCasts_S256x256_S1x256x256 := by
    rw [← hw]; rfl
  rw [e]
  pointwise

theorem pay10_apply (r d : Fin 256) : k1_pay10 (F := Ideal) (ix2 r d) = 0 := by
  pointwise [k1_pay10]

theorem pay4b_apply (j : Fin 4352) (d : Fin 256) : k1_pay4 (F := Ideal) (ix3 0 j d) = 0 := by
  pointwise [k1_pay4]

theorem pay5b_apply (j : Fin 4352) (d : Fin 128) : k1_pay5 (F := Ideal) (ix3 0 j d) = 0 := by
  pointwise [k1_pay5]

end Backward

end Cert.KernelIdeal.Attn
end
-- ==== Proof.Attn.Blk1.lean ====
module

public import proofs.«01_k».proof.Proof.Gen.KernelIdeal.Frame
public import proofs.«01_k».proof.Proof.Attn.Pay
public import Idealize.ShloMosaic.Lib.Pipeline.ReadBack
public import Idealize.ShloMosaic.Lib.Pipeline.CanonAppend
public import Idealize.ShloMosaic.Lib.Pipeline.ValueKit.Tiles

@[expose] public section

/-! What one step of the backward attention call leaves in its three output blocks. -/

set_option maxRecDepth 16384

noncomputable section

open Idealize.ShloMosaic

namespace Cert.KernelIdeal.Attn

open Cert.KernelIdeal Cert.KernelIdeal.Gen Cert.Attn

theorem z2 : (![0, 0] : Fin 2 → Nat) = fun _ => 0 := funext fun a => by fin_cases a <;> rfl
theorem z3 : (![0, 0, 0] : Fin 3 → Nat) = fun _ => 0 := funext fun a => by fin_cases a <;> rfl
theorem fill0 : ∀ a : Fin 3, (![0, 0, 0] : Fin 3 → Nat) a = 0 := fun a => by fin_cases a <;> rfl
theorem z4 : (![0, 0, 0, 0] : Fin 4 → Nat) = fun _ => 0 := funext fun a => by fin_cases a <;> rfl

variable (q : Vec Ideal S1x256x256 .bf16) (k : Vec Ideal S1x4352x256 .bf16) (v : Vec Ideal S1x4352x128 .bf16)
variable (a b : Vec Ideal S256x128 .f32) (l : Vec Ideal S1x1x8x256 .f32)

/-- The score cotangent of key row `j` for query row `r` of a block. -/
def dsJ (j : Fin 4352) (r : Fin 256) : EReal := dsv q a b l (fun d => k (ix3 0 j d)) (fun c => v (ix3 0 j c)) r

/-- The probability of key row `j` for query row `r` of a block. -/
def pJ (j : Fin 4352) (r : Fin 256) : EReal := pv q l (fun d => k (ix3 0 j d)) r

/-- The key cotangent's block after a step that found `old` there. -/
def dkG (old : Vec Ideal S1x4352x256 .f32) : Vec Ideal S1x4352x256 .f32 := fun y =>
  old y + ∑ r, dsJ q k v a b l (y 1) r * q (ix3 0 r (y 2))

/-- The value cotangent's block after a step that found `old` there. -/
def dvG (old : Vec Ideal S1x4352x128 .f32) : Vec Ideal S1x4352x128 .f32 := fun y =>
  old y + ∑ r, pJ q k l (y 1) r * a (ix2 r (y 2))

/-- The query cotangent's block. -/
def dqG : Vec Ideal S1x256x256 .f32 := fun y =>
  (∑ j : Fin 4352, dsJ q k v a b l j (y 1) * k (ix3 0 j (y 2))) * (((Real.sqrt 192)⁻¹ : ℝ) : EReal)

/-- Row `j` of the chunk at row `o`. -/
def row (o : Nat) (ho : o + 1088 ≤ 4352) (j : Fin 1088) : Fin 4352 := ⟨o + j.val, by omega⟩

variable (o : Nat) (ho : o + 1088 ≤ 4352)
include ho

theorem ld256 {e : EltTy} (w : Vec Ideal S1x4352x256 e) (inb) (j : Fin 1088) (d : Fin 256) :
    View.ld w (Rect.unit (s := S1x4352x256) ![0, o, 0] S1x1088x256.size inb) (ix3 0 j d) = w (ix3 0 (row o ho j) d) :=
  View.ld_unit_apply_of _ _ _ _ _ _ fun i => by fin_cases i <;> simp [row, ix3]

theorem ld128 {e : EltTy} (w : Vec Ideal S1x4352x128 e) (inb) (j : Fin 1088) (d : Fin 128) :
    View.ld w (Rect.unit (s := S1x4352x128) ![0, o, 0] S1x1088x128.size inb) (ix3 0 j d) = w (ix3 0 (row o ho j) d) :=
  View.ld_unit_apply_of _ _ _ _ _ _ fun i => by fin_cases i <;> simp [row, ix3]

/-- A chunk's store into the key cotangent is a block of `dkG`. -/
theorem dk_piece (old : Vec Ideal S1x4352x256 .f32) (inb inb2)
    (x : (Rect.unit (s := S1x4352x256) ![0, o, 0] S1x1088x256.size inb).shape.Idx) :
    k1_pay2 (k1_pay6 q) (dsC q a b l (View.ld k (Rect.unit (s := S1x4352x256) ![0, o, 0] S1x1088x256.size inb))
        (View.ld v (Rect.unit (s := S1x4352x128) ![0, o, 0] S1x1088x128.size inb2)))
        (View.ld old (Rect.unit (s := S1x4352x256) ![0, o, 0] S1x1088x256.size inb)) x
      = dkG q k v a b l old ((Rect.unit (s := S1x4352x256) ![0, o, 0] S1x1088x256.size inb).emb x) := by
  obtain ⟨j, d, rfl⟩ : ∃ (j : Fin 1088) (d : Fin 256), x = ix3 0 j d := ⟨x 1, x 2, by
    funext i; fin_cases i
    · exact Subsingleton.elim (α := Fin 1) _ _
    · rfl
    · rfl⟩
  have e : (Rect.unit (s := S1x4352x256) ![0, o, 0] S1x1088x256.size inb).emb (ix3 0 j d) = ix3 0 (row o ho j) d := by
    funext i; apply Fin.ext; refine (Rect.idx_unit_val _ _ _ _ _).trans ?_; fin_cases i <;> simp [row, ix3]
  rw [e, dk_apply]
  exact congrArg₂ (· + ·) (ld256 o ho old inb j d) (Finset.sum_congr rfl fun r _ => congrArg (· * q (ix3 0 r d))
    (congrArg₂ (fun f g => dsv q a b l f g r) (funext fun d => ld256 o ho k inb j d) (funext fun c => ld128 o ho v inb2 j c)))

/-- A chunk's store into the value cotangent is a block of `dvG`. -/
theorem dv_piece (old : Vec Ideal S1x4352x128 .f32) (inb inb2)
    (x : (Rect.unit (s := S1x4352x128) ![0, o, 0] S1x1088x128.size inb).shape.Idx) :
    k1_pay15 (k1_pay8 a) (k1_pay12 q l (View.ld k (Rect.unit (s := S1x4352x256) ![0, o, 0] S1x1088x256.size inb2)))
        (View.ld old (Rect.unit (s := S1x4352x128) ![0, o, 0] S1x1088x128.size inb)) x
      = dvG q k a l old ((Rect.unit (s := S1x4352x128) ![0, o, 0] S1x1088x128.size inb).emb x) := by
  obtain ⟨j, d, rfl⟩ : ∃ (j : Fin 1088) (d : Fin 128), x = ix3 0 j d := ⟨x 1, x 2, by
    funext i; fin_cases i
    · exact Subsingleton.elim (α := Fin 1) _ _
    · rfl
    · rfl⟩
  have e : (Rect.unit (s := S1x4352x128) ![0, o, 0] S1x1088x128.size inb).emb (ix3 0 j d) = ix3 0 (row o ho j) d := by
    funext i; apply Fin.ext; refine (Rect.idx_unit_val _ _ _ _ _).trans ?_; fin_cases i <;> simp [row, ix3]
  rw [e, dv_apply]
  exact congrArg₂ (· + ·) (ld128 o ho old inb j d) (Finset.sum_congr rfl fun r _ => congrArg (· * a (ix2 r d))
    (congrArg (fun f => pv q l f r) (funext fun d => ld256 o ho k inb2 j d)))

omit ho

/-- A sum over all key rows is the sum over the four chunks. -/
theorem sum_chunks (f : Fin 4352 → EReal) : ∑ j, f j = 0 + ∑ j, f (row 0 (by norm_num) j) + ∑ j, f (row 1088 (by norm_num) j)
    + ∑ j, f (row 2176 (by norm_num) j) + ∑ j, f (row 3264 (by norm_num) j) := by
  rw [zero_add]
  have e := (Fintype.sum_equiv (finProdFinEquiv (m := 4) (n := 1088)) (fun p => f (finProdFinEquiv p)) f fun _ => rfl)
  rw [← e, Fintype.sum_prod_type, Fin.sum_univ_four]
  have h (c : Fin 4) (o : Nat) (ho) (hc : o = 1088 * c.val) : ∑ j : Fin 1088, f (finProdFinEquiv (c, j)) = ∑ j, f (row o ho j) :=
    Finset.sum_congr rfl fun j _ => congrArg f (Fin.ext (by simp [finProdFinEquiv, row, hc]; omega))
  rw [h 0 0 (by norm_num) rfl, h 1 1088 (by norm_num) rfl, h 2 2176 (by norm_num) rfl, h 3 3264 (by norm_num) rfl]

/-- The query cotangent's block from the four chunks. -/
theorem dq_block (i0 i1 i2 i3 j0 j1 j2 j3) :
    let kc (o : Nat) (inb) := View.ld k (Rect.unit (s := S1x4352x256) ![0, o, 0] S1x1088x256.size inb)
    let ds (o : Nat) (inb inb2) := dsC q a b l (kc o inb) (View.ld v (Rect.unit (s := S1x4352x128) ![0, o, 0] S1x1088x128.size inb2))
    k1_pay3 (k1_pay23 (k1_pay23 (k1_pay23 k1_pay10 (k1_pay18 (kc 0 i0)) (ds 0 i0 j0)) (k1_pay18 (kc 1088 i1)) (ds 1088 i1 j1))
        (k1_pay18 (kc 2176 i2)) (ds 2176 i2 j2)) (k1_pay31 (kc 3264 i3)) (ds 3264 i3 j3)
      = dqG q k v a b l := by
  intro kc ds
  funext x
  obtain ⟨r, d, rfl⟩ : ∃ (r : Fin 256) (d : Fin 256), x = ix3 0 r d := ⟨x 1, x 2, by
    funext i; fin_cases i
    · exact Subsingleton.elim (α := Fin 1) _ _
    · rfl
    · rfl⟩
  rw [dq_last, dq_step, dq_step, dq_step, pay10_apply]
  unfold dqG
  rw [sum_chunks]
  have h (o : Nat) (ho : o + 1088 ≤ 4352) (inb inb2) : ∑ j, ds o inb inb2 (ix2 j r) * kc o inb (ix3 0 j d)
      = ∑ j, dsJ q k v a b l (row o ho j) r * k (ix3 0 (row o ho j) d) :=
    Finset.sum_congr rfl fun j _ => by
      simp only [ds]
      rw [ds_apply]
      exact congrArg₂ (· * ·) (congrArg₂ (fun f g => dsv q a b l f g r) (funext fun d => ld256 o ho k inb j d)
        (funext fun c => ld128 o ho v inb2 j c)) (ld256 o ho k inb j d)
  rw [h 0 (by norm_num), h 1088 (by norm_num), h 2176 (by norm_num), h 3264 (by norm_num)]
  rfl

section Cases

variable (c : Dev nD) (i : grid1.Coords)
variable (a2 : Memref sig .tc .vmem S1x256x256 .bf16) (h2 : a2.IsWhole) (a3 : Memref sig .tc .vmem S1x4352x256 .bf16) (h3 : a3.IsWhole)
  (a4 : Memref sig .tc .vmem S1x4352x128 .bf16) (h4 : a4.IsWhole) (a5 : Memref sig .tc .vmem S256x128 .f32) (h5 : a5.IsWhole)
  (a6 : Memref sig .tc .vmem S256x128 .f32) (h6 : a6.IsWhole) (a7 : Memref sig .tc .vmem S1x1x8x256 .f32) (h7 : a7.IsWhole)
  (a8 : Memref sig .tc .vmem S1x256x256 .f32) (h8 : a8.IsWhole) (a9 : Memref sig .tc .vmem S1x4352x256 .f32) (h9 : a9.IsWhole)
  (a10 : Memref sig .tc .vmem S1x4352x128 .f32) (h10 : a10.IsWhole)
variable (x7 : Vec Ideal S1x4352x256 .f32) (x8 : Vec Ideal S1x4352x128 .f32)

theorem outB7 (hc) : out1_B_7 (F := Ideal) c i a2 h2 a3 h3 a4 h4 a5 h5 a6 h6 a7 h7 a8 h8 a9 h9 a10 h10 hc q k v a b l x7 x8 = dkG q k v a b l x7 := by
  unfold out1_B_7
  rw [View.read_writes_eq_canon _ _ _ (cover1_B_7 _ _ _ _ _ _ _ _ _ _ _ _ _ _ _ _ _ _ _ _ _ _ _ _ _ _ _ _ _ )]
  funext y
  refine View.canon_apply_of_pieces (dkG q k v a b l x7) _ (View.PiecesOf.mem ?_) y (cover1_B_7 _ _ _ _ _ _ _ _ _ _ _ _ _ _ _ _ _ _ _ _ _ _ _ _ _ _ _ _ _  y)
  unfold kernelRun1_B
  dsimp only
  sl_unfold_words
  simp only [View.readAt_eq_ld, Memref.IsWhole.read_unread, View.ld_unit_zero (S := S1x256x256) z3, View.ld_unit_zero (S := S256x128) z2, View.ld_unit_zero (S := S1x1x8x256) z4]
  exact ⟨fun x => dk_piece q k v a b l 3264 (by norm_num) x7 _ _ x, fun x => dk_piece q k v a b l 2176 (by norm_num) x7 _ _ x,
    fun x => dk_piece q k v a b l 1088 (by norm_num) x7 _ _ x, fun x => dk_piece q k v a b l 0 (by norm_num) x7 _ _ x, trivial⟩

theorem outB8 (hc) : out1_B_8 (F := Ideal) c i a2 h2 a3 h3 a4 h4 a5 h5 a6 h6 a7 h7 a8 h8 a9 h9 a10 h10 hc q k v a b l x7 x8 = dvG q k a l x8 := by
  unfold out1_B_8
  rw [View.read_writes_eq_canon _ _ _ (cover1_B_8 _ _ _ _ _ _ _ _ _ _ _ _ _ _ _ _ _ _ _ _ _ _ _ _ _ _ _ _ _ )]
  funext y
  refine View.canon_apply_of_pieces (dvG q k a l x8) _ (View.PiecesOf.mem ?_) y (cover1_B_8 _ _ _ _ _ _ _ _ _ _ _ _ _ _ _ _ _ _ _ _ _ _ _ _ _ _ _ _ _  y)
  unfold kernelRun1_B
  dsimp only
  sl_unfold_words
  simp only [View.readAt_eq_ld, Memref.IsWhole.read_unread, View.ld_unit_zero (S := S1x256x256) z3, View.ld_unit_zero (S := S256x128) z2, View.ld_unit_zero (S := S1x1x8x256) z4]
  exact ⟨fun x => dv_piece q k a l 3264 (by norm_num) x8 _ _ x, fun x => dv_piece q k a l 2176 (by norm_num) x8 _ _ x,
    fun x => dv_piece q k a l 1088 (by norm_num) x8 _ _ x, fun x => dv_piece q k a l 0 (by norm_num) x8 _ _ x, trivial⟩

theorem outB6 (hc) : out1_B_6 (F := Ideal) c i a2 h2 a3 h3 a4 h4 a5 h5 a6 h6 a7 h7 a8 h8 a9 h9 a10 h10 hc q k v a b l x7 x8 = dqG q k v a b l := by
  unfold out1_B_6
  rw [View.read_writes_eq_canon _ _ _ (cover1_B_6 _ _ _ _ _ _ _ _ _ _ _ _ _ _ _ _ _ _ _ _ _ _ _ _ _ _ _ _ _ )]
  unfold kernelRun1_B
  dsimp only
  sl_unfold_words
  rw [View.canon_unit_zero z3]
  simp only [View.readAt_eq_ld, Memref.IsWhole.read_unread, View.ld_unit_zero (S := S1x256x256) z3, View.ld_unit_zero (S := S256x128) z2, View.ld_unit_zero (S := S1x1x8x256) z4]
  exact dq_block q k v a b l _ _ _ _ _ _ _ _

theorem outA7 (hc) : out1_A_7 (F := Ideal) c i a2 h2 a3 h3 a4 h4 a5 h5 a6 h6 a7 h7 a8 h8 a9 h9 a10 h10 hc q k v a b l = dkG q k v a b l (k1_pay4 (F := Ideal)) := by
  unfold out1_A_7
  rw [View.read_writes_eq_canon _ _ _ (cover1_A_7 _ _ _ _ _ _ _ _ _ _ _ _ _ _ _ _ _ _ _ _ _ _ _ _ _ _ _ )]
  unfold kernelRun1_A
  dsimp only
  sl_unfold_words
  simp only [View.readAt_eq_ld, Memref.IsWhole.read_unread, View.ld_unit_zero (S := S1x256x256) z3, View.ld_unit_zero (S := S256x128) z2, View.ld_unit_zero (S := S1x1x8x256) z4]
  simp (disch := decide) only [↓View.readCov_skip]
  simp only [View.readCov_fill (s := S1x4352x256) (off := ![0, 0, 0]) _ _ _ _ _ fill0]
  funext y
  refine View.canon_append_of_piecesOf (dkG q k v a b l (k1_pay4 (F := Ideal))) [⟨Rect.unit ![0, 0, 0] ![1, 4352, 256] inb_S1x4352x256_S1x4352x256_0_0_0, (k1_pay4 (F := Ideal))⟩] [_, _, _, _] ?_ y ?_
  · exact ⟨fun x => dk_piece q k v a b l 3264 (by norm_num) (k1_pay4 (F := Ideal)) _ _ x, fun x => dk_piece q k v a b l 2176 (by norm_num) (k1_pay4 (F := Ideal)) _ _ x,
      fun x => dk_piece q k v a b l 1088 (by norm_num) (k1_pay4 (F := Ideal)) _ _ x, fun x => dk_piece q k v a b l 0 (by norm_num) (k1_pay4 (F := Ideal)) _ _ x, trivial⟩
  · exact View.cover_of_tiledL (s := S1x4352x256) _ S1x1088x256.size (by sl_kernel_rfl) y

theorem outA8 (hc) : out1_A_8 (F := Ideal) c i a2 h2 a3 h3 a4 h4 a5 h5 a6 h6 a7 h7 a8 h8 a9 h9 a10 h10 hc q k v a b l = dvG q k a l (k1_pay5 (F := Ideal)) := by
  unfold out1_A_8
  rw [View.read_writes_eq_canon _ _ _ (cover1_A_8 _ _ _ _ _ _ _ _ _ _ _ _ _ _ _ _ _ _ _ _ _ _ _ _ _ _ _ )]
  unfold kernelRun1_A
  dsimp only
  sl_unfold_words
  simp only [View.readAt_eq_ld, Memref.IsWhole.read_unread, View.ld_unit_zero (S := S1x256x256) z3, View.ld_unit_zero (S := S256x128) z2, View.ld_unit_zero (S := S1x1x8x256) z4]
  simp (disch := decide) only [↓View.readCov_skip]
  simp only [View.readCov_fill (s := S1x4352x128) (off := ![0, 0, 0]) _ _ _ _ _ fill0]
  funext y
  refine View.canon_append_of_piecesOf (dvG q k a l (k1_pay5 (F := Ideal))) [⟨Rect.unit ![0, 0, 0] ![1, 4352, 128] inb_S1x4352x128_S1x4352x128_0_0_0, (k1_pay5 (F := Ideal))⟩] [_, _, _, _] ?_ y ?_
  · exact ⟨fun x => dv_piece q k a l 3264 (by norm_num) (k1_pay5 (F := Ideal))
      inb_S1x4352x128_S1x1088x128_0_3264_0 inb_S1x4352x256_S1x1088x256_0_3264_0 x, fun x => dv_piece q k a l 2176 (by norm_num) (k1_pay5 (F := Ideal))
      inb_S1x4352x128_S1x1088x128_0_2176_0 inb_S1x4352x256_S1x1088x256_0_2176_0 x,
      fun x => dv_piece q k a l 1088 (by norm_num) (k1_pay5 (F := Ideal))
      inb_S1x4352x128_S1x1088x128_0_1088_0 inb_S1x4352x256_S1x1088x256_0_1088_0 x, fun x => dv_piece q k a l 0 (by norm_num) (k1_pay5 (F := Ideal))
      inb_S1x4352x128_S1x1088x128_0_0_0 inb_S1x4352x256_S1x1088x256_0_0_0 x, trivial⟩
  · exact View.cover_of_tiledL (s := S1x4352x128) _ S1x1088x128.size (by sl_kernel_rfl) y

theorem outA6 (hc) : out1_A_6 (F := Ideal) c i a2 h2 a3 h3 a4 h4 a5 h5 a6 h6 a7 h7 a8 h8 a9 h9 a10 h10 hc q k v a b l = dqG q k v a b l := by
  unfold out1_A_6
  rw [View.read_writes_eq_canon _ _ _ (cover1_A_6 _ _ _ _ _ _ _ _ _ _ _ _ _ _ _ _ _ _ _ _ _ _ _ _ _ _ _ )]
  unfold kernelRun1_A
  dsimp only
  sl_unfold_words
  rw [View.canon_unit_zero z3]
  simp only [View.readAt_eq_ld, Memref.IsWhole.read_unread, View.ld_unit_zero (S := S1x256x256) z3, View.ld_unit_zero (S := S256x128) z2, View.ld_unit_zero (S := S1x1x8x256) z4]
  exact dq_block q k v a b l _ _ _ _ _ _ _ _

end Cases

end Cert.KernelIdeal.Attn
end
-- ==== Proof.Attn.Arr1.lean ====
module

public import proofs.«01_k».proof.Proof.Attn.Blk1
public import Idealize.ShloMosaic.Lib.Pipeline.ValueKit.Geometry

@[expose] public section

/-! The three arrays that the backward attention call leaves, as sums over its query blocks, for any buffer contents
that it finds on entry. -/

set_option maxRecDepth 16384

noncomputable section

open Idealize.ShloMosaic Idealize.ShloMosaic.TcCoe

namespace Cert.KernelIdeal.Attn

open Cert.KernelIdeal Cert.KernelIdeal.Gen Cert.Attn
open Idealize.ShloMosaic.Pipeline (Dat)

variable (V : (c : Dev nD) → (b : Ref sig .tc) → Buf (Elt Ideal) ((c : Thread nD τ).loc b)) (c : Dev nD)

/-- The row of the whole array at row `r` of query block `i`. -/
def qrow (i : Fin 16) (r : Fin 256) : Fin 4096 := ⟨i.val * 256 + r.val, by omega⟩

/-- The padded queries start after the context's 256 rows. -/
def prow (s : Fin 4096) : Fin 4352 := ⟨256 + s.val, by omega⟩

/-- Column `x` of head `h` in an array that has the heads side by side. -/
def hcol (h : Fin 4) (x : Fin 128) : Fin 512 := ⟨h.val * 128 + x.val, by omega⟩

def qB (A : Vec Ideal S4x4352x256 .bf16) (h : Fin 4) (i : Fin 16) : Vec Ideal S1x256x256 .bf16 := fun y => A (ix3 h (prow (qrow i (y 1))) (y 2))
def kB (A : Vec Ideal S4x4352x256 .bf16) (h : Fin 4) : Vec Ideal S1x4352x256 .bf16 := fun y => A (ix3 h (y 1) (y 2))
def vB (A : Vec Ideal S4x4352x128 .bf16) (h : Fin 4) : Vec Ideal S1x4352x128 .bf16 := fun y => A (ix3 h (y 1) (y 2))
def dB (A : Vec Ideal S4096x512 .f32) (h : Fin 4) (i : Fin 16) : Vec Ideal S256x128 .f32 := fun y => A (ix2 (qrow i (y 0)) (hcol h (y 1)))
def lB (A : Vec Ideal S4x16x8x256 .f32) (h : Fin 4) (i : Fin 16) : Vec Ideal S1x1x8x256 .f32 := fun y => A (ix4 h i (y 2) (y 3))

/-- The head and the query block of a point. -/
def ptH (n : ℕ) : Fin 4 := Fin.ofNat 4 (n / 16)
def ptI (n : ℕ) : Fin 16 := Fin.ofNat 16 n

theorem idx1 : ∀ t : Fin cfg1.N, (win1_0.index t 0 = t.val / 16 ∧ win1_0.index t 1 = t.val % 16 + 1 ∧ win1_0.index t 2 = 0)
    ∧ (win1_1.index t 0 = t.val / 16 ∧ win1_1.index t 1 = 0 ∧ win1_1.index t 2 = 0)
    ∧ (win1_2.index t 0 = t.val / 16 ∧ win1_2.index t 1 = 0 ∧ win1_2.index t 2 = 0)
    ∧ (win1_3.index t 0 = t.val % 16 ∧ win1_3.index t 1 = t.val / 16)
    ∧ (win1_4.index t 0 = t.val % 16 ∧ win1_4.index t 1 = t.val / 16)
    ∧ (win1_5.index t 0 = t.val / 16 ∧ win1_5.index t 1 = t.val % 16 ∧ win1_5.index t 2 = 0 ∧ win1_5.index t 3 = 0)
    ∧ (win1_6.index t 0 = t.val / 16 ∧ win1_6.index t 1 = t.val % 16 ∧ win1_6.index t 2 = 0)
    ∧ (win1_7.index t 0 = t.val / 16 ∧ win1_7.index t 1 = 0 ∧ win1_7.index t 2 = 0)
    ∧ (win1_8.index t 0 = t.val / 16 ∧ win1_8.index t 1 = 0 ∧ win1_8.index t 2 = 0) :=
  (by decide +kernel : ∀ t : Fin grid1.N, _)

theorem lt64 (t : Fin cfg1.N) : t.val < 64 := lt_of_lt_of_eq t.isLt (show cfg1.N = 64 from N_1)

theorem blk_q (t : Fin cfg1.N) : iblk1 V c 0 t = qB (V c main_v8) (ptH t.val) (ptI t.val) := by
  have h := (idx1 t).1
  have := lt64 t
  funext j
  unfold iblk1 qB
  rw [View.read_apply]
  show V c main_v8 _ = V c main_v8 _
  congr 1
  funext a
  apply Fin.ext
  match a with
  | ⟨0, _⟩ => show win1_0.index t 0 * 1 + 1 * (j 0).val = t.val / 16 % 4; have : (j 0).val < 1 := (j 0).isLt; rw [h.1]; omega
  | ⟨1, _⟩ => show win1_0.index t 1 * 256 + 1 * (j 1).val = 256 + (t.val % 16 * 256 + (j 1).val); rw [h.2.1]; omega
  | ⟨2, _⟩ => show win1_0.index t 2 * 256 + 1 * (j 2).val = (j 2).val; rw [h.2.2]; omega

theorem blk_k (t : Fin cfg1.N) : iblk1 V c 1 t = kB (V c main_v11) (ptH t.val) := by
  have h := (idx1 t).2.1
  have := lt64 t
  funext j
  unfold iblk1 kB
  rw [View.read_apply]
  show V c main_v11 _ = V c main_v11 _
  congr 1
  funext a
  apply Fin.ext
  match a with
  | ⟨0, _⟩ => show win1_1.index t 0 * 1 + 1 * (j 0).val = t.val / 16 % 4; have : (j 0).val < 1 := (j 0).isLt; rw [h.1]; omega
  | ⟨1, _⟩ => show win1_1.index t 1 * 4352 + 1 * (j 1).val = (j 1).val; rw [h.2.1]; omega
  | ⟨2, _⟩ => show win1_1.index t 2 * 256 + 1 * (j 2).val = (j 2).val; rw [h.2.2]; omega

theorem blk_v (t : Fin cfg1.N) : iblk1 V c 2 t = vB (V c main_v13) (ptH t.val) := by
  have h := (idx1 t).2.2.1
  have := lt64 t
  funext j
  unfold iblk1 vB
  rw [View.read_apply]
  show V c main_v13 _ = V c main_v13 _
  congr 1
  funext a
  apply Fin.ext
  match a with
  | ⟨0, _⟩ => show win1_2.index t 0 * 1 + 1 * (j 0).val = t.val / 16 % 4; have : (j 0).val < 1 := (j 0).isLt; rw [h.1]; omega
  | ⟨1, _⟩ => show win1_2.index t 1 * 4352 + 1 * (j 1).val = (j 1).val; rw [h.2.1]; omega
  | ⟨2, _⟩ => show win1_2.index t 2 * 128 + 1 * (j 2).val = (j 2).val; rw [h.2.2]; omega

theorem blk_d (t : Fin cfg1.N) : iblk1 V c 3 t = dB (V c main_v16) (ptH t.val) (ptI t.val) := by
  have h := (idx1 t).2.2.2.1
  have := lt64 t
  funext j
  unfold iblk1 dB
  rw [View.read_apply]
  show V c main_v16 _ = V c main_v16 _
  congr 1
  funext a
  apply Fin.ext
  match a with
  | ⟨0, _⟩ => show win1_3.index t 0 * 256 + 1 * (j 0).val = t.val % 16 * 256 + (j 0).val; rw [h.1]; omega
  | ⟨1, _⟩ => show win1_3.index t 1 * 128 + 1 * (j 1).val = t.val / 16 % 4 * 128 + (j 1).val; rw [h.2]; omega

theorem blk_o (t : Fin cfg1.N) : iblk1 V c 4 t = dB (V c main_v17_0) (ptH t.val) (ptI t.val) := by
  have h := (idx1 t).2.2.2.2.1
  have := lt64 t
  funext j
  unfold iblk1 dB
  rw [View.read_apply]
  show V c main_v17_0 _ = V c main_v17_0 _
  congr 1
  funext a
  apply Fin.ext
  match a with
  | ⟨0, _⟩ => show win1_4.index t 0 * 256 + 1 * (j 0).val = t.val % 16 * 256 + (j 0).val; rw [h.1]; omega
  | ⟨1, _⟩ => show win1_4.index t 1 * 128 + 1 * (j 1).val = t.val / 16 % 4 * 128 + (j 1).val; rw [h.2]; omega

theorem blk_l (t : Fin cfg1.N) : iblk1 V c 5 t = lB (V c main_v17_1) (ptH t.val) (ptI t.val) := by
  have h := (idx1 t).2.2.2.2.2.1
  have := lt64 t
  funext j
  unfold iblk1 lB
  rw [View.read_apply]
  show V c main_v17_1 _ = V c main_v17_1 _
  congr 1
  funext a
  apply Fin.ext
  match a with
  | ⟨0, _⟩ => show win1_5.index t 0 * 1 + 1 * (j 0).val = t.val / 16 % 4; have : (j 0).val < 1 := (j 0).isLt; rw [h.1]; omega
  | ⟨1, _⟩ => show win1_5.index t 1 * 1 + 1 * (j 1).val = t.val % 16; have : (j 1).val < 1 := (j 1).isLt; rw [h.2.1]; omega
  | ⟨2, _⟩ => show win1_5.index t 2 * 8 + 1 * (j 2).val = (j 2).val; rw [h.2.2.1]; omega
  | ⟨3, _⟩ => show win1_5.index t 3 * 256 + 1 * (j 3).val = (j 3).val; rw [h.2.2.2]; omega

section Spec
variable (q k : Vec Ideal S4x4352x256 .bf16) (v : Vec Ideal S4x4352x128 .bf16) (a b : Vec Ideal S4096x512 .f32) (l : Vec Ideal S4x16x8x256 .f32)

/-- The probability, and the score cotangent, of key `j` for row `r` of query block `i` in head `h`. -/
def pA (h : Fin 4) (i : Fin 16) (j : Fin 4352) (r : Fin 256) : EReal := pJ (qB q h i) (kB k h) (lB l h i) j r
def dsA (h : Fin 4) (i : Fin 16) (j : Fin 4352) (r : Fin 256) : EReal :=
  dsJ (qB q h i) (kB k h) (vB v h) (dB a h i) (dB b h i) (lB l h i) j r

/-- The whole query cotangent. -/
def dqA : Vec Ideal S4x4096x256 .f32 := fun y =>
  (∑ j, dsA q k v a b l (y 0) ⟨(y 1).val / 256, Nat.div_lt_of_lt_mul (y 1).isLt⟩ j ⟨(y 1).val % 256, Nat.mod_lt _ (by norm_num)⟩
    * k (ix3 (y 0) j (y 2))) * (((Real.sqrt 192)⁻¹ : ℝ) : EReal)
/-- One query block's part of the key and of the value cotangent. -/
def dkT (h : Fin 4) (i : Fin 16) (j : Fin 4352) (d : Fin 256) : EReal := ∑ r, dsA q k v a b l h i j r * q (ix3 h (prow (qrow i r)) d)
def dvT (h : Fin 4) (i : Fin 16) (j : Fin 4352) (x : Fin 128) : EReal := ∑ r, pA q k l h i j r * a (ix2 (qrow i r) (hcol h x))
/-- The whole key cotangent and the whole value cotangent. -/
def dkA : Vec Ideal S4x4352x256 .f32 := fun y => ∑ i, dkT q k v a b l (y 0) i (y 1) (y 2)
def dvA : Vec Ideal S4x4352x128 .f32 := fun y => ∑ i, dvT q k a l (y 0) i (y 1) (y 2)

end Spec

/-- The sum over the query blocks up to the point's own of one head's terms. -/
def upTo (f : Fin 4 → Fin 16 → EReal) (n : ℕ) : EReal := ∑ i ∈ Finset.range (n % 16 + 1), f (ptH n) (Fin.ofNat 16 i)

theorem upTo_first (f : Fin 4 → Fin 16 → EReal) (n : ℕ) (h : n % 16 = 0) : upTo f n = f (ptH n) (ptI n) := by
  unfold upTo
  rw [h, zero_add, Finset.sum_range_one]
  exact congrArg _ (Fin.ext h.symm)

theorem upTo_next (f : Fin 4 → Fin 16 → EReal) (n : ℕ) (h : ¬(n + 1) % 16 = 0) : upTo f (n + 1) = upTo f n + f (ptH (n + 1)) (ptI (n + 1)) := by
  have hm : (n + 1) % 16 + 1 = (n % 16 + 1) + 1 := by omega
  have hH : ptH (n + 1) = ptH n := Fin.ext (by show (n + 1) / 16 % 4 = n / 16 % 4; omega)
  have hI : ptI (n + 1) = Fin.ofNat 16 (n % 16 + 1) := Fin.ext (by show (n + 1) % 16 = (n % 16 + 1) % 16; omega)
  unfold upTo
  rw [hm, hH, hI, Finset.sum_range_succ]

/-- What the key and value cotangents' buffers hold after point `n`: the sum over the head's query blocks so far. -/
def sumK (n : ℕ) : Vec Ideal S1x4352x256 .f32 := fun y =>
  upTo (fun h i => dkT (V c main_v8) (V c main_v11) (V c main_v13) (V c main_v16) (V c main_v17_0) (V c main_v17_1) h i (y 1) (y 2)) n
def sumV (n : ℕ) : Vec Ideal S1x4352x128 .f32 := fun y =>
  upTo (fun h i => dvT (V c main_v8) (V c main_v11) (V c main_v16) (V c main_v17_1) h i (y 1) (y 2)) n

theorem outs_first (t : Fin cfg1.N) (h0 : t.val % 16 = 0) :
    (outsAt1 V c t.val t.isLt).2.1 = sumK V c t.val ∧ (outsAt1 V c t.val t.isLt).2.2 = sumV V c t.val := by
  rw [outsAt1_A V c t h0]
  dsimp only
  rw [outA7, outA8, blk_q, blk_k, blk_v, blk_d, blk_o, blk_l]
  refine ⟨funext fun y => ?_, funext fun y => ?_⟩
  · obtain ⟨j, d, rfl⟩ : ∃ (j : Fin 4352) (d : Fin 256), y = ix3 0 j d := ⟨y 1, y 2, by
      funext i; fin_cases i
      · exact Subsingleton.elim (α := Fin 1) _ _
      · rfl
      · rfl⟩
    unfold dkG sumK
    rw [pay4b_apply, zero_add, upTo_first _ _ h0]
    rfl
  · obtain ⟨j, d, rfl⟩ : ∃ (j : Fin 4352) (d : Fin 128), y = ix3 0 j d := ⟨y 1, y 2, by
      funext i; fin_cases i
      · exact Subsingleton.elim (α := Fin 1) _ _
      · rfl
      · rfl⟩
    unfold dvG sumV
    rw [pay5b_apply, zero_add, upTo_first _ _ h0]
    rfl

theorem outs_sum : ∀ (n : ℕ) (hn : n < cfg1.N), (outsAt1 V c n hn).2.1 = sumK V c n ∧ (outsAt1 V c n hn).2.2 = sumV V c n := by
  intro n
  induction n with
  | zero => exact fun hn => outs_first V c ⟨0, hn⟩ rfl
  | succ n ih =>
    intro hn
    by_cases h0 : (n + 1) % 16 = 0
    · exact outs_first V c ⟨n + 1, hn⟩ h0
    · have e := outsAt1_B V c ⟨n + 1, hn⟩ h0
      dsimp only at e
      rw [e]
      dsimp only
      rw [outB7, outB8, blk_q, blk_k, blk_v, blk_d, blk_o, blk_l]
      obtain ⟨i7, i8⟩ := ih (Nat.lt_of_succ_lt hn)
      refine ⟨funext fun y => ?_, funext fun y => ?_⟩
      · refine Eq.trans ?_ (upTo_next _ n h0).symm
        exact congrArg₂ (· + ·) (congrFun i7 y) rfl
      · refine Eq.trans ?_ (upTo_next _ n h0).symm
        exact congrArg₂ (· + ·) (congrFun i8 y) rfl

theorem upTo_last (f : Fin 4 → Fin 16 → EReal) (n : ℕ) (h : n % 16 = 15) : upTo f n = ∑ i, f (ptH n) i := by
  unfold upTo
  rw [h, Finset.sum_range]
  exact Finset.sum_congr rfl fun i _ => congrArg (f (ptH n)) (Fin.ext (Nat.mod_eq_of_lt i.isLt))

theorem arr_dk : (dat1 V c).arrAt 7 cfg1.N = dkA (V c main_v8) (V c main_v11) (V c main_v13) (V c main_v16) (V c main_v17_0) (V c main_v17_1) := by
  refine (dat1 V c).arrAt_eq_of_covers 7 _ (by decide +kernel) fun t hf y => ?_
  have h15 := (flush1_7 t).mp hf
  have h := (idx1 t).2.2.2.2.2.2.2.1
  have := lt64 t
  rw [after1_7, (outs_sum V c t.val t.isLt).1]
  show sumK V c t.val y = _
  refine (upTo_last (fun h i => dkT (V c main_v8) (V c main_v11) (V c main_v13) (V c main_v16) (V c main_v17_0) (V c main_v17_1) h i (y 1) (y 2)) t.val h15).trans ?_
  have e : ((cfg1.win 7).blk t).view.emb y = ix3 (ptH t.val) (y 1) (y 2) := by
    funext a
    apply Fin.ext
    match a with
    | ⟨0, _⟩ => show win1_7.index t 0 * 1 + 1 * (y 0).val = t.val / 16 % 4; have : (y 0).val < 1 := (y 0).isLt; rw [h.1]; omega
    | ⟨1, _⟩ => show win1_7.index t 1 * 4352 + 1 * (y 1).val = (y 1).val; rw [h.2.1]; omega
    | ⟨2, _⟩ => show win1_7.index t 2 * 256 + 1 * (y 2).val = (y 2).val; rw [h.2.2]; omega
  rw [e]
  rfl

theorem arr_dv : (dat1 V c).arrAt 8 cfg1.N = dvA (V c main_v8) (V c main_v11) (V c main_v16) (V c main_v17_1) := by
  refine (dat1 V c).arrAt_eq_of_covers 8 _ (by decide +kernel) fun t hf y => ?_
  have h15 := (flush1_8 t).mp hf
  have h := (idx1 t).2.2.2.2.2.2.2.2
  have := lt64 t
  rw [after1_8, (outs_sum V c t.val t.isLt).2]
  show sumV V c t.val y = _
  refine (upTo_last (fun h i => dvT (V c main_v8) (V c main_v11) (V c main_v16) (V c main_v17_1) h i (y 1) (y 2)) t.val h15).trans ?_
  have e : ((cfg1.win 8).blk t).view.emb y = ix3 (ptH t.val) (y 1) (y 2) := by
    funext a
    apply Fin.ext
    match a with
    | ⟨0, _⟩ => show win1_8.index t 0 * 1 + 1 * (y 0).val = t.val / 16 % 4; have : (y 0).val < 1 := (y 0).isLt; rw [h.1]; omega
    | ⟨1, _⟩ => show win1_8.index t 1 * 4352 + 1 * (y 1).val = (y 1).val; rw [h.2.1]; omega
    | ⟨2, _⟩ => show win1_8.index t 2 * 128 + 1 * (y 2).val = (y 2).val; rw [h.2.2]; omega
  rw [e]
  rfl

theorem out_dq (t : Fin cfg1.N) : (outsAt1 V c t.val t.isLt).1
    = dqG (iblk1 V c 0 t) (iblk1 V c 1 t) (iblk1 V c 2 t) (iblk1 V c 3 t) (iblk1 V c 4 t) (iblk1 V c 5 t) := by
  by_cases h0 : t.val % 16 = 0
  · rw [outsAt1_A V c t h0]
    dsimp only
    rw [outA6]
  · rw [outsAt1_B V c t h0]
    dsimp only
    rw [outB6]

theorem arr_dq : (dat1 V c).arrAt 6 cfg1.N = dqA (V c main_v8) (V c main_v11) (V c main_v13) (V c main_v16) (V c main_v17_0) (V c main_v17_1) := by
  refine (dat1 V c).arrAt_eq_of_covers 6 _ (by decide +kernel) fun t hf y => ?_
  have h := (idx1 t).2.2.2.2.2.2.1
  have := lt64 t
  have hy : (y 1).val < 256 := (y 1).isLt
  rw [after1_6, out_dq, blk_q, blk_k, blk_v, blk_d, blk_o, blk_l]
  have e : ((cfg1.win 6).blk t).view.emb y = ix3 (ptH t.val) (qrow (ptI t.val) (y 1)) (y 2) := by
    funext a
    apply Fin.ext
    match a with
    | ⟨0, _⟩ => show win1_6.index t 0 * 1 + 1 * (y 0).val = t.val / 16 % 4; have : (y 0).val < 1 := (y 0).isLt; rw [h.1]; omega
    | ⟨1, _⟩ => show win1_6.index t 1 * 256 + 1 * (y 1).val = t.val % 16 * 256 + (y 1).val; rw [h.2.1]; omega
    | ⟨2, _⟩ => show win1_6.index t 2 * 256 + 1 * (y 2).val = (y 2).val; rw [h.2.2]; omega
  rw [e]
  have e1 : (⟨(qrow (ptI t.val) (y 1)).val / 256, Nat.div_lt_of_lt_mul (qrow (ptI t.val) (y 1)).isLt⟩ : Fin 16) = ptI t.val :=
    Fin.ext (by show (t.val % 16 * 256 + (y 1).val) / 256 = t.val % 16; omega)
  have e2 : (⟨(qrow (ptI t.val) (y 1)).val % 256, Nat.mod_lt _ (by norm_num)⟩ : Fin 256) = y 1 :=
    Fin.ext (by show (t.val % 16 * 256 + (y 1).val) % 256 = (y 1).val; omega)
  show _ = (∑ j, dsA _ _ _ _ _ _ (ptH t.val) ⟨(qrow (ptI t.val) (y 1)).val / 256, _⟩ j ⟨(qrow (ptI t.val) (y 1)).val % 256, _⟩ * _) * _
  rw [e1, e2]
  rfl

end Cert.KernelIdeal.Attn
end
-- ==== Proof.Attn.Arr0.lean ====
module

public import proofs.«01_k».proof.Proof.Attn.Arr1

@[expose] public section

/-! The two arrays that the forward attention call leaves, block by block, for any buffer contents that it finds on
entry. -/

set_option maxRecDepth 16384

noncomputable section

open Idealize.ShloMosaic Idealize.ShloMosaic.TcCoe

namespace Cert.KernelIdeal.Attn

open Cert.KernelIdeal Cert.KernelIdeal.Gen Cert.Attn
open Idealize.ShloMosaic.Pipeline (Dat)

section Block
variable (x : Fin 4 → Vec Ideal S1x256x256 .bf16) (k : Vec Ideal S1x4352x256 .bf16) (v : Vec Ideal S1x4352x128 .bf16)

/-- The output block of a step from its four query sub-blocks. -/
def oG : Vec Ideal S1024x128 .f32 := fun y =>
  k0_pay7 (x ⟨(y 0).val / 256, Nat.div_lt_of_lt_mul (y 0).isLt⟩) k v (ix2 ⟨(y 0).val % 256, Nat.mod_lt _ (by norm_num)⟩ (y 1))

/-- The block of row logarithms of a step. -/
def lG : Vec Ideal S1x4x8x256 .f32 := fun y => k0_pay8 (x (y 1)) k (ix4 0 0 (y 2) (y 3))

theorem o_piece (s : Fin 4) (o : ℕ) (ho : o = 256 * s.val) (inb) (y : (Rect.unit (s := S1024x128) ![o, 0] S256x128.size inb).shape.Idx) :
    k0_pay7 (x s) k v y = oG x k v ((Rect.unit (s := S1024x128) ![o, 0] S256x128.size inb).emb y) := by
  obtain ⟨r, d, rfl⟩ : ∃ (r : Fin 256) (d : Fin 128), y = ix2 r d := ⟨y 0, y 1, by funext i; fin_cases i <;> rfl⟩
  have e : (Rect.unit (s := S1024x128) ![o, 0] S256x128.size inb).emb (ix2 r d) = ix2 ⟨o + r.val, by omega⟩ d := by
    funext i; apply Fin.ext; refine (Rect.idx_unit_val _ _ _ _ _).trans ?_; fin_cases i <;> simp [ix2]
  rw [e]
  have e1 : (⟨(o + r.val) / 256, by omega⟩ : Fin 4) = s := Fin.ext (by dsimp only; omega)
  have e2 : (⟨(o + r.val) % 256, by omega⟩ : Fin 256) = r := Fin.ext (by dsimp only; omega)
  show _ = k0_pay7 (x ⟨(o + r.val) / 256, _⟩) k v (ix2 ⟨(o + r.val) % 256, _⟩ d)
  rw [e1, e2]

theorem l_piece (s : Fin 4) (o : ℕ) (ho : o = s.val) (inb) (y : (Rect.unit (s := S1x4x8x256) ![0, o, 0, 0] S1x1x8x256.size inb).shape.Idx) :
    k0_pay8 (x s) k y = lG x k ((Rect.unit (s := S1x4x8x256) ![0, o, 0, 0] S1x1x8x256.size inb).emb y) := by
  obtain ⟨u, r, rfl⟩ : ∃ (u : Fin 8) (r : Fin 256), y = ix4 0 0 u r := ⟨y 2, y 3, by
    funext i; fin_cases i
    · exact Subsingleton.elim (α := Fin 1) _ _
    · exact Subsingleton.elim (α := Fin 1) _ _
    · rfl
    · rfl⟩
  subst ho
  have e : (Rect.unit (s := S1x4x8x256) ![0, s.val, 0, 0] S1x1x8x256.size inb).emb (ix4 0 0 u r) = ix4 0 s u r := by
    funext i; apply Fin.ext; refine (Rect.idx_unit_val _ _ _ _ _).trans ?_; fin_cases i <;> simp [ix4]
  rw [e]
  rfl

theorem out_o : out0_6 (x 0) (x 1) (x 2) (x 3) k v = oG x k v := by
  unfold out0_6 k0_pay31 k0_pay30 k0_pay29 k0_pay28
  simp only [View.ld_unit_zero (S := S1x256x256) z3, View.ld_unit_zero (S := S1x4352x256) z3, View.ld_unit_zero (S := S1x4352x128) z3]
  rw [(out_parts (x 1) k v).1, (out_parts (x 2) k v).2.1, (out_parts (x 3) k v).2.2]
  funext y
  refine View.canon_apply_of_pieces (oG x k v) _ (View.PiecesOf.mem ?_) y (cover0_6 _ _ _ _ y)
  exact ⟨fun y => o_piece x k v 3 768 rfl inb_S1024x128_S256x128_768_0 y, fun y => o_piece x k v 2 512 rfl inb_S1024x128_S256x128_512_0 y, fun y => o_piece x k v 1 256 rfl inb_S1024x128_S256x128_256_0 y,
    fun y => o_piece x k v 0 0 rfl inb_S1024x128_S256x128_0_0 y, trivial⟩

theorem out_l : out0_7 (x 0) (x 1) (x 2) (x 3) k v = lG x k := by
  unfold out0_7 k0_pay31 k0_pay30 k0_pay29 k0_pay28
  simp only [View.ld_unit_zero (S := S1x256x256) z3, View.ld_unit_zero (S := S1x4352x256) z3]
  rw [(row_parts (x 1) k).1, (row_parts (x 2) k).2.1, (row_parts (x 3) k).2.2]
  funext y
  refine View.canon_apply_of_pieces (lG x k) _ (View.PiecesOf.mem ?_) y (cover0_7 _ _ _ _ y)
  exact ⟨fun y => l_piece x k 3 3 rfl inb_S1x4x8x256_S1x1x8x256_0_3_0_0 y, fun y => l_piece x k 2 2 rfl inb_S1x4x8x256_S1x1x8x256_0_2_0_0 y, fun y => l_piece x k 1 1 rfl inb_S1x4x8x256_S1x1x8x256_0_1_0_0 y,
    fun y => l_piece x k 0 0 rfl inb_S1x4x8x256_S1x1x8x256_0_0_0_0 y, trivial⟩

end Block

variable (V : (c : Dev nD) → (b : Ref sig .tc) → Buf (Elt Ideal) ((c : Thread nD τ).loc b)) (c : Dev nD)

theorem idx0 : ∀ t : Fin cfg0.N, (win0_0.index t 0 = t.val / 4 ∧ win0_0.index t 1 = t.val % 4 * 4 + 1 ∧ win0_0.index t 2 = 0)
    ∧ (win0_1.index t 0 = t.val / 4 ∧ win0_1.index t 1 = t.val % 4 * 4 + 2 ∧ win0_1.index t 2 = 0)
    ∧ (win0_2.index t 0 = t.val / 4 ∧ win0_2.index t 1 = t.val % 4 * 4 + 3 ∧ win0_2.index t 2 = 0)
    ∧ (win0_3.index t 0 = t.val / 4 ∧ win0_3.index t 1 = t.val % 4 * 4 + 4 ∧ win0_3.index t 2 = 0)
    ∧ (win0_4.index t 0 = t.val / 4 ∧ win0_4.index t 1 = 0 ∧ win0_4.index t 2 = 0)
    ∧ (win0_5.index t 0 = t.val / 4 ∧ win0_5.index t 1 = 0 ∧ win0_5.index t 2 = 0)
    ∧ (win0_6.index t 0 = t.val % 4 ∧ win0_6.index t 1 = t.val / 4)
    ∧ (win0_7.index t 0 = t.val / 4 ∧ win0_7.index t 1 = t.val % 4 ∧ win0_7.index t 2 = 0 ∧ win0_7.index t 3 = 0) :=
  (by decide +kernel : ∀ t : Fin grid0.N, _)

theorem lt16 (t : Fin cfg0.N) : t.val < 16 := lt_of_lt_of_eq t.isLt (show cfg0.N = 16 from N_0)

/-- The head of a point of the forward call and the query block of its sub-block `s`. -/
def fH (n : ℕ) : Fin 4 := Fin.ofNat 4 (n / 4)
def fI (n : ℕ) (s : Fin 4) : Fin 16 := ⟨n % 4 * 4 + s.val, by omega⟩

theorem blk0_0 (t : Fin cfg0.N) : iblk0 V c 0 t = qB (V c main_v8) (fH t.val) (fI t.val 0) := by
  have h := (idx0 t).1
  have := lt16 t
  funext j
  unfold iblk0 qB
  rw [View.read_apply]
  show V c main_v8 _ = V c main_v8 _
  congr 1
  funext a
  apply Fin.ext
  match a with
  | ⟨0, _⟩ => show win0_0.index t 0 * 1 + 1 * (j 0).val = t.val / 4 % 4; have : (j 0).val < 1 := (j 0).isLt; rw [h.1]; omega
  | ⟨1, _⟩ => show win0_0.index t 1 * 256 + 1 * (j 1).val = 256 + ((t.val % 4 * 4 + 0) * 256 + (j 1).val); rw [h.2.1]; omega
  | ⟨2, _⟩ => show win0_0.index t 2 * 256 + 1 * (j 2).val = (j 2).val; rw [h.2.2]; omega

theorem blk0_1 (t : Fin cfg0.N) : iblk0 V c 1 t = qB (V c main_v8) (fH t.val) (fI t.val 1) := by
  have h := (idx0 t).2.1
  have := lt16 t
  funext j
  unfold iblk0 qB
  rw [View.read_apply]
  show V c main_v8 _ = V c main_v8 _
  congr 1
  funext a
  apply Fin.ext
  match a with
  | ⟨0, _⟩ => show win0_1.index t 0 * 1 + 1 * (j 0).val = t.val / 4 % 4; have : (j 0).val < 1 := (j 0).isLt; rw [h.1]; omega
  | ⟨1, _⟩ => show win0_1.index t 1 * 256 + 1 * (j 1).val = 256 + ((t.val % 4 * 4 + 1) * 256 + (j 1).val); rw [h.2.1]; omega
  | ⟨2, _⟩ => show win0_1.index t 2 * 256 + 1 * (j 2).val = (j 2).val; rw [h.2.2]; omega

theorem blk0_2 (t : Fin cfg0.N) : iblk0 V c 2 t = qB (V c main_v8) (fH t.val) (fI t.val 2) := by
  have h := (idx0 t).2.2.1
  have := lt16 t
  funext j
  unfold iblk0 qB
  rw [View.read_apply]
  show V c main_v8 _ = V c main_v8 _
  congr 1
  funext a
  apply Fin.ext
  match a with
  | ⟨0, _⟩ => show win0_2.index t 0 * 1 + 1 * (j 0).val = t.val / 4 % 4; have : (j 0).val < 1 := (j 0).isLt; rw [h.1]; omega
  | ⟨1, _⟩ => show win0_2.index t 1 * 256 + 1 * (j 1).val = 256 + ((t.val % 4 * 4 + 2) * 256 + (j 1).val); rw [h.2.1]; omega
  | ⟨2, _⟩ => show win0_2.index t 2 * 256 + 1 * (j 2).val = (j 2).val; rw [h.2.2]; omega

theorem blk0_3 (t : Fin cfg0.N) : iblk0 V c 3 t = qB (V c main_v8) (fH t.val) (fI t.val 3) := by
  have h := (idx0 t).2.2.2.1
  have := lt16 t
  funext j
  unfold iblk0 qB
  rw [View.read_apply]
  show V c main_v8 _ = V c main_v8 _
  congr 1
  funext a
  apply Fin.ext
  match a with
  | ⟨0, _⟩ => show win0_3.index t 0 * 1 + 1 * (j 0).val = t.val / 4 % 4; have : (j 0).val < 1 := (j 0).isLt; rw [h.1]; omega
  | ⟨1, _⟩ => show win0_3.index t 1 * 256 + 1 * (j 1).val = 256 + ((t.val % 4 * 4 + 3) * 256 + (j 1).val); rw [h.2.1]; omega
  | ⟨2, _⟩ => show win0_3.index t 2 * 256 + 1 * (j 2).val = (j 2).val; rw [h.2.2]; omega

theorem blk0_k (t : Fin cfg0.N) : iblk0 V c 4 t = kB (V c main_v11) (fH t.val) := by
  have h := (idx0 t).2.2.2.2.1
  have := lt16 t
  funext j
  unfold iblk0 kB
  rw [View.read_apply]
  show V c main_v11 _ = V c main_v11 _
  congr 1
  funext a
  apply Fin.ext
  match a with
  | ⟨0, _⟩ => show win0_4.index t 0 * 1 + 1 * (j 0).val = t.val / 4 % 4; have : (j 0).val < 1 := (j 0).isLt; rw [h.1]; omega
  | ⟨1, _⟩ => show win0_4.index t 1 * 4352 + 1 * (j 1).val = (j 1).val; rw [h.2.1]; omega
  | ⟨2, _⟩ => show win0_4.index t 2 * 256 + 1 * (j 2).val = (j 2).val; rw [h.2.2]; omega

theorem blk0_v (t : Fin cfg0.N) : iblk0 V c 5 t = vB (V c main_v13) (fH t.val) := by
  have h := (idx0 t).2.2.2.2.2.1
  have := lt16 t
  funext j
  unfold iblk0 vB
  rw [View.read_apply]
  show V c main_v13 _ = V c main_v13 _
  congr 1
  funext a
  apply Fin.ext
  match a with
  | ⟨0, _⟩ => show win0_5.index t 0 * 1 + 1 * (j 0).val = t.val / 4 % 4; have : (j 0).val < 1 := (j 0).isLt; rw [h.1]; omega
  | ⟨1, _⟩ => show win0_5.index t 1 * 4352 + 1 * (j 1).val = (j 1).val; rw [h.2.1]; omega
  | ⟨2, _⟩ => show win0_5.index t 2 * 128 + 1 * (j 2).val = (j 2).val; rw [h.2.2]; omega

section Spec
variable (q k : Vec Ideal S4x4352x256 .bf16) (v : Vec Ideal S4x4352x128 .bf16)

/-- The attention output, and its row logarithms, of row `r` of query block `i` in head `h`. -/
def oR (h : Fin 4) (i : Fin 16) (r : Fin 256) (x : Fin 128) : EReal := k0_pay7 (qB q h i) (kB k h) (vB v h) (ix2 r x)
def lA : Vec Ideal S4x16x8x256 .f32 := fun y => k0_pay8 (qB q (y 0) (y 1)) (kB k (y 0)) (ix4 0 0 (y 2) (y 3))

/-- The whole attention output, heads side by side. -/
def oA : Vec Ideal S4096x512 .f32 := fun y =>
  oR q k v ⟨(y 1).val / 128, Nat.div_lt_of_lt_mul (y 1).isLt⟩ ⟨(y 0).val / 256, Nat.div_lt_of_lt_mul (y 0).isLt⟩
    ⟨(y 0).val % 256, Nat.mod_lt _ (by norm_num)⟩ ⟨(y 1).val % 128, Nat.mod_lt _ (by norm_num)⟩

theorem oA_apply (h : Fin 4) (i : Fin 16) (r : Fin 256) (x : Fin 128) : oA q k v (ix2 (qrow i r) (hcol h x)) = oR q k v h i r x := by
  show oR q k v ⟨(h.val * 128 + x.val) / 128, _⟩ ⟨(i.val * 256 + r.val) / 256, _⟩ ⟨(i.val * 256 + r.val) % 256, _⟩ ⟨(h.val * 128 + x.val) % 128, _⟩ = _
  congr 1 <;> apply Fin.ext <;> dsimp only <;> omega

end Spec

theorem arr_l : (dat0 V c).arrAt 7 cfg0.N = lA (V c main_v8) (V c main_v11) := by
  refine (dat0 V c).arrAt_eq_of_covers 7 _ (by decide +kernel) fun t hf y => ?_
  have h := (idx0 t).2.2.2.2.2.2.2
  have := lt16 t
  rw [after0_7, blk0_0, blk0_1, blk0_2, blk0_3, blk0_k, blk0_v, out_l (fun s => qB (V c main_v8) (fH t.val) (fI t.val s))]
  have e : ((cfg0.win 7).blk t).view.emb y = ix4 (fH t.val) (fI t.val (y 1)) (y 2) (y 3) := by
    funext a
    apply Fin.ext
    match a with
    | ⟨0, _⟩ => show win0_7.index t 0 * 1 + 1 * (y 0).val = t.val / 4 % 4; have : (y 0).val < 1 := (y 0).isLt; rw [h.1]; omega
    | ⟨1, _⟩ => show win0_7.index t 1 * 4 + 1 * (y 1).val = t.val % 4 * 4 + (y 1).val; rw [h.2.1]; omega
    | ⟨2, _⟩ => show win0_7.index t 2 * 8 + 1 * (y 2).val = (y 2).val; rw [h.2.2.1]; omega
    | ⟨3, _⟩ => show win0_7.index t 3 * 256 + 1 * (y 3).val = (y 3).val; rw [h.2.2.2]; omega
  rw [e]
  rfl

theorem arr_o : (dat0 V c).arrAt 6 cfg0.N = oA (V c main_v8) (V c main_v11) (V c main_v13) := by
  refine (dat0 V c).arrAt_eq_of_covers 6 _ (by decide +kernel) fun t hf y => ?_
  have h := (idx0 t).2.2.2.2.2.2.1
  have := lt16 t
  have hy : (y 0).val < 1024 := (y 0).isLt
  have hz : (y 1).val < 128 := (y 1).isLt
  rw [after0_6, blk0_0, blk0_1, blk0_2, blk0_3, blk0_k, blk0_v, out_o (fun s => qB (V c main_v8) (fH t.val) (fI t.val s))]
  have e : ((cfg0.win 6).blk t).view.emb y = ix2 (qrow (fI t.val ⟨(y 0).val / 256, Nat.div_lt_of_lt_mul hy⟩) ⟨(y 0).val % 256, Nat.mod_lt _ (by norm_num)⟩) (hcol (fH t.val) (y 1)) := by
    funext a
    apply Fin.ext
    match a with
    | ⟨0, _⟩ => show win0_6.index t 0 * 1024 + 1 * (y 0).val = (t.val % 4 * 4 + (y 0).val / 256) * 256 + (y 0).val % 256; rw [h.1]; omega
    | ⟨1, _⟩ => show win0_6.index t 1 * 128 + 1 * (y 1).val = t.val / 4 % 4 * 128 + (y 1).val; rw [h.2]; omega
  rw [e]
  refine Eq.trans ?_ (oA_apply _ _ _ _ _ _ _).symm
  rfl

end Cert.KernelIdeal.Attn
end
-- ==== Proof.Attn.Spec.lean ====
module

public import proofs.«01_k».proof.Proof.Attn.Math

@[expose] public section

/-! Softmax attention and its three gradients over real arrays: `Q`, `K`, `W` are the queries, keys and values by head,
`G` the cotangent of the output. -/

noncomputable section

namespace Cert.Attn

/-- The real arrays by head, row and column. -/
abbrev Arr (n m : ℕ) := Fin 4 → Fin n → Fin m → ℝ

/-- One over the square root of the width of a query row. -/
def sc : ℝ := (Real.sqrt 192)⁻¹

variable (Q : Arr 4096 192) (K : Arr 4352 192) (W : Arr 4352 128) (G : Arr 4096 128)
variable (h : Fin 4) (i : Fin 4096) (j : Fin 4352)

/-- The score of a key row for a query row. -/
def score : ℝ := (∑ d, Q h i d * K h j d) * sc
/-- The weight, before it is divided by the row's sum. -/
def weight : ℝ := Real.exp (score Q K h i j)
/-- A row's sum of weights. -/
def rowSum : ℝ := ∑ j, weight Q K h i j
/-- The probability of a key row. -/
def prob : ℝ := weight Q K h i j / rowSum Q K h i
/-- The attention's output. -/
def out (x : Fin 128) : ℝ := ∑ j, prob Q K h i j * W h j x
/-- The cotangent of a probability. -/
def dprob : ℝ := ∑ x, G h i x * W h j x
/-- The cotangent of a score. -/
def dscore : ℝ := prob Q K h i j * (dprob W G h i j - ∑ x, G h i x * out Q K W h i x)
/-- The gradients of the queries, keys and values. -/
def gradQ (d : Fin 192) : ℝ := (∑ j, dscore Q K W G h i j * K h j d) * sc
def gradK (d : Fin 192) : ℝ := (∑ i, dscore Q K W G h i j * Q h i d) * sc
def gradV (x : Fin 128) : ℝ := ∑ i, prob Q K h i j * G h i x

theorem rowSum_pos : 0 < rowSum Q K h i := Finset.sum_pos (fun _ _ => Real.exp_pos _) ⟨0, Finset.mem_univ _⟩

theorem sqrt_pos : 0 < Real.sqrt 192 := Real.sqrt_pos.mpr (by norm_num)

/-- The row's sum of cotangents times probabilities is the row's sum of cotangents times outputs. -/
theorem sum_dprob : ∑ j, prob Q K h i j * dprob W G h i j = ∑ x, G h i x * out Q K W h i x := by
  unfold dprob out
  simp only [Finset.mul_sum]
  rw [Finset.sum_comm]
  exact Finset.sum_congr rfl fun _ _ => Finset.sum_congr rfl fun _ _ => by ring

/-- A sum over rows by blocks of 256. -/
theorem sum_blocks (f : Fin 4096 → ℝ) : ∑ i : Fin 16, ∑ r : Fin 256, f ⟨i.val * 256 + r.val, by omega⟩ = ∑ s, f s := by
  rw [← Fintype.sum_prod_type' (f := fun (i : Fin 16) (r : Fin 256) => f ⟨i.val * 256 + r.val, by omega⟩)]
  refine Fintype.sum_equiv (finProdFinEquiv (m := 16) (n := 256)) _ f fun p => ?_
  refine congrArg f (Fin.ext ?_)
  show p.1.val * 256 + p.2.val = p.2.val + 256 * p.1.val
  omega

/-- A sum over 256 columns of which those from 192 on contribute nothing. -/
theorem sum_pad (f : Fin 192 → ℝ) : ∑ d : Fin 256, (if h : d.val < 192 then f ⟨d.val, h⟩ else 0) = ∑ d, f d := by
  rw [Fin.sum_univ_add (a := 192) (b := 64)]
  have e1 : ∀ d : Fin 192, (if h : (Fin.castAdd 64 d).val < 192 then f ⟨(Fin.castAdd 64 d).val, h⟩ else 0) = f d := fun d =>
    dif_pos (show d.val < 192 from d.isLt)
  have e2 : ∀ d : Fin 64, (if h : (Fin.natAdd 192 d).val < 192 then f ⟨(Fin.natAdd 192 d).val, h⟩ else 0) = 0 := fun d =>
    dif_neg (by simp)
  rw [Finset.sum_congr rfl fun d _ => e1 d, Finset.sum_congr rfl fun d _ => e2 d]
  simp

end Cert.Attn
-- ==== Proof.Attn.Ker.lean ====
module

public import proofs.«01_k».proof.Proof.Attn.Arr0
public import proofs.«01_k».proof.Proof.Attn.Spec

@[expose] public section

/-! The arrays of the two attention calls over real queries, keys, values and cotangents: softmax attention and its
gradients. -/

set_option maxRecDepth 16384

noncomputable section

open Idealize.ShloMosaic Idealize.ShloMosaic.TcCoe

namespace Cert.KernelIdeal.Attn

open Cert.KernelIdeal Cert.KernelIdeal.Gen Cert.Attn

/-- The factor that the queries carry on entry. -/
def qf : ℝ := 1 / (Real.sqrt 192 * Real.log 2)

/-- The padded queries and keys, as real numbers. -/
def qx (Q : Arr 4096 192) (h : Fin 4) (s : Fin 4096) (d : Fin 256) : ℝ := if e : d.val < 192 then Q h s ⟨d.val, e⟩ * qf else 0
def kx (K : Arr 4352 192) (h : Fin 4) (j : Fin 4352) (d : Fin 256) : ℝ := if e : d.val < 192 then K h j ⟨d.val, e⟩ else 0

theorem log_qf : Real.log 2 * qf = sc := by
  have := log_two_ne
  have := sqrt_pos.ne'
  unfold qf sc
  field_simp

variable (Q : Arr 4096 192) (K : Arr 4352 192) (W : Arr 4352 128) (G : Arr 4096 128)

theorem sum_qx (h : Fin 4) (s : Fin 4096) (j : Fin 4352) : ∑ d, qx Q h s d * kx K h j d = (∑ d, Q h s d * K h j d) * qf := by
  rw [Finset.sum_mul, ← sum_pad fun d => Q h s d * K h j d * qf]
  refine Finset.sum_congr rfl fun d _ => ?_
  unfold qx kx
  split
  · ring
  · simp

theorem wt_eq (h : Fin 4) (i : Fin 16) (r : Fin 256) (j : Fin 4352) :
    wt (fun r d => qx Q h (qrow i r) d) (kx K h) r j = weight Q K h (qrow i r) j := by
  unfold wt weight score
  rw [sum_qx, ← log_qf]
  refine congrArg Real.exp ?_
  ring

variable {q : Vec Ideal S4x4352x256 .bf16} {k : Vec Ideal S4x4352x256 .bf16} {v : Vec Ideal S4x4352x128 .bf16} {a b : Vec Ideal S4096x512 .f32}
variable {l : Vec Ideal S4x16x8x256 .f32} {Q K W G}

/-- The arrays that the calls read hold these real numbers. -/
structure Reads (q k : Vec Ideal S4x4352x256 .bf16) (v : Vec Ideal S4x4352x128 .bf16) (Q : Arr 4096 192) (K : Arr 4352 192) (W : Arr 4352 128) : Prop where
  hq : ∀ h s d, q (ix3 h (prow s) d) = ((qx Q h s d : ℝ) : EReal)
  hk : ∀ h j d, k (ix3 h j d) = ((kx K h j d : ℝ) : EReal)
  hv : ∀ h j x, v (ix3 h j x) = ((W h j x : ℝ) : EReal)

variable (H : Reads q k v Q K W)
include H

theorem oR_real (h : Fin 4) (i : Fin 16) (r : Fin 256) (x : Fin 128) : oR q k v h i r x = ((out Q K W h (qrow i r) x : ℝ) : EReal) := by
  unfold oR
  rw [pay7_real (X := fun r d => qx Q h (qrow i r) d) (K := kx K h) (W := W h) (fun r d => H.hq h (qrow i r) d) (fun j d => H.hk h j d) fun j x => H.hv h j x]
  refine congrArg (fun z : ℝ => (z : EReal)) ?_
  simp only [wt_eq]
  unfold out prob rowSum
  rw [Finset.sum_div]
  exact Finset.sum_congr rfl fun _ _ => by ring

theorem lA_real (h : Fin 4) (i : Fin 16) (u : Fin 8) (r : Fin 256) :
    lA q k (ix4 h i u r) = ((Real.log (rowSum Q K h (qrow i r)) * (Real.log 2)⁻¹ : ℝ) : EReal) := by
  refine (pay8_real (X := fun r d => qx Q h (qrow i r) d) (K := kx K h) (fun r d => H.hq h (qrow i r) d) (fun j d => H.hk h j d) u r).trans ?_
  refine congrArg (fun z : ℝ => (z : EReal)) ?_
  simp only [wt_eq]
  rfl

theorem pA_real (h : Fin 4) (i : Fin 16) (j : Fin 4352) (r : Fin 256) :
    pA q k (lA q k) h i j r = ((prob Q K h (qrow i r) j : ℝ) : EReal) := by
  have e1 : (∑ d, k (ix3 h j d) * q (ix3 h (prow (qrow i r)) d)) = (((∑ d, Q h (qrow i r) d * K h j d) * qf : ℝ) : EReal) := by
    rw [← sum_qx, ← sum_coe]
    exact Finset.sum_congr rfl fun d _ => by rw [H.hq, H.hk, ← EReal.coe_mul, mul_comm]
  show Ideal.exp2 ((∑ d, k (ix3 h j d) * q (ix3 h (prow (qrow i r)) d)) - lA q k (ix4 h i 0 r)) = _
  rw [e1, lA_real H, ← EReal.coe_sub, Ideal.exp2_coe, rpow_two]
  refine congrArg (fun z : ℝ => (z : EReal)) ?_
  have hl := rowSum_pos Q K h (qrow i r)
  have e2 : Real.log 2 * ((∑ d, Q h (qrow i r) d * K h j d) * qf - Real.log (rowSum Q K h (qrow i r)) * (Real.log 2)⁻¹)
      = score Q K h (qrow i r) j - Real.log (rowSum Q K h (qrow i r)) := by
    have := log_two_ne
    unfold score
    rw [← log_qf]
    field_simp
  rw [e2, Real.exp_sub, Real.exp_log hl]
  rfl

variable (ha : ∀ h s x, a (ix2 s (hcol h x)) = ((G h s x : ℝ) : EReal))
include ha

theorem dsA_real (h : Fin 4) (i : Fin 16) (j : Fin 4352) (r : Fin 256) :
    dsA q k v a (oA q k v) (lA q k) h i j r = ((dscore Q K W G h (qrow i r) j : ℝ) : EReal) := by
  have e1 : (∑ x, v (ix3 h j x) * a (ix2 (qrow i r) (hcol h x))) = ((dprob W G h (qrow i r) j : ℝ) : EReal) := by
    unfold dprob
    rw [← sum_coe]
    exact Finset.sum_congr rfl fun d _ => by rw [H.hv, ha, ← EReal.coe_mul, mul_comm]
  have e2 : (∑ x, a (ix2 (qrow i r) (hcol h x)) * oA q k v (ix2 (qrow i r) (hcol h x)))
      = ((∑ x, G h (qrow i r) x * out Q K W h (qrow i r) x : ℝ) : EReal) := by
    rw [← sum_coe]
    exact Finset.sum_congr rfl fun d _ => by rw [oA_apply, oR_real H, ha, ← EReal.coe_mul]
  refine (congrArg₂ (fun s t : EReal => pA q k (lA q k) h i j r * (s - t)) e1 e2).trans ?_
  rw [pA_real H, ← EReal.coe_sub, ← EReal.coe_mul]
  rfl

theorem dqA_real (h : Fin 4) (i : Fin 16) (r : Fin 256) (d : Fin 256) (e : d.val < 192) :
    dqA q k v a (oA q k v) (lA q k) (ix3 h (qrow i r) d) = ((gradQ Q K W G h (qrow i r) ⟨d.val, e⟩ : ℝ) : EReal) := by
  have e0 : ∀ i' r', i' = i → r' = r →
      (∑ j, dsA q k v a (oA q k v) (lA q k) h i' j r' * k (ix3 h j d)) * (((Real.sqrt 192)⁻¹ : ℝ) : EReal)
        = ((gradQ Q K W G h (qrow i r) ⟨d.val, e⟩ : ℝ) : EReal) := by
    rintro _ _ rfl rfl
    unfold gradQ sc
    rw [EReal.coe_mul, ← sum_coe]
    refine congrArg (· * _) (Finset.sum_congr rfl fun j _ => ?_)
    rw [dsA_real H ha, H.hk, ← EReal.coe_mul]
    unfold kx
    rw [dif_pos e]
  exact e0 _ _ (Fin.ext (show (i.val * 256 + r.val) / 256 = i.val by omega)) (Fin.ext (show (i.val * 256 + r.val) % 256 = r.val by omega))

theorem dkA_real (h : Fin 4) (j : Fin 4352) (d : Fin 256) (e : d.val < 192) :
    dkA q k v a (oA q k v) (lA q k) (ix3 h j d) * ((Real.log 2 : ℝ) : EReal) = ((gradK Q K W G h j ⟨d.val, e⟩ : ℝ) : EReal) := by
  have e1 : dkA q k v a (oA q k v) (lA q k) (ix3 h j d)
      = ((∑ i : Fin 16, ∑ r : Fin 256, dscore Q K W G h (qrow i r) j * (Q h (qrow i r) ⟨d.val, e⟩ * qf) : ℝ) : EReal) := by
    rw [← sum_coe]
    refine Finset.sum_congr rfl fun i _ => ?_
    rw [← sum_coe]
    refine Finset.sum_congr rfl fun r _ => ?_
    show dsA q k v a (oA q k v) (lA q k) h i j r * q (ix3 h (prow (qrow i r)) d) = _
    rw [dsA_real H ha, H.hq, ← EReal.coe_mul]
    unfold qx
    rw [dif_pos e]
  rw [e1, ← EReal.coe_mul]
  refine congrArg (fun z : ℝ => (z : EReal)) ?_
  unfold gradK
  rw [← log_qf, ← sum_blocks, Finset.sum_mul, Finset.sum_mul]
  refine Finset.sum_congr rfl fun i _ => ?_
  rw [Finset.sum_mul, Finset.sum_mul]
  refine Finset.sum_congr rfl fun r _ => ?_
  show dscore Q K W G h (qrow i r) j * (Q h (qrow i r) ⟨d.val, e⟩ * qf) * Real.log 2 = dscore Q K W G h (qrow i r) j * Q h (qrow i r) ⟨d.val, e⟩ * (Real.log 2 * qf)
  ring

theorem dvA_real (h : Fin 4) (j : Fin 4352) (x : Fin 128) :
    dvA q k a (lA q k) (ix3 h j x) = ((gradV Q K G h j x : ℝ) : EReal) := by
  unfold gradV
  rw [← sum_blocks, ← sum_coe]
  refine Finset.sum_congr rfl fun i _ => ?_
  rw [← sum_coe]
  refine Finset.sum_congr rfl fun r _ => ?_
  show pA q k (lA q k) h i j r * a (ix2 (qrow i r) (hcol h x)) = _
  rw [pA_real H, ha, ← EReal.coe_mul]
  rfl

end Cert.KernelIdeal.Attn
-- ==== Proof.Attn.Host.lean ====
module

public import proofs.«01_k».proof.Proof.Attn.Ker
public import Idealize.ShloMosaic.Lib.StableHlo.ReadAt

@[expose] public section

/-! What the host code prepares for the two calls and what it makes of their results, read entry by entry. -/

set_option maxRecDepth 16384

noncomputable section

open Idealize.ShloMosaic Idealize.ShloMosaic.TcCoe

namespace Cert.KernelIdeal.Attn

open Cert.KernelIdeal Cert.KernelIdeal.Gen Cert.Attn

variable (m : (ℓ : Loc nD τ sig) → Buf (Elt Ideal) ℓ) (ρ : Dev nD → PrngReg) (c : Dev nD)

theorem ofBits_one : Ideal.ofBits FTy.f32 0x3F800000#32 = ((1 : ℝ) : EReal) := by
  simp [Ideal.ofBits, Ideal.ieee]; rw [← EReal.coe_mul]; norm_num
theorem ofBits_two : Ideal.ofBits FTy.f32 0x40000000#32 = ((2 : ℝ) : EReal) := by
  simp [Ideal.ofBits, Ideal.ieee]; rw [← EReal.coe_mul]; norm_num
theorem ofBits_192 : Ideal.ofBits FTy.f32 0x43400000#32 = ((192 : ℝ) : EReal) := by
  simp [Ideal.ofBits, Ideal.ieee]; rw [← EReal.coe_mul]; norm_num

/-- The host's logarithm of two. -/
theorem log_two_val : Ideal.log (Ideal.ofBits FTy.f32 0x40000000#32) = ((Real.log 2 : ℝ) : EReal) := by
  rw [ofBits_two, Ideal.log_coe, if_neg (by norm_num)]

/-- The host's factor of the queries. -/
theorem qf_val : Ideal.div 1 (Ideal.sqrt (Ideal.ofBits FTy.f32 0x43400000#32) * Ideal.log (Ideal.ofBits FTy.f32 0x40000000#32)) = ((qf : ℝ) : EReal) := by
  rw [log_two_val, ofBits_192, Ideal.sqrt_coe, if_neg (by norm_num), ← EReal.coe_mul]
  exact div_coe_coe 1 _ (mul_ne_zero sqrt_pos.ne' log_two_ne)

/-- Entries of the query and key arguments, of the key cotangent that the backward call leaves, and the logarithm that
multiplies it. -/
def argQ (h : Fin 4) (s : Fin 4096) (d : Fin 192) : EReal := m ((c.tc : Thread nD τ).loc main_arg0) (ix4 0 h s d)
def argK (h : Fin 4) (j : Fin 4352) (d : Fin 192) : EReal := m ((c.tc : Thread nD τ).loc main_arg1) (ix4 0 h j d)
def dkRaw (h : Fin 4) (j : Fin 4352) (d : Fin 256) : EReal := W7 m ρ c (Proc.devRef .tc main_v18_1) (ix3 h j d)
def logRaw : EReal := W7 m ρ c (Proc.devRef .tc main_v0) ix0

theorem q_at (h : Fin 4) (s : Fin 4352) (d : Fin 256) : (W3 m ρ c (Proc.devRef .tc main_v8) (ix3 h s d) : EReal)
    = if e : (256 ≤ s.val ∧ s.val - 256 < 4096) ∧ d.val < 192 then
        argQ m c h ⟨s.val - 256, e.1.2⟩ ⟨d.val, e.2⟩ * ((qf : ℝ) : EReal) else (0 : EReal) := by
  rw [← qf_val]
  unfold W3 W2 W1 hostOps0 hostOps0_1 hostOps0_2
  after_reads_at
  split
  · rfl
  · exact congrArg (fun z : ℝ => (z : EReal)) (show ((0 : ℤ) : ℝ) = 0 by norm_num)

theorem k_at (h : Fin 4) (s : Fin 4352) (d : Fin 256) : (W5 m ρ c (Proc.devRef .tc main_v11) (ix3 h s d) : EReal)
    = if e : d.val < 192 then argK m c h s ⟨d.val, e⟩ else (0 : EReal) := by
  unfold W5 hostOps0_4
  after_reads_at
  split
  · rfl
  · exact congrArg (fun z : ℝ => (z : EReal)) (show ((0 : ℤ) : ℝ) = 0 by norm_num)

theorem v_at (h : Fin 4) (s : Fin 4352) (d : Fin 128) : (W5 m ρ c (Proc.devRef .tc main_v13) (ix3 h s d) : EReal)
    = (m ((c.tc : Thread nD τ).loc main_arg2) (ix4 0 h s d) : EReal) := by
  unfold W5 hostOps0_4
  after_reads_at

theorem do_at (s : Fin 4096) (d : Fin 512) : (W5 m ρ c (Proc.devRef .tc main_v16) (ix2 s d) : EReal)
    = (m ((c.tc : Thread nD τ).loc main_arg3) (ix3 0 ⟨s.val % 128 * 32 + s.val / 128, by omega⟩ d) : EReal) := by
  unfold W5 hostOps0_4
  after_reads_at

theorem log_at : (W1 m ρ c (Proc.devRef .tc main_v0) ix0 : EReal) = ((Real.log 2 : ℝ) : EReal) := by
  rw [← log_two_val]
  unfold W1 hostOps0
  after_reads_at

theorem o_res (s : Fin 4096) (d : Fin 512) : (W8 m ρ c (Proc.devRef .tc main_v21) (ix3 0 s d) : EReal)
    = (W7 m ρ c (Proc.devRef .tc main_v17_0) (ix2 ⟨s.val % 32 * 128 + s.val / 32, by omega⟩ d) : EReal) := by
  unfold W8 hostOps2
  after_reads_at

theorem dq_res (h : Fin 4) (s : Fin 4096) (d : Fin 192) : (W8 m ρ c (Proc.devRef .tc main_v23) (ix4 0 h s d) : EReal)
    = (W7 m ρ c (Proc.devRef .tc main_v18_0) (ix3 h s ⟨d.val, by omega⟩) : EReal) := by
  unfold W8 hostOps2
  after_reads_at

theorem dk_res (h : Fin 4) (s : Fin 4352) (d : Fin 192) : (W8 m ρ c (Proc.devRef .tc main_v27) (ix4 0 h s d) : EReal)
    = dkRaw m ρ c h s ⟨d.val, by omega⟩ * logRaw m ρ c := by
  unfold dkRaw logRaw W8 hostOps2
  after_reads_at

theorem dv_res (h : Fin 4) (s : Fin 4352) (d : Fin 128) : (W8 m ρ c (Proc.devRef .tc main_v28) (ix4 0 h s d) : EReal)
    = (W7 m ρ c (Proc.devRef .tc main_v18_2) (ix3 h s d) : EReal) := by
  unfold W8 hostOps2
  after_reads_at

/-- The argument arrays hold these real numbers, the cotangent read by head and query row. -/
structure Holds (Q : Arr 4096 192) (K : Arr 4352 192) (W : Arr 4352 128) (G : Arr 4096 128) : Prop where
  hQ : ∀ h s d, m ((c.tc : Thread nD τ).loc main_arg0) (ix4 0 h s d) = ((Q h s d : ℝ) : EReal)
  hK : ∀ h j d, m ((c.tc : Thread nD τ).loc main_arg1) (ix4 0 h j d) = ((K h j d : ℝ) : EReal)
  hW : ∀ h j x, m ((c.tc : Thread nD τ).loc main_arg2) (ix4 0 h j x) = ((W h j x : ℝ) : EReal)
  hG : ∀ h (s : Fin 4096) x, m ((c.tc : Thread nD τ).loc main_arg3) (ix3 0 ⟨s.val % 128 * 32 + s.val / 128, by omega⟩ (hcol h x)) = ((G h s x : ℝ) : EReal)

variable {m c} {Q : Arr 4096 192} {K : Arr 4352 192} {W : Arr 4352 128} {G : Arr 4096 128}

theorem reads (H : Holds m c Q K W G) : Reads (V5 m ρ c main_v8) (V5 m ρ c main_v11) (V5 m ρ c main_v13) Q K W where
  hq h s d := by
    show (W5 m ρ c (Proc.devRef .tc main_v8) (ix3 h (prow s) d) : EReal) = _
    rw [W5_of m ρ c main_v8 (by decide), W4_of m ρ c main_v8 (by decide), q_at]
    unfold qx
    by_cases hd : d.val < 192
    · have es : (⟨(prow s).val - 256, by show 256 + s.val - 256 < 4096; omega⟩ : Fin 4096) = s := Fin.ext (show 256 + s.val - 256 = s.val by omega)
      rw [dif_pos ⟨⟨show 256 ≤ 256 + s.val by omega, show 256 + s.val - 256 < 4096 by omega⟩, hd⟩, dif_pos hd, es, show argQ m c h s ⟨d.val, hd⟩ = _ from H.hQ h s ⟨d.val, hd⟩, ← EReal.coe_mul]
    · rw [dif_neg (fun e => hd e.2), dif_neg hd]
      rfl
  hk h j d := by
    refine (k_at m ρ c h j d).trans ?_
    unfold kx
    split
    · exact H.hK _ _ _
    · rfl
  hv h j x := (v_at m ρ c h j x).trans (H.hW h j x)

theorem reads_do (H : Holds m c Q K W G) (h : Fin 4) (s : Fin 4096) (x : Fin 128) :
    (V6 m ρ c main_v16 (ix2 s (hcol h x)) : EReal) = ((G h s x : ℝ) : EReal) := by
  show (W6 m ρ c (Proc.devRef .tc main_v16) (ix2 s (hcol h x)) : EReal) = _
  rw [W6_of m ρ c main_v16 (by decide), do_at]
  exact H.hG h s x

variable (m c)

/-- Region 0's inputs pass through it, and its two results are the attention output and the row logarithms. -/
theorem V6_in : V6 m ρ c main_v8 = V5 m ρ c main_v8 ∧ V6 m ρ c main_v11 = V5 m ρ c main_v11 ∧ V6 m ρ c main_v13 = V5 m ρ c main_v13
    ∧ V6 m ρ c main_v17_0 = oA (V5 m ρ c main_v8) (V5 m ρ c main_v11) (V5 m ρ c main_v13)
    ∧ V6 m ρ c main_v17_1 = lA (V5 m ρ c main_v8) (V5 m ρ c main_v11) :=
  ⟨W6_of m ρ c main_v8 (by decide), W6_of m ρ c main_v11 (by decide), W6_of m ρ c main_v13 (by decide),
    (W6_arr m ρ c 6).trans (arr_o _ c), (W6_arr m ρ c 7).trans (arr_l _ c)⟩

theorem W7_out : W7 m ρ c (Proc.devRef .tc main_v17_0) = oA (V5 m ρ c main_v8) (V5 m ρ c main_v11) (V5 m ρ c main_v13) :=
  (W7_of m ρ c main_v17_0 (by decide)).trans (V6_in m ρ c).2.2.2.1

theorem W7_dq : W7 m ρ c (Proc.devRef .tc main_v18_0) = dqA (V5 m ρ c main_v8) (V5 m ρ c main_v11) (V5 m ρ c main_v13) (V6 m ρ c main_v16)
    (oA (V5 m ρ c main_v8) (V5 m ρ c main_v11) (V5 m ρ c main_v13)) (lA (V5 m ρ c main_v8) (V5 m ρ c main_v11)) := by
  obtain ⟨h1, h2, h3, h4, h5⟩ := V6_in m ρ c
  rw [← h4, ← h5, ← h1, ← h2, ← h3]
  exact (W7_arr m ρ c 6).trans (arr_dq _ c)

theorem W7_dk : W7 m ρ c (Proc.devRef .tc main_v18_1) = dkA (V5 m ρ c main_v8) (V5 m ρ c main_v11) (V5 m ρ c main_v13) (V6 m ρ c main_v16)
    (oA (V5 m ρ c main_v8) (V5 m ρ c main_v11) (V5 m ρ c main_v13)) (lA (V5 m ρ c main_v8) (V5 m ρ c main_v11)) := by
  obtain ⟨h1, h2, h3, h4, h5⟩ := V6_in m ρ c
  rw [← h4, ← h5, ← h1, ← h2, ← h3]
  exact (W7_arr m ρ c 7).trans (arr_dk _ c)

theorem W7_dv : W7 m ρ c (Proc.devRef .tc main_v18_2) = dvA (V5 m ρ c main_v8) (V5 m ρ c main_v11) (V6 m ρ c main_v16)
    (lA (V5 m ρ c main_v8) (V5 m ρ c main_v11)) := by
  obtain ⟨h1, h2, h3, h4, h5⟩ := V6_in m ρ c
  rw [← h5, ← h1, ← h2]
  exact (W7_arr m ρ c 8).trans (arr_dv _ c)

theorem W7_log : logRaw m ρ c = ((Real.log 2 : ℝ) : EReal) := by
  unfold logRaw
  rw [W7_of m ρ c main_v0 (by decide), W6_of m ρ c main_v0 (by decide), W5_of m ρ c main_v0 (by decide), W4_of m ρ c main_v0 (by decide),
    W3_of m ρ c main_v0 (by decide), W2_of m ρ c main_v0 (by decide)]
  exact log_at m ρ c

variable {m c}

theorem split_row (s : Fin 4096) : ∃ (i : Fin 16) (r : Fin 256), s = qrow i r :=
  ⟨⟨s.val / 256, by omega⟩, ⟨s.val % 256, by omega⟩, Fin.ext (show s.val = s.val / 256 * 256 + s.val % 256 by omega)⟩

/-- The kernel's four results over real arguments. -/
theorem o_real (H : Holds m c Q K W G) (s : Fin 4096) (h : Fin 4) (x : Fin 128) :
    (W8 m ρ c (Proc.devRef .tc main_v21) (ix3 0 s (hcol h x)) : EReal) = ((out Q K W h ⟨s.val % 32 * 128 + s.val / 32, by omega⟩ x : ℝ) : EReal) := by
  rw [o_res, W7_out]
  obtain ⟨i, r, e⟩ := split_row ⟨s.val % 32 * 128 + s.val / 32, by omega⟩
  rw [e]
  exact (oA_apply _ _ _ h i r x).trans (oR_real (reads ρ H) h i r x)

theorem dq_real (H : Holds m c Q K W G) (h : Fin 4) (s : Fin 4096) (d : Fin 192) :
    (W8 m ρ c (Proc.devRef .tc main_v23) (ix4 0 h s d) : EReal) = ((gradQ Q K W G h s d : ℝ) : EReal) := by
  rw [dq_res, W7_dq]
  obtain ⟨i, r, rfl⟩ := split_row s
  exact dqA_real (reads ρ H) (reads_do ρ H) h i r _ d.isLt

theorem dk_real (H : Holds m c Q K W G) (h : Fin 4) (j : Fin 4352) (d : Fin 192) :
    (W8 m ρ c (Proc.devRef .tc main_v27) (ix4 0 h j d) : EReal) = ((gradK Q K W G h j d : ℝ) : EReal) := by
  rw [dk_res, W7_log]
  unfold dkRaw
  rw [W7_dk]
  exact dkA_real (reads ρ H) (reads_do ρ H) h j _ d.isLt

theorem dv_real (H : Holds m c Q K W G) (h : Fin 4) (j : Fin 4352) (x : Fin 128) :
    (W8 m ρ c (Proc.devRef .tc main_v28) (ix4 0 h j x) : EReal) = ((gradV Q K G h j x : ℝ) : EReal) := by
  rw [dv_res, W7_dv]
  exact dvA_real (reads ρ H) (reads_do ρ H) h j x

end Cert.KernelIdeal.Attn
-- ==== Proof.Attn.Ref.lean ====
module

public import proofs.«01_k».proof.Proof.Gen.ReferenceIdeal.Read
public import proofs.«01_k».proof.Proof.Attn.Spec
public import Idealize.ShloMosaic.Lib.Pointwise

@[expose] public section

/-! The reference's values over real queries, keys, values and cotangents: softmax attention and its gradients. -/

set_option maxRecDepth 16384

noncomputable section

open Idealize.ShloMosaic Idealize.ShloMosaic.TcCoe

namespace Cert.ReferenceIdeal.Attn

open Cert.ReferenceIdeal Cert.ReferenceIdeal.Read Cert.Attn

/-- A sum of real numbers after a zero. -/
theorem zero_sum {ι : Type*} [Fintype ι] (f : ι → EReal) (g : ι → ℝ) (h : ∀ i, f i = ((g i : ℝ) : EReal)) :
    ∑ i, f i = ((∑ i, g i : ℝ) : EReal) := by
  rw [← sum_coe]
  exact Finset.sum_congr rfl fun i _ => h i

theorem ofBits_zero : Ideal.ofBits FTy.f32 0x00000000#32 = (0 : EReal) := by simp [Ideal.ofBits, Ideal.ieee]
theorem ofBits_one : Ideal.ofBits FTy.f32 0x3F800000#32 = ((1 : ℝ) : EReal) := by
  simp [Ideal.ofBits, Ideal.ieee]; rw [← EReal.coe_mul]; norm_num
theorem ofBits_192 : Ideal.ofBits FTy.f32 0x43400000#32 = ((192 : ℝ) : EReal) := by
  simp [Ideal.ofBits, Ideal.ieee]; rw [← EReal.coe_mul]; norm_num
theorem ofBits_bot : Ideal.ofBits FTy.f32 0xFF800000#32 = (⊥ : EReal) := by simp [Ideal.ofBits, Ideal.ieee]

theorem scale_val (i : S_.Idx) : val_main_v2 (F := Ideal) i = ((sc : ℝ) : EReal) := by
  show Ideal.div (Ideal.ofBits FTy.f32 0x3F800000#32) (Ideal.sqrt (Ideal.ofBits FTy.f32 0x43400000#32)) = _
  rw [ofBits_one, ofBits_192, Ideal.sqrt_coe, if_neg (by norm_num), div_coe_coe _ _ sqrt_pos.ne']
  unfold sc
  rw [one_div]

variable {x0 : (⟨S1x4x4096x192, .f32⟩ : BufTy).Contents (Elt Ideal)} {x1 : (⟨S1x4x4352x192, .f32⟩ : BufTy).Contents (Elt Ideal)}
variable {x2 : (⟨S1x4x4352x128, .f32⟩ : BufTy).Contents (Elt Ideal)} {x3 : (⟨S1x4096x512, .f32⟩ : BufTy).Contents (Elt Ideal)}
variable {Q : Arr 4096 192} {K : Arr 4352 192} {W : Arr 4352 128} {G : Arr 4096 128}

/-- The index of head `h`, block `n`, row `p` of the block and column `x` in the array by head and block. -/
def at5 (h : Fin 4) (n : Fin 32) (p x : Fin 128) : S1x4x32x128x128.Idx := fun a => match a with
  | ⟨0, _⟩ => (0 : Fin 1)
  | ⟨1, _⟩ => h
  | ⟨2, _⟩ => n
  | ⟨3, _⟩ => p
  | ⟨4, _⟩ => x

/-- The queries and keys are these real numbers. -/
structure Keys (x0 : (⟨S1x4x4096x192, .f32⟩ : BufTy).Contents (Elt Ideal)) (x1 : (⟨S1x4x4352x192, .f32⟩ : BufTy).Contents (Elt Ideal))
    (Q : Arr 4096 192) (K : Arr 4352 192) : Prop where
  h0 : ∀ i, x0 i = ((Q (i 1) (i 2) (i 3) : ℝ) : EReal)
  h1 : ∀ i, x1 i = ((K (i 1) (i 2) (i 3) : ℝ) : EReal)

section Forward
variable (H : Keys x0 x1 Q K)
include H

theorem v4_val (i : S1x4x4096x4352.Idx) : val_main_v4 (F := Ideal) x0 x1 i = ((score Q K (i 1) (i 2) (i 3) : ℝ) : EReal) := by
  rw [val_main_v4_apply, val_main_v0_apply, val_main_v3_apply, scale_val]
  rw [zero_sum _ (fun d => Q (i 1) (i 2) d * K (i 1) (i 3) d) fun d => by rw [H.h0, H.h1, ← EReal.coe_mul]; rfl]
  exact (EReal.coe_mul _ _).symm

theorem v5_val (i : S1x4x4096.Idx) : ∃ M : ℝ, val_main_v5 (F := Ideal) x0 x1 i = (M : EReal) := by
  obtain ⟨h, s, rfl⟩ : ∃ (h : Fin 4) (s : Fin 4096), i = ix3 0 h s := ⟨i 1, i 2, by
    funext a; fin_cases a
    · exact Subsingleton.elim (α := Fin 1) _ _
    · rfl
    · rfl⟩
  obtain ⟨M, hM⟩ := fold_max_coe (Finset.univ : Finset (Fin 4352)) ⟨0, Finset.mem_univ _⟩ (fun j => score Q K h s j)
  refine ⟨M, Eq.trans ?_ hM⟩
  rw [← ofBits_bot]
  have e : ∀ j : Fin 4352, val_main_v4 (F := Ideal) x0 x1 (ix4 0 h s j) = ((score Q K h s j : ℝ) : EReal) := fun j => v4_val H _
  simp only [← e]
  unfold val_main_v5
  generalize val_main_v4 (F := Ideal) x0 x1 = y
  pointwise [val_main_cst_1]

theorem v12_val (i : S1x4x4096.Idx) : ∃ M : ℝ, val_main_v12 (F := Ideal) x0 x1 i = (M : EReal) := by
  obtain ⟨M, hM⟩ := v5_val H i
  refine ⟨M, ?_⟩
  rw [val_main_v12_apply, hM, val_main_v11_apply]
  show max (Ideal.ofBits FTy.f32 0xFF800000#32) (M : EReal) = _
  rw [ofBits_bot]
  exact max_eq_right bot_le

theorem v25_val (h : Fin 4) (s : Fin 4096) : ∃ M : ℝ, ∀ i : S1x4x4096x4352.Idx, i 1 = h → i 2 = s →
    val_main_v25 (F := Ideal) x0 x1 i = ((weight Q K (i 1) (i 2) (i 3) * Real.exp (-M) : ℝ) : EReal) := by
  obtain ⟨M, hM⟩ := v12_val H (ix3 0 h s)
  refine ⟨M, fun i e1 e2 => ?_⟩
  have e : idx_main_v22 (idx_main_v23 i) = ix3 0 h s := by
    funext a; fin_cases a
    · exact Subsingleton.elim (α := Fin 1) _ _
    · exact e1
    · exact e2
  rw [val_main_v25_apply, val_main_v24_apply, v4_val H, val_main_v23_apply, val_main_v22_apply, e, hM]
  show Ideal.exp (((score Q K (i 1) (i 2) (i 3) : ℝ) : EReal) - (M : EReal)) = _
  rw [← EReal.coe_sub, Ideal.exp_coe]
  unfold weight
  rw [← Real.exp_add, sub_eq_add_neg]

/-- A row's weights and their sum, up to one positive factor per row. -/
theorem row_val (h : Fin 4) (s : Fin 4096) : ∃ e : ℝ, 0 < e
    ∧ (∀ i : S1x4x4096x4352.Idx, i 1 = h → i 2 = s → val_main_v25 (F := Ideal) x0 x1 i = ((weight Q K h s (i 3) * e : ℝ) : EReal))
    ∧ (∀ i : S1x4x4096.Idx, i 1 = h → i 2 = s → val_main_v26 (F := Ideal) x0 x1 i = ((rowSum Q K h s * e : ℝ) : EReal)) := by
  obtain ⟨M, hM⟩ := v25_val H h s
  refine ⟨Real.exp (-M), Real.exp_pos _, fun i e1 e2 => by subst e1 e2; exact hM i rfl rfl, fun i e1 e2 => ?_⟩
  subst e1 e2
  rw [val_main_v26_apply, zero_sum _ (fun j => weight Q K (i 1) (i 2) j * Real.exp (-M)) fun j => hM _ rfl rfl]
  show Ideal.ofBits FTy.f32 0x00000000#32 + _ = _
  rw [ofBits_zero, zero_add, ← Finset.sum_mul]
  rfl

theorem v29_val (i : S1x4x4096x4352.Idx) : val_main_v29 (F := Ideal) x0 x1 i = ((prob Q K (i 1) (i 2) (i 3) : ℝ) : EReal) := by
  obtain ⟨e, he, h1, h2⟩ := row_val H (i 1) (i 2)
  have hl := rowSum_pos Q K (i 1) (i 2)
  rw [val_main_v29_apply, h1 i rfl rfl, val_main_v28_apply, val_main_v27_apply, h2 _ rfl rfl]
  refine (div_coe_coe _ _ (mul_pos hl he).ne').trans ?_
  refine congrArg (fun z : ℝ => (z : EReal)) ?_
  exact mul_div_mul_right _ _ he.ne'

theorem v33_val (h2 : ∀ i, x2 i = ((W (i 1) (i 2) (i 3) : ℝ) : EReal)) (i : S1x4x4096x128.Idx) :
    val_main_v33 (F := Ideal) x0 x1 x2 i = ((out Q K W (i 1) (i 2) (i 3) : ℝ) : EReal) := by
  rw [val_main_v33_apply]
  exact zero_sum _ (fun j => prob Q K (i 1) (i 2) j * W (i 1) j (i 3)) fun j => by rw [v29_val H, h2, ← EReal.coe_mul]; rfl

/-- The reference's first result. -/
theorem v36_val (h2 : ∀ i, x2 i = ((W (i 1) (i 2) (i 3) : ℝ) : EReal)) (s : Fin 4096) (h : Fin 4) (x : Fin 128) :
    val_main_v36 (F := Ideal) x0 x1 x2 (ix3 0 s ⟨h.val * 128 + x.val, by omega⟩)
      = ((out Q K W h ⟨s.val % 32 * 128 + s.val / 32, by omega⟩ x : ℝ) : EReal) := by
  have e1 : idx_main_v35 (idx_main_v36 (ix3 0 s ⟨h.val * 128 + x.val, by omega⟩)) = at5 h ⟨s.val % 32, by omega⟩ ⟨s.val / 32, by omega⟩ x := by
    funext a
    fin_cases a <;> apply Fin.ext
    · rfl
    all_goals simp [ix3, at5, idx_main_v36, idx_main_v35]
    all_goals omega
  have e2 : ∀ (n : Fin 32) (p : Fin 128), idx_main_v34 (at5 h n p x) = ix4 0 h ⟨n.val * 128 + p.val, by omega⟩ x := fun n p => by
    funext a
    fin_cases a <;> apply Fin.ext
    · rfl
    all_goals simp [ix4, at5, idx_main_v34]
    all_goals omega
  rw [val_main_v36_apply, val_main_v35_apply, e1, val_main_v34_apply, e2]
  exact v33_val H h2 _

end Forward

/-- The whole of the arguments: the values and the cotangent too, this by head and query row. -/
structure Args (x0 : (⟨S1x4x4096x192, .f32⟩ : BufTy).Contents (Elt Ideal)) (x1 : (⟨S1x4x4352x192, .f32⟩ : BufTy).Contents (Elt Ideal))
    (x2 : (⟨S1x4x4352x128, .f32⟩ : BufTy).Contents (Elt Ideal)) (x3 : (⟨S1x4096x512, .f32⟩ : BufTy).Contents (Elt Ideal))
    (Q : Arr 4096 192) (K : Arr 4352 192) (W : Arr 4352 128) (G : Arr 4096 128) : Prop extends Keys x0 x1 Q K where
  h2 : ∀ i, x2 i = ((W (i 1) (i 2) (i 3) : ℝ) : EReal)
  h3 : ∀ (h : Fin 4) (s : Fin 4096) (x : Fin 128), x3 (ix3 0 ⟨s.val % 128 * 32 + s.val / 128, by omega⟩ ⟨h.val * 128 + x.val, by omega⟩) = ((G h s x : ℝ) : EReal)

variable (H : Args x0 x1 x2 x3 Q K W G)
include H

theorem v39_val (i : S1x4x4096x128.Idx) : val_main_v39 (F := Ideal) x3 i = ((G (i 1) (i 2) (i 3) : ℝ) : EReal) := by
  obtain ⟨h, s, x, rfl⟩ : ∃ (h : Fin 4) (s : Fin 4096) (x : Fin 128), i = ix4 0 h s x := ⟨i 1, i 2, i 3, by
    funext a; fin_cases a
    · exact Subsingleton.elim (α := Fin 1) _ _
    · rfl
    · rfl
    · rfl⟩
  have e1 : idx_main_v39 (ix4 0 h s x) = at5 h ⟨s.val / 128, by omega⟩ ⟨s.val % 128, by omega⟩ x := by
    funext a
    fin_cases a <;> apply Fin.ext
    · rfl
    all_goals simp [ix4, at5, idx_main_v39]
    all_goals omega
  have e2 : idx_main_v37 (idx_main_v38 (at5 h ⟨s.val / 128, by omega⟩ ⟨s.val % 128, by omega⟩ x))
      = ix3 0 ⟨s.val % 128 * 32 + s.val / 128, by omega⟩ ⟨h.val * 128 + x.val, by omega⟩ := by
    funext a
    fin_cases a <;> apply Fin.ext
    · rfl
    all_goals simp [ix3, at5, idx_main_v37, idx_main_v38]
    all_goals omega
  rw [val_main_v39_apply, e1, val_main_v38_apply, val_main_v37_apply, e2]
  exact H.h3 h s x

theorem v41_val (i : S1x4x4352x128.Idx) : val_main_v41 (F := Ideal) x0 x1 x3 i = ((gradV Q K G (i 1) (i 2) (i 3) : ℝ) : EReal) := by
  rw [val_main_v41_apply, val_main_v40_apply]
  refine zero_sum _ (fun s => prob Q K (i 1) s (i 2) * G (i 1) s (i 3)) fun s => ?_
  rw [v39_val H, v29_val H.toKeys, ← EReal.coe_mul, mul_comm]
  rfl

theorem v42_val (i : S1x4x4096x4352.Idx) : val_main_v42 (F := Ideal) x2 x3 i = ((dprob W G (i 1) (i 2) (i 3) : ℝ) : EReal) := by
  rw [val_main_v42_apply]
  exact zero_sum _ (fun x => G (i 1) (i 2) x * W (i 1) (i 3) x) fun x => by
    rw [v39_val H, H.h2, ← EReal.coe_mul]
    rfl

/-- The reference's sum over a row of cotangents times weights over the square of the row's sum. -/
theorem v51_val (h : Fin 4) (s : Fin 4096) (e : ℝ) (he : 0 < e)
    (h1 : ∀ i : S1x4x4096x4352.Idx, i 1 = h → i 2 = s → val_main_v25 (F := Ideal) x0 x1 i = ((weight Q K h s (i 3) * e : ℝ) : EReal))
    (h2 : ∀ i : S1x4x4096.Idx, i 1 = h → i 2 = s → val_main_v26 (F := Ideal) x0 x1 i = ((rowSum Q K h s * e : ℝ) : EReal)) :
    val_main_v51 (F := Ideal) x0 x1 x2 x3 (ix2 h s) = ((-((∑ x, G h s x * out Q K W h s x) / (rowSum Q K h s * e)) : ℝ) : EReal) := by
  have hl := rowSum_pos Q K h s
  have e45 : ∀ j : Fin 4352, val_main_v45 (F := Ideal) x0 x1 x2 x3 (ix4 0 h s j)
      = ((prob Q K h s j * dprob W G h s j / (rowSum Q K h s * e) : ℝ) : EReal) := fun j => by
    rw [val_main_v45_apply, val_main_v44_apply, v42_val H, val_main_v43_apply, val_main_v32_apply, val_main_v30_apply, val_main_v27_apply,
      h1 _ rfl rfl, h2 _ rfl rfl, val_main_v31_apply]
    show ((_ : ℝ) : EReal) * Ideal.div (Ideal.ofBits FTy.f32 0x3F800000#32) (((_ : ℝ) : EReal) * ((_ : ℝ) : EReal)) * ((_ : ℝ) : EReal) = _
    rw [ofBits_one, ← EReal.coe_mul, div_coe_coe _ _ (by positivity), ← EReal.coe_mul, ← EReal.coe_mul]
    refine congrArg (fun z : ℝ => (z : EReal)) ?_
    show dprob W G h s j * (1 / (rowSum Q K h s * e * (rowSum Q K h s * e))) * (weight Q K h s j * e) = _
    unfold prob
    field_simp
  have e48 : val_main_v48 (F := Ideal) x0 x1 x2 x3 (ix4 0 h s 0) = ((-((∑ x, G h s x * out Q K W h s x) / (rowSum Q K h s * e)) : ℝ) : EReal) := by
    rw [val_main_v48_apply, val_main_v47_apply]
    have e47 : idx_main_v47 (ix4 0 h s 0) = ix3 0 h s := by
      funext a; fin_cases a <;> apply Fin.ext
      · rfl
      all_goals simp [ix3, ix4, idx_main_v47]
      all_goals omega
    rw [e47, val_main_v46_apply, zero_sum _ (fun j => prob Q K h s j * dprob W G h s j / (rowSum Q K h s * e)) fun j => ?_]
    · show -(Ideal.ofBits FTy.f32 0x00000000#32 + _) = _
      rw [ofBits_zero, zero_add, ← EReal.coe_neg, ← Finset.sum_div, sum_dprob]
    · exact (congrArg _ (by funext a; fin_cases a <;> rfl)).trans (e45 j)
  rw [← e48]
  unfold val_main_v51
  generalize val_main_v48 (F := Ideal) x0 x1 x2 x3 = y
  pointwise [val_main_cst_12]
  unfold Ideal.hostReduceAdd
  rw [zero_add]
  refine (Finset.sum_congr ?_ fun _ _ => rfl).trans (Finset.sum_singleton y (ix4 0 h s 0))
  ext i
  rw [Finset.mem_filter, Finset.mem_singleton]
  refine ⟨fun hi => ?_, fun hi => ⟨Finset.mem_univ _, ?_⟩⟩
  · funext a; fin_cases a
    · exact Subsingleton.elim (α := Fin 1) _ _
    · exact congrFun hi.2 0
    · exact congrFun hi.2 1
    · exact Subsingleton.elim (α := Fin 1) _ _
  · subst hi; funext b; fin_cases b <;> rfl

theorem v55_val (i : S1x4x4096x4352.Idx) : val_main_v55 (F := Ideal) x0 x1 x2 x3 i = ((dscore Q K W G (i 1) (i 2) (i 3) : ℝ) : EReal) := by
  obtain ⟨e, he, h1, h2⟩ := row_val H.toKeys (i 1) (i 2)
  have hl := rowSum_pos Q K (i 1) (i 2)
  have e52 : idx_main_v52 (idx_main_v53 i) = ix2 (i 1) (i 2) := by funext a; fin_cases a <;> rfl
  have e53 : val_main_v53 (F := Ideal) x0 x1 x2 x3 i
      = ((-((∑ x, G (i 1) (i 2) x * out Q K W (i 1) (i 2) x) / (rowSum Q K (i 1) (i 2) * e)) : ℝ) : EReal) := by
    rw [val_main_v53_apply, val_main_v52_apply, e52]
    exact v51_val H _ _ e he h1 h2
  rw [val_main_v55_apply, val_main_v54_apply, val_main_v50_apply, v42_val H, val_main_v49_apply, val_main_v27_apply, h1 i rfl rfl, h2 _ rfl rfl,
    e53]
  show (Ideal.div _ _ + _) * _ = _
  rw [div_coe_coe _ _ (mul_pos hl he).ne', ← EReal.coe_add, ← EReal.coe_mul]
  refine congrArg (fun z : ℝ => (z : EReal)) ?_
  unfold dscore prob
  field_simp
  ring

theorem v57_val (i : S1x4x4096x4352.Idx) : val_main_v57 (F := Ideal) x0 x1 x2 x3 i = ((dscore Q K W G (i 1) (i 2) (i 3) * sc : ℝ) : EReal) := by
  rw [val_main_v57_apply, v55_val H, val_main_v56_apply, scale_val]
  exact (EReal.coe_mul _ _).symm

theorem v58_val (i : S1x4x4352x192.Idx) : val_main_v58 (F := Ideal) x0 x1 x2 x3 i = ((gradK Q K W G (i 1) (i 2) (i 3) : ℝ) : EReal) := by
  unfold gradK
  rw [val_main_v58_apply, Finset.sum_mul]
  refine zero_sum _ (fun s => dscore Q K W G (i 1) s (i 2) * Q (i 1) s (i 3) * sc) fun s => ?_
  rw [v57_val H, H.h0, ← EReal.coe_mul]
  refine congrArg (fun z : ℝ => (z : EReal)) ?_
  exact mul_right_comm _ _ _

theorem v59_val (i : S1x4x4096x192.Idx) : val_main_v59 (F := Ideal) x0 x1 x2 x3 i = ((gradQ Q K W G (i 1) (i 2) (i 3) : ℝ) : EReal) := by
  unfold gradQ
  rw [val_main_v59_apply, Finset.sum_mul]
  refine zero_sum _ (fun j => dscore Q K W G (i 1) (i 2) j * K (i 1) j (i 3) * sc) fun j => ?_
  rw [v57_val H, H.h1, ← EReal.coe_mul]
  refine congrArg (fun z : ℝ => (z : EReal)) ?_
  exact mul_right_comm _ _ _

end Cert.ReferenceIdeal.Attn
-- ==== Proof.Attn.Eq.lean ====
module

public import proofs.«01_k».proof.Defs
public import proofs.«01_k».proof.Proof.Gen.Pre_finite
public import proofs.«01_k».proof.Proof.Gen.ReferenceIdeal
public import proofs.«01_k».proof.Proof.Finite
public import proofs.«01_k».proof.Proof.Attn.Host
public import proofs.«01_k».proof.Proof.Attn.Ref

@[expose] public section

/-! Finite arguments are real numbers, and over them the kernel's four results are the reference's. -/

set_option maxRecDepth 16384

noncomputable section

open Idealize.ShloMosaic Idealize.ShloMosaic.TcCoe

namespace Cert.KernelIdeal.Attn

open Cert.KernelIdeal Cert.KernelIdeal.Gen Cert.Attn

variable (m : (ℓ : Loc nD τ sig) → Buf (Elt Ideal) ℓ) (ρ : Dev nD → PrngReg) (c : Dev nD)

abbrev x0 : (⟨S1x4x4096x192, .f32⟩ : BufTy).Contents (Elt Ideal) := m ((c.tc : Thread nD τ).loc main_arg0)
abbrev x1 : (⟨S1x4x4352x192, .f32⟩ : BufTy).Contents (Elt Ideal) := m ((c.tc : Thread nD τ).loc main_arg1)
abbrev x2 : (⟨S1x4x4352x128, .f32⟩ : BufTy).Contents (Elt Ideal) := m ((c.tc : Thread nD τ).loc main_arg2)
abbrev x3 : (⟨S1x4096x512, .f32⟩ : BufTy).Contents (Elt Ideal) := m ((c.tc : Thread nD τ).loc main_arg3)

/-- The arguments' real numbers. -/
def rQ : Arr 4096 192 := fun h s d => EReal.toReal (x0 m c (ix4 0 h s d))
def rK : Arr 4352 192 := fun h j d => EReal.toReal (x1 m c (ix4 0 h j d))
def rW : Arr 4352 128 := fun h j x => EReal.toReal (x2 m c (ix4 0 h j x))
def rG : Arr 4096 128 := fun h s x => EReal.toReal (x3 m c (ix3 0 ⟨s.val % 128 * 32 + s.val / 128, by omega⟩ (hcol h x)))

theorem finite_args (h : Pre_KernelIdeal_finite (hPre_finite := Cert.Pre_finite.Gen.facts) m) :
    (∀ i, x0 m c i = ((EReal.toReal (x0 m c i) : ℝ) : EReal)) ∧ (∀ i, x1 m c i = ((EReal.toReal (x1 m c i) : ℝ) : EReal))
    ∧ (∀ i, x2 m c i = ((EReal.toReal (x2 m c i) : ℝ) : EReal)) ∧ (∀ i, x3 m c i = ((EReal.toReal (x3 m c i) : ℝ) : EReal)) := by
  obtain ⟨h0, h1, h2, h3⟩ := h c
  exact ⟨fun i => real_of_lt _ (congrFun h0 i), fun i => real_of_lt _ (congrFun h1 i), fun i => real_of_lt _ (congrFun h2 i), fun i => real_of_lt _ (congrFun h3 i)⟩

theorem holds (h : Pre_KernelIdeal_finite (hPre_finite := Cert.Pre_finite.Gen.facts) m) : Holds m c (rQ m c) (rK m c) (rW m c) (rG m c) where
  hQ _ _ _ := (finite_args m c h).1 _
  hK _ _ _ := (finite_args m c h).2.1 _
  hW _ _ _ := (finite_args m c h).2.2.1 _
  hG _ _ _ := (finite_args m c h).2.2.2 _

theorem four {n k : ℕ} (i : (⟨4, ![1, 4, n, k]⟩ : Shape).Idx) : i = ix4 0 (i 1) (i 2) (i 3) := by
  funext a; fin_cases a
  · exact Subsingleton.elim (α := Fin 1) _ _
  · rfl
  · rfl
  · rfl

theorem args (h : Pre_KernelIdeal_finite (hPre_finite := Cert.Pre_finite.Gen.facts) m) :
    Cert.ReferenceIdeal.Attn.Args (x0 m c) (x1 m c) (x2 m c) (x3 m c) (rQ m c) (rK m c) (rW m c) (rG m c) where
  h0 i := (congrArg (x0 m c) (four i)).trans ((holds m c h).hQ _ _ _)
  h1 i := (congrArg (x1 m c) (four i)).trans ((holds m c h).hK _ _ _)
  h2 i := (congrArg (x2 m c) (four i)).trans ((holds m c h).hW _ _ _)
  h3 _ _ _ := (holds m c h).hG _ _ _

open Cert.ReferenceIdeal.Read Cert.ReferenceIdeal.Attn

/-- Over finite arguments the kernel's results are the reference's. -/
theorem results (h : Pre_KernelIdeal_finite (hPre_finite := Cert.Pre_finite.Gen.facts) m) :
    W8 m ρ c (Proc.devRef .tc main_v21) = val_main_v36 (F := Ideal) (x0 m c) (x1 m c) (x2 m c)
    ∧ W8 m ρ c (Proc.devRef .tc main_v23) = val_main_v59 (F := Ideal) (x0 m c) (x1 m c) (x2 m c) (x3 m c)
    ∧ W8 m ρ c (Proc.devRef .tc main_v27) = val_main_v58 (F := Ideal) (x0 m c) (x1 m c) (x2 m c) (x3 m c)
    ∧ W8 m ρ c (Proc.devRef .tc main_v28) = val_main_v41 (F := Ideal) (x0 m c) (x1 m c) (x3 m c) := by
  have H := holds m c h
  have A := args m c h
  refine ⟨funext fun i => ?_, funext fun i => ?_, funext fun i => ?_, funext fun i => ?_⟩
  · obtain ⟨s, y, x, rfl⟩ : ∃ (s : Fin 4096) (y : Fin 4) (x : Fin 128), i = ix3 0 s (hcol y x) :=
      ⟨i 1, ⟨(i 2).val / 128, Nat.div_lt_of_lt_mul (i 2).isLt⟩, ⟨(i 2).val % 128, Nat.mod_lt _ (by norm_num)⟩, by
        funext a; fin_cases a
        · exact Subsingleton.elim (α := Fin 1) _ _
        · rfl
        · exact Fin.ext (show (i 2).val = (i 2).val / 128 * 128 + (i 2).val % 128 by omega)⟩
    exact (o_real ρ H s y x).trans (v36_val A.toKeys A.h2 s y x).symm
  · obtain ⟨y, s, d, rfl⟩ : ∃ (y : Fin 4) (s : Fin 4096) (d : Fin 192), i = ix4 0 y s d := ⟨_, _, _, four i⟩
    exact (dq_real ρ H y s d).trans (v59_val A (ix4 0 y s d)).symm
  · obtain ⟨y, s, d, rfl⟩ : ∃ (y : Fin 4) (s : Fin 4352) (d : Fin 192), i = ix4 0 y s d := ⟨_, _, _, four i⟩
    exact (dk_real ρ H y s d).trans (v58_val A (ix4 0 y s d)).symm
  · obtain ⟨y, s, d, rfl⟩ : ∃ (y : Fin 4) (s : Fin 4352) (d : Fin 128), i = ix4 0 y s d := ⟨_, _, _, four i⟩
    exact (dv_real ρ H y s d).trans (v41_val A (ix4 0 y s d)).symm

end Cert.KernelIdeal.Attn
-- ==== Proof.Out.Run.lean ====
module

public import proofs.«01_k».proof.Proof.Gen.OutKernelIdeal.Frame
public import Idealize.ShloMosaic.PureOps.Ideal

@[expose] public section

/-! The output stage's run, its ten results read off the memory it ends in. -/

set_option maxRecDepth 16384

noncomputable section

namespace Cert.OutKernelIdeal.Out

open Idealize.ShloMosaic Idealize.ShloMosaic.TcCoe
open Idealize.SL Idealize.SL.Sem
open Cert.OutKernelIdeal Cert.OutKernelIdeal.Gen

variable (m : (ℓ : Loc nD τ sig) → Buf (Elt Ideal) ℓ) (ρ : Dev nD → PrngReg)

/-- What the host code after the call leaves in a buffer. -/
abbrev tail (c : Dev nD) (b : Ref sig .tc) : Buf (Elt Ideal) ((c.tc : Thread nD τ).loc b) :=
  Pipeline.afterTail₀ cfgs (dats m) 0 (V0 m) [hostOps1] c b

/-- Every fair execution ends with two results in the call's own arrays and eight as the host code leaves them, the arguments as launched. -/
theorem run_out : θ_run defs (onTc (τ := τ) (main (F := Ideal))) ⟨m, fun _ => 0, ρ⟩ (fun r => ∀ c : Dev nD,
      r.2.mem ((c.tc : Thread nD τ).loc main_v24) = tail m c main_v24
      ∧ r.2.mem ((c.tc : Thread nD τ).loc main_v23) = tail m c main_v23
      ∧ r.2.mem ((c.tc : Thread nD τ).loc main_v25) = tail m c main_v25
      ∧ r.2.mem ((c.tc : Thread nD τ).loc main_v26) = tail m c main_v26
      ∧ r.2.mem ((c.tc : Thread nD τ).loc main_v27) = tail m c main_v27
      ∧ r.2.mem ((c.tc : Thread nD τ).loc main_v28) = tail m c main_v28
      ∧ r.2.mem ((c.tc : Thread nD τ).loc main_v21_6) = (dats m 0 c).arrAt 18 cfg0.N
      ∧ r.2.mem ((c.tc : Thread nD τ).loc main_v21_7) = (dats m 0 c).arrAt 19 cfg0.N
      ∧ r.2.mem ((c.tc : Thread nD τ).loc main_v29) = tail m c main_v29
      ∧ r.2.mem ((c.tc : Thread nD τ).loc main_v30) = tail m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨h, ha⟩ := h
    exact ⟨(h c).2 main_v24 (by decide), (h c).2 main_v23 (by decide), (h c).2 main_v25 (by decide), (h c).2 main_v26 (by decide), (h c).2 main_v27 (by decide), (h c).2 main_v28 (by decide), (h c).1 18, (h c).1 19, (h c).2 main_v29 (by decide), (h c).2 main_v30 (by decide), ha c⟩) (θ_run_and (run_main m ρ) (unchanged m ρ))

end Cert.OutKernelIdeal.Out
-- ==== Proof.Out.Spec.lean ====
module

public import Mathlib.Analysis.SpecialFunctions.Pow.Real

@[expose] public section

/-! The output stage over the real numbers, forward and backward: the windowed means, then one row
at a time, then the sums over the rows. -/

noncomputable section

namespace Cert.Out

/-- Channel `k` of pooling group `g`. -/
def col (g : Fin 4) (k : Fin 128) : Fin 512 := ⟨g.val * 128 + k.val, by omega⟩

/-- The pooling group of a channel. -/
def grp (c : Fin 512) : Fin 4 := ⟨c.val / 128, by omega⟩

/-- A channel within its group. -/
def low (c : Fin 512) : Fin 128 := ⟨c.val % 128, by omega⟩

@[simp] theorem grp_col (g : Fin 4) (k : Fin 128) : grp (col g k) = g := Fin.ext (by simp only [grp, col]; omega)

@[simp] theorem low_col (g : Fin 4) (k : Fin 128) : low (col g k) = k := Fin.ext (by simp only [low, col]; omega)

theorem col_eq (c : Fin 512) : col (grp c) (low c) = c := Fin.ext (by simp only [grp, low, col]; omega)

/-- The attention branch's half of the concatenated branches. -/
def left (c : Fin 512) : Fin 1024 := ⟨c.val, by omega⟩

/-- The pooling branch's half. -/
def right (c : Fin 512) : Fin 1024 := ⟨512 + c.val, by omega⟩

theorem halves (m : Fin 1024) : (∃ c, m = left c) ∨ ∃ c, m = right c := by
  rcases lt_or_ge m.val 512 with h | h
  · exact .inl ⟨⟨m.val, h⟩, rfl⟩
  · exact .inr ⟨⟨m.val - 512, by omega⟩, Fin.ext (by simp only [right]; omega)⟩

/-- Half of a pooling group's window: 1, 2, 4, 8. -/
def half (g : Fin 4) : ℕ := 2 ^ g.val

/-- The mean of a column over the window of `2 h` positions about `t`, less the entry at `t`. -/
def mean (h : ℕ) (u : Fin 4096 → ℝ) (t : Fin 4096) : ℝ :=
  (∑ s : Fin 4096, if t.val - h ≤ s.val ∧ s.val < t.val + h then u s else 0)
    / ((min (t.val + h) 4096 - (t.val - h) : ℕ) : ℝ) - u t

/-- The pooled channels of position `t`. -/
def pooled (u : Fin 4096 → Fin 512 → ℝ) (t : Fin 4096) (c : Fin 512) : ℝ := mean (half (grp c)) (fun s => u s c) t

def sg (x : ℝ) : ℝ := 1 / (1 + Real.exp (-x))

def silu (x : ℝ) : ℝ := x * sg x

/-- The derivative of `silu`. -/
def silu' (x : ℝ) : ℝ := sg x * (1 + x * (1 - sg x))

/-- What the stage reads of one position. -/
structure Row where
  p : Fin 512 → ℝ
  a : Fin 512 → ℝ
  ga : Fin 512 → ℝ
  gp : Fin 512 → ℝ
  x : Fin 1024 → ℝ
  t : Fin 1024 → ℝ

/-- What it reads once: the gate, the pooling weights and scale, the output weights. -/
structure Par where
  g : Fin 1024 → ℝ
  wp : Fin 4 → Fin 128 → Fin 128 → ℝ
  ps : Fin 512 → ℝ
  w : Fin 1024 → Fin 1024 → ℝ

/-- The projection's columns from `b * 512 - 64` on: the attention's gate, the pooling's input and its gate are parts 1, 2, 3. -/
def part (b : ℕ) (hb : 1 ≤ b ∧ b < 4) (u : Fin 4096 → Fin 1984 → ℝ) (n : Fin 4096) (d : Fin 512) : ℝ := u n ⟨b * 512 - 64 + d.val, by omega⟩

/-- The stage's parameters and positions from its arguments. -/
def parOf (g : Fin 3072 → ℝ) (p : Fin 4 → Fin 128 → Fin 128 → ℝ) (s : Fin 512 → ℝ) (w : Fin 1024 → Fin 1024 → ℝ) : Par :=
  ⟨fun d => g ⟨2048 + d.val, by omega⟩, p, s, w⟩

def rowOf (a : Fin 4096 → Fin 512 → ℝ) (u : Fin 4096 → Fin 1984 → ℝ) (x t : Fin 4096 → Fin 1024 → ℝ) (n : Fin 4096) : Row :=
  ⟨pooled (part 2 (by omega) u) n, a n, part 1 (by omega) u n, part 3 (by omega) u n, x n, t n⟩

namespace Row

variable (w : Par) (r : Row)

def z (c : Fin 512) : ℝ := ∑ k, r.p (col (grp c) k) * w.wp (grp c) k (low c)

def yp (c : Fin 512) : ℝ := r.z w c * w.ps c

def br (m : Fin 1024) : ℝ :=
  if h : m.val < 512 then silu (r.ga ⟨m.val, h⟩) * r.a ⟨m.val, h⟩
  else silu (r.gp ⟨m.val - 512, by omega⟩) * r.yp w ⟨m.val - 512, by omega⟩

theorem br_left (c : Fin 512) : r.br w (left c) = silu (r.ga c) * r.a c := by
  unfold br left; rw [dif_pos c.isLt]

theorem br_right (c : Fin 512) : r.br w (right c) = silu (r.gp c) * r.yp w c := by
  unfold br
  rw [dif_neg (by simp only [right]; omega)]
  have e : (⟨(right c).val - 512, by have := c.isLt; simp only [right]; omega⟩ : Fin 512) = c := Fin.ext (by simp only [right]; omega)
  rw [e]

def y (d : Fin 1024) : ℝ := ∑ m, r.br w m * w.w m d

def e (d : Fin 1024) : ℝ := r.x d + w.g d * r.y w d - r.t d

def dx (d : Fin 1024) : ℝ := r.e w d * (1 / 1024)

def dy (d : Fin 1024) : ℝ := r.dx w d * w.g d

def db (m : Fin 1024) : ℝ := ∑ d, r.dy w d * w.w m d

def da (c : Fin 512) : ℝ := r.db w (left c) * silu (r.ga c)

def dga (c : Fin 512) : ℝ := r.db w (left c) * r.a c * silu' (r.ga c)

def dgp (c : Fin 512) : ℝ := r.db w (right c) * r.yp w c * silu' (r.gp c)

def dyp (c : Fin 512) : ℝ := r.db w (right c) * silu (r.gp c)

def dz (c : Fin 512) : ℝ := r.dyp w c * w.ps c

def dp (c : Fin 512) : ℝ := ∑ j, r.dz w (col (grp c) j) * w.wp (grp c) (low c) j

end Row

section Sums

variable {ι : Type} [Fintype ι] (w : Par) (R : ι → Row)

def loss : ℝ := (∑ r, ∑ d, (R r).e w d * (R r).e w d) * (1 / 2048)

def dgate (d : Fin 1024) : ℝ := ∑ r, (R r).dx w d * (R r).y w d

def dw (m d : Fin 1024) : ℝ := ∑ r, (R r).br w m * (R r).dy w d

def dps (c : Fin 512) : ℝ := ∑ r, (R r).dyp w c * (R r).z w c

def dwp (g : Fin 4) (k j : Fin 128) : ℝ := ∑ r, (R r).p (col g k) * (R r).dz w (col g j)

end Sums

/-- Position `t` of the column extended by eight zeros on either side is entry `t + 8`. -/
def ext (u : Fin 4096 → ℝ) (n : ℕ) : ℝ := if h : 8 ≤ n ∧ n < 4104 then u ⟨n - 8, by omega⟩ else 0

/-- `2 h` consecutive entries of the extended column, summed. -/
theorem window_sum (h : ℕ) (hh : h ≤ 8) (u : Fin 4096 → ℝ) (t : Fin 4096) :
    ∑ k ∈ Finset.range (2 * h), ext u (t.val + 8 - h + k)
      = ∑ s : Fin 4096, if t.val - h ≤ s.val ∧ s.val < t.val + h then u s else 0 := by
  have h1 : ∑ s : Fin 4096, (if t.val - h ≤ s.val ∧ s.val < t.val + h then u s else 0)
      = ∑ s ∈ Finset.range 4096, if t.val - h ≤ s ∧ s < t.val + h then ext u (s + 8) else 0 := by
    rw [← Fin.sum_univ_eq_sum_range (fun s => if t.val - h ≤ s ∧ s < t.val + h then ext u (s + 8) else 0)]
    refine Finset.sum_congr rfl fun s _ => ?_
    have : ext u (s.val + 8) = u s := by
      unfold ext; rw [dif_pos (by omega)]; congr 1
    rw [this]
  have h2 : ∑ k ∈ Finset.range (2 * h), ext u (t.val + 8 - h + k)
      = ∑ n ∈ Finset.Ico (t.val + 8 - h) (t.val + 8 + h), ext u n := by
    rw [Finset.sum_Ico_eq_sum_range]
    exact Finset.sum_congr (by congr 1; omega) fun _ _ => rfl
  have h3 : ∑ n ∈ Finset.Ico (t.val + 8 - h) (t.val + 8 + h), ext u n
      = ∑ n ∈ (Finset.Ico (t.val + 8 - h) (t.val + 8 + h)).filter (fun n => 8 ≤ n ∧ n < 4104), ext u n := by
    symm
    refine Finset.sum_subset (Finset.filter_subset _ _) fun n hn hf => ?_
    unfold ext
    rw [dif_neg fun h => hf (Finset.mem_filter.mpr ⟨hn, h⟩)]
  rw [h1, h2, h3, ← Finset.sum_filter]
  refine Finset.sum_nbij' (fun n => n - 8) (fun s => s + 8) ?_ ?_ ?_ ?_ ?_
  · intro n hn; simp only [Finset.mem_filter, Finset.mem_Ico, Finset.mem_range] at hn ⊢; omega
  · intro n hn; simp only [Finset.mem_filter, Finset.mem_Ico, Finset.mem_range] at hn ⊢; omega
  · intro n hn; simp only [Finset.mem_filter, Finset.mem_Ico] at hn; omega
  · intro n _; omega
  · intro n hn; simp only [Finset.mem_filter, Finset.mem_Ico] at hn; rw [Nat.sub_add_cancel hn.2.1]

/-- The number of positions in the window is positive. -/
theorem count_pos (h : ℕ) (hh : 0 < h) (t : Fin 4096) : ((min (t.val + h) 4096 - (t.val - h) : ℕ) : ℝ) ≠ 0 :=
  Nat.cast_ne_zero.mpr (by omega)

end Cert.Out
end
-- ==== Proof.Out.Pay.lean ====
module

public import proofs.«01_k».proof.Proof.Gen.OutKernelIdeal.Skeleton
public import proofs.«01_k».proof.Proof.Attn.Math
public import proofs.«01_k».proof.Proof.Out.Spec
public import Idealize.ShloMosaic.Lib.Pointwise

@[expose] public section

/-! What the output stage computes in one tile of 256 positions, over real arguments. -/

set_option maxRecDepth 16384

noncomputable section

open Idealize.ShloMosaic

namespace Cert.OutKernelIdeal.Out

open Cert.OutKernelIdeal Cert.OutKernelIdeal.Gen Cert.Out Cert.Attn

/-- The float words of the stage: 1, 1/1024, 1/2048. -/
theorem one_bits : Ideal.ofBits FTy.f32 0x3F800000#32 = ((1 : ℝ) : EReal) := by
  simp [Ideal.ofBits, Ideal.ieee]; rw [← EReal.coe_mul]; norm_num

theorem word1024 : Ideal.ofBits FTy.f32 0x3A800000#32 = ((1 / 1024 : ℝ) : EReal) := by
  simp [Ideal.ofBits, Ideal.ieee]; rw [← EReal.coe_mul]; norm_num

theorem word2048 : Ideal.ofBits FTy.f32 0x3A000000#32 = ((1 / 2048 : ℝ) : EReal) := by
  simp [Ideal.ofBits, Ideal.ieee]; rw [← EReal.coe_mul]; norm_num

/-- A sum of products of real numbers. -/
theorem dot_real {ι : Type*} [Fintype ι] {f g : ι → EReal} {a b : ι → ℝ} (hf : ∀ i, f i = ((a i : ℝ) : EReal)) (hg : ∀ i, g i = ((b i : ℝ) : EReal)) :
    ∑ i, f i * g i = ((∑ i, a i * b i : ℝ) : EReal) := by
  rw [← sum_coe]
  exact Finset.sum_congr rfl fun i _ => by rw [hf, hg, EReal.coe_mul]

section Sigmoid

variable {v : FVec Ideal S256x512 .f32} {a : Fin 256 → Fin 512 → ℝ} (h : ∀ r c, v (ix2 r c) = ((a r c : ℝ) : EReal))
include h

theorem pay35_real (r : Fin 256) (c : Fin 512) : k0_pay35 v (ix2 r c) = ((sg (a r c) : ℝ) : EReal) := by
  have e : k0_pay35 v (ix2 r c) = Ideal.div (Ideal.ofBits FTy.f32 0x3F800000#32) (Ideal.ofBits FTy.f32 0x3F800000#32 + Ideal.exp (0 - v (ix2 r c))) := by
    pointwise [k0_pay35]
  rw [e, one_bits, h, ← EReal.coe_zero, ← EReal.coe_sub, Ideal.exp_coe, ← EReal.coe_add, div_coe_coe _ _ (by positivity)]
  unfold sg
  rw [zero_sub]

theorem pay36_real (r : Fin 256) (c : Fin 512) : k0_pay36 v (ix2 r c) = ((silu (a r c) : ℝ) : EReal) := by
  have e : k0_pay36 v (ix2 r c) = v (ix2 r c) * k0_pay35 v (ix2 r c) := rfl
  rw [e, pay35_real h, h, ← EReal.coe_mul]
  rfl

theorem pay37_real (r : Fin 256) (c : Fin 512) : k0_pay37 v (ix2 r c) = ((sg (a r c) : ℝ) : EReal) := pay35_real h r c

theorem pay38_real (r : Fin 256) (c : Fin 512) : k0_pay38 v (ix2 r c) = ((silu (a r c) : ℝ) : EReal) := pay36_real h r c

end Sigmoid

variable {w : Par} {R : Fin 256 → Row}

section Pooling

variable {p : FVec Ideal S256x128 .bf16} {W : FVec Ideal S128x128 .bf16} {g : Fin 4}

/-- One group's pooled channels times its weights. -/
theorem z_real (hp : ∀ r k, p (ix2 r k) = (((R r).p (col g k) : ℝ) : EReal)) (hW : ∀ k j, W (ix2 k j) = ((w.wp g k j : ℝ) : EReal))
    (r : Fin 256) (j : Fin 128) :
    matmul dot_S256x128_S128x128_S256x128_1_0_0_1_n_n none p W (constant (F := Ideal) S256x128 .f32 0x00000000#32) (ix2 r j)
      = (((R r).z w (col g j) : ℝ) : EReal) := by
  have e : matmul dot_S256x128_S128x128_S256x128_1_0_0_1_n_n none p W (constant (F := Ideal) S256x128 .f32 0x00000000#32) (ix2 r j)
      = ∑ k : Fin 128, p (ix2 r k) * W (ix2 k j) := by
    pointwise [dot_S256x128_S128x128_S256x128_1_0_0_1_n_n]
  rw [e, dot_real (hp r) (fun k => hW k j)]
  unfold Row.z
  rw [grp_col, low_col]

theorem dp_real {q : FVec Ideal S256x128 .bf16} (hq : ∀ r k, q (ix2 r k) = (((R r).dz w (col g k) : ℝ) : EReal)) (hW : ∀ k j, W (ix2 k j) = ((w.wp g k j : ℝ) : EReal))
    (r : Fin 256) (k : Fin 128) :
    matmul dot_S256x128_S128x128_S256x128_1_1_0_0_n_n none q W (constant (F := Ideal) S256x128 .f32 0x00000000#32) (ix2 r k)
      = (((R r).dp w (col g k) : ℝ) : EReal) := by
  have e : matmul dot_S256x128_S128x128_S256x128_1_1_0_0_n_n none q W (constant (F := Ideal) S256x128 .f32 0x00000000#32) (ix2 r k)
      = ∑ j : Fin 128, q (ix2 r j) * W (ix2 k j) := by
    pointwise [dot_S256x128_S128x128_S256x128_1_1_0_0_n_n]
  rw [e, dot_real (hq r) (fun j => hW k j)]
  unfold Row.dp
  rw [grp_col, low_col]

theorem dwp_real {q : FVec Ideal S256x128 .bf16} (hp : ∀ r k, p (ix2 r k) = (((R r).p (col g k) : ℝ) : EReal)) (hq : ∀ r k, q (ix2 r k) = (((R r).dz w (col g k) : ℝ) : EReal))
    (k j : Fin 128) :
    matmul dot_S256x128_S256x128_S128x128_0_0_1_1_n_n none p q (constant (F := Ideal) S128x128 .f32 0x00000000#32) (ix2 k j)
      = ((dwp w R g k j : ℝ) : EReal) := by
  have e : matmul dot_S256x128_S256x128_S128x128_0_0_1_1_n_n none p q (constant (F := Ideal) S128x128 .f32 0x00000000#32) (ix2 k j)
      = ∑ r : Fin 256, p (ix2 r k) * q (ix2 r j) := by
    pointwise [dot_S256x128_S256x128_S128x128_0_0_1_1_n_n]
  rw [e, dot_real (fun r => hp r k) (fun r => hq r j)]
  rfl

end Pooling

/-- Four groups of channels side by side. -/
theorem groups_apply (A B C D : FVec Ideal S256x128 .f32) {f : Fin 256 → Fin 512 → ℝ}
    (h0 : ∀ r k, A (ix2 r k) = ((f r (col 0 k) : ℝ) : EReal)) (h1 : ∀ r k, B (ix2 r k) = ((f r (col 1 k) : ℝ) : EReal))
    (h2 : ∀ r k, C (ix2 r k) = ((f r (col 2 k) : ℝ) : EReal)) (h3 : ∀ r k, D (ix2 r k) = ((f r (col 3 k) : ℝ) : EReal))
    (r : Fin 256) (c : Fin 512) :
    concatenate S256x512 1 [⟨S256x128, A⟩, ⟨S256x128, B⟩, ⟨S256x128, C⟩, ⟨S256x128, D⟩] concatenates_S256x128_S256x128_S256x128_S256x128_S256x512_d1 (ix2 r c)
      = ((f r c : ℝ) : EReal) := by
  pointwise
  by_cases c0 : c.val < 128
  · rw [dif_pos c0]; exact (h0 r ⟨c.val, c0⟩).trans (congrArg (fun c => ((f r c : ℝ) : EReal)) (Fin.ext (by simp [col])))
  rw [dif_neg c0]
  by_cases c1 : c.val - 128 < 128
  · rw [dif_pos c1]; exact (h1 r ⟨c.val - 128, c1⟩).trans (congrArg (fun c => ((f r c : ℝ) : EReal)) (Fin.ext (by simp [col]; omega)))
  rw [dif_neg c1]
  by_cases c2 : c.val - 128 - 128 < 128
  · rw [dif_pos c2]; exact (h2 r ⟨c.val - 128 - 128, c2⟩).trans (congrArg (fun c => ((f r c : ℝ) : EReal)) (Fin.ext (by simp [col]; omega)))
  rw [dif_neg c2]
  exact (h3 r ⟨c.val - 128 - 128 - 128, by omega⟩).trans (congrArg (fun c => ((f r c : ℝ) : EReal)) (Fin.ext (by simp [col]; omega)))

/-- The two branches side by side. -/
theorem branches_apply (A B : FVec Ideal S256x512 .f32) {f : Fin 256 → Fin 1024 → ℝ}
    (h0 : ∀ r c, A (ix2 r c) = ((f r (left c) : ℝ) : EReal)) (h1 : ∀ r c, B (ix2 r c) = ((f r (right c) : ℝ) : EReal))
    (r : Fin 256) (m : Fin 1024) :
    concatenate S256x1024 1 [⟨S256x512, A⟩, ⟨S256x512, B⟩] concatenates_S256x512_S256x512_S256x1024_d1 (ix2 r m)
      = ((f r m : ℝ) : EReal) := by
  pointwise
  by_cases c1 : m.val < 512
  · rw [dif_pos c1]; exact h0 r ⟨m.val, c1⟩
  rw [dif_neg c1]
  exact (h1 r ⟨m.val - 512, by omega⟩).trans (congrArg (fun c => ((f r c : ℝ) : EReal)) (Fin.ext (by simp [right]; omega)))

theorem sum_all (v : FVec Ideal S256x1024 .f32) :
   shapeCast S1x1 (multiReduction .add [0] S1 (shapeCast S256x1 (multiReduction .add [1] S256 v 0x00000000#32 reduces_S256x1024_S256 (.inl rfl) rfl) shapeCasts_S256_S256x1) 0x00000000#32 reduces_S256x1_S1 (.inl rfl) rfl) shapeCasts_S1_S1x1 (ix2 0 0)
    = ∑ r : Fin 256, ∑ d : Fin 1024, v (ix2 r d) := by
  pointwise

theorem sum_rows (v : FVec Ideal S256x1024 .f32) (d : Fin 1024) :
   shapeCast S1x1024 (multiReduction .add [0] S1024 v 0x00000000#32 reduces_S256x1024_S1024 (.inl rfl) rfl) shapeCasts_S1024_S1x1024 (ix2 0 d)
    = ∑ r : Fin 256, v (ix2 r d) := by
  pointwise

theorem sum_rows' (v : FVec Ideal S256x512 .f32) (d : Fin 512) :
   shapeCast S1x512 (multiReduction .add [0] S512 v 0x00000000#32 reduces_S256x512_S512 (.inl rfl) rfl) shapeCasts_S512_S1x512 (ix2 0 d)
    = ∑ r : Fin 256, v (ix2 r d) := by
  pointwise

theorem pay7_apply (y : Fin 8 → Vec Ideal S32x1x512 .f32) (r : Fin 256) (c : Fin 512) :
    k0_pay7 (y 0) (y 1) (y 2) (y 3) (y 4) (y 5) (y 6) (y 7) (ix2 r c) = y ⟨r.val / 32, by omega⟩ (ix3 ⟨r.val % 32, by omega⟩ 0 c) := by
  pointwise [k0_pay7]
  have hr := r.isLt
  have e (a : Fin 8) (b : ℕ) (hb : b < 32) (h : r.val = a.val * 32 + b) : y a (ix3 ⟨b, hb⟩ 0 c) = y ⟨r.val / 32, by omega⟩ (ix3 ⟨r.val % 32, by omega⟩ 0 c) := by
    have ha : a = ⟨r.val / 32, by omega⟩ := Fin.ext (by simp only; omega)
    have hb' : b = r.val % 32 := by omega
    subst hb'; rw [← ha]
  by_cases c0 : r.val < 32
  · rw [dif_pos c0]; exact e 0 _ c0 (by simp)
  rw [dif_neg c0]
  by_cases c1 : r.val - 32 < 32
  · rw [dif_pos c1]; exact e 1 _ c1 (by simp; omega)
  rw [dif_neg c1]
  by_cases c2 : r.val - 32 - 32 < 32
  · rw [dif_pos c2]; exact e 2 _ c2 (by simp; omega)
  rw [dif_neg c2]
  by_cases c3 : r.val - 32 - 32 - 32 < 32
  · rw [dif_pos c3]; exact e 3 _ c3 (by simp; omega)
  rw [dif_neg c3]
  by_cases c4 : r.val - 32 - 32 - 32 - 32 < 32
  · rw [dif_pos c4]; exact e 4 _ c4 (by simp; omega)
  rw [dif_neg c4]
  by_cases c5 : r.val - 32 - 32 - 32 - 32 - 32 < 32
  · rw [dif_pos c5]; exact e 5 _ c5 (by simp; omega)
  rw [dif_neg c5]
  by_cases c6 : r.val - 32 - 32 - 32 - 32 - 32 - 32 < 32
  · rw [dif_pos c6]; exact e 6 _ c6 (by simp; omega)
  rw [dif_neg c6]
  exact e 7 _ (by omega) (by simp; omega)

section Tile

variable {v19 v21 v23 : FVec Ideal S256x512 .f32} {p0 p1 p2 : FVec Ideal S256x128 .f32} {p3 : FVec Ideal S256x128 .bf16}
variable {W0 W1 W2 W3 : Vec Ideal S1x128x128 .f32} {ps : Vec Ideal S1x512 .f32} {wv : Vec Ideal S1024x1024 .bf16}
variable {gv : Vec Ideal S1x1x1024 .f32} {xv tv : Vec Ideal S256x1024 .f32}

/-- One group's weights. -/
theorem weight_real {g : Fin 4} {W : Vec Ideal S1x128x128 .f32} (h : ∀ k j, W (ix3 0 k j) = ((w.wp g k j : ℝ) : EReal)) (k j : Fin 128) :
    k0_pay29 W (ix2 k j) = ((w.wp g k j : ℝ) : EReal) := by
  have e : k0_pay29 W (ix2 k j) = W (ix3 0 k j) := by pointwise [k0_pay29]
  rw [e, h]

section Forward

variable (h19 : ∀ r c, v19 (ix2 r c) = (((R r).a c : ℝ) : EReal)) (h21 : ∀ r c, v21 (ix2 r c) = (((R r).ga c : ℝ) : EReal))
  (h23 : ∀ r c, v23 (ix2 r c) = (((R r).gp c : ℝ) : EReal))
  (hp0 : ∀ r k, p0 (ix2 r k) = (((R r).p (col 0 k) : ℝ) : EReal)) (hp1 : ∀ r k, p1 (ix2 r k) = (((R r).p (col 1 k) : ℝ) : EReal))
  (hp2 : ∀ r k, p2 (ix2 r k) = (((R r).p (col 2 k) : ℝ) : EReal)) (hp3 : ∀ r k, p3 (ix2 r k) = (((R r).p (col 3 k) : ℝ) : EReal))
  (hW0 : ∀ k j, W0 (ix3 0 k j) = ((w.wp 0 k j : ℝ) : EReal)) (hW1 : ∀ k j, W1 (ix3 0 k j) = ((w.wp 1 k j : ℝ) : EReal))
  (hW2 : ∀ k j, W2 (ix3 0 k j) = ((w.wp 2 k j : ℝ) : EReal)) (hW3 : ∀ k j, W3 (ix3 0 k j) = ((w.wp 3 k j : ℝ) : EReal))
  (hps : ∀ c, ps (ix2 0 c) = ((w.ps c : ℝ) : EReal))
  (hw : ∀ m d, wv (ix2 m d) = ((w.w m d : ℝ) : EReal)) (hg : ∀ d, gv (ix3 0 0 d) = ((w.g d : ℝ) : EReal))
  (hx : ∀ r d, xv (ix2 r d) = (((R r).x d : ℝ) : EReal)) (ht : ∀ r d, tv (ix2 r d) = (((R r).t d : ℝ) : EReal))
include hp0 hp1 hp2 hp3 hW0 hW1 hW2 hW3

theorem pay33_real (r : Fin 256) (c : Fin 512) :
    k0_pay33 p3 (k0_pay29 W3) (k0_pay30 p0 W0) (k0_pay31 p1 W1) (k0_pay32 p2 W2) (ix2 r c) = (((R r).z w c : ℝ) : EReal) :=
  groups_apply _ _ _ _ (f := fun r c => (R r).z w c) (z_real hp0 (weight_real hW0)) (z_real hp1 (weight_real hW1))
    (z_real hp2 (weight_real hW2)) (z_real hp3 (weight_real hW3)) r c

include hps

theorem pay34_real (r : Fin 256) (c : Fin 512) :
    k0_pay34 p3 (k0_pay29 W3) (k0_pay30 p0 W0) (k0_pay31 p1 W1) (k0_pay32 p2 W2) ps (ix2 r c) = (((R r).yp w c : ℝ) : EReal) := by
  have e : k0_pay34 p3 (k0_pay29 W3) (k0_pay30 p0 W0) (k0_pay31 p1 W1) (k0_pay32 p2 W2) ps (ix2 r c)
      = k0_pay33 p3 (k0_pay29 W3) (k0_pay30 p0 W0) (k0_pay31 p1 W1) (k0_pay32 p2 W2) (ix2 r c) * ps (ix2 0 c) := by
    pointwise [k0_pay34]
  rw [e, pay33_real hp0 hp1 hp2 hp3 hW0 hW1 hW2 hW3, hps, ← EReal.coe_mul]
  rfl

include h19 h21 h23

theorem pay39_real (r : Fin 256) (m : Fin 1024) :
    k0_pay39 v19 v21 v23 p3 (k0_pay29 W3) (k0_pay30 p0 W0) (k0_pay31 p1 W1) (k0_pay32 p2 W2) ps (ix2 r m) = (((R r).br w m : ℝ) : EReal) :=
  branches_apply _ _ (f := fun r m => (R r).br w m)
    (fun r c => by
      refine Eq.trans (show _ = k0_pay36 v21 (ix2 r c) * v19 (ix2 r c) from rfl) ?_
      rw [pay36_real h21, h19, ← EReal.coe_mul, Row.br_left])
    (fun r c => by
      refine Eq.trans (show _ = k0_pay38 v23 (ix2 r c) * k0_pay34 p3 (k0_pay29 W3) (k0_pay30 p0 W0) (k0_pay31 p1 W1) (k0_pay32 p2 W2) ps (ix2 r c) from rfl) ?_
      rw [pay38_real h23, pay34_real hp0 hp1 hp2 hp3 hW0 hW1 hW2 hW3 hps, ← EReal.coe_mul, Row.br_right]) r m

include hw

theorem pay40_real (r : Fin 256) (d : Fin 1024) :
    k0_pay40 v19 v21 v23 p3 (k0_pay29 W3) (k0_pay30 p0 W0) (k0_pay31 p1 W1) (k0_pay32 p2 W2) ps wv (ix2 r d) = (((R r).y w d : ℝ) : EReal) := by
  have e : k0_pay40 v19 v21 v23 p3 (k0_pay29 W3) (k0_pay30 p0 W0) (k0_pay31 p1 W1) (k0_pay32 p2 W2) ps wv (ix2 r d)
      = ∑ m : Fin 1024, k0_pay39 v19 v21 v23 p3 (k0_pay29 W3) (k0_pay30 p0 W0) (k0_pay31 p1 W1) (k0_pay32 p2 W2) ps (ix2 r m) * wv (ix2 m d) := by
    pointwise [k0_pay40, dot_S256x1024_S1024x1024_S256x1024_1_0_0_1_n_n]
  rw [e, dot_real (pay39_real h19 h21 h23 hp0 hp1 hp2 hp3 hW0 hW1 hW2 hW3 hps r) (fun m => hw m d)]
  rfl

include hg hx ht

theorem pay42_real (r : Fin 256) (d : Fin 1024) :
    k0_pay42 v19 v21 v23 p3 (k0_pay29 W3) (k0_pay30 p0 W0) (k0_pay31 p1 W1) (k0_pay32 p2 W2) ps wv gv xv tv (ix2 r d) = (((R r).e w d : ℝ) : EReal) := by
  have e : k0_pay42 v19 v21 v23 p3 (k0_pay29 W3) (k0_pay30 p0 W0) (k0_pay31 p1 W1) (k0_pay32 p2 W2) ps wv gv xv tv (ix2 r d)
      = xv (ix2 r d) + gv (ix3 0 0 d) * k0_pay40 v19 v21 v23 p3 (k0_pay29 W3) (k0_pay30 p0 W0) (k0_pay31 p1 W1) (k0_pay32 p2 W2) ps wv (ix2 r d) - tv (ix2 r d) := by
    pointwise [k0_pay42, k0_pay41]
  rw [e, pay40_real h19 h21 h23 hp0 hp1 hp2 hp3 hW0 hW1 hW2 hW3 hps hw, hx, hg, ht, ← EReal.coe_mul, ← EReal.coe_add, ← EReal.coe_sub]
  rfl

end Forward

section Backward

variable {v187 : FVec Ideal S256x1024 .f32} (h187 : ∀ r d, v187 (ix2 r d) = (((R r).e w d : ℝ) : EReal))

section
include h187

theorem pay43_real (s : Vec Ideal S1x1 .f32) : k0_pay43 v187 s (ix2 0 0) = s (ix2 0 0) + ((loss w R : ℝ) : EReal) := by
  have e : k0_pay43 v187 s (ix2 0 0) = s (ix2 0 0) + (∑ r : Fin 256, ∑ d : Fin 1024, v187 (ix2 r d) * v187 (ix2 r d)) * Ideal.ofBits FTy.f32 0x3A000000#32 := by
    pointwise [k0_pay43]
  have e2 : ∀ r : Fin 256, ∑ d : Fin 1024, v187 (ix2 r d) * v187 (ix2 r d) = ((∑ d, (R r).e w d * (R r).e w d : ℝ) : EReal) := fun r => dot_real (h187 r) (h187 r)
  rw [e, word2048]
  simp only [e2]
  rw [sum_coe, ← EReal.coe_mul]
  rfl

theorem pay44_real (r : Fin 256) (d : Fin 1024) : k0_pay44 v187 (ix2 r d) = (((R r).dx w d : ℝ) : EReal) := by
  have e : k0_pay44 v187 (ix2 r d) = v187 (ix2 r d) * Ideal.ofBits FTy.f32 0x3A800000#32 := rfl
  rw [e, h187, word1024, ← EReal.coe_mul]
  rfl

theorem pay45_real {y : FVec Ideal S256x1024 .f32} (hy : ∀ r d, y (ix2 r d) = (((R r).y w d : ℝ) : EReal)) (s : Vec Ideal S1x1024 .f32) (d : Fin 1024) :
    k0_pay45 y v187 s (ix2 0 d) = s (ix2 0 d) + ((dgate w R d : ℝ) : EReal) := by
  have e : k0_pay45 y v187 s (ix2 0 d) = s (ix2 0 d) + ∑ r : Fin 256, k0_pay44 v187 (ix2 r d) * y (ix2 r d) := by
    pointwise [k0_pay45]
  rw [e, dot_real (fun r => pay44_real h187 r d) (fun r => hy r d)]
  rfl

variable (hg : ∀ d, gv (ix3 0 0 d) = ((w.g d : ℝ) : EReal))
include hg

theorem pay46_real (r : Fin 256) (d : Fin 1024) : k0_pay46 (k0_pay41 gv) v187 (ix2 r d) = (((R r).dy w d : ℝ) : EReal) := by
  have e : k0_pay46 (k0_pay41 gv) v187 (ix2 r d) = k0_pay44 v187 (ix2 r d) * gv (ix3 0 0 d) := by
    pointwise [k0_pay46, k0_pay41]
  rw [e, pay44_real h187, hg, ← EReal.coe_mul]
  rfl

theorem pay47_real {br : FVec Ideal S256x1024 .bf16} (hbr : ∀ r m, br (ix2 r m) = (((R r).br w m : ℝ) : EReal)) (s : Vec Ideal S1024x1024 .f32) (m d : Fin 1024) :
    k0_pay47 br (k0_pay41 gv) v187 s (ix2 m d) = s (ix2 m d) + ((dw w R m d : ℝ) : EReal) := by
  have e : k0_pay47 br (k0_pay41 gv) v187 s (ix2 m d) = s (ix2 m d) + ∑ r : Fin 256, br (ix2 r m) * k0_pay46 (k0_pay41 gv) v187 (ix2 r d) := by
    pointwise [k0_pay47, dot_S256x1024_S256x1024_S1024x1024_0_0_1_1_n_n]
  rw [e, dot_real (fun r => hbr r m) (fun r => pay46_real h187 hg r d)]
  rfl

variable (hw : ∀ m d, wv (ix2 m d) = ((w.w m d : ℝ) : EReal))
include hw

theorem pay48_real (r : Fin 256) (m : Fin 1024) : k0_pay48 (k0_pay41 gv) v187 wv (ix2 r m) = (((R r).db w m : ℝ) : EReal) := by
  have e : k0_pay48 (k0_pay41 gv) v187 wv (ix2 r m) = ∑ d : Fin 1024, k0_pay46 (k0_pay41 gv) v187 (ix2 r d) * wv (ix2 m d) := by
    pointwise [k0_pay48, dot_S256x1024_S1024x1024_S256x1024_1_1_0_0_n_n]
  rw [e, dot_real (pay46_real h187 hg r) (fun d => hw m d)]
  rfl

theorem pay49_real (r : Fin 256) (c : Fin 512) : k0_pay49 (k0_pay41 gv) v187 wv (ix2 r c) = (((R r).db w (left c) : ℝ) : EReal) := by
  have e : k0_pay49 (k0_pay41 gv) v187 wv (ix2 r c) = k0_pay48 (k0_pay41 gv) v187 wv (ix2 r (left c)) := by
    pointwise [k0_pay49]
    rfl
  rw [e, pay48_real h187 hg hw]

theorem pay50_real (r : Fin 256) (c : Fin 512) : k0_pay50 (k0_pay41 gv) v187 wv (ix2 r c) = (((R r).db w (right c) : ℝ) : EReal) := by
  have e : k0_pay50 (k0_pay41 gv) v187 wv (ix2 r c) = k0_pay48 (k0_pay41 gv) v187 wv (ix2 r (right c)) := by
    pointwise [k0_pay50]
    rfl
  rw [e, pay48_real h187 hg hw]

theorem pay51_real {s : FVec Ideal S256x512 .f32} (hs : ∀ r c, s (ix2 r c) = ((silu ((R r).ga c) : ℝ) : EReal)) (r : Fin 256) (c : Fin 512) :
    k0_pay51 s (k0_pay41 gv) v187 wv (ix2 r c) = (((R r).da w c : ℝ) : EReal) := by
  have e : k0_pay51 s (k0_pay41 gv) v187 wv (ix2 r c) = k0_pay49 (k0_pay41 gv) v187 wv (ix2 r c) * s (ix2 r c) := rfl
  rw [e, pay49_real h187 hg hw, hs, ← EReal.coe_mul]
  rfl

end

section Branch

variable {u t s d : FVec Ideal S256x512 .f32} {fu ft fd : Fin 256 → Fin 512 → ℝ}

/-- The cotangent of a branch's gate. -/
theorem pay62_real (ht : ∀ r c, t (ix2 r c) = ((ft r c : ℝ) : EReal)) (hu : ∀ r c, u (ix2 r c) = ((fu r c : ℝ) : EReal))
    (hs : ∀ r c, s (ix2 r c) = ((sg (fu r c) : ℝ) : EReal)) (hd : ∀ r c, d (ix2 r c) = ((fd r c : ℝ) : EReal)) (r : Fin 256) (c : Fin 512) :
    k0_pay62 t u s d (ix2 r c) = ((fd r c * ft r c * silu' (fu r c) : ℝ) : EReal) := by
  have e : k0_pay62 t u s d (ix2 r c) = d (ix2 r c) * t (ix2 r c) * (s (ix2 r c) * (Ideal.ofBits FTy.f32 0x3F800000#32 + u (ix2 r c) * (Ideal.ofBits FTy.f32 0x3F800000#32 - s (ix2 r c)))) := rfl
  rw [e, hd, ht, hs, hu, one_bits]
  simp only [← EReal.coe_mul, ← EReal.coe_add, ← EReal.coe_sub]
  rfl

theorem pay63_eq : k0_pay63 u t s d = k0_pay62 t u s d := rfl

end Branch

section Pool

variable {s d : FVec Ideal S256x512 .f32} (hs : ∀ r c, s (ix2 r c) = ((silu ((R r).gp c) : ℝ) : EReal))
  (hd : ∀ r c, d (ix2 r c) = (((R r).db w (right c) : ℝ) : EReal))
include hs hd

theorem pay64_real (r : Fin 256) (c : Fin 512) : k0_pay64 s d (ix2 r c) = (((R r).dyp w c : ℝ) : EReal) := by
  have e : k0_pay64 s d (ix2 r c) = d (ix2 r c) * s (ix2 r c) := rfl
  rw [e, hs, hd, ← EReal.coe_mul]
  rfl

theorem pay65_real {z : FVec Ideal S256x512 .f32} (hz : ∀ r c, z (ix2 r c) = (((R r).z w c : ℝ) : EReal)) (o : Vec Ideal S1x512 .f32) (c : Fin 512) :
    k0_pay65 z s d o (ix2 0 c) = o (ix2 0 c) + ((dps w R c : ℝ) : EReal) := by
  have e : k0_pay65 z s d o (ix2 0 c) = o (ix2 0 c) + ∑ r : Fin 256, k0_pay64 s d (ix2 r c) * z (ix2 r c) := by
    pointwise [k0_pay65]
  rw [e, dot_real (fun r => pay64_real hs hd r c) (fun r => hz r c)]
  rfl

theorem pay66_real (hps : ∀ c, ps (ix2 0 c) = ((w.ps c : ℝ) : EReal)) (r : Fin 256) (c : Fin 512) : k0_pay66 ps s d (ix2 r c) = (((R r).dz w c : ℝ) : EReal) := by
  have e : k0_pay66 ps s d (ix2 r c) = k0_pay64 s d (ix2 r c) * ps (ix2 0 c) := by
    pointwise [k0_pay66]
  rw [e, pay64_real hs hd, hps, ← EReal.coe_mul]
  rfl

end Pool

section Groups

variable {q : FVec Ideal S256x512 .bf16} (hq : ∀ r c, q (ix2 r c) = (((R r).dz w c : ℝ) : EReal))
include hq

theorem lane0 (r : Fin 256) (k : Fin 128) :
    extractStridedSlice S256x128 ![0, 0] q slices_S256x512_o0_0_S256x128 (ix2 r k) = (((R r).dz w (col 0 k) : ℝ) : EReal) := by
  have e : extractStridedSlice S256x128 ![0, 0] q slices_S256x512_o0_0_S256x128 (ix2 r k) = q (ix2 r (col 0 k)) := by
    pointwise
    exact congrArg (fun z => q (ix2 r z)) (Fin.ext (by simp [col]))
  rw [e, hq]

theorem pay71_real (r : Fin 256) (k : Fin 128) : k0_pay71 q (ix2 r k) = (((R r).dz w (col 1 k) : ℝ) : EReal) := by
  have e : k0_pay71 q (ix2 r k) = q (ix2 r (col 1 k)) := by
    pointwise [k0_pay71]
    rfl
  rw [e, hq]

theorem pay74_real (r : Fin 256) (k : Fin 128) : k0_pay74 q (ix2 r k) = (((R r).dz w (col 2 k) : ℝ) : EReal) := by
  have e : k0_pay74 q (ix2 r k) = q (ix2 r (col 2 k)) := by
    pointwise [k0_pay74]
    rfl
  rw [e, hq]

theorem pay77_real (r : Fin 256) (k : Fin 128) : k0_pay77 q (ix2 r k) = (((R r).dz w (col 3 k) : ℝ) : EReal) := by
  have e : k0_pay77 q (ix2 r k) = q (ix2 r (col 3 k)) := by
    pointwise [k0_pay77]
    rfl
  rw [e, hq]

end Groups

/-- The update of one group's weight cotangent. -/
theorem pay78_eq (p : FVec Ideal S256x128 .bf16) (q : FVec Ideal S256x512 .bf16) (o : Vec Ideal S1x128x128 .f32) (k j : Fin 128) :
    k0_pay78 p q o (ix3 0 k j) = o (ix3 0 k j) + matmul dot_S256x128_S256x128_S128x128_0_0_1_1_n_n none p (k0_pay77 q) (constant (F := Ideal) S128x128 .f32 0x00000000#32) (ix2 k j) := by
  generalize hm : matmul dot_S256x128_S256x128_S128x128_0_0_1_1_n_n none p (k0_pay77 q) (constant (F := Ideal) S128x128 .f32 0x00000000#32) = m
  have e : k0_pay78 p q o = shapeCast S1x128x128 (addf (shapeCast S128x128 o shapeCasts_S1x128x128_S128x128) m) shapeCasts_S128x128_S1x128x128 := by
    rw [← hm]; rfl
  rw [e]
  pointwise

end Backward

end Tile

end Cert.OutKernelIdeal.Out
end
-- ==== Proof.Out.Pool.lean ====
module

public import proofs.«01_k».proof.Proof.Gen.OutKernelIdeal.Skeleton
public import proofs.«01_k».proof.Proof.Attn.Math
public import proofs.«01_k».proof.Proof.Out.Spec
public import Idealize.ShloMosaic.Lib.Pointwise

@[expose] public section

/-! The windowed means of one tile of 256 positions, from its 272 rows of the padded column. -/

set_option maxRecDepth 16384

noncomputable section

open Idealize.ShloMosaic

namespace Cert.OutKernelIdeal.Out

open Cert.OutKernelIdeal Cert.OutKernelIdeal.Gen Cert.Out Cert.Attn

/-- The rows turned by `n`. -/
def roll (n : BitVec 32) (X : FVec Ideal S272x128 .f32) : FVec Ideal S272x128 .f32 :=
  dynamicRotate 0 n none X rotates_S272x128_d0

theorem roll_apply (n : BitVec 32) (X : FVec Ideal S272x128 .f32) (x : Fin 272) (c : Fin 128) :
    roll n X (ix2 x c) = X (ix2 ⟨(x.val + 272 - n.toNat % 272) % 272, Nat.mod_lt _ (by decide)⟩ c) := by
  pointwise [roll]

def box2 (X : FVec Ideal S272x128 .f32) : FVec Ideal S272x128 .f32 := addf (roll 1#32 X) X

def box4 (X : FVec Ideal S272x128 .f32) : FVec Ideal S272x128 .f32 := addf (roll 1#32 (box2 X)) (roll 271#32 (box2 X))

def box8 (X : FVec Ideal S272x128 .f32) : FVec Ideal S272x128 .f32 := addf (roll 2#32 (box4 X)) (roll 270#32 (box4 X))

def box16 (X : FVec Ideal S272x128 .f32) : FVec Ideal S272x128 .f32 := addf (roll 4#32 (box8 X)) (roll 268#32 (box8 X))

/-- Channels `o`, … , `o + 127` of the tile's rows. -/
def lane (g : Fin 4) (X : FVec Ideal S272x512 .f32) : FVec Ideal S272x128 .f32 :=
  match g with
  | 0 => extractStridedSlice S272x128 ![0, 0] X slices_S272x512_o0_0_S272x128
  | 1 => extractStridedSlice S272x128 ![0, 128] X slices_S272x512_o0_128_S272x128
  | 2 => extractStridedSlice S272x128 ![0, 256] X slices_S272x512_o0_256_S272x128
  | 3 => extractStridedSlice S272x128 ![0, 384] X slices_S272x512_o0_384_S272x128

/-- The window's length about each position of the tile. -/
def count (h : BitVec 32) (w : IVec S256x1 32) : IVec S256x1 32 :=
  subi (minsi (addi w (broadcast S256x1 h)) (broadcast S256x1 4096#32)) (maxsi (subi w (broadcast S256x1 h)) (broadcast S256x1 0#32))

/-- A window's sum over its length, less the entry itself. -/
def less (n : IVec S256x1 32) (B X : FVec Ideal S272x128 .f32) : FVec Ideal S256x128 .f32 :=
  subf (divf (extractStridedSlice S256x128 ![8, 0] B slices_S272x128_o8_0_S256x128)
      (broadcastTo S256x128 (sitofp .f32 n : FVec Ideal S256x1 .f32) broadcasts_S256x1_S256x128))
    (extractStridedSlice S256x128 ![8, 0] X slices_S272x128_o8_0_S256x128)

theorem lane_apply (g : Fin 4) (X : FVec Ideal S272x512 .f32) (x : Fin 272) (c : Fin 128) : lane g X (ix2 x c) = X (ix2 x (col g c)) := by
  fin_cases g <;> (unfold lane; dsimp only; pointwise; try (refine congrArg (fun z => X (ix2 x z)) (Fin.ext ?_); simp [col]))

theorem less_apply (n : IVec S256x1 32) (B X : FVec Ideal S272x128 .f32) (r : Fin 256) (c : Fin 128) :
    less n B X (ix2 r c) = Ideal.div (B (ix2 ⟨8 + r.val, by omega⟩ c)) ((((n (ix2 r 0)).toInt : ℝ)) : EReal) - X (ix2 ⟨8 + r.val, by omega⟩ c) := by
  pointwise [less]
  rfl

section Boxes

variable {X : FVec Ideal S272x128 .f32} {f : ℕ → ℝ} {c : Fin 128} (hX : ∀ x : Fin 272, X (ix2 x c) = ((f x.val : ℝ) : EReal))
include hX

theorem box2_apply (x : Fin 272) (h : 1 ≤ x.val) : box2 X (ix2 x c) = ((∑ k ∈ Finset.range 2, f (x.val - 1 + k) : ℝ) : EReal) := by
  have e : box2 X (ix2 x c) = roll 1#32 X (ix2 x c) + X (ix2 x c) := rfl
  rw [e, roll_apply, hX, hX, ← EReal.coe_add, Finset.sum_range_succ, Finset.sum_range_one]
  have e1 : (x.val + 272 - (1#32).toNat % 272) % 272 = x.val - 1 + 0 := by simp; omega
  have e2 : x.val = x.val - 1 + 1 := by omega
  simp only [e1]
  rw [← e2]

theorem box4_apply (x : Fin 272) (h : 2 ≤ x.val) (h' : x.val < 271) : box4 X (ix2 x c) = ((∑ k ∈ Finset.range 4, f (x.val - 2 + k) : ℝ) : EReal) := by
  have e : box4 X (ix2 x c) = roll 1#32 (box2 X) (ix2 x c) + roll 271#32 (box2 X) (ix2 x c) := rfl
  have e1 : (x.val + 272 - (1#32).toNat % 272) % 272 = x.val - 1 := by simp; omega
  have e2 : (x.val + 272 - (271#32).toNat % 272) % 272 = x.val + 1 := by simp; omega
  rw [e, roll_apply, roll_apply, box2_apply hX _ (by simp only [e1]; omega), box2_apply hX _ (by simp only [e2]; omega), ← EReal.coe_add]
  simp only [e1, e2]
  refine congrArg (fun z : ℝ => (z : EReal)) ?_
  rw [show (4 : ℕ) = 2 + 2 from rfl, Finset.sum_range_add]
  refine congrArg₂ (· + ·) (Finset.sum_congr rfl fun k _ => ?_) (Finset.sum_congr rfl fun k _ => ?_) <;> exact congrArg f (by omega)

theorem box8_apply (x : Fin 272) (h : 4 ≤ x.val) (h' : x.val < 269) : box8 X (ix2 x c) = ((∑ k ∈ Finset.range 8, f (x.val - 4 + k) : ℝ) : EReal) := by
  have e : box8 X (ix2 x c) = roll 2#32 (box4 X) (ix2 x c) + roll 270#32 (box4 X) (ix2 x c) := rfl
  have e1 : (x.val + 272 - (2#32).toNat % 272) % 272 = x.val - 2 := by simp; omega
  have e2 : (x.val + 272 - (270#32).toNat % 272) % 272 = x.val + 2 := by simp; omega
  rw [e, roll_apply, roll_apply, box4_apply hX _ (by simp only [e1]; omega) (by simp only [e1]; omega), box4_apply hX _ (by simp only [e2]; omega) (by simp only [e2]; omega), ← EReal.coe_add]
  simp only [e1, e2]
  refine congrArg (fun z : ℝ => (z : EReal)) ?_
  rw [show (8 : ℕ) = 4 + 4 from rfl, Finset.sum_range_add]
  refine congrArg₂ (· + ·) (Finset.sum_congr rfl fun k _ => ?_) (Finset.sum_congr rfl fun k _ => ?_) <;> exact congrArg f (by omega)

theorem box16_apply (x : Fin 272) (h : 8 ≤ x.val) (h' : x.val < 265) : box16 X (ix2 x c) = ((∑ k ∈ Finset.range 16, f (x.val - 8 + k) : ℝ) : EReal) := by
  have e : box16 X (ix2 x c) = roll 4#32 (box8 X) (ix2 x c) + roll 268#32 (box8 X) (ix2 x c) := rfl
  have e1 : (x.val + 272 - (4#32).toNat % 272) % 272 = x.val - 4 := by simp; omega
  have e2 : (x.val + 272 - (268#32).toNat % 272) % 272 = x.val + 4 := by simp; omega
  rw [e, roll_apply, roll_apply, box8_apply hX _ (by simp only [e1]; omega) (by simp only [e1]; omega), box8_apply hX _ (by simp only [e2]; omega) (by simp only [e2]; omega), ← EReal.coe_add]
  simp only [e1, e2]
  refine congrArg (fun z : ℝ => (z : EReal)) ?_
  rw [show (16 : ℕ) = 8 + 8 from rfl, Finset.sum_range_add]
  refine congrArg₂ (· + ·) (Finset.sum_congr rfl fun k _ => ?_) (Finset.sum_congr rfl fun k _ => ?_) <;> exact congrArg f (by omega)

end Boxes

section Pays

variable (a : BitVec 32) (v25 : FVec Ideal S256x512 .f32) (v27 v32 : Vec Ideal S8x512 .f32)

theorem pay13_eq : k0_pay13 a v25 v27 v32 = less (count 1#32 (k0_pay12 a)) (box2 (lane 0 (k0_pay11 a v25 v27 v32))) (lane 0 (k0_pay11 a v25 v27 v32)) := rfl

theorem pay17_eq : k0_pay17 (k0_pay12 a) (k0_pay14 a v25 v27 v32) (k0_pay15 a v25 v27 v32) (k0_pay16 a) 4096#32
    = less (count 2#32 (k0_pay12 a)) (box4 (lane 1 (k0_pay11 a v25 v27 v32))) (lane 1 (k0_pay11 a v25 v27 v32)) := rfl

theorem pay18_eq (X : FVec Ideal S272x512 .f32) (w : IVec S256x1 32) :
    k0_pay18 X w = less (count 4#32 w) (box8 (lane 2 X)) (lane 2 X) := rfl

theorem pay25_eq (X : FVec Ideal S272x512 .f32) (w : IVec S256x1 32) (i : S256x128.Idx) :
    k0_pay25 w (k0_pay19 X) (k0_pay20 X) (k0_pay21 X) 270#32 i = less (count 8#32 w) (box16 (lane 3 X)) (lane 3 X) i := rfl

end Pays

/-- Position `r` of tile `i`. -/
def pos (i : Fin 16) (r : Fin 256) : Fin 4096 := ⟨i.val * 256 + r.val, by omega⟩

theorem toInt_count (g : Fin 4) : ∀ (i : Fin 16) (r : Fin 256),
    (IntOp.subi
      (IntOp.minsi (IntOp.addi (IntOp.addi (Scalar.muli (BitVec.ofNat 32 i.val) 256#32) (BitVec.ofNat 32 r.val)) (BitVec.ofNat 32 (half g))) 4096#32)
      (IntOp.maxsi (IntOp.subi (IntOp.addi (Scalar.muli (BitVec.ofNat 32 i.val) 256#32) (BitVec.ofNat 32 r.val)) (BitVec.ofNat 32 (half g))) 0#32)).toInt
      = ((min (i.val * 256 + r.val + half g) 4096 - (i.val * 256 + r.val - half g) : ℕ) : ℤ) := by
  fin_cases g <;> decide +kernel

theorem count_apply (g : Fin 4) (i : Fin 16) (r : Fin 256) :
    (count (BitVec.ofNat 32 (half g)) (k0_pay12 (BitVec.ofNat 32 i.val)) (ix2 r 0)).toInt
      = ((min ((pos i r).val + half g) 4096 - ((pos i r).val - half g) : ℕ) : ℤ) := by
  have e : count (BitVec.ofNat 32 (half g)) (k0_pay12 (BitVec.ofNat 32 i.val)) (ix2 r 0)
      = IntOp.subi
      (IntOp.minsi (IntOp.addi (IntOp.addi (Scalar.muli (BitVec.ofNat 32 i.val) 256#32) (BitVec.ofNat 32 r.val)) (BitVec.ofNat 32 (half g))) 4096#32)
      (IntOp.maxsi (IntOp.subi (IntOp.addi (Scalar.muli (BitVec.ofNat 32 i.val) 256#32) (BitVec.ofNat 32 r.val)) (BitVec.ofNat 32 (half g))) 0#32) := by
    pointwise [count, k0_pay12]
  rw [e, toInt_count]
  rfl

theorem pay11_apply (a : BitVec 32) (v25 : FVec Ideal S256x512 .f32) (v27 v32 : Vec Ideal S8x512 .f32) (r : Fin 272) (k : Fin 512) :
    k0_pay11 a v25 v27 v32 (ix2 r k)
      = (if h : r.val < 8 then Scalar.select (Scalar.cmpi CmpIPredicate.eq a 0#32) 0 (v27 (ix2 ⟨r.val, h⟩ k))
        else if h' : r.val - 8 < 256 then v25 (ix2 ⟨r.val - 8, h'⟩ k)
        else Scalar.select (Scalar.cmpi CmpIPredicate.eq a 15#32) 0 (v32 (ix2 ⟨r.val - 8 - 256, by omega⟩ k))) := by
  pointwise [k0_pay11]

theorem first_eq : ∀ i : Fin 16, Scalar.cmpi CmpIPredicate.eq (BitVec.ofNat 32 i.val) 0#32 = if i.val = 0 then 1#1 else 0#1 := by decide +kernel

theorem last_eq : ∀ i : Fin 16, Scalar.cmpi CmpIPredicate.eq (BitVec.ofNat 32 i.val) 15#32 = if i.val = 15 then 1#1 else 0#1 := by decide +kernel

section Tile

variable {i : Fin 16} {u : Fin 4096 → Fin 512 → ℝ}

/-- The tile's 272 rows: its own 256, eight before, eight after, zeros outside the sequence. -/
theorem rows_apply {v25 : FVec Ideal S256x512 .f32} {v27 v32 : Vec Ideal S8x512 .f32}
    (h25 : ∀ r c, v25 (ix2 r c) = ((u (pos i r) c : ℝ) : EReal))
    (h27 : ∀ (b : Fin 8) c (h : i.val ≠ 0), v27 (ix2 b c) = ((u ⟨i.val * 256 - 8 + b.val, by omega⟩ c : ℝ) : EReal))
    (h32 : ∀ (b : Fin 8) c (h : i.val ≠ 15), v32 (ix2 b c) = ((u ⟨i.val * 256 + 256 + b.val, by omega⟩ c : ℝ) : EReal))
    (x : Fin 272) (c : Fin 512) :
    k0_pay11 (BitVec.ofNat 32 i.val) v25 v27 v32 (ix2 x c) = ((ext (fun s => u s c) (i.val * 256 + x.val) : ℝ) : EReal) := by
  rw [pay11_apply, first_eq, last_eq]
  unfold ext
  by_cases h1 : x.val < 8
  · rw [dif_pos h1]
    by_cases h0 : i.val = 0
    · rw [if_pos h0, dif_neg (by omega)]; rfl
    · rw [if_neg h0, dif_pos (by omega)]
      refine Eq.trans (h27 ⟨x.val, h1⟩ c h0) (congrArg (fun s => ((u s c : ℝ) : EReal)) (Fin.ext ?_))
      simp only; omega
  · rw [dif_neg h1]
    by_cases h2 : x.val - 8 < 256
    · rw [dif_pos h2, dif_pos (by omega), h25]
      refine congrArg (fun s => ((u s c : ℝ) : EReal)) (Fin.ext ?_)
      simp only [pos]; omega
    · rw [dif_neg h2]
      by_cases h0 : i.val = 15
      · rw [if_pos h0, dif_neg (by omega)]; rfl
      · rw [if_neg h0, dif_pos (by omega)]
        refine Eq.trans (h32 ⟨x.val - 8 - 256, by omega⟩ c h0) (congrArg (fun s => ((u s c : ℝ) : EReal)) (Fin.ext ?_))
        simp only; omega

/-- The window's mean, once its sum is known. -/
theorem less_real (g : Fin 4) (n : ℕ) (h : BitVec 32) (hn : half g = n) (hh : h = BitVec.ofNat 32 n) {X : FVec Ideal S272x512 .f32} {B : FVec Ideal S272x128 .f32}
    (hX : ∀ x c, X (ix2 x c) = ((ext (fun s => u s c) (i.val * 256 + x.val) : ℝ) : EReal)) (r : Fin 256) (k : Fin 128)
    (hB : B (ix2 ⟨8 + r.val, by omega⟩ k) = ((∑ j ∈ Finset.range (2 * n), ext (fun s => u s (col g k)) (i.val * 256 + (8 + r.val - n + j)) : ℝ) : EReal)) :
    less (count h (k0_pay12 (BitVec.ofNat 32 i.val))) B (lane g X) (ix2 r k) = ((pooled u (pos i r) (col g k) : ℝ) : EReal) := by
  subst hn hh
  have hg : half g ≤ 8 ∧ 0 < half g := by fin_cases g <;> decide
  have e : (((min ((pos i r).val + half g) 4096 - ((pos i r).val - half g) : ℕ) : ℤ) : ℝ) = ((min ((pos i r).val + half g) 4096 - ((pos i r).val - half g) : ℕ) : ℝ) := Int.cast_natCast _
  rw [less_apply, count_apply, hB, lane_apply, hX, e, div_coe_coe _ _ (count_pos _ hg.2 _), ← EReal.coe_sub]
  refine congrArg (fun z : ℝ => (z : EReal)) ?_
  unfold pooled mean
  rw [grp_col, ← window_sum _ hg.1]
  congr 1
  · congr 1
    refine Finset.sum_congr rfl fun j _ => congrArg _ ?_
    simp only [pos]; omega
  · unfold ext
    rw [dif_pos (by simp only; omega)]
    refine congrArg (fun s => u s (col g k)) (Fin.ext ?_)
    simp only [pos]; omega

variable {X : FVec Ideal S272x512 .f32} (hX : ∀ x c, X (ix2 x c) = ((ext (fun s => u s c) (i.val * 256 + x.val) : ℝ) : EReal))
include hX

theorem lane_real (g : Fin 4) (k : Fin 128) (x : Fin 272) :
    lane g X (ix2 x k) = (((fun n => ext (fun s => u s (col g k)) (i.val * 256 + n)) x.val : ℝ) : EReal) := by
  rw [lane_apply, hX]

theorem mean2 (r : Fin 256) (k : Fin 128) :
    less (count 1#32 (k0_pay12 (BitVec.ofNat 32 i.val))) (box2 (lane 0 X)) (lane 0 X) (ix2 r k) = ((pooled u (pos i r) (col 0 k) : ℝ) : EReal) := by
  have e := box2_apply (f := fun n => ext (fun s => u s (col 0 k)) (i.val * 256 + n)) (c := k) (lane_real hX 0 k) ⟨8 + r.val, by omega⟩ (by simp only; omega)
  exact less_real 0 1 1#32 rfl rfl hX r k e

theorem mean4 (r : Fin 256) (k : Fin 128) :
    less (count 2#32 (k0_pay12 (BitVec.ofNat 32 i.val))) (box4 (lane 1 X)) (lane 1 X) (ix2 r k) = ((pooled u (pos i r) (col 1 k) : ℝ) : EReal) := by
  have e := box4_apply (f := fun n => ext (fun s => u s (col 1 k)) (i.val * 256 + n)) (c := k) (lane_real hX 1 k) ⟨8 + r.val, by omega⟩ (by simp only; omega) (by simp only; omega)
  exact less_real 1 2 2#32 rfl rfl hX r k e

theorem mean8 (r : Fin 256) (k : Fin 128) :
    less (count 4#32 (k0_pay12 (BitVec.ofNat 32 i.val))) (box8 (lane 2 X)) (lane 2 X) (ix2 r k) = ((pooled u (pos i r) (col 2 k) : ℝ) : EReal) := by
  have e := box8_apply (f := fun n => ext (fun s => u s (col 2 k)) (i.val * 256 + n)) (c := k) (lane_real hX 2 k) ⟨8 + r.val, by omega⟩ (by simp only; omega) (by simp only; omega)
  exact less_real 2 4 4#32 rfl rfl hX r k e

theorem mean16 (r : Fin 256) (k : Fin 128) :
    less (count 8#32 (k0_pay12 (BitVec.ofNat 32 i.val))) (box16 (lane 3 X)) (lane 3 X) (ix2 r k) = ((pooled u (pos i r) (col 3 k) : ℝ) : EReal) := by
  have e := box16_apply (f := fun n => ext (fun s => u s (col 3 k)) (i.val * 256 + n)) (c := k) (lane_real hX 3 k) ⟨8 + r.val, by omega⟩ (by simp only; omega) (by simp only; omega)
  exact less_real 3 8 8#32 rfl rfl hX r k e

end Tile

end Cert.OutKernelIdeal.Out
end
-- ==== Proof.Out.Tile.lean ====
module

public import proofs.«01_k».proof.Proof.Out.Pay
public import proofs.«01_k».proof.Proof.Out.Pool
public import Idealize.ShloMosaic.Lib.Pipeline.ValueKit.Tiles

@[expose] public section

/-! One step of the output stage: what it reads, what it leaves in its blocks, and that over real
arguments its blocks are the rows' and the tile's own parts of the specification. -/

set_option maxRecDepth 16384

noncomputable section

open Idealize.ShloMosaic

namespace Cert.OutKernelIdeal.Out

open Cert.OutKernelIdeal Cert.OutKernelIdeal.Gen Cert.Out Cert.Attn

/-- What a step reads: its number and its twelve blocks. -/
structure Ins where
  a : BitVec 32
  x0 : Vec Ideal S32x8x512 .f32
  x1 : Vec Ideal S256x512 .f32
  x2 : Vec Ideal S256x512 .f32
  x3 : Vec Ideal S8x512 .f32
  x4 : Vec Ideal S8x512 .f32
  x5 : Vec Ideal S256x512 .f32
  x6 : Vec Ideal S256x1024 .f32
  x7 : Vec Ideal S256x1024 .f32
  x8 : Vec Ideal S1x3x1024 .f32
  x9 : Vec Ideal S4x128x128 .f32
  x10 : Vec Ideal S1x512 .f32
  x11 : Vec Ideal S1024x1024 .bf16

namespace Ins

variable (b : Ins)

/-- The attention rows, in the order of the positions. -/
def att : FVec Ideal S256x512 .f32 :=
  k0_pay7 (View.ld b.x0 (Rect.unit ![0, 0, 0] ![32, 1, 512] inb_S32x8x512_S32x1x512_0_0_0))
    (View.ld b.x0 (Rect.unit ![0, 1, 0] ![32, 1, 512] inb_S32x8x512_S32x1x512_0_1_0))
    (View.ld b.x0 (Rect.unit ![0, 2, 0] ![32, 1, 512] inb_S32x8x512_S32x1x512_0_2_0))
    (View.ld b.x0 (Rect.unit ![0, 3, 0] ![32, 1, 512] inb_S32x8x512_S32x1x512_0_3_0))
    (View.ld b.x0 (Rect.unit ![0, 4, 0] ![32, 1, 512] inb_S32x8x512_S32x1x512_0_4_0))
    (View.ld b.x0 (Rect.unit ![0, 5, 0] ![32, 1, 512] inb_S32x8x512_S32x1x512_0_5_0))
    (View.ld b.x0 (Rect.unit ![0, 6, 0] ![32, 1, 512] inb_S32x8x512_S32x1x512_0_6_0))
    (View.ld b.x0 (Rect.unit ![0, 7, 0] ![32, 1, 512] inb_S32x8x512_S32x1x512_0_7_0))

def rows : FVec Ideal S272x512 .f32 := k0_pay11 b.a (k0_pay10 b.x2) b.x3 b.x4
def p0 : FVec Ideal S256x128 .f32 := k0_pay13 b.a (k0_pay10 b.x2) b.x3 b.x4
def p1 : FVec Ideal S256x128 .f32 :=
  k0_pay17 (k0_pay12 b.a) (k0_pay14 b.a (k0_pay10 b.x2) b.x3 b.x4) (k0_pay15 b.a (k0_pay10 b.x2) b.x3 b.x4) (k0_pay16 b.a) 4096#32
def p2 : FVec Ideal S256x128 .f32 := k0_pay18 b.rows (k0_pay12 b.a)
def p3 : FVec Ideal S256x128 .bf16 := k0_pay25 (k0_pay12 b.a) (k0_pay19 b.rows) (k0_pay20 b.rows) (k0_pay21 b.rows) 270#32

def w0 : Vec Ideal S1x128x128 .f32 := View.ld b.x9 (Rect.unit ![0, 0, 0] ![1, 128, 128] inb_S4x128x128_S1x128x128_0_0_0)
def w1 : Vec Ideal S1x128x128 .f32 := View.ld b.x9 (Rect.unit ![1, 0, 0] ![1, 128, 128] inb_S4x128x128_S1x128x128_1_0_0)
def w2 : Vec Ideal S1x128x128 .f32 := View.ld b.x9 (Rect.unit ![2, 0, 0] ![1, 128, 128] inb_S4x128x128_S1x128x128_2_0_0)
def w3 : Vec Ideal S1x128x128 .f32 := View.ld b.x9 (Rect.unit ![3, 0, 0] ![1, 128, 128] inb_S4x128x128_S1x128x128_3_0_0)

/-- The gate. -/
def gate : Vec Ideal S1x1x1024 .f32 := View.ld b.x8 (Rect.unit ![0, 2, 0] ![1, 1, 1024] inb_S1x3x1024_S1x1x1024_0_2_0)

def z : FVec Ideal S256x512 .f32 := k0_pay33 b.p3 (k0_pay29 b.w3) (k0_pay30 b.p0 b.w0) (k0_pay31 b.p1 b.w1) (k0_pay32 b.p2 b.w2)
def yp : FVec Ideal S256x512 .f32 := k0_pay34 b.p3 (k0_pay29 b.w3) (k0_pay30 b.p0 b.w0) (k0_pay31 b.p1 b.w1) (k0_pay32 b.p2 b.w2) b.x10
def br : FVec Ideal S256x1024 .bf16 :=
  k0_pay39 b.att (k0_pay8 b.x1) (k0_pay9 b.x5) b.p3 (k0_pay29 b.w3) (k0_pay30 b.p0 b.w0) (k0_pay31 b.p1 b.w1) (k0_pay32 b.p2 b.w2) b.x10
def y : FVec Ideal S256x1024 .f32 :=
  k0_pay40 b.att (k0_pay8 b.x1) (k0_pay9 b.x5) b.p3 (k0_pay29 b.w3) (k0_pay30 b.p0 b.w0) (k0_pay31 b.p1 b.w1) (k0_pay32 b.p2 b.w2) b.x10 b.x11
def e : FVec Ideal S256x1024 .f32 :=
  k0_pay42 b.att (k0_pay8 b.x1) (k0_pay9 b.x5) b.p3 (k0_pay29 b.w3) (k0_pay30 b.p0 b.w0) (k0_pay31 b.p1 b.w1) (k0_pay32 b.p2 b.w2) b.x10 b.x11 b.gate b.x6 b.x7

/-- The cotangents of the two branches, of the attention branch's rows and of the pooled product. -/
def dbl : FVec Ideal S256x512 .f32 := k0_pay49 (k0_pay41 b.gate) b.e b.x11
def dbr : FVec Ideal S256x512 .f32 := k0_pay50 (k0_pay41 b.gate) b.e b.x11
def da : FVec Ideal S256x512 .f32 := k0_pay51 (k0_pay36 (k0_pay8 b.x1)) (k0_pay41 b.gate) b.e b.x11
def dz : FVec Ideal S256x512 .bf16 := k0_pay66 b.x10 (k0_pay38 (k0_pay9 b.x5)) b.dbr

/-- The blocks that a step leaves. -/
def dxG : Vec Ideal S256x1024 .f32 := k0_pay44 b.e
def daG : Vec Ideal S32x8x512 .f32 := fun v =>
  b.da (ix2 ⟨(v 1).val * 32 + (v 0).val, by have : (v 0).val < 32 := (v 0).isLt; have : (v 1).val < 8 := (v 1).isLt; omega⟩ (v 2))
def dgaG : Vec Ideal S256x512 .bf16 := k0_pay62 b.att (k0_pay8 b.x1) (k0_pay35 (k0_pay8 b.x1)) b.dbl
def dgpG : Vec Ideal S256x512 .bf16 := k0_pay63 (k0_pay9 b.x5) b.yp (k0_pay37 (k0_pay9 b.x5)) b.dbr
def dpG : Vec Ideal S256x512 .f32 :=
  k0_pay1 (k0_pay29 b.w3) (k0_pay70 (k0_pay26 b.w0) (k0_pay67 b.x10 (k0_pay38 (k0_pay9 b.x5)) b.dbr))
    (k0_pay73 (k0_pay27 b.w1) b.dz) (k0_pay76 (k0_pay28 b.w2) b.dz) (k0_pay77 b.dz)
def dwG (o : Vec Ideal S1024x1024 .f32) : Vec Ideal S1024x1024 .f32 := k0_pay47 b.br (k0_pay41 b.gate) b.e o
def dgateG (o : Vec Ideal S1x1024 .f32) : Vec Ideal S1x1024 .f32 := k0_pay45 b.y b.e o
def dpsG (o : Vec Ideal S1x512 .f32) : Vec Ideal S1x512 .f32 := k0_pay65 b.z (k0_pay38 (k0_pay9 b.x5)) b.dbr o
def lossG (o : Vec Ideal S1x1 .f32) : Vec Ideal S1x1 .f32 := k0_pay43 b.e o

/-- The pooled channels of group `g`. -/
def p (g : Fin 4) : FVec Ideal S256x128 .bf16 :=
  match g with
  | 0 => k0_pay22 b.p0
  | 1 => k0_pay23 b.p1
  | 2 => k0_pay24 b.p2
  | 3 => b.p3

def dwpG (o : Vec Ideal S4x128x128 .f32) : Vec Ideal S4x128x128 .f32 := fun v =>
  o v + ∑ r : Fin 256, b.p (v 0) (ix2 r (v 1)) * b.dz (ix2 r (col (v 0) (v 2)))

end Ins

/-- Thirty-two rows of a tile, as one slab. -/
theorem slab_apply (v : FVec Ideal S256x512 .f32) (o : ℕ) (h : o + 32 ≤ 256) (hs) (k : Fin 32) (c : Fin 512) :
    shapeCast S32x1x512 (extractStridedSlice S32x512 ![o, 0] v hs) shapeCasts_S32x512_S32x1x512 (ix3 k 0 c) = v (ix2 ⟨o + k.val, by omega⟩ c) := by
  pointwise

theorem group_apply (p q : FVec Ideal S256x128 .bf16) (o : Vec Ideal S1x128x128 .f32) (k j : Fin 128) :
    shapeCast S1x128x128 (addf (shapeCast S128x128 o shapeCasts_S1x128x128_S128x128)
      (matmul dot_S256x128_S256x128_S128x128_0_0_1_1_n_n none p q (constant (F := Ideal) S128x128 .f32 0x00000000#32))) shapeCasts_S128x128_S1x128x128 (ix3 0 k j)
      = o (ix3 0 k j) + ∑ r : Fin 256, p (ix2 r k) * q (ix2 r j) := by
  pointwise [dot_S256x128_S256x128_S128x128_0_0_1_1_n_n]

/-- The four groups of a tile's channels. -/
def quarter (q : FVec Ideal S256x512 .bf16) (g : Fin 4) : FVec Ideal S256x128 .bf16 := fun v => q (ix2 (v 0) (col g (v 1)))

theorem quarter_eq (q : FVec Ideal S256x512 .bf16) :
    extractStridedSlice S256x128 ![0, 0] q slices_S256x512_o0_0_S256x128 = quarter q 0 ∧ k0_pay71 q = quarter q 1 ∧ k0_pay74 q = quarter q 2 ∧ k0_pay77 q = quarter q 3 := by
  have e (f : FVec Ideal S256x128 .bf16) (g : Fin 4) (h : ∀ r k, f (ix2 r k) = q (ix2 r (col g k))) : f = quarter q g := by
    funext v
    obtain ⟨r, k, rfl⟩ : ∃ (r : Fin 256) (k : Fin 128), v = ix2 r k := ⟨v 0, v 1, by funext i; fin_cases i <;> rfl⟩
    exact h r k
  refine ⟨e _ 0 fun r k => ?_, e _ 1 fun r k => ?_, e _ 2 fun r k => ?_, e _ 3 fun r k => ?_⟩
  · pointwise
    exact congrArg (fun z => q (ix2 r z)) (Fin.ext (by simp [col]))
  · pointwise [k0_pay71]
    rfl
  · pointwise [k0_pay74]
    rfl
  · pointwise [k0_pay77]
    rfl

/-- A slab's store is a block of the whole attention cotangent. -/
theorem da_piece (b : Ins) (j o : ℕ) (ho : o = j * 32) (hj : j < 8) (hs) (inb) (x : (Rect.unit (s := S32x8x512) ![0, j, 0] S32x1x512.size inb).shape.Idx) :
    shapeCast S32x1x512 (extractStridedSlice S32x512 ![o, 0] b.da hs) shapeCasts_S32x512_S32x1x512 x
      = b.daG ((Rect.unit (s := S32x8x512) ![0, j, 0] S32x1x512.size inb).emb x) := by
  obtain ⟨k, c, rfl⟩ : ∃ (k : Fin 32) (c : Fin 512), x = ix3 k 0 c := ⟨x 0, x 2, by
    funext i; fin_cases i
    · rfl
    · exact Subsingleton.elim (α := Fin 1) _ _
    · rfl⟩
  have e : (Rect.unit (s := S32x8x512) ![0, j, 0] S32x1x512.size inb).emb (ix3 k 0 c) = ix3 k ⟨j, hj⟩ c := by
    funext i; apply Fin.ext; refine (Rect.idx_unit_val _ _ _ _ _).trans ?_; fin_cases i <;> simp [ix3]
  rw [e, slab_apply b.da o (by omega)]
  exact congrArg (fun z => b.da (ix2 z c)) (Fin.ext (by subst ho; rfl))

section
variable (b : Ins) (inb)

theorem da_piece0 (x) : k0_pay53 (k0_pay52 (k0_pay36 (k0_pay8 b.x1)) (k0_pay41 b.gate) b.e b.x11) x = b.daG ((Rect.unit (s := S32x8x512) ![0, 0, 0] S32x1x512.size inb).emb x) :=
  da_piece b 0 0 rfl (by decide) slices_S256x512_o0_0_S32x512 inb x
theorem da_piece1 (x) : k0_pay54 b.da x = b.daG ((Rect.unit (s := S32x8x512) ![0, 1, 0] S32x1x512.size inb).emb x) :=
  da_piece b 1 32 rfl (by decide) _ inb x
theorem da_piece2 (x) : k0_pay55 b.da x = b.daG ((Rect.unit (s := S32x8x512) ![0, 2, 0] S32x1x512.size inb).emb x) :=
  da_piece b 2 64 rfl (by decide) _ inb x
theorem da_piece3 (x) : k0_pay56 b.da x = b.daG ((Rect.unit (s := S32x8x512) ![0, 3, 0] S32x1x512.size inb).emb x) :=
  da_piece b 3 96 rfl (by decide) _ inb x
theorem da_piece4 (x) : k0_pay57 b.da x = b.daG ((Rect.unit (s := S32x8x512) ![0, 4, 0] S32x1x512.size inb).emb x) :=
  da_piece b 4 128 rfl (by decide) _ inb x
theorem da_piece5 (x) : k0_pay58 b.da x = b.daG ((Rect.unit (s := S32x8x512) ![0, 5, 0] S32x1x512.size inb).emb x) :=
  da_piece b 5 160 rfl (by decide) _ inb x
theorem da_piece6 (x) : k0_pay59 b.da x = b.daG ((Rect.unit (s := S32x8x512) ![0, 6, 0] S32x1x512.size inb).emb x) :=
  da_piece b 6 192 rfl (by decide) _ inb x
theorem da_piece7 (x) : k0_pay61 (k0_pay60 b.da) x = b.daG ((Rect.unit (s := S32x8x512) ![0, 7, 0] S32x1x512.size inb).emb x) :=
  da_piece b 7 224 rfl (by decide) slices_S256x512_o224_0_S32x512 inb x
end

/-- A group's store into the weight cotangent is a block of the whole of it. -/
theorem dwp_piece (b : Ins) (old : Vec Ideal S4x128x128 .f32) (g : Fin 4) (n : ℕ) (hn : n = g.val) (q : FVec Ideal S256x128 .bf16)
    (hq : q = quarter b.dz g) (inb) (x : (Rect.unit (s := S4x128x128) ![n, 0, 0] S1x128x128.size inb).shape.Idx) :
    shapeCast S1x128x128 (addf (shapeCast S128x128 (View.ld old (Rect.unit (s := S4x128x128) ![n, 0, 0] S1x128x128.size inb)) shapeCasts_S1x128x128_S128x128)
      (matmul dot_S256x128_S256x128_S128x128_0_0_1_1_n_n none (b.p g) q (constant (F := Ideal) S128x128 .f32 0x00000000#32))) shapeCasts_S128x128_S1x128x128 x
      = b.dwpG old ((Rect.unit (s := S4x128x128) ![n, 0, 0] S1x128x128.size inb).emb x) := by
  obtain ⟨k, j, rfl⟩ : ∃ (k : Fin 128) (j : Fin 128), x = ix3 0 k j := ⟨x 1, x 2, by
    funext i; fin_cases i
    · exact Subsingleton.elim (α := Fin 1) _ _
    · rfl
    · rfl⟩
  have e : (Rect.unit (s := S4x128x128) ![n, 0, 0] S1x128x128.size inb).emb (ix3 0 k j) = ix3 g k j := by
    funext i; apply Fin.ext; refine (Rect.idx_unit_val _ _ _ _ _).trans ?_; fin_cases i <;> simp [ix3, hn]
  subst hq
  rw [e, group_apply]
  refine congrArg₂ (· + ·) ?_ rfl
  refine Eq.trans ?_ (congrArg old e)
  rfl

section
variable (b : Ins) (old : Vec Ideal S4x128x128 .f32) (inb)

theorem dwp_piece0 (x) : k0_pay69 (k0_pay68 (k0_pay22 b.p0) b.x10 (k0_pay38 (k0_pay9 b.x5)) b.dbr (View.ld old (Rect.unit (s := S4x128x128) ![0, 0, 0] S1x128x128.size inb))) x
    = b.dwpG old ((Rect.unit (s := S4x128x128) ![0, 0, 0] S1x128x128.size inb).emb x) := dwp_piece b old 0 0 rfl _ (quarter_eq b.dz).1 inb x
theorem dwp_piece1 (x) : k0_pay72 (k0_pay23 b.p1) b.dz (View.ld old (Rect.unit (s := S4x128x128) ![1, 0, 0] S1x128x128.size inb)) x
    = b.dwpG old ((Rect.unit (s := S4x128x128) ![1, 0, 0] S1x128x128.size inb).emb x) := dwp_piece b old 1 1 rfl _ (quarter_eq b.dz).2.1 inb x
theorem dwp_piece2 (x) : k0_pay75 (k0_pay24 b.p2) b.dz (View.ld old (Rect.unit (s := S4x128x128) ![2, 0, 0] S1x128x128.size inb)) x
    = b.dwpG old ((Rect.unit (s := S4x128x128) ![2, 0, 0] S1x128x128.size inb).emb x) := dwp_piece b old 2 2 rfl _ (quarter_eq b.dz).2.2.1 inb x
theorem dwp_piece3 (x) : k0_pay78 b.p3 b.dz (View.ld old (Rect.unit (s := S4x128x128) ![3, 0, 0] S1x128x128.size inb)) x
    = b.dwpG old ((Rect.unit (s := S4x128x128) ![3, 0, 0] S1x128x128.size inb).emb x) := dwp_piece b old 3 3 rfl _ (quarter_eq b.dz).2.2.2 inb x
end

namespace Ins

/-- A step's blocks hold tile `i` of the arguments: positions `i * 256 + r`. -/
structure Reads (b : Ins) (i : Fin 16) (w : Par) (u : Fin 4096 → Fin 512 → ℝ) (R : Fin 256 → Row) : Prop where
  a : b.a = BitVec.ofNat 32 i.val
  att : ∀ (k : Fin 32) (j : Fin 8) c, b.x0 (ix3 k j c) = (((R ⟨j.val * 32 + k.val, by omega⟩).a c : ℝ) : EReal)
  ga : ∀ r c, b.x1 (ix2 r c) = (((R r).ga c : ℝ) : EReal)
  pin : ∀ r c, b.x2 (ix2 r c) = ((u (pos i r) c : ℝ) : EReal)
  prev : ∀ (k : Fin 8) c (h : i.val ≠ 0), b.x3 (ix2 k c) = ((u ⟨i.val * 256 - 8 + k.val, by omega⟩ c : ℝ) : EReal)
  next : ∀ (k : Fin 8) c (h : i.val ≠ 15), b.x4 (ix2 k c) = ((u ⟨i.val * 256 + 256 + k.val, by omega⟩ c : ℝ) : EReal)
  gp : ∀ r c, b.x5 (ix2 r c) = (((R r).gp c : ℝ) : EReal)
  x : ∀ r d, b.x6 (ix2 r d) = (((R r).x d : ℝ) : EReal)
  t : ∀ r d, b.x7 (ix2 r d) = (((R r).t d : ℝ) : EReal)
  g : ∀ d, b.x8 (ix3 0 2 d) = ((w.g d : ℝ) : EReal)
  wp : ∀ g k j, b.x9 (ix3 g k j) = ((w.wp g k j : ℝ) : EReal)
  ps : ∀ c, b.x10 (ix2 0 c) = ((w.ps c : ℝ) : EReal)
  w : ∀ m d, b.x11 (ix2 m d) = ((w.w m d : ℝ) : EReal)
  p : ∀ r c, (R r).p c = pooled u (pos i r) c

theorem cast512 (v : Vec Ideal S256x512 .f32) (r : Fin 256) (c : Fin 512) : k0_pay8 v (ix2 r c) = v (ix2 r c) := by
  pointwise [k0_pay8]

namespace Reads

variable {b : Ins} {i : Fin 16} {w : Par} {u : Fin 4096 → Fin 512 → ℝ} {R : Fin 256 → Row} (h : b.Reads i w u R)
include h

theorem att_real (r : Fin 256) (c : Fin 512) : b.att (ix2 r c) = (((R r).a c : ℝ) : EReal) := by
  have e (j : Fin 8) (inb) (k : Fin 32) : View.ld b.x0 (Rect.unit (s := S32x8x512) ![0, j.val, 0] ![32, 1, 512] inb) (ix3 k 0 c) = b.x0 (ix3 k j c) :=
    View.ld_unit_apply_of _ _ _ _ _ _ fun i => by fin_cases i <;> simp [ix3]
  have q := pay7_apply (fun j => View.ld b.x0 (Rect.unit (s := S32x8x512) ![0, j.val, 0] ![32, 1, 512] (by
    intro a; have := j.isLt; fin_cases a <;> simp [S32x8x512] <;> omega))) r c
  refine Eq.trans q ?_
  refine (e _ _ _).trans ?_
  rw [h.att]
  exact congrArg (fun z => (((R z).a c : ℝ) : EReal)) (Fin.ext (by simp only; omega))

theorem ga_real (r : Fin 256) (c : Fin 512) : k0_pay8 b.x1 (ix2 r c) = (((R r).ga c : ℝ) : EReal) := by rw [cast512, h.ga]
theorem gp_real (r : Fin 256) (c : Fin 512) : k0_pay9 b.x5 (ix2 r c) = (((R r).gp c : ℝ) : EReal) := (cast512 b.x5 r c).trans (h.gp r c)

theorem rows_real (x : Fin 272) (c : Fin 512) : b.rows (ix2 x c) = ((ext (fun s => u s c) (i.val * 256 + x.val) : ℝ) : EReal) := by
  unfold rows
  rw [h.a]
  exact rows_apply (fun r c => (cast512 b.x2 r c).trans (h.pin r c)) h.prev h.next x c

theorem p0_real (r : Fin 256) (k : Fin 128) : b.p0 (ix2 r k) = (((R r).p (col 0 k) : ℝ) : EReal) := by
  unfold p0
  rw [pay13_eq, h.p, h.a]
  have hr := h.rows_real
  unfold rows at hr
  rw [h.a] at hr
  exact mean2 hr r k

theorem p1_real (r : Fin 256) (k : Fin 128) : b.p1 (ix2 r k) = (((R r).p (col 1 k) : ℝ) : EReal) := by
  unfold p1
  rw [pay17_eq, h.p, h.a]
  have hr := h.rows_real
  unfold rows at hr
  rw [h.a] at hr
  exact mean4 hr r k

theorem p2_real (r : Fin 256) (k : Fin 128) : b.p2 (ix2 r k) = (((R r).p (col 2 k) : ℝ) : EReal) := by
  unfold p2
  rw [pay18_eq, h.p, h.a]
  exact mean8 h.rows_real r k

theorem p3_real (r : Fin 256) (k : Fin 128) : b.p3 (ix2 r k) = (((R r).p (col 3 k) : ℝ) : EReal) := by
  unfold p3
  rw [pay25_eq, h.p, h.a]
  exact mean16 h.rows_real r k

theorem w_real (g : Fin 4) (n : ℕ) (hn : n = g.val) (inb) (k j : Fin 128) :
    View.ld b.x9 (Rect.unit (s := S4x128x128) ![n, 0, 0] ![1, 128, 128] inb) (ix3 0 k j) = ((w.wp g k j : ℝ) : EReal) := by
  refine Eq.trans (View.ld_unit_apply_of _ _ _ _ _ (ix3 g k j) fun i => ?_) (h.wp g k j)
  fin_cases i <;> simp [ix3, hn]

theorem w0_real (k j : Fin 128) : b.w0 (ix3 0 k j) = ((w.wp 0 k j : ℝ) : EReal) := h.w_real 0 0 rfl _ k j
theorem w1_real (k j : Fin 128) : b.w1 (ix3 0 k j) = ((w.wp 1 k j : ℝ) : EReal) := h.w_real 1 1 rfl _ k j
theorem w2_real (k j : Fin 128) : b.w2 (ix3 0 k j) = ((w.wp 2 k j : ℝ) : EReal) := h.w_real 2 2 rfl _ k j
theorem w3_real (k j : Fin 128) : b.w3 (ix3 0 k j) = ((w.wp 3 k j : ℝ) : EReal) := h.w_real 3 3 rfl _ k j

theorem gate_real (d : Fin 1024) : b.gate (ix3 0 0 d) = ((w.g d : ℝ) : EReal) := by
  refine Eq.trans (View.ld_unit_apply_of _ _ _ _ _ (ix3 0 2 d) fun i => ?_) (h.g d)
  fin_cases i <;> simp [ix3]

theorem z_real (r : Fin 256) (c : Fin 512) : b.z (ix2 r c) = (((R r).z w c : ℝ) : EReal) :=
  pay33_real h.p0_real h.p1_real h.p2_real h.p3_real h.w0_real h.w1_real h.w2_real h.w3_real r c

theorem yp_real (r : Fin 256) (c : Fin 512) : b.yp (ix2 r c) = (((R r).yp w c : ℝ) : EReal) :=
  pay34_real h.p0_real h.p1_real h.p2_real h.p3_real h.w0_real h.w1_real h.w2_real h.w3_real h.ps r c

theorem br_real (r : Fin 256) (m : Fin 1024) : b.br (ix2 r m) = (((R r).br w m : ℝ) : EReal) :=
  pay39_real h.att_real h.ga_real h.gp_real h.p0_real h.p1_real h.p2_real h.p3_real h.w0_real h.w1_real h.w2_real h.w3_real h.ps r m

theorem y_real (r : Fin 256) (d : Fin 1024) : b.y (ix2 r d) = (((R r).y w d : ℝ) : EReal) :=
  pay40_real h.att_real h.ga_real h.gp_real h.p0_real h.p1_real h.p2_real h.p3_real h.w0_real h.w1_real h.w2_real h.w3_real h.ps h.w r d

theorem e_real (r : Fin 256) (d : Fin 1024) : b.e (ix2 r d) = (((R r).e w d : ℝ) : EReal) :=
  pay42_real h.att_real h.ga_real h.gp_real h.p0_real h.p1_real h.p2_real h.p3_real h.w0_real h.w1_real h.w2_real h.w3_real h.ps h.w h.gate_real h.x h.t r d

theorem dbl_real (r : Fin 256) (c : Fin 512) : b.dbl (ix2 r c) = (((R r).db w (left c) : ℝ) : EReal) := pay49_real h.e_real h.gate_real h.w r c
theorem dbr_real (r : Fin 256) (c : Fin 512) : b.dbr (ix2 r c) = (((R r).db w (right c) : ℝ) : EReal) := pay50_real h.e_real h.gate_real h.w r c

theorem dz_real (r : Fin 256) (c : Fin 512) : b.dz (ix2 r c) = (((R r).dz w c : ℝ) : EReal) :=
  pay66_real (pay38_real h.gp_real) h.dbr_real h.ps r c

/-- The blocks of one tile's rows. -/
theorem dx_real (r : Fin 256) (d : Fin 1024) : b.dxG (ix2 r d) = (((R r).dx w d : ℝ) : EReal) := pay44_real h.e_real r d

theorem da_real (k : Fin 32) (j : Fin 8) (c : Fin 512) : b.daG (ix3 k j c) = (((R ⟨j.val * 32 + k.val, by omega⟩).da w c : ℝ) : EReal) :=
  pay51_real h.e_real h.gate_real h.w (pay36_real h.ga_real) ⟨j.val * 32 + k.val, by omega⟩ c

theorem dga_real (r : Fin 256) (c : Fin 512) : b.dgaG (ix2 r c) = (((R r).dga w c : ℝ) : EReal) :=
  pay62_real h.att_real h.ga_real (pay35_real h.ga_real) h.dbl_real r c

theorem dgp_real (r : Fin 256) (c : Fin 512) : b.dgpG (ix2 r c) = (((R r).dgp w c : ℝ) : EReal) :=
  pay62_real h.yp_real h.gp_real (pay35_real h.gp_real) h.dbr_real r c

theorem quarter_real (g : Fin 4) (r : Fin 256) (k : Fin 128) : quarter b.dz g (ix2 r k) = (((R r).dz w (col g k) : ℝ) : EReal) := h.dz_real r (col g k)

theorem dp_real (r : Fin 256) (c : Fin 512) : b.dpG (ix2 r c) = (((R r).dp w c : ℝ) : EReal) := by
  obtain ⟨q0, q1, q2, q3⟩ := quarter_eq b.dz
  unfold dpG k0_pay1 k0_pay70 k0_pay73 k0_pay76
  rw [q1, q2, q3]
  refine groups_apply _ _ _ _ (f := fun r c => (R r).dp w c) (Out.dp_real ?_ (weight_real h.w0_real)) (Out.dp_real (h.quarter_real 1) (weight_real h.w1_real))
    (Out.dp_real (h.quarter_real 2) (weight_real h.w2_real)) (Out.dp_real (h.quarter_real 3) (weight_real h.w3_real)) r c
  intro r k
  exact (congrFun q0 (ix2 r k)).trans (h.quarter_real 0 r k)

/-- The blocks that are sums over the tiles. -/
theorem dw_real (o : Vec Ideal S1024x1024 .f32) (m d : Fin 1024) : b.dwG o (ix2 m d) = o (ix2 m d) + ((dw w R m d : ℝ) : EReal) :=
  pay47_real h.e_real h.gate_real h.br_real o m d

theorem dgate_real (o : Vec Ideal S1x1024 .f32) (d : Fin 1024) : b.dgateG o (ix2 0 d) = o (ix2 0 d) + ((dgate w R d : ℝ) : EReal) :=
  pay45_real h.e_real h.y_real o d

theorem dps_real (o : Vec Ideal S1x512 .f32) (c : Fin 512) : b.dpsG o (ix2 0 c) = o (ix2 0 c) + ((dps w R c : ℝ) : EReal) :=
  pay65_real (pay38_real h.gp_real) h.dbr_real h.z_real o c

theorem loss_real (o : Vec Ideal S1x1 .f32) : b.lossG o (ix2 0 0) = o (ix2 0 0) + ((loss w R : ℝ) : EReal) := pay43_real h.e_real o

theorem p_real (g : Fin 4) (r : Fin 256) (k : Fin 128) : b.p g (ix2 r k) = (((R r).p (col g k) : ℝ) : EReal) :=
  match g with
  | 0 => h.p0_real r k
  | 1 => h.p1_real r k
  | 2 => h.p2_real r k
  | 3 => h.p3_real r k

theorem dwp_real (o : Vec Ideal S4x128x128 .f32) (g : Fin 4) (k j : Fin 128) : b.dwpG o (ix3 g k j) = o (ix3 g k j) + ((dwp w R g k j : ℝ) : EReal) := by
  have e : b.dwpG o (ix3 g k j) = o (ix3 g k j) + ∑ r : Fin 256, b.p g (ix2 r k) * b.dz (ix2 r (col g j)) := rfl
  rw [e, dot_real (fun r => h.p_real g r k) (fun r => h.dz_real r (col g j))]
  rfl

end Reads

end Ins

/-- What the step at a grid point reads. -/
def blockIns (i : grid0.Coords) (x0 : Vec Ideal S32x8x512 .f32) (x1 : Vec Ideal S256x512 .f32) (x2 : Vec Ideal S256x512 .f32) (x3 : Vec Ideal S8x512 .f32) (x4 : Vec Ideal S8x512 .f32) (x5 : Vec Ideal S256x512 .f32) (x6 : Vec Ideal S256x1024 .f32) (x7 : Vec Ideal S256x1024 .f32) (x8 : Vec Ideal S1x3x1024 .f32) (x9 : Vec Ideal S4x128x128 .f32) (x10 : Vec Ideal S1x512 .f32) (x11 : Vec Ideal S1024x1024 .bf16) : Ins :=
  ⟨BitVec.ofNat 32 (i 0).val, x0, x1, x2, x3, x4, x5, x6, x7, x8, x9, x10, x11⟩

theorem z2 : (![0, 0] : Fin 2 → Nat) = fun _ => 0 := funext fun a => by fin_cases a <;> rfl
theorem fill3 : ∀ a : Fin 3, (![0, 0, 0] : Fin 3 → Nat) a = 0 := fun a => by fin_cases a <;> rfl
theorem fill2 : ∀ a : Fin 2, (![0, 0] : Fin 2 → Nat) a = 0 := fun a => by fin_cases a <;> rfl

end Cert.OutKernelIdeal.Out
end
-- ==== Proof.Out.BlkA.lean ====
module

public import proofs.«01_k».proof.Proof.Gen.OutKernelIdeal.Frame
public import proofs.«01_k».proof.Proof.Out.Tile
public import Idealize.ShloMosaic.Lib.Pipeline.ReadBack
public import Idealize.ShloMosaic.Lib.Pipeline.CanonAppend
public import Idealize.ShloMosaic.Lib.Pipeline.ValueKit.Tiles

@[expose] public section

/-! What one step of the output stage leaves in its ten output blocks, at the first point. -/

set_option maxRecDepth 16384

noncomputable section

open Idealize.ShloMosaic

namespace Cert.OutKernelIdeal.Out

open Cert.OutKernelIdeal Cert.OutKernelIdeal.Gen Cert.Out Cert.Attn

variable (c : Dev nD) (i : grid0.Coords)
variable (a1 : Memref sig .tc .vmem S32x8x512 .f32) (h1 : a1.IsWhole)
  (a2 : Memref sig .tc .vmem S256x512 .f32) (h2 : a2.IsWhole)
  (a3 : Memref sig .tc .vmem S256x512 .f32) (h3 : a3.IsWhole)
  (a4 : Memref sig .tc .vmem S8x512 .f32) (h4 : a4.IsWhole)
  (a5 : Memref sig .tc .vmem S8x512 .f32) (h5 : a5.IsWhole)
  (a6 : Memref sig .tc .vmem S256x512 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S1x3x1024 .f32) (h9 : a9.IsWhole)
  (a10 : Memref sig .tc .vmem S4x128x128 .f32) (h10 : a10.IsWhole)
  (a11 : Memref sig .tc .vmem S1x512 .f32) (h11 : a11.IsWhole)
  (a12 : Memref sig .tc .vmem S1024x1024 .bf16) (h12 : a12.IsWhole)
  (a13 : Memref sig .tc .vmem S256x1024 .f32) (h13 : a13.IsWhole)
  (a14 : Memref sig .tc .vmem S32x8x512 .f32) (h14 : a14.IsWhole)
  (a15 : Memref sig .tc .vmem S256x512 .bf16) (h15 : a15.IsWhole)
  (a16 : Memref sig .tc .vmem S256x512 .bf16) (h16 : a16.IsWhole)
  (a17 : Memref sig .tc .vmem S256x512 .f32) (h17 : a17.IsWhole)
  (a18 : Memref sig .tc .vmem S1024x1024 .f32) (h18 : a18.IsWhole)
  (a19 : Memref sig .tc .vmem S1x1024 .f32) (h19 : a19.IsWhole)
  (a20 : Memref sig .tc .vmem S1x512 .f32) (h20 : a20.IsWhole)
  (a21 : Memref sig .tc .vmem S4x128x128 .f32) (h21 : a21.IsWhole)
  (a22 : Memref sig .tc .vmem S1x1 .f32) (h22 : a22.IsWhole)
variable (x0 : Vec Ideal S32x8x512 .f32) (x1 : Vec Ideal S256x512 .f32) (x2 : Vec Ideal S256x512 .f32) (x3 : Vec Ideal S8x512 .f32) (x4 : Vec Ideal S8x512 .f32) (x5 : Vec Ideal S256x512 .f32) (x6 : Vec Ideal S256x1024 .f32) (x7 : Vec Ideal S256x1024 .f32) (x8 : Vec Ideal S1x3x1024 .f32) (x9 : Vec Ideal S4x128x128 .f32) (x10 : Vec Ideal S1x512 .f32) (x11 : Vec Ideal S1024x1024 .bf16)

theorem outA12 (hc) : out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dxG := by
  unfold out0_A_12
  rw [View.read_writes_eq_canon _ _ _ (cover0_A_12 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outA13 (hc) : out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).daG := by
  unfold out0_A_13
  rw [View.read_writes_eq_canon _ _ _ (cover0_A_13 _ _ _ _ _ _ _ _ _ _ _ _ _ _ _ _ _ _ _ _ _ _ _ _ _ _ _ _ _ _ _ _ _ _ _ _ _ _ _ _ _ _ _ _ _ _ _ _ _ _ _ _ _ _ _ _ _ _ _)]
  funext y
  refine View.canon_apply_of_pieces ((blockIns i x0 x1 x2 x3 x4 x5 x6 x7 x8 x9 x10 x11).daG) _ (View.PiecesOf.mem ?_) y (cover0_A_13 _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  exact ⟨fun x => da_piece7 (blockIns i x0 x1 x2 x3 x4 x5 x6 x7 x8 x9 x10 x11) inb_S32x8x512_S32x1x512_0_7_0 x, fun x => da_piece6 (blockIns i x0 x1 x2 x3 x4 x5 x6 x7 x8 x9 x10 x11) inb_S32x8x512_S32x1x512_0_6_0 x, fun x => da_piece5 (blockIns i x0 x1 x2 x3 x4 x5 x6 x7 x8 x9 x10 x11) inb_S32x8x512_S32x1x512_0_5_0 x, fun x => da_piece4 (blockIns i x0 x1 x2 x3 x4 x5 x6 x7 x8 x9 x10 x11) inb_S32x8x512_S32x1x512_0_4_0 x,
    fun x => da_piece3 (blockIns i x0 x1 x2 x3 x4 x5 x6 x7 x8 x9 x10 x11) inb_S32x8x512_S32x1x512_0_3_0 x, fun x => da_piece2 (blockIns i x0 x1 x2 x3 x4 x5 x6 x7 x8 x9 x10 x11) inb_S32x8x512_S32x1x512_0_2_0 x, fun x => da_piece1 (blockIns i x0 x1 x2 x3 x4 x5 x6 x7 x8 x9 x10 x11) inb_S32x8x512_S32x1x512_0_1_0 x, fun x => da_piece0 (blockIns i x0 x1 x2 x3 x4 x5 x6 x7 x8 x9 x10 x11) inb_S32x8x512_S32x1x512_0_0_0 x, trivial⟩

theorem outA14 (hc) : out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dgaG := by
  unfold out0_A_14
  rw [View.read_writes_eq_canon _ _ _ (cover0_A_14 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outA15 (hc) : out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dgpG := by
  unfold out0_A_15
  rw [View.read_writes_eq_canon _ _ _ (cover0_A_15 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outA16 (hc) : out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dpG := by
  unfold out0_A_16
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outA17 (hc) : out0_A_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dwG (k0_pay2 (F := Ideal)) := by
  unfold out0_A_17
  rw [View.read_writes_eq_canon _ _ _ (cover0_A_17 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  simp only [View.readCov_fill (s := S1024x1024) (off := ![0, 0]) _ _ _ _ _ fill2, View.ld_unit_zero (S := S1024x1024) z2]
  rfl

theorem outA18 (hc) : out0_A_18 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dgateG (k0_pay3 (F := Ideal)) := by
  unfold out0_A_18
  rw [View.read_writes_eq_canon _ _ _ (cover0_A_18 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  simp only [View.readCov_fill (s := S1x1024) (off := ![0, 0]) _ _ _ _ _ fill2, View.ld_unit_zero (S := S1x1024) z2]
  rfl

theorem outA19 (hc) : out0_A_19 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dpsG (k0_pay4 (F := Ideal)) := by
  unfold out0_A_19
  rw [View.read_writes_eq_canon _ _ _ (cover0_A_19 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  simp only [View.readCov_fill (s := S1x512) (off := ![0, 0]) _ _ _ _ _ fill2, View.ld_unit_zero (S := S1x512) z2]
  rfl

theorem outA20 (hc) : out0_A_20 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).dwpG (k0_pay5 (F := Ideal)) := by
  unfold out0_A_20
  rw [View.read_writes_eq_canon _ _ _ (cover0_A_20 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  simp (disch := decide) only [↓View.readCov_skip]
  simp only [View.readCov_fill (s := S4x128x128) (off := ![0, 0, 0]) _ _ _ _ _ fill3]
  funext y
  refine View.canon_append_of_piecesOf ((blockIns i x0 x1 x2 x3 x4 x5 x6 x7 x8 x9 x10 x11).dwpG (k0_pay5 (F := Ideal))) [⟨Rect.unit ![0, 0, 0] ![4, 128, 128] inb_S4x128x128_S4x128x128_0_0_0, (k0_pay5 (F := Ideal))⟩] [_, _, _, _] ?_ y ?_
  · exact ⟨fun x => dwp_piece3 (blockIns i x0 x1 x2 x3 x4 x5 x6 x7 x8 x9 x10 x11) (k0_pay5 (F := Ideal)) _ x, fun x => dwp_piece2 (blockIns i x0 x1 x2 x3 x4 x5 x6 x7 x8 x9 x10 x11) (k0_pay5 (F := Ideal)) _ x, fun x => dwp_piece1 (blockIns i x0 x1 x2 x3 x4 x5 x6 x7 x8 x9 x10 x11) (k0_pay5 (F := Ideal)) _ x, fun x => dwp_piece0 (blockIns i x0 x1 x2 x3 x4 x5 x6 x7 x8 x9 x10 x11) (k0_pay5 (F := Ideal)) _ x, trivial⟩
  · exact View.cover_of_tiledL (s := S4x128x128) _ S1x128x128.size (by sl_kernel_rfl) y

theorem outA21 (hc) : out0_A_21 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 = (blockIns i x0 x1 x2 x3 x4 x5 x6 x7 x8 x9 x10 x11).lossG (k0_pay6 (F := Ideal)) := by
  unfold out0_A_21
  rw [View.read_writes_eq_canon _ _ _ (cover0_A_21 _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  simp only [View.readCov_fill (s := S1x1) (off := ![0, 0]) _ _ _ _ _ fill2, View.ld_unit_zero (S := S1x1) z2]
  rfl

end Cert.OutKernelIdeal.Out
end
-- ==== Proof.Out.BlkB.lean ====
module

public import proofs.«01_k».proof.Proof.Gen.OutKernelIdeal.Frame
public import proofs.«01_k».proof.Proof.Out.Tile
public import Idealize.ShloMosaic.Lib.Pipeline.ReadBack
public import Idealize.ShloMosaic.Lib.Pipeline.CanonAppend
public import Idealize.ShloMosaic.Lib.Pipeline.ValueKit.Tiles

@[expose] public section

/-! What one step of the output stage leaves in its ten output blocks, at a later point. -/

set_option maxRecDepth 16384

noncomputable section

open Idealize.ShloMosaic

namespace Cert.OutKernelIdeal.Out

open Cert.OutKernelIdeal Cert.OutKernelIdeal.Gen Cert.Out Cert.Attn

variable (c : Dev nD) (i : grid0.Coords)
variable (a1 : Memref sig .tc .vmem S32x8x512 .f32) (h1 : a1.IsWhole)
  (a2 : Memref sig .tc .vmem S256x512 .f32) (h2 : a2.IsWhole)
  (a3 : Memref sig .tc .vmem S256x512 .f32) (h3 : a3.IsWhole)
  (a4 : Memref sig .tc .vmem S8x512 .f32) (h4 : a4.IsWhole)
  (a5 : Memref sig .tc .vmem S8x512 .f32) (h5 : a5.IsWhole)
  (a6 : Memref sig .tc .vmem S256x512 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S1x3x1024 .f32) (h9 : a9.IsWhole)
  (a10 : Memref sig .tc .vmem S4x128x128 .f32) (h10 : a10.IsWhole)
  (a11 : Memref sig .tc .vmem S1x512 .f32) (h11 : a11.IsWhole)
  (a12 : Memref sig .tc .vmem S1024x1024 .bf16) (h12 : a12.IsWhole)
  (a13 : Memref sig .tc .vmem S256x1024 .f32) (h13 : a13.IsWhole)
  (a14 : Memref sig .tc .vmem S32x8x512 .f32) (h14 : a14.IsWhole)
  (a15 : Memref sig .tc .vmem S256x512 .bf16) (h15 : a15.IsWhole)
  (a16 : Memref sig .tc .vmem S256x512 .bf16) (h16 : a16.IsWhole)
  (a17 : Memref sig .tc .vmem S256x512 .f32) (h17 : a17.IsWhole)
  (a18 : Memref sig .tc .vmem S1024x1024 .f32) (h18 : a18.IsWhole)
  (a19 : Memref sig .tc .vmem S1x1024 .f32) (h19 : a19.IsWhole)
  (a20 : Memref sig .tc .vmem S1x512 .f32) (h20 : a20.IsWhole)
  (a21 : Memref sig .tc .vmem S4x128x128 .f32) (h21 : a21.IsWhole)
  (a22 : Memref sig .tc .vmem S1x1 .f32) (h22 : a22.IsWhole)
variable (x0 : Vec Ideal S32x8x512 .f32) (x1 : Vec Ideal S256x512 .f32) (x2 : Vec Ideal S256x512 .f32) (x3 : Vec Ideal S8x512 .f32) (x4 : Vec Ideal S8x512 .f32) (x5 : Vec Ideal S256x512 .f32) (x6 : Vec Ideal S256x1024 .f32) (x7 : Vec Ideal S256x1024 .f32) (x8 : Vec Ideal S1x3x1024 .f32) (x9 : Vec Ideal S4x128x128 .f32) (x10 : Vec Ideal S1x512 .f32) (x11 : Vec Ideal S1024x1024 .bf16)
variable (o17 : Vec Ideal S1024x1024 .f32) (o18 : Vec Ideal S1x1024 .f32) (o19 : Vec Ideal S1x512 .f32) (o20 : Vec Ideal S4x128x128 .f32) (o21 : Vec Ideal S1x1 .f32)

theorem outB12 (hc) : out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dxG := by
  unfold out0_B_12
  rw [View.read_writes_eq_canon _ _ _ (cover0_B_12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outB13 (hc) : out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).daG := by
  unfold out0_B_13
  rw [View.read_writes_eq_canon _ _ _ (cover0_B_13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  funext y
  refine View.canon_apply_of_pieces ((blockIns i x0 x1 x2 x3 x4 x5 x6 x7 x8 x9 x10 x11).daG) _ (View.PiecesOf.mem ?_) y (cover0_B_13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  exact ⟨fun x => da_piece7 (blockIns i x0 x1 x2 x3 x4 x5 x6 x7 x8 x9 x10 x11) inb_S32x8x512_S32x1x512_0_7_0 x, fun x => da_piece6 (blockIns i x0 x1 x2 x3 x4 x5 x6 x7 x8 x9 x10 x11) inb_S32x8x512_S32x1x512_0_6_0 x, fun x => da_piece5 (blockIns i x0 x1 x2 x3 x4 x5 x6 x7 x8 x9 x10 x11) inb_S32x8x512_S32x1x512_0_5_0 x, fun x => da_piece4 (blockIns i x0 x1 x2 x3 x4 x5 x6 x7 x8 x9 x10 x11) inb_S32x8x512_S32x1x512_0_4_0 x,
    fun x => da_piece3 (blockIns i x0 x1 x2 x3 x4 x5 x6 x7 x8 x9 x10 x11) inb_S32x8x512_S32x1x512_0_3_0 x, fun x => da_piece2 (blockIns i x0 x1 x2 x3 x4 x5 x6 x7 x8 x9 x10 x11) inb_S32x8x512_S32x1x512_0_2_0 x, fun x => da_piece1 (blockIns i x0 x1 x2 x3 x4 x5 x6 x7 x8 x9 x10 x11) inb_S32x8x512_S32x1x512_0_1_0 x, fun x => da_piece0 (blockIns i x0 x1 x2 x3 x4 x5 x6 x7 x8 x9 x10 x11) inb_S32x8x512_S32x1x512_0_0_0 x, trivial⟩

theorem outB14 (hc) : out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dgaG := by
  unfold out0_B_14
  rw [View.read_writes_eq_canon _ _ _ (cover0_B_14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outB15 (hc) : out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dgpG := by
  unfold out0_B_15
  rw [View.read_writes_eq_canon _ _ _ (cover0_B_15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outB16 (hc) : out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dpG := by
  unfold out0_B_16
  rw [View.read_writes_eq_canon _ _ _ (cover0_B_16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outB17 (hc) : out0_B_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dwG o17 := by
  unfold out0_B_17
  rw [View.read_writes_eq_canon _ _ _ (cover0_B_17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outB18 (hc) : out0_B_18 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dgateG o18 := by
  unfold out0_B_18
  rw [View.read_writes_eq_canon _ _ _ (cover0_B_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outB19 (hc) : out0_B_19 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dpsG o19 := by
  unfold out0_B_19
  rw [View.read_writes_eq_canon _ _ _ (cover0_B_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

theorem outB20 (hc) : out0_B_20 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).dwpG o20 := by
  unfold out0_B_20
  rw [View.read_writes_eq_canon _ _ _ (cover0_B_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  funext y
  refine View.canon_apply_of_pieces ((blockIns i x0 x1 x2 x3 x4 x5 x6 x7 x8 x9 x10 x11).dwpG o20) _ (View.PiecesOf.mem ?_) y (cover0_B_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  exact ⟨fun x => dwp_piece3 (blockIns i x0 x1 x2 x3 x4 x5 x6 x7 x8 x9 x10 x11) o20 _ x, fun x => dwp_piece2 (blockIns i x0 x1 x2 x3 x4 x5 x6 x7 x8 x9 x10 x11) o20 _ x, fun x => dwp_piece1 (blockIns i x0 x1 x2 x3 x4 x5 x6 x7 x8 x9 x10 x11) o20 _ x, fun x => dwp_piece0 (blockIns i x0 x1 x2 x3 x4 x5 x6 x7 x8 x9 x10 x11) o20 _ x, trivial⟩

theorem outB21 (hc) : out0_B_21 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 o17 o18 o19 o20 o21 = (blockIns i x0 x1 x2 x3 x4 x5 x6 x7 x8 x9 x10 x11).lossG o21 := by
  unfold out0_B_21
  rw [View.read_writes_eq_canon _ _ _ (cover0_B_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero z2]
  simp only [View.readAt_eq_ld, Memref.IsWhole.read_unread, View.ld_unit_zero (S := S256x512) z2, View.ld_unit_zero (S := S8x512) z2, View.ld_unit_zero (S := S256x1024) z2, View.ld_unit_zero (S := S1x512) z2, View.ld_unit_zero (S := S1024x1024) z2, View.ld_unit_zero (S := S1x1024) z2, View.ld_unit_zero (S := S1x1) z2]
  rfl

end Cert.OutKernelIdeal.Out
end
-- ==== Proof.Out.Arr.lean ====
module

public import proofs.«01_k».proof.Proof.Out.BlkA
public import proofs.«01_k».proof.Proof.Out.BlkB
public import Idealize.ShloMosaic.Lib.Pipeline.ValueKit.Geometry

@[expose] public section

/-! The ten arrays that the output stage leaves, over real arguments: five row by row, five as sums over all rows. -/

set_option maxRecDepth 16384

noncomputable section

open Idealize.ShloMosaic Idealize.ShloMosaic.TcCoe

namespace Cert.OutKernelIdeal.Out

open Cert.OutKernelIdeal Cert.OutKernelIdeal.Gen Cert.Out Cert.Attn
open Idealize.ShloMosaic.Pipeline (Dat)

variable (m : (ℓ : Loc nD τ sig) → Buf (Elt Ideal) ℓ) (c : Dev nD)

theorem lt16 (t : Fin cfg0.N) : t.val < 16 := lt_of_lt_of_eq t.isLt (show cfg0.N = 16 from N_0)

/-- The tile of a point. -/
def tile (t : Fin cfg0.N) : Fin 16 := ⟨t.val, lt16 t⟩

theorem coord0 : ∀ t : Fin cfg0.N, (grid0.coords t 0).val = t.val := (by decide +kernel : ∀ t : Fin grid0.N, _)

theorem idxIn : ∀ t : Fin cfg0.N, (win0_0.index t 0 = 0 ∧ win0_0.index t 1 = t.val ∧ win0_0.index t 2 = 0)
    ∧ (win0_1.index t 0 = t.val + 1 ∧ win0_1.index t 1 = 1) ∧ (win0_2.index t 0 = t.val + 1 ∧ win0_2.index t 1 = 2)
    ∧ (win0_3.index t 0 = t.val * 32 + 31 ∧ win0_3.index t 1 = 2) ∧ (win0_4.index t 0 = min (t.val * 32 + 64) 543 ∧ win0_4.index t 1 = 2)
    ∧ (win0_5.index t 0 = t.val + 1 ∧ win0_5.index t 1 = 3) ∧ (win0_6.index t 0 = t.val ∧ win0_6.index t 1 = 0)
    ∧ (win0_7.index t 0 = t.val ∧ win0_7.index t 1 = 0) ∧ (win0_8.index t 0 = 1 ∧ win0_8.index t 1 = 0 ∧ win0_8.index t 2 = 0)
    ∧ (win0_9.index t 0 = 0 ∧ win0_9.index t 1 = 0 ∧ win0_9.index t 2 = 0) ∧ (win0_10.index t 0 = 0 ∧ win0_10.index t 1 = 0)
    ∧ (win0_11.index t 0 = 0 ∧ win0_11.index t 1 = 0) :=
  (by decide +kernel : ∀ t : Fin grid0.N, _)

theorem idxOut : ∀ t : Fin cfg0.N, (win0_12.index t 0 = t.val ∧ win0_12.index t 1 = 0) ∧ (win0_13.index t 0 = 0 ∧ win0_13.index t 1 = t.val ∧ win0_13.index t 2 = 0)
    ∧ (win0_14.index t 0 = t.val ∧ win0_14.index t 1 = 0) ∧ (win0_15.index t 0 = t.val ∧ win0_15.index t 1 = 0)
    ∧ (win0_16.index t 0 = t.val ∧ win0_16.index t 1 = 0) ∧ (win0_17.index t 0 = 0 ∧ win0_17.index t 1 = 0)
    ∧ (win0_18.index t 0 = 0 ∧ win0_18.index t 1 = 0) ∧ (win0_19.index t 0 = 0 ∧ win0_19.index t 1 = 0)
    ∧ (win0_20.index t 0 = 0 ∧ win0_20.index t 1 = 0 ∧ win0_20.index t 2 = 0) ∧ (win0_21.index t 0 = 0 ∧ win0_21.index t 1 = 0) :=
  (by decide +kernel : ∀ t : Fin grid0.N, _)

/-- Row `t` of the positions after the context's 256 rows, and column `x` of the padded projection's block `n`. -/
def urow (n : ℕ) (h : n < 4096) : Fin 4352 := ⟨256 + n, by omega⟩
def ucol (n : ℕ) (h : n < 4) (x : Fin 512) : Fin 2048 := ⟨n * 512 + x.val, by omega⟩

theorem at0 (t : Fin cfg0.N) (k : Fin 32) (j : Fin 8) (x : Fin 512) :
    iblk m c 0 t (ix3 k j x) = V m c main_v15 (ix3 k ⟨t.val * 8 + j.val, by have := lt16 t; omega⟩ x) := by
  have h := (idxIn t).1
  unfold iblk
  rw [View.read_apply]
  show V m c main_v15 _ = V m c main_v15 _
  congr 1
  funext a
  apply Fin.ext
  match a with
  | ⟨0, _⟩ => show win0_0.index t 0 * 32 + 1 * k.val = k.val; rw [h.1]; omega
  | ⟨1, _⟩ => show win0_0.index t 1 * 8 + 1 * j.val = t.val * 8 + j.val; rw [h.2.1]; omega
  | ⟨2, _⟩ => show win0_0.index t 2 * 512 + 1 * x.val = x.val; rw [h.2.2]; omega

theorem at1 (t : Fin cfg0.N) (r : Fin 256) (x : Fin 512) :
    iblk m c 1 t (ix2 r x) = V m c main_v6 (ix2 (urow (t.val * 256 + r.val) (by have := lt16 t; omega)) (ucol 1 (by omega) x)) := by
  have h := (idxIn t).2.1
  unfold iblk
  rw [View.read_apply]
  show V m c main_v6 _ = V m c main_v6 _
  congr 1
  funext a
  apply Fin.ext
  match a with
  | ⟨0, _⟩ => show win0_1.index t 0 * 256 + 1 * r.val = 256 + (t.val * 256 + r.val); rw [h.1]; omega
  | ⟨1, _⟩ => show win0_1.index t 1 * 512 + 1 * x.val = 1 * 512 + x.val; rw [h.2]; omega

theorem at2 (t : Fin cfg0.N) (r : Fin 256) (x : Fin 512) :
    iblk m c 2 t (ix2 r x) = V m c main_v6 (ix2 (urow (t.val * 256 + r.val) (by have := lt16 t; omega)) (ucol 2 (by omega) x)) := by
  have h := (idxIn t).2.2.1
  unfold iblk
  rw [View.read_apply]
  show V m c main_v6 _ = V m c main_v6 _
  congr 1
  funext a
  apply Fin.ext
  match a with
  | ⟨0, _⟩ => show win0_2.index t 0 * 256 + 1 * r.val = 256 + (t.val * 256 + r.val); rw [h.1]; omega
  | ⟨1, _⟩ => show win0_2.index t 1 * 512 + 1 * x.val = 2 * 512 + x.val; rw [h.2]; omega

theorem at3 (t : Fin cfg0.N) (k : Fin 8) (x : Fin 512) (h0 : t.val ≠ 0) :
    iblk m c 3 t (ix2 k x) = V m c main_v6 (ix2 (urow (t.val * 256 - 8 + k.val) (by have := lt16 t; omega)) (ucol 2 (by omega) x)) := by
  have h := (idxIn t).2.2.2.1
  unfold iblk
  rw [View.read_apply]
  show V m c main_v6 _ = V m c main_v6 _
  congr 1
  funext a
  apply Fin.ext
  match a with
  | ⟨0, _⟩ => show win0_3.index t 0 * 8 + 1 * k.val = 256 + (t.val * 256 - 8 + k.val); rw [h.1]; omega
  | ⟨1, _⟩ => show win0_3.index t 1 * 512 + 1 * x.val = 2 * 512 + x.val; rw [h.2]; omega

theorem at4 (t : Fin cfg0.N) (k : Fin 8) (x : Fin 512) (h15 : t.val ≠ 15) :
    iblk m c 4 t (ix2 k x) = V m c main_v6 (ix2 (urow (t.val * 256 + 256 + k.val) (by have := lt16 t; omega)) (ucol 2 (by omega) x)) := by
  have h := (idxIn t).2.2.2.2.1
  have := lt16 t
  unfold iblk
  rw [View.read_apply]
  show V m c main_v6 _ = V m c main_v6 _
  congr 1
  funext a
  apply Fin.ext
  match a with
  | ⟨0, _⟩ => show win0_4.index t 0 * 8 + 1 * k.val = 256 + (t.val * 256 + 256 + k.val); rw [h.1]; omega
  | ⟨1, _⟩ => show win0_4.index t 1 * 512 + 1 * x.val = 2 * 512 + x.val; rw [h.2]; omega

theorem at5 (t : Fin cfg0.N) (r : Fin 256) (x : Fin 512) :
    iblk m c 5 t (ix2 r x) = V m c main_v6 (ix2 (urow (t.val * 256 + r.val) (by have := lt16 t; omega)) (ucol 3 (by omega) x)) := by
  have h := (idxIn t).2.2.2.2.2.1
  unfold iblk
  rw [View.read_apply]
  show V m c main_v6 _ = V m c main_v6 _
  congr 1
  funext a
  apply Fin.ext
  match a with
  | ⟨0, _⟩ => show win0_5.index t 0 * 256 + 1 * r.val = 256 + (t.val * 256 + r.val); rw [h.1]; omega
  | ⟨1, _⟩ => show win0_5.index t 1 * 512 + 1 * x.val = 3 * 512 + x.val; rw [h.2]; omega

theorem at6 (t : Fin cfg0.N) (r : Fin 256) (d : Fin 1024) : iblk m c 6 t (ix2 r d) = V m c main_v16 (ix2 (pos (tile t) r) d) := by
  have h := (idxIn t).2.2.2.2.2.2.1
  unfold iblk
  rw [View.read_apply]
  show V m c main_v16 _ = V m c main_v16 _
  congr 1
  funext a
  apply Fin.ext
  match a with
  | ⟨0, _⟩ => show win0_6.index t 0 * 256 + 1 * r.val = t.val * 256 + r.val; rw [h.1]; omega
  | ⟨1, _⟩ => show win0_6.index t 1 * 1024 + 1 * d.val = d.val; rw [h.2]; omega

theorem at7 (t : Fin cfg0.N) (r : Fin 256) (d : Fin 1024) : iblk m c 7 t (ix2 r d) = V m c main_v17 (ix2 (pos (tile t) r) d) := by
  have h := (idxIn t).2.2.2.2.2.2.2.1
  unfold iblk
  rw [View.read_apply]
  show V m c main_v17 _ = V m c main_v17 _
  congr 1
  funext a
  apply Fin.ext
  match a with
  | ⟨0, _⟩ => show win0_7.index t 0 * 256 + 1 * r.val = t.val * 256 + r.val; rw [h.1]; omega
  | ⟨1, _⟩ => show win0_7.index t 1 * 1024 + 1 * d.val = d.val; rw [h.2]; omega

theorem at8 (t : Fin cfg0.N) (d : Fin 1024) : iblk m c 8 t (ix3 0 2 d) = V m c main_v13 (ix3 1 2 d) := by
  have h := (idxIn t).2.2.2.2.2.2.2.2.1
  unfold iblk
  rw [View.read_apply]
  show V m c main_v13 _ = V m c main_v13 _
  congr 1
  funext a
  apply Fin.ext
  match a with
  | ⟨0, _⟩ => show win0_8.index t 0 * 1 + 1 * 0 = 1; rw [h.1]
  | ⟨1, _⟩ => show win0_8.index t 1 * 3 + 1 * 2 = 2; rw [h.2.1]
  | ⟨2, _⟩ => show win0_8.index t 2 * 1024 + 1 * d.val = d.val; rw [h.2.2]; omega

theorem at9 (t : Fin cfg0.N) (g : Fin 4) (k j : Fin 128) : iblk m c 9 t (ix3 g k j) = V m c main_v18 (ix3 g k j) := by
  have h := (idxIn t).2.2.2.2.2.2.2.2.2.1
  unfold iblk
  rw [View.read_apply]
  show V m c main_v18 _ = V m c main_v18 _
  congr 1
  funext a
  apply Fin.ext
  match a with
  | ⟨0, _⟩ => show win0_9.index t 0 * 4 + 1 * g.val = g.val; rw [h.1]; omega
  | ⟨1, _⟩ => show win0_9.index t 1 * 128 + 1 * k.val = k.val; rw [h.2.1]; omega
  | ⟨2, _⟩ => show win0_9.index t 2 * 128 + 1 * j.val = j.val; rw [h.2.2]; omega

theorem at10 (t : Fin cfg0.N) (x : Fin 512) : iblk m c 10 t (ix2 0 x) = V m c main_arg7 (ix2 0 x) := by
  have h := (idxIn t).2.2.2.2.2.2.2.2.2.2.1
  unfold iblk
  rw [View.read_apply]
  show V m c main_arg7 _ = V m c main_arg7 _
  congr 1
  funext a
  apply Fin.ext
  match a with
  | ⟨0, _⟩ => show win0_10.index t 0 * 1 + 1 * 0 = 0; rw [h.1]
  | ⟨1, _⟩ => show win0_10.index t 1 * 512 + 1 * x.val = x.val; rw [h.2]; omega

theorem at11 (t : Fin cfg0.N) (x d : Fin 1024) : iblk m c 11 t (ix2 x d) = V m c main_v20 (ix2 x d) := by
  have h := (idxIn t).2.2.2.2.2.2.2.2.2.2.2
  unfold iblk
  rw [View.read_apply]
  show V m c main_v20 _ = V m c main_v20 _
  congr 1
  funext a
  apply Fin.ext
  match a with
  | ⟨0, _⟩ => show win0_11.index t 0 * 1024 + 1 * x.val = x.val; rw [h.1]; omega
  | ⟨1, _⟩ => show win0_11.index t 1 * 1024 + 1 * d.val = d.val; rw [h.2]; omega

/-- What the step at point `t` reads. -/
def ins (t : Fin cfg0.N) : Ins :=
  blockIns (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- The arrays that the call finds hold these real numbers. -/
structure Found (w : Par) (u : Fin 4096 → Fin 512 → ℝ) (R : Fin 4096 → Row) : Prop where
  att : ∀ (k : Fin 32) (s : Fin 128) x, V m c main_v15 (ix3 k s x) = (((R ⟨s.val * 32 + k.val, by omega⟩).a x : ℝ) : EReal)
  ga : ∀ n h x, V m c main_v6 (ix2 (urow n h) (ucol 1 (by omega) x)) = (((R ⟨n, h⟩).ga x : ℝ) : EReal)
  pin : ∀ n h x, V m c main_v6 (ix2 (urow n h) (ucol 2 (by omega) x)) = ((u ⟨n, h⟩ x : ℝ) : EReal)
  gp : ∀ n h x, V m c main_v6 (ix2 (urow n h) (ucol 3 (by omega) x)) = (((R ⟨n, h⟩).gp x : ℝ) : EReal)
  x : ∀ s d, V m c main_v16 (ix2 s d) = (((R s).x d : ℝ) : EReal)
  t : ∀ s d, V m c main_v17 (ix2 s d) = (((R s).t d : ℝ) : EReal)
  g : ∀ d, V m c main_v13 (ix3 1 2 d) = ((w.g d : ℝ) : EReal)
  wp : ∀ g k j, V m c main_v18 (ix3 g k j) = ((w.wp g k j : ℝ) : EReal)
  ps : ∀ x, V m c main_arg7 (ix2 0 x) = ((w.ps x : ℝ) : EReal)
  w : ∀ x d, V m c main_v20 (ix2 x d) = ((w.w x d : ℝ) : EReal)
  p : ∀ s x, (R s).p x = pooled u s x

section
variable {m c} {w : Par} {u : Fin 4096 → Fin 512 → ℝ} {R : Fin 4096 → Row} (H : Found m c w u R)
include H

variable (t : Fin cfg0.N)

theorem r_att (k : Fin 32) (j : Fin 8) x : (ins m c t).x0 (ix3 k j x) = (((R (pos (tile t) ⟨j.val * 32 + k.val, by omega⟩)).a x : ℝ) : EReal) := by
  refine (at0 m c t k j x).trans ?_
  rw [H.att]
  exact congrArg (fun z => (((R z).a x : ℝ) : EReal)) (Fin.ext (by simp only [pos, tile]; omega))
theorem r_ga r x : (ins m c t).x1 (ix2 r x) = (((R (pos (tile t) r)).ga x : ℝ) : EReal) := by
  refine (at1 m c t r x).trans ?_
  rw [H.ga]; rfl
theorem r_pin r x : (ins m c t).x2 (ix2 r x) = ((u (pos (tile t) r) x : ℝ) : EReal) := by
  refine (at2 m c t r x).trans ?_
  rw [H.pin]; rfl
theorem r_prev (k : Fin 8) x (h : (tile t).val ≠ 0) : (ins m c t).x3 (ix2 k x) = ((u ⟨(tile t).val * 256 - 8 + k.val, by omega⟩ x : ℝ) : EReal) := by
  refine (at3 m c t k x h).trans ?_
  rw [H.pin]; rfl
theorem r_next (k : Fin 8) x (h : (tile t).val ≠ 15) : (ins m c t).x4 (ix2 k x) = ((u ⟨(tile t).val * 256 + 256 + k.val, by omega⟩ x : ℝ) : EReal) := by
  refine (at4 m c t k x h).trans ?_
  rw [H.pin]; rfl
theorem r_gp r x : (ins m c t).x5 (ix2 r x) = (((R (pos (tile t) r)).gp x : ℝ) : EReal) := by
  refine (at5 m c t r x).trans ?_
  rw [H.gp]; rfl
theorem r_x r d : (ins m c t).x6 (ix2 r d) = (((R (pos (tile t) r)).x d : ℝ) : EReal) := by
  refine (at6 m c t r d).trans ?_
  rw [H.x]
theorem r_t r d : (ins m c t).x7 (ix2 r d) = (((R (pos (tile t) r)).t d : ℝ) : EReal) := by
  refine (at7 m c t r d).trans ?_
  rw [H.t]

theorem reads : (ins m c t).Reads (tile t) w u (fun r => R (pos (tile t) r)) := by
  refine ⟨?_, r_att H t, r_ga H t, r_pin H t, r_prev H t, r_next H t, r_gp H t, r_x H t, r_t H t, ?_, ?_, ?_, ?_, ?_⟩
  · exact congrArg (BitVec.ofNat 32) (coord0 t)
  · exact fun d => (at8 m c t d).trans (H.g d)
  · exact fun g k j => (at9 m c t g k j).trans (H.wp g k j)
  · exact fun x => (at10 m c t x).trans (H.ps x)
  · exact fun x d => (at11 m c t x d).trans (H.w x d)
  · exact fun r x => H.p _ _
end

theorem tup {A B C D E F G H I J : Type} {a a' : A} {b b' : B} {c c' : C} {d d' : D} {e e' : E} {f f' : F} {g g' : G} {h h' : H} {i i' : I} {j j' : J}
    (ha : a = a') (hb : b = b') (hc : c = c') (hd : d = d') (he : e = e') (hf : f = f') (hg : g = g') (hh : h = h') (hi : i = i') (hj : j = j') :
    (a, b, c, d, e, f, g, h, i, j) = (a', b', c', d', e', f', g', h', i', j') := by subst ha hb hc hd he hf hg hh hi hj; rfl

theorem outs_A (t : Fin cfg0.N) (h0 : t.val % 16 = 0) : outsAt0 m c t.val t.isLt
    = ((ins m c t).dxG, (ins m c t).daG, (ins m c t).dgaG, (ins m c t).dgpG, (ins m c t).dpG, (ins m c t).dwG (k0_pay2 (F := Ideal)), (ins m c t).dgateG (k0_pay3 (F := Ideal)),
      (ins m c t).dpsG (k0_pay4 (F := Ideal)), (ins m c t).dwpG (k0_pay5 (F := Ideal)), (ins m c t).lossG (k0_pay6 (F := Ideal))) := by
  exact (outsAt0_A m c t h0).trans (tup (outA12 ..) (outA13 ..) (outA14 ..) (outA15 ..) (outA16 ..) (outA17 ..) (outA18 ..) (outA19 ..) (outA20 ..) (outA21 ..))

theorem outs_B (t : Fin cfg0.N) (h0 : ¬t.val % 16 = 0) : outsAt0 m c t.val t.isLt
    = ((ins m c t).dxG, (ins m c t).daG, (ins m c t).dgaG, (ins m c t).dgpG, (ins m c t).dpG,
      (ins m c t).dwG (outsAt0 m c (t.val - 1) (Nat.lt_of_le_of_lt (Nat.sub_le _ _) t.isLt)).2.2.2.2.2.1,
      (ins m c t).dgateG (outsAt0 m c (t.val - 1) (Nat.lt_of_le_of_lt (Nat.sub_le _ _) t.isLt)).2.2.2.2.2.2.1,
      (ins m c t).dpsG (outsAt0 m c (t.val - 1) (Nat.lt_of_le_of_lt (Nat.sub_le _ _) t.isLt)).2.2.2.2.2.2.2.1,
      (ins m c t).dwpG (outsAt0 m c (t.val - 1) (Nat.lt_of_le_of_lt (Nat.sub_le _ _) t.isLt)).2.2.2.2.2.2.2.2.1,
      (ins m c t).lossG (outsAt0 m c (t.val - 1) (Nat.lt_of_le_of_lt (Nat.sub_le _ _) t.isLt)).2.2.2.2.2.2.2.2.2) := by
  exact (outsAt0_B m c t h0).trans (tup (outB12 ..) (outB13 ..) (outB14 ..) (outB15 ..) (outB16 ..) (outB17 ..) (outB18 ..) (outB19 ..) (outB20 ..) (outB21 ..))

theorem outs_rows (t : Fin cfg0.N) : (outsAt0 m c t.val t.isLt).1 = (ins m c t).dxG ∧ (outsAt0 m c t.val t.isLt).2.1 = (ins m c t).daG
    ∧ (outsAt0 m c t.val t.isLt).2.2.1 = (ins m c t).dgaG ∧ (outsAt0 m c t.val t.isLt).2.2.2.1 = (ins m c t).dgpG
    ∧ (outsAt0 m c t.val t.isLt).2.2.2.2.1 = (ins m c t).dpG := by
  by_cases h0 : t.val % 16 = 0
  · rw [outs_A m c t h0]; exact ⟨rfl, rfl, rfl, rfl, rfl⟩
  · rw [outs_B m c t h0]; exact ⟨rfl, rfl, rfl, rfl, rfl⟩

end Cert.OutKernelIdeal.Out
end
-- ==== Proof.Out.Arr2.lean ====
module

public import proofs.«01_k».proof.Proof.Out.Arr

@[expose] public section

/-! The ten arrays that the output stage's call leaves, in terms of the real numbers that the arrays found on entry hold. -/

set_option maxRecDepth 16384

noncomputable section

open Idealize.ShloMosaic Idealize.ShloMosaic.TcCoe

namespace Cert.OutKernelIdeal.Out

open Cert.OutKernelIdeal Cert.OutKernelIdeal.Gen Cert.Out Cert.Attn
open Idealize.ShloMosaic.Pipeline (Dat)

/-- An accumulator over the grid's points ends as the sum of its tiles' terms. -/
theorem acc_last (a : (n : ℕ) → n < cfg0.N → EReal) (f : Fin 16 → ℝ) (h0 : ∀ t : Fin cfg0.N, t.val % 16 = 0 → a t.val t.isLt = 0 + ((f (tile t) : ℝ) : EReal))
    (hs : ∀ t : Fin cfg0.N, ¬t.val % 16 = 0 → a t.val t.isLt = a (t.val - 1) (Nat.lt_of_le_of_lt (Nat.sub_le _ _) t.isLt) + ((f (tile t) : ℝ) : EReal))
    (t : Fin cfg0.N) (h15 : t.val % 16 = 15) : a t.val t.isLt = ((∑ i, f i : ℝ) : EReal) := by
  have step : ∀ (n : ℕ) (hn : n < cfg0.N), a n hn = ((∑ i ∈ Finset.range (n + 1), f (Fin.ofNat 16 i) : ℝ) : EReal) := by
    intro n
    induction n with
    | zero =>
      intro hn
      rw [h0 ⟨0, hn⟩ rfl, zero_add, Finset.sum_range_one]
      rfl
    | succ n ih =>
      intro hn
      have : n + 1 < 16 := lt16 ⟨n + 1, hn⟩
      have e : (Fin.ofNat 16 (n + 1) : Fin 16) = tile ⟨n + 1, hn⟩ := Fin.ext (Nat.mod_eq_of_lt this)
      rw [hs ⟨n + 1, hn⟩ (by show ¬(n + 1) % 16 = 0; omega), Finset.sum_range_succ, EReal.coe_add, e]
      exact congrArg (· + _) (ih _)
  have e : t.val = 15 := by have := lt16 t; omega
  rw [step, e, Finset.sum_range]
  exact congrArg _ (Finset.sum_congr rfl fun i _ => congrArg f (Fin.ext (Nat.mod_eq_of_lt i.isLt)))

/-- The tiles' rows are the positions. -/
theorem sum_tiles (f : Fin 4096 → ℝ) : ∑ i : Fin 16, ∑ r : Fin 256, f (pos i r) = ∑ s, f s := by
  rw [← Fintype.sum_prod_type' (f := fun i r => f (pos i r))]
  refine Fintype.sum_equiv (finProdFinEquiv (m := 16) (n := 256)) _ _ fun x => congrArg f (Fin.ext ?_)
  show x.1.val * 256 + x.2.val = x.2.val + 256 * x.1.val
  omega

section Vals
variable (w : Par) (R : Fin 4096 → Row)

/-- The results as arrays. -/
def dxV : Vec Ideal S4096x1024 .f32 := fun y => (((R (y 0)).dx w (y 1) : ℝ) : EReal)
def daV : Vec Ideal S32x128x512 .f32 := fun y => (((R ⟨(y 1).val * 32 + (y 0).val, by have : (y 0).val < 32 := (y 0).isLt; have : (y 1).val < 128 := (y 1).isLt; omega⟩).da w (y 2) : ℝ) : EReal)
def dgaV : Vec Ideal S4096x512 .bf16 := fun y => (((R (y 0)).dga w (y 1) : ℝ) : EReal)
def dgpV : Vec Ideal S4096x512 .bf16 := fun y => (((R (y 0)).dgp w (y 1) : ℝ) : EReal)
def dpV : Vec Ideal S4096x512 .f32 := fun y => (((R (y 0)).dp w (y 1) : ℝ) : EReal)
def dwV : Vec Ideal S1024x1024 .f32 := fun y => ((dw w R (y 0) (y 1) : ℝ) : EReal)
def dgateV : Vec Ideal S1x1024 .f32 := fun y => ((dgate w R (y 1) : ℝ) : EReal)
def dpsV : Vec Ideal S1x512 .f32 := fun y => ((dps w R (y 1) : ℝ) : EReal)
def dwpV : Vec Ideal S4x128x128 .f32 := fun y => ((dwp w R (y 0) (y 1) (y 2) : ℝ) : EReal)
def lossV : Vec Ideal S1x1 .f32 := fun _ => ((loss w R : ℝ) : EReal)

end Vals

theorem fill17 (y) : k0_pay2 (F := Ideal) y = 0 := by pointwise [k0_pay2]
theorem fill18 (y) : k0_pay3 (F := Ideal) y = 0 := by pointwise [k0_pay3]
theorem fill19 (y) : k0_pay4 (F := Ideal) y = 0 := by pointwise [k0_pay4]
theorem fill20 (y) : k0_pay5 (F := Ideal) y = 0 := by pointwise [k0_pay5]
theorem fill21 (y) : k0_pay6 (F := Ideal) y = 0 := by pointwise [k0_pay6]

variable {m : (ℓ : Loc nD τ sig) → Buf (Elt Ideal) ℓ} {c : Dev nD}
variable {w : Par} {u : Fin 4096 → Fin 512 → ℝ} {R : Fin 4096 → Row} (H : Found m c w u R)
include H

theorem arr12 : (dats m 0 c).arrAt 12 cfg0.N = dxV w R := by
  refine (dats m 0 c).arrAt_eq_of_covers 12 _ (by decide +kernel) fun t hf y => ?_
  have h := (idxOut t).1
  rw [after0_12, (outs_rows m c t).1]
  obtain ⟨r, d, rfl⟩ : ∃ (r : Fin 256) (d : Fin 1024), y = ix2 r d := ⟨y 0, y 1, by funext i; fin_cases i <;> rfl⟩
  have e : ((cfg0.win 12).blk t).view.emb (ix2 r d) = ix2 (pos (tile t) r) d := by
    funext a
    apply Fin.ext
    match a with
    | ⟨0, _⟩ => show win0_12.index t 0 * 256 + 1 * r.val = t.val * 256 + r.val; rw [h.1]; omega
    | ⟨1, _⟩ => show win0_12.index t 1 * 1024 + 1 * d.val = d.val; rw [h.2]; omega
  rw [e]
  exact (reads H t).dx_real r d

theorem arr14 : (dats m 0 c).arrAt 14 cfg0.N = dgaV w R := by
  refine (dats m 0 c).arrAt_eq_of_covers 14 _ (by decide +kernel) fun t hf y => ?_
  have h := (idxOut t).2.2.1
  rw [after0_14, (outs_rows m c t).2.2.1]
  obtain ⟨r, d, rfl⟩ : ∃ (r : Fin 256) (d : Fin 512), y = ix2 r d := ⟨y 0, y 1, by funext i; fin_cases i <;> rfl⟩
  have e : ((cfg0.win 14).blk t).view.emb (ix2 r d) = ix2 (pos (tile t) r) d := by
    funext a
    apply Fin.ext
    match a with
    | ⟨0, _⟩ => show win0_14.index t 0 * 256 + 1 * r.val = t.val * 256 + r.val; rw [h.1]; omega
    | ⟨1, _⟩ => show win0_14.index t 1 * 512 + 1 * d.val = d.val; rw [h.2]; omega
  rw [e]
  exact (reads H t).dga_real r d

theorem arr15 : (dats m 0 c).arrAt 15 cfg0.N = dgpV w R := by
  refine (dats m 0 c).arrAt_eq_of_covers 15 _ (by decide +kernel) fun t hf y => ?_
  have h := (idxOut t).2.2.2.1
  rw [after0_15, (outs_rows m c t).2.2.2.1]
  obtain ⟨r, d, rfl⟩ : ∃ (r : Fin 256) (d : Fin 512), y = ix2 r d := ⟨y 0, y 1, by funext i; fin_cases i <;> rfl⟩
  have e : ((cfg0.win 15).blk t).view.emb (ix2 r d) = ix2 (pos (tile t) r) d := by
    funext a
    apply Fin.ext
    match a with
    | ⟨0, _⟩ => show win0_15.index t 0 * 256 + 1 * r.val = t.val * 256 + r.val; rw [h.1]; omega
    | ⟨1, _⟩ => show win0_15.index t 1 * 512 + 1 * d.val = d.val; rw [h.2]; omega
  rw [e]
  exact (reads H t).dgp_real r d

theorem arr16 : (dats m 0 c).arrAt 16 cfg0.N = dpV w R := by
  refine (dats m 0 c).arrAt_eq_of_covers 16 _ (by decide +kernel) fun t hf y => ?_
  have h := (idxOut t).2.2.2.2.1
  rw [after0_16, (outs_rows m c t).2.2.2.2]
  obtain ⟨r, d, rfl⟩ : ∃ (r : Fin 256) (d : Fin 512), y = ix2 r d := ⟨y 0, y 1, by funext i; fin_cases i <;> rfl⟩
  have e : ((cfg0.win 16).blk t).view.emb (ix2 r d) = ix2 (pos (tile t) r) d := by
    funext a
    apply Fin.ext
    match a with
    | ⟨0, _⟩ => show win0_16.index t 0 * 256 + 1 * r.val = t.val * 256 + r.val; rw [h.1]; omega
    | ⟨1, _⟩ => show win0_16.index t 1 * 512 + 1 * d.val = d.val; rw [h.2]; omega
  rw [e]
  exact (reads H t).dp_real r d

theorem arr13 : (dats m 0 c).arrAt 13 cfg0.N = daV w R := by
  refine (dats m 0 c).arrAt_eq_of_covers 13 _ (by decide +kernel) fun t hf y => ?_
  have h := (idxOut t).2.1
  have := lt16 t
  rw [after0_13, (outs_rows m c t).2.1]
  obtain ⟨k, j, d, rfl⟩ : ∃ (k : Fin 32) (j : Fin 8) (d : Fin 512), y = ix3 k j d := ⟨y 0, y 1, y 2, by funext i; fin_cases i <;> rfl⟩
  have e : ((cfg0.win 13).blk t).view.emb (ix3 k j d) = ix3 k ⟨t.val * 8 + j.val, by omega⟩ d := by
    funext a
    apply Fin.ext
    match a with
    | ⟨0, _⟩ => show win0_13.index t 0 * 32 + 1 * k.val = k.val; rw [h.1]; omega
    | ⟨1, _⟩ => show win0_13.index t 1 * 8 + 1 * j.val = t.val * 8 + j.val; rw [h.2.1]; omega
    | ⟨2, _⟩ => show win0_13.index t 2 * 512 + 1 * d.val = d.val; rw [h.2.2]; omega
  rw [e]
  refine ((reads H t).da_real k j d).trans ?_
  exact congrArg (fun z => (((R z).da w d : ℝ) : EReal)) (Fin.ext (by show t.val * 256 + (j.val * 32 + k.val) = (t.val * 8 + j.val) * 32 + k.val; omega))

theorem sum17 (k : Fin 1024) (d : Fin 1024) (t : Fin cfg0.N) (h15 : t.val % 16 = 15) :
    (outsAt0 m c t.val t.isLt).2.2.2.2.2.1 (ix2 k d) = ((dw w R k d : ℝ) : EReal) := by
  refine (acc_last (fun n hn => (outsAt0 m c n hn).2.2.2.2.2.1 (ix2 k d)) (fun i => dw w (fun r => R (pos i r)) k d) (fun t h0 => ?_) (fun t h0 => ?_) t h15).trans (congrArg _ ?_)
  · refine (congrArg (fun o => o.2.2.2.2.2.1 (ix2 k d)) (outs_A m c t h0)).trans ?_
    exact ((reads H t).dw_real _ k d).trans (congrArg (· + _) (fill17 _))
  · refine (congrArg (fun o => o.2.2.2.2.2.1 (ix2 k d)) (outs_B m c t h0)).trans ?_
    exact (reads H t).dw_real _ k d
  · exact sum_tiles (fun s => (R s).br w k * (R s).dy w d)

theorem arr17 : (dats m 0 c).arrAt 17 cfg0.N = dwV w R := by
  refine (dats m 0 c).arrAt_eq_of_covers 17 _ (by decide +kernel) fun t hf y => ?_
  have h := (idxOut t).2.2.2.2.2.1
  have h15 := (flush0_17 t).mp hf
  rw [after0_17]
  obtain ⟨k, d, rfl⟩ : ∃ (k : Fin 1024) (d : Fin 1024), y = ix2 k d := ⟨y 0, y 1, by
    funext i; fin_cases i
    · rfl
    · rfl⟩
  have e : ((cfg0.win 17).blk t).view.emb (ix2 k d) = ix2 k d := by
    funext a
    apply Fin.ext
    match a with
    | ⟨0, _⟩ => show win0_17.index t 0 * 1024 + 1 * k.val = k.val; rw [h.1]; omega
    | ⟨1, _⟩ => show win0_17.index t 1 * 1024 + 1 * d.val = d.val; rw [h.2]; omega
  rw [e]
  exact sum17 H k d t h15

theorem sum18 (d : Fin 1024) (t : Fin cfg0.N) (h15 : t.val % 16 = 15) :
    (outsAt0 m c t.val t.isLt).2.2.2.2.2.2.1 (ix2 0 d) = ((dgate w R d : ℝ) : EReal) := by
  refine (acc_last (fun n hn => (outsAt0 m c n hn).2.2.2.2.2.2.1 (ix2 0 d)) (fun i => dgate w (fun r => R (pos i r)) d) (fun t h0 => ?_) (fun t h0 => ?_) t h15).trans (congrArg _ ?_)
  · refine (congrArg (fun o => o.2.2.2.2.2.2.1 (ix2 0 d)) (outs_A m c t h0)).trans ?_
    exact ((reads H t).dgate_real _ d).trans (congrArg (· + _) (fill18 _))
  · refine (congrArg (fun o => o.2.2.2.2.2.2.1 (ix2 0 d)) (outs_B m c t h0)).trans ?_
    exact (reads H t).dgate_real _ d
  · exact sum_tiles (fun s => (R s).dx w d * (R s).y w d)

theorem arr18 : (dats m 0 c).arrAt 18 cfg0.N = dgateV w R := by
  refine (dats m 0 c).arrAt_eq_of_covers 18 _ (by decide +kernel) fun t hf y => ?_
  have h := (idxOut t).2.2.2.2.2.2.1
  have h15 := (flush0_18 t).mp hf
  rw [after0_18]
  obtain ⟨d, rfl⟩ : ∃ (d : Fin 1024), y = ix2 0 d := ⟨y 1, by
    funext i; fin_cases i
    · exact Subsingleton.elim (α := Fin 1) _ _
    · rfl⟩
  have e : ((cfg0.win 18).blk t).view.emb (ix2 0 d) = ix2 0 d := by
    funext a
    apply Fin.ext
    match a with
    | ⟨0, _⟩ => show win0_18.index t 0 * 1 + 1 * 0 = 0; rw [h.1]
    | ⟨1, _⟩ => show win0_18.index t 1 * 1024 + 1 * d.val = d.val; rw [h.2]; omega
  rw [e]
  exact sum18 H d t h15

theorem sum19 (d : Fin 512) (t : Fin cfg0.N) (h15 : t.val % 16 = 15) :
    (outsAt0 m c t.val t.isLt).2.2.2.2.2.2.2.1 (ix2 0 d) = ((dps w R d : ℝ) : EReal) := by
  refine (acc_last (fun n hn => (outsAt0 m c n hn).2.2.2.2.2.2.2.1 (ix2 0 d)) (fun i => dps w (fun r => R (pos i r)) d) (fun t h0 => ?_) (fun t h0 => ?_) t h15).trans (congrArg _ ?_)
  · refine (congrArg (fun o => o.2.2.2.2.2.2.2.1 (ix2 0 d)) (outs_A m c t h0)).trans ?_
    exact ((reads H t).dps_real _ d).trans (congrArg (· + _) (fill19 _))
  · refine (congrArg (fun o => o.2.2.2.2.2.2.2.1 (ix2 0 d)) (outs_B m c t h0)).trans ?_
    exact (reads H t).dps_real _ d
  · exact sum_tiles (fun s => (R s).dyp w d * (R s).z w d)

theorem arr19 : (dats m 0 c).arrAt 19 cfg0.N = dpsV w R := by
  refine (dats m 0 c).arrAt_eq_of_covers 19 _ (by decide +kernel) fun t hf y => ?_
  have h := (idxOut t).2.2.2.2.2.2.2.1
  have h15 := (flush0_19 t).mp hf
  rw [after0_19]
  obtain ⟨d, rfl⟩ : ∃ (d : Fin 512), y = ix2 0 d := ⟨y 1, by
    funext i; fin_cases i
    · exact Subsingleton.elim (α := Fin 1) _ _
    · rfl⟩
  have e : ((cfg0.win 19).blk t).view.emb (ix2 0 d) = ix2 0 d := by
    funext a
    apply Fin.ext
    match a with
    | ⟨0, _⟩ => show win0_19.index t 0 * 1 + 1 * 0 = 0; rw [h.1]
    | ⟨1, _⟩ => show win0_19.index t 1 * 512 + 1 * d.val = d.val; rw [h.2]; omega
  rw [e]
  exact sum19 H d t h15

theorem sum20 (g : Fin 4) (k : Fin 128) (j : Fin 128) (t : Fin cfg0.N) (h15 : t.val % 16 = 15) :
    (outsAt0 m c t.val t.isLt).2.2.2.2.2.2.2.2.1 (ix3 g k j) = ((dwp w R g k j : ℝ) : EReal) := by
  refine (acc_last (fun n hn => (outsAt0 m c n hn).2.2.2.2.2.2.2.2.1 (ix3 g k j)) (fun i => dwp w (fun r => R (pos i r)) g k j) (fun t h0 => ?_) (fun t h0 => ?_) t h15).trans (congrArg _ ?_)
  · refine (congrArg (fun o => o.2.2.2.2.2.2.2.2.1 (ix3 g k j)) (outs_A m c t h0)).trans ?_
    exact ((reads H t).dwp_real _ g k j).trans (congrArg (· + _) (fill20 _))
  · refine (congrArg (fun o => o.2.2.2.2.2.2.2.2.1 (ix3 g k j)) (outs_B m c t h0)).trans ?_
    exact (reads H t).dwp_real _ g k j
  · exact sum_tiles (fun s => (R s).p (col g k) * (R s).dz w (col g j))

theorem arr20 : (dats m 0 c).arrAt 20 cfg0.N = dwpV w R := by
  refine (dats m 0 c).arrAt_eq_of_covers 20 _ (by decide +kernel) fun t hf y => ?_
  have h := (idxOut t).2.2.2.2.2.2.2.2.1
  have h15 := (flush0_20 t).mp hf
  rw [after0_20]
  obtain ⟨g, k, j, rfl⟩ : ∃ (g : Fin 4) (k : Fin 128) (j : Fin 128), y = ix3 g k j := ⟨y 0, y 1, y 2, by
    funext i; fin_cases i
    · rfl
    · rfl
    · rfl⟩
  have e : ((cfg0.win 20).blk t).view.emb (ix3 g k j) = ix3 g k j := by
    funext a
    apply Fin.ext
    match a with
    | ⟨0, _⟩ => show win0_20.index t 0 * 4 + 1 * g.val = g.val; rw [h.1]; omega
    | ⟨1, _⟩ => show win0_20.index t 1 * 128 + 1 * k.val = k.val; rw [h.2.1]; omega
    | ⟨2, _⟩ => show win0_20.index t 2 * 128 + 1 * j.val = j.val; rw [h.2.2]; omega
  rw [e]
  exact sum20 H g k j t h15

theorem sum21  (t : Fin cfg0.N) (h15 : t.val % 16 = 15) :
    (outsAt0 m c t.val t.isLt).2.2.2.2.2.2.2.2.2 (ix2 0 0) = ((loss w R : ℝ) : EReal) := by
  refine (acc_last (fun n hn => (outsAt0 m c n hn).2.2.2.2.2.2.2.2.2 (ix2 0 0)) (fun i => loss w (fun r => R (pos i r)) ) (fun t h0 => ?_) (fun t h0 => ?_) t h15).trans (congrArg _ ?_)
  · refine (congrArg (fun o => o.2.2.2.2.2.2.2.2.2 (ix2 0 0)) (outs_A m c t h0)).trans ?_
    exact ((reads H t).loss_real _).trans (congrArg (· + _) (fill21 _))
  · refine (congrArg (fun o => o.2.2.2.2.2.2.2.2.2 (ix2 0 0)) (outs_B m c t h0)).trans ?_
    exact (reads H t).loss_real _
  · exact by
      show ∑ i : Fin 16, (∑ r : Fin 256, ∑ d, (R (pos i r)).e w d * (R (pos i r)).e w d) * (1 / 2048) = (∑ s, ∑ d, (R s).e w d * (R s).e w d) * (1 / 2048)
      rw [← Finset.sum_mul, sum_tiles (fun s => ∑ d, (R s).e w d * (R s).e w d)]

theorem arr21 : (dats m 0 c).arrAt 21 cfg0.N = lossV w R := by
  refine (dats m 0 c).arrAt_eq_of_covers 21 _ (by decide +kernel) fun t hf y => ?_
  have h := (idxOut t).2.2.2.2.2.2.2.2.2
  have h15 := (flush0_21 t).mp hf
  rw [after0_21]
  obtain rfl : y = ix2 0 0 := by
    funext i; fin_cases i
    · exact Subsingleton.elim (α := Fin 1) _ _
    · exact Subsingleton.elim (α := Fin 1) _ _
  have e : ((cfg0.win 21).blk t).view.emb (ix2 0 0) = ix2 0 0 := by
    funext a
    apply Fin.ext
    match a with
    | ⟨0, _⟩ => show win0_21.index t 0 * 1 + 1 * 0 = 0; rw [h.1]
    | ⟨1, _⟩ => show win0_21.index t 1 * 1 + 1 * 0 = 0; rw [h.2]
  rw [e]
  exact sum21 H  t h15

end Cert.OutKernelIdeal.Out
end
-- ==== Proof.Out.Host.lean ====
module

public import proofs.«01_k».proof.Proof.Out.Arr2
public import Idealize.ShloMosaic.Lib.StableHlo.ReadAt

@[expose] public section

/-! What the host code prepares for the output stage's call and what it makes of its results, read entry by entry. -/

set_option maxRecDepth 16384

noncomputable section

open Idealize.ShloMosaic Idealize.ShloMosaic.TcCoe

namespace Cert.OutKernelIdeal.Out

open Cert.OutKernelIdeal Cert.OutKernelIdeal.Gen Cert.Out Cert.Attn

variable (m : (ℓ : Loc nD τ sig) → Buf (Elt Ideal) ℓ) (c : Dev nD)

theorem att_at (k : Fin 32) (s : Fin 128) (x : Fin 512) : (V m c main_v15 (ix3 k s x) : EReal)
    = (m ((c.tc : Thread nD τ).loc main_arg0) (ix3 0 ⟨s.val * 32 + k.val, by omega⟩ x) : EReal) := by
  unfold V V0 hostOps0
  after_reads_at

theorem u_at (n : ℕ) (h : n < 4096) (b : ℕ) (hb : b < 4) (h1 : 1 ≤ b) (x : Fin 512) : (V m c main_v6 (ix2 (urow n h) (ucol b hb x)) : EReal)
    = (m ((c.tc : Thread nD τ).loc main_arg1) (ix3 0 ⟨n, h⟩ ⟨b * 512 - 64 + x.val, by omega⟩) : EReal) := by
  unfold V V0 hostOps0
  after_reads_at
  have e : (ucol b hb x).val = b * 512 + x.val := rfl
  rw [dif_neg (by omega), dif_neg (by omega)]
  after_reads_at
  rw [dif_neg (by show ¬256 + n < 256; omega)]
  after_reads_at
  refine congrArg (m ((c.tc : Thread nD τ).loc main_arg1)) ?_
  congr 1 <;> apply Fin.ext <;> simp only [urow] <;> omega

theorem x_at (s : Fin 4096) (d : Fin 1024) : (V m c main_v16 (ix2 s d) : EReal) = (m ((c.tc : Thread nD τ).loc main_arg3) (ix3 0 s d) : EReal) := by
  unfold V V0 hostOps0
  after_reads_at

theorem t_at (s : Fin 4096) (d : Fin 1024) : (V m c main_v17 (ix2 s d) : EReal) = (m ((c.tc : Thread nD τ).loc main_arg4) (ix3 0 s d) : EReal) := by
  unfold V V0 hostOps0
  after_reads_at

theorem g_at (d : Fin 1024) : (V m c main_v13 (ix3 1 2 d) : EReal) = (m ((c.tc : Thread nD τ).loc main_arg5) (ix2 0 ⟨2048 + d.val, by omega⟩) : EReal) := by
  unfold V V0 hostOps0
  after_reads_at

theorem wp_at (g : Fin 4) (k j : Fin 128) : (V m c main_v18 (ix3 g k j) : EReal) = (m ((c.tc : Thread nD τ).loc main_arg6) (ix4 0 g k j) : EReal) := by
  unfold V V0 hostOps0
  after_reads_at

theorem ps_at (x : Fin 512) : (V m c main_arg7 (ix2 0 x) : EReal) = (m ((c.tc : Thread nD τ).loc main_arg7) (ix2 0 x) : EReal) := by
  unfold V V0 hostOps0
  after_reads_at

theorem w_at (x d : Fin 1024) : (V m c main_v20 (ix2 x d) : EReal) = (m ((c.tc : Thread nD τ).loc main_arg8) (ix3 0 x d) : EReal) := by
  unfold V V0 hostOps0
  after_reads_at

section After
variable (A : Valuation τ sig (Elt Ideal))

theorem dattn_res (s : Fin 4096) (d : Fin 512) : (StableHlo.after (List.flatten [hostOps1]) A (Proc.devRef .tc main_v23) (ix3 0 s d) : EReal)
    = (A (Proc.devRef .tc main_v21_1) (ix3 ⟨s.val % 32, by omega⟩ ⟨s.val / 32, by omega⟩ d) : EReal) := by
  unfold hostOps1
  after_reads_at

theorem dx_res (s : Fin 4096) (d : Fin 1024) : (StableHlo.after (List.flatten [hostOps1]) A (Proc.devRef .tc main_v24) (ix3 0 s d) : EReal)
    = (A (Proc.devRef .tc main_v21_0) (ix2 s d) : EReal) := by
  unfold hostOps1
  after_reads_at

theorem dga_res (s : Fin 4096) (d : Fin 512) : (StableHlo.after (List.flatten [hostOps1]) A (Proc.devRef .tc main_v25) (ix3 0 s d) : EReal)
    = (A (Proc.devRef .tc main_v21_2) (ix2 s d) : EReal) := by
  unfold hostOps1
  after_reads_at

theorem dgp_res (s : Fin 4096) (d : Fin 512) : (StableHlo.after (List.flatten [hostOps1]) A (Proc.devRef .tc main_v26) (ix3 0 s d) : EReal)
    = (A (Proc.devRef .tc main_v21_3) (ix2 s d) : EReal) := by
  unfold hostOps1
  after_reads_at

theorem dp_res (s : Fin 4096) (d : Fin 512) : (StableHlo.after (List.flatten [hostOps1]) A (Proc.devRef .tc main_v27) (ix3 0 s d) : EReal)
    = (A (Proc.devRef .tc main_v21_4) (ix2 s d) : EReal) := by
  unfold hostOps1
  after_reads_at

theorem dw_res (k d : Fin 1024) : (StableHlo.after (List.flatten [hostOps1]) A (Proc.devRef .tc main_v28) (ix3 0 k d) : EReal)
    = (A (Proc.devRef .tc main_v21_5) (ix2 k d) : EReal) := by
  unfold hostOps1
  after_reads_at

theorem dwp_res (g : Fin 4) (k j : Fin 128) : (StableHlo.after (List.flatten [hostOps1]) A (Proc.devRef .tc main_v29) (ix4 0 g k j) : EReal)
    = (A (Proc.devRef .tc main_v21_8) (ix3 g k j) : EReal) := by
  unfold hostOps1
  after_reads_at

theorem loss_res  : (StableHlo.after (List.flatten [hostOps1]) A (Proc.devRef .tc main_v30) (ix0) : EReal)
    = (A (Proc.devRef .tc main_v21_9) (ix2 0 0) : EReal) := by
  unfold hostOps1
  after_reads_at

end After

/-- The argument arrays hold these real numbers. -/
structure Holds (a : Fin 4096 → Fin 512 → ℝ) (u : Fin 4096 → Fin 1984 → ℝ) (x t : Fin 4096 → Fin 1024 → ℝ) (g : Fin 3072 → ℝ)
    (p : Fin 4 → Fin 128 → Fin 128 → ℝ) (s : Fin 512 → ℝ) (w : Fin 1024 → Fin 1024 → ℝ) : Prop where
  ha : ∀ n d, m ((c.tc : Thread nD τ).loc main_arg0) (ix3 0 n d) = ((a n d : ℝ) : EReal)
  hu : ∀ n d, m ((c.tc : Thread nD τ).loc main_arg1) (ix3 0 n d) = ((u n d : ℝ) : EReal)
  hx : ∀ n d, m ((c.tc : Thread nD τ).loc main_arg3) (ix3 0 n d) = ((x n d : ℝ) : EReal)
  ht : ∀ n d, m ((c.tc : Thread nD τ).loc main_arg4) (ix3 0 n d) = ((t n d : ℝ) : EReal)
  hg : ∀ d, m ((c.tc : Thread nD τ).loc main_arg5) (ix2 0 d) = ((g d : ℝ) : EReal)
  hp : ∀ n k j, m ((c.tc : Thread nD τ).loc main_arg6) (ix4 0 n k j) = ((p n k j : ℝ) : EReal)
  hs : ∀ d, m ((c.tc : Thread nD τ).loc main_arg7) (ix2 0 d) = ((s d : ℝ) : EReal)
  hw : ∀ k d, m ((c.tc : Thread nD τ).loc main_arg8) (ix3 0 k d) = ((w k d : ℝ) : EReal)

variable {m c} {a : Fin 4096 → Fin 512 → ℝ} {u : Fin 4096 → Fin 1984 → ℝ} {x t : Fin 4096 → Fin 1024 → ℝ} {g : Fin 3072 → ℝ}
  {p : Fin 4 → Fin 128 → Fin 128 → ℝ} {s : Fin 512 → ℝ} {w : Fin 1024 → Fin 1024 → ℝ}

theorem found (H : Holds m c a u x t g p s w) : Found m c (parOf g p s w) (part 2 (by omega) u) (rowOf a u x t) where
  att k n d := (att_at m c k n d).trans (H.ha _ _)
  ga n h d := (u_at m c n h 1 (by omega) (by omega) d).trans (H.hu _ _)
  pin n h d := (u_at m c n h 2 (by omega) (by omega) d).trans (H.hu _ _)
  gp n h d := (u_at m c n h 3 (by omega) (by omega) d).trans (H.hu _ _)
  x n d := (x_at m c n d).trans (H.hx n d)
  t n d := (t_at m c n d).trans (H.ht n d)
  g d := (g_at m c d).trans (H.hg _)
  wp n k j := (wp_at m c n k j).trans (H.hp n k j)
  ps d := (ps_at m c d).trans (H.hs d)
  w k d := (w_at m c k d).trans (H.hw k d)
  p n d := rfl

end Cert.OutKernelIdeal.Out
end
-- ==== Proof.Out.RefP.lean ====
module

public import proofs.«01_k».proof.Proof.Gen.OutReferenceIdeal.Read
public import proofs.«01_k».proof.Proof.Out.Spec
public import proofs.«01_k».proof.Proof.Attn.Math
public import Idealize.ShloMosaic.Lib.Pointwise

@[expose] public section

/-! The reference's pooled channels over real numbers: the windowed mean of a column less the column. -/

set_option maxRecDepth 16384

noncomputable section

open Idealize.ShloMosaic Idealize.ShloMosaic.TcCoe

namespace Cert.OutReferenceIdeal.Out

open Cert.OutReferenceIdeal Cert.OutReferenceIdeal.Read Cert.Out Cert.Attn

/-- A sum of real numbers. -/
theorem real_sum {ι : Type*} [Fintype ι] (f : ι → EReal) (g : ι → ℝ) (h : ∀ i, f i = ((g i : ℝ) : EReal)) :
    ∑ i, f i = ((∑ i, g i : ℝ) : EReal) := by
  rw [← sum_coe]
  exact Finset.sum_congr rfl fun i _ => h i

theorem half_val (g : Fin 4) : val_main_v7 (F := Ideal) (ix3 g 0 0) = BitVec.ofNat 32 (half g) := by
  fin_cases g <;> rfl

theorem word_lo (g : Fin 4) : ∀ t : Fin 4096, IntOp.maxsi (IntOp.subi (BitVec.ofNat 32 t.val) (BitVec.ofNat 32 (half g))) 0#32
    = BitVec.ofNat 32 (t.val - half g) := by
  fin_cases g <;> decide +kernel

theorem word_hi (g : Fin 4) : ∀ t : Fin 4096, IntOp.minsi (IntOp.addi (BitVec.ofNat 32 t.val) (BitVec.ofNat 32 (half g))) 4096#32
    = BitVec.ofNat 32 (min (t.val + half g) 4096) := by
  fin_cases g <;> decide +kernel

theorem word_count (g : Fin 4) : ∀ t : Fin 4096, (IntOp.subi (BitVec.ofNat 32 (min (t.val + half g) 4096)) (BitVec.ofNat 32 (t.val - half g))).toInt
    = ((min (t.val + half g) 4096 - (t.val - half g) : ℕ) : ℤ) := by
  fin_cases g <;> decide +kernel

theorem toInt_small (n : ℕ) (h : n ≤ 4096) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem le_word (a b : ℕ) (ha : a ≤ 4096) (hb : b ≤ 4096) : IntOp.cmpi .sle (BitVec.ofNat 32 a) (BitVec.ofNat 32 b) = if a ≤ b then 1#1 else 0#1 := by
  have e : (BitVec.ofNat 32 a).sle (BitVec.ofNat 32 b) = decide (a ≤ b) := by
    unfold BitVec.sle
    rw [toInt_small a ha, toInt_small b hb]
    exact decide_eq_decide.mpr Nat.cast_le
  show BitVec.ofBool ((BitVec.ofNat 32 a).sle (BitVec.ofNat 32 b)) = _
  rw [e]
  by_cases h : a ≤ b
  · rw [if_pos h, decide_eq_true h]; rfl
  · rw [if_neg h, decide_eq_false h]; rfl

theorem lt_word (a b : ℕ) (ha : a ≤ 4096) (hb : b ≤ 4096) : IntOp.cmpi .slt (BitVec.ofNat 32 a) (BitVec.ofNat 32 b) = if a < b then 1#1 else 0#1 := by
  have e : (BitVec.ofNat 32 a).slt (BitVec.ofNat 32 b) = decide (a < b) := by
    unfold BitVec.slt
    rw [toInt_small a ha, toInt_small b hb]
    exact decide_eq_decide.mpr Nat.cast_lt
  show BitVec.ofBool ((BitVec.ofNat 32 a).slt (BitVec.ofNat 32 b)) = _
  rw [e]
  by_cases h : a < b
  · rw [if_pos h, decide_eq_true h]; rfl
  · rw [if_neg h, decide_eq_false h]; rfl

theorem at_v10 (g : Fin 4) (t : Fin 4096) : idx_main_v10 (ix3 g t 0) = ix3 g 0 0 := by
  funext a; fin_cases a <;> rfl

theorem at_v14 (g : Fin 4) (t : Fin 4096) : idx_main_v14 (ix3 g t 0) = ix3 g 0 0 := by
  funext a; fin_cases a <;> rfl

theorem at_v18 (g : Fin 4) (t s : Fin 4096) : idx_main_v18 (ix3 g t s) = ix3 g t 0 := by
  funext a; fin_cases a <;> rfl

theorem at_v20 (g : Fin 4) (t s : Fin 4096) : idx_main_v20 (ix3 g t s) = ix3 g t 0 := by
  funext a; fin_cases a <;> rfl

theorem at_v29 (g : Fin 4) (t : Fin 4096) (k : Fin 128) : idx_main_v29 (ix3 g t k) = ix3 g t 0 := by
  funext a; fin_cases a <;> rfl

theorem left_v26 (g : Fin 4) (t s : Fin 4096) (k : Fin 128) : lidx_main_v26 (ix3 g t k) s = ix3 g t s := by
  funext a; fin_cases a <;> rfl

theorem right_v26 (g : Fin 4) (t s : Fin 4096) (k : Fin 128) : ridx_main_v26 (ix3 g t k) s = ix3 g s k := by
  funext a; fin_cases a <;> rfl

theorem lo_val (g : Fin 4) (t : Fin 4096) : val_main_v13 (F := Ideal) (ix3 g t 0) = BitVec.ofNat 32 (t.val - half g) := by
  rw [val_main_v13_apply, val_main_v11_apply, val_main_v10_apply, at_v10, half_val, val_main_v8_apply, val_main_v12_apply]
  exact word_lo g t

theorem hi_val (g : Fin 4) (t : Fin 4096) : val_main_v17 (F := Ideal) (ix3 g t 0) = BitVec.ofNat 32 (min (t.val + half g) 4096) := by
  rw [val_main_v17_apply, val_main_v15_apply, val_main_v14_apply, at_v14, half_val, val_main_v8_apply, val_main_v16_apply]
  exact word_hi g t

theorem inside_val (g : Fin 4) (t s : Fin 4096) : val_main_v23 (F := Ideal) (ix3 g t s)
    = (((if t.val - half g ≤ s.val ∧ s.val < t.val + half g then 1 else 0 : ℝ)) : EReal) := by
  have e1 : val_main_v19 (F := Ideal) (ix3 g t s) = if t.val - half g ≤ s.val then 1#1 else 0#1 := by
    rw [val_main_v19_apply, val_main_v18_apply, at_v18, lo_val, val_main_v9_apply]
    exact le_word (t.val - half g) s.val (by omega) (by omega)
  have e2 : val_main_v21 (F := Ideal) (ix3 g t s) = if s.val < t.val + half g then 1#1 else 0#1 := by
    rw [val_main_v21_apply, val_main_v20_apply, at_v20, hi_val, val_main_v9_apply]
    refine (lt_word s.val _ (by omega) (by omega)).trans ?_
    have : (s.val < min (t.val + half g) 4096) ↔ s.val < t.val + half g := by have := s.isLt; omega
    simp only [this]
  rw [val_main_v23_apply, val_main_v22_apply, e1, e2]
  by_cases h1 : t.val - half g ≤ s.val <;> by_cases h2 : s.val < t.val + half g <;>
    simp only [h1, h2, if_true, if_false, and_true, and_false, false_and] <;>
    first
      | exact congrArg (fun z : ℕ => ((z : ℝ) : EReal)) (by decide : (IntOp.andi 1#1 1#1 : BitVec 1).toNat = 1) |>.trans (by norm_num)
      | exact congrArg (fun z : ℕ => ((z : ℝ) : EReal)) (by decide : (IntOp.andi 1#1 0#1 : BitVec 1).toNat = 0) |>.trans (by norm_num)
      | exact congrArg (fun z : ℕ => ((z : ℝ) : EReal)) (by decide : (IntOp.andi 0#1 1#1 : BitVec 1).toNat = 0) |>.trans (by norm_num)
      | exact congrArg (fun z : ℕ => ((z : ℝ) : EReal)) (by decide : (IntOp.andi 0#1 0#1 : BitVec 1).toNat = 0) |>.trans (by norm_num)

section
variable {x1 : (⟨S1x4096x1984, .f32⟩ : BufTy).Contents (Elt Ideal)} {u : Fin 4096 → Fin 1984 → ℝ}
variable (h1 : ∀ n d, x1 (ix3 0 n d) = ((u n d : ℝ) : EReal))
include h1

theorem col_val (g : Fin 4) (s : Fin 4096) (k : Fin 128) : val_main_v25 (F := Ideal) x1 (ix3 g s k) = ((part 2 (by omega) u s (col g k) : ℝ) : EReal) := by
  rw [val_main_v25_apply, val_main_v24_apply, val_main_v2_apply]
  refine Eq.trans (congrArg x1 ?_) (h1 s ⟨2 * 512 - 64 + (col g k).val, by omega⟩)
  funext a
  apply Fin.ext
  match a with
  | ⟨0, _⟩ => rfl
  | ⟨1, _⟩ => show ((s.val * 4 + g.val) * 128 + k.val) / 512 % 4096 = s.val; omega
  | ⟨2, _⟩ => show 960 + ((s.val * 4 + g.val) * 128 + k.val) % 512 = 2 * 512 - 64 + (g.val * 128 + k.val); omega

theorem pooled_group (g : Fin 4) (t : Fin 4096) (k : Fin 128) : val_main_v31 (F := Ideal) x1 (ix3 g t k) = ((pooled (part 2 (by omega) u) t (col g k) : ℝ) : EReal) := by
  have e26 : val_main_v26 (F := Ideal) x1 (ix3 g t k)
      = ((∑ s : Fin 4096, (if t.val - half g ≤ s.val ∧ s.val < t.val + half g then part 2 (by omega) u s (col g k) else 0) : ℝ) : EReal) := by
    rw [val_main_v26_apply]
    refine real_sum _ _ fun s => ?_
    rw [left_v26, right_v26, inside_val, col_val h1, ← EReal.coe_mul, ite_mul, one_mul, zero_mul]
  have e29 : val_main_v29 (F := Ideal) (ix3 g t k) = (((min (t.val + half g) 4096 - (t.val - half g) : ℕ) : ℝ) : EReal) := by
    rw [val_main_v29_apply, at_v29, val_main_v28_apply, val_main_v27_apply, hi_val, lo_val]
    show (((IntOp.subi _ _ : BitVec 32).toInt : ℝ) : EReal) = _
    rw [word_count]
    norm_cast
  rw [val_main_v31_apply, val_main_v30_apply, e26, e29, col_val h1]
  refine (congrArg (· - _) (div_coe_coe _ _ (count_pos _ (by unfold half; positivity) t))).trans ?_
  rw [← EReal.coe_sub]
  unfold pooled mean
  rw [grp_col]

theorem pooled_val (t : Fin 4096) (d : Fin 512) : val_main_v33 (F := Ideal) x1 (ix3 0 t d) = ((pooled (part 2 (by omega) u) t d : ℝ) : EReal) := by
  rw [val_main_v33_apply, val_main_v32_apply]
  refine Eq.trans (congrArg _ ?_) ((pooled_group h1 (grp d) t (low d)).trans (by rw [col_eq]))
  funext a
  apply Fin.ext
  match a with
  | ⟨0, _⟩ => show ((0 * 4096 + t.val) * 512 + d.val) / 128 % 4 = d.val / 128; omega
  | ⟨1, _⟩ => show ((0 * 4096 + t.val) * 512 + d.val) / 512 = t.val; omega
  | ⟨2, _⟩ => show ((0 * 4096 + t.val) * 512 + d.val) % 128 = d.val % 128; omega

end

end Cert.OutReferenceIdeal.Out
end
-- ==== Proof.Out.RefF.lean ====
module

public import proofs.«01_k».proof.Proof.Out.RefP

@[expose] public section

/-! The reference's forward values over real numbers: the two branches, the output, the loss and its derivative. -/

set_option maxRecDepth 16384

noncomputable section

open Idealize.ShloMosaic Idealize.ShloMosaic.TcCoe

namespace Cert.OutReferenceIdeal.Out

open Cert.OutReferenceIdeal Cert.OutReferenceIdeal.Read Cert.Out Cert.Attn

theorem ofBits_zero : Ideal.ofBits FTy.f32 0x00000000#32 = (0 : EReal) := by simp [Ideal.ofBits, Ideal.ieee]
theorem ofBits_one : Ideal.ofBits FTy.f32 0x3F800000#32 = ((1 : ℝ) : EReal) := by
  simp [Ideal.ofBits, Ideal.ieee]; rw [← EReal.coe_mul]; norm_num
theorem ofBits_two : Ideal.ofBits FTy.f32 0x40000000#32 = ((2 : ℝ) : EReal) := by
  simp [Ideal.ofBits, Ideal.ieee]; rw [← EReal.coe_mul]; norm_num
theorem ofBits_half : Ideal.ofBits FTy.f32 0x3F000000#32 = ((1 / 2 : ℝ) : EReal) := by
  simp [Ideal.ofBits, Ideal.ieee]; rw [← EReal.coe_mul]; norm_num
theorem ofBits_1024 : Ideal.ofBits FTy.f32 0x44800000#32 = ((1024 : ℝ) : EReal) := by
  simp [Ideal.ofBits, Ideal.ieee]; rw [← EReal.coe_mul]; norm_num

variable {x0 : (⟨S1x4096x512, .f32⟩ : BufTy).Contents (Elt Ideal)} {x1 : (⟨S1x4096x1984, .f32⟩ : BufTy).Contents (Elt Ideal)}
variable {x3 x4 : (⟨S1x4096x1024, .f32⟩ : BufTy).Contents (Elt Ideal)} {x5 : (⟨S1x3072, .f32⟩ : BufTy).Contents (Elt Ideal)}
variable {x6 : (⟨S1x4x128x128, .f32⟩ : BufTy).Contents (Elt Ideal)} {x7 : (⟨S1x512, .f32⟩ : BufTy).Contents (Elt Ideal)}
variable {x8 : (⟨S1x1024x1024, .f32⟩ : BufTy).Contents (Elt Ideal)}
variable {a : Fin 4096 → Fin 512 → ℝ} {u : Fin 4096 → Fin 1984 → ℝ} {x t : Fin 4096 → Fin 1024 → ℝ} {g : Fin 3072 → ℝ}
variable {p : Fin 4 → Fin 128 → Fin 128 → ℝ} {s : Fin 512 → ℝ} {w : Fin 1024 → Fin 1024 → ℝ}

/-- The arguments are these real numbers. -/
structure Holds (x0 : (⟨S1x4096x512, .f32⟩ : BufTy).Contents (Elt Ideal)) (x1 : (⟨S1x4096x1984, .f32⟩ : BufTy).Contents (Elt Ideal))
    (x3 x4 : (⟨S1x4096x1024, .f32⟩ : BufTy).Contents (Elt Ideal)) (x5 : (⟨S1x3072, .f32⟩ : BufTy).Contents (Elt Ideal))
    (x6 : (⟨S1x4x128x128, .f32⟩ : BufTy).Contents (Elt Ideal)) (x7 : (⟨S1x512, .f32⟩ : BufTy).Contents (Elt Ideal))
    (x8 : (⟨S1x1024x1024, .f32⟩ : BufTy).Contents (Elt Ideal))
    (a : Fin 4096 → Fin 512 → ℝ) (u : Fin 4096 → Fin 1984 → ℝ) (x t : Fin 4096 → Fin 1024 → ℝ) (g : Fin 3072 → ℝ)
    (p : Fin 4 → Fin 128 → Fin 128 → ℝ) (s : Fin 512 → ℝ) (w : Fin 1024 → Fin 1024 → ℝ) : Prop where
  ha : ∀ n d, x0 (ix3 0 n d) = ((a n d : ℝ) : EReal)
  hu : ∀ n d, x1 (ix3 0 n d) = ((u n d : ℝ) : EReal)
  hx : ∀ n d, x3 (ix3 0 n d) = ((x n d : ℝ) : EReal)
  ht : ∀ n d, x4 (ix3 0 n d) = ((t n d : ℝ) : EReal)
  hg : ∀ d, x5 (ix2 0 d) = ((g d : ℝ) : EReal)
  hp : ∀ n k j, x6 (ix4 0 n k j) = ((p n k j : ℝ) : EReal)
  hs : ∀ d, x7 (ix2 0 d) = ((s d : ℝ) : EReal)
  hw : ∀ k d, x8 (ix3 0 k d) = ((w k d : ℝ) : EReal)

theorem at_v1 (n : Fin 4096) (d : Fin 512) : idx_main_v1 (ix3 0 n d) = ix3 0 n ⟨1 * 512 - 64 + d.val, by omega⟩ := by
  funext b; apply Fin.ext; match b with
  | ⟨0, _⟩ => rfl
  | ⟨1, _⟩ => rfl
  | ⟨2, _⟩ => rfl

theorem at_v34 (n : Fin 4096) (d : Fin 512) : idx_main_v34 (ix3 0 n d) = ix3 0 n ⟨3 * 512 - 64 + d.val, by omega⟩ := by
  funext b; apply Fin.ext; match b with
  | ⟨0, _⟩ => rfl
  | ⟨1, _⟩ => rfl
  | ⟨2, _⟩ => rfl

theorem at_v35 (n : Fin 4096) (q : Fin 4) (k : Fin 128) : idx_main_v35 (ix4 0 n q k) = ix3 0 n (col q k) := by
  funext b; apply Fin.ext; match b with
  | ⟨0, _⟩ => rfl
  | ⟨1, _⟩ => show (((0 * 4096 + n.val) * 4 + q.val) * 128 + k.val) / 512 % 4096 = n.val; omega
  | ⟨2, _⟩ => show (((0 * 4096 + n.val) * 4 + q.val) * 128 + k.val) % 512 = q.val * 128 + k.val; omega

theorem at_v36 (q : Fin 4) (k j : Fin 128) : idx_main_v36 (ix3 q k j) = ix4 0 q k j := by
  funext b; apply Fin.ext; match b with
  | ⟨0, _⟩ => rfl
  | ⟨1, _⟩ => show ((q.val * 128 + k.val) * 128 + j.val) / 16384 % 4 = q.val; omega
  | ⟨2, _⟩ => show ((q.val * 128 + k.val) * 128 + j.val) / 128 % 128 = k.val; omega
  | ⟨3, _⟩ => show ((q.val * 128 + k.val) * 128 + j.val) % 128 = j.val; omega

theorem left_v37 (n : Fin 4096) (q : Fin 4) (k j : Fin 128) : lidx_main_v37 (ix4 q j 0 n) k = ix3 q k j := by
  funext b; fin_cases b <;> rfl

theorem right_v37 (n : Fin 4096) (q : Fin 4) (k j : Fin 128) : ridx_main_v37 (ix4 q j 0 n) k = ix4 0 n q k := by
  funext b; fin_cases b <;> rfl

theorem at_v38 (n : Fin 4096) (q : Fin 4) (j : Fin 128) : idx_main_v38 (ix4 0 n q j) = ix4 q j 0 n := by
  funext b; fin_cases b <;> rfl

theorem at_v39 (n : Fin 4096) (d : Fin 512) : idx_main_v39 (ix3 0 n d) = ix4 0 n (grp d) (low d) := by
  funext b; apply Fin.ext; match b with
  | ⟨0, _⟩ => rfl
  | ⟨1, _⟩ => show ((0 * 4096 + n.val) * 512 + d.val) / 512 % 4096 = n.val; omega
  | ⟨2, _⟩ => show ((0 * 4096 + n.val) * 512 + d.val) / 128 % 4 = d.val / 128; omega
  | ⟨3, _⟩ => show ((0 * 4096 + n.val) * 512 + d.val) % 128 = d.val % 128; omega

theorem at_v40 (d : Fin 512) : idx_main_v40 (ix1 d) = ix2 0 d := by
  funext b; apply Fin.ext; match b with
  | ⟨0, _⟩ => rfl
  | ⟨1, _⟩ => show d.val % 512 = d.val; omega

theorem at_v41 (d : Fin 512) : idx_main_v41 (ix3 0 0 d) = ix1 d := by
  funext b; fin_cases b; rfl

theorem at_v42 (n : Fin 4096) (d : Fin 512) : idx_main_v42 (ix3 0 n d) = ix3 0 0 d := by
  funext b; fin_cases b <;> rfl

theorem at_v49 (d : Fin 1024) : idx_main_v49 (ix3 0 0 d) = ix2 0 d := by
  funext b; fin_cases b <;> rfl

theorem at_v0 (d : Fin 1024) : idx_main_v0 (ix2 0 d) = ix2 0 ⟨2048 + d.val, by omega⟩ := by
  funext b; fin_cases b <;> rfl

theorem at_v50 (k d : Fin 1024) : idx_main_v50 (ix2 k d) = ix3 0 k d := by
  funext b; apply Fin.ext; match b with
  | ⟨0, _⟩ => rfl
  | ⟨1, _⟩ => show (k.val * 1024 + d.val) / 1024 % 1024 = k.val; omega
  | ⟨2, _⟩ => show (k.val * 1024 + d.val) % 1024 = d.val; omega

theorem left_v51 (n : Fin 4096) (k d : Fin 1024) : lidx_main_v51 (ix3 0 n d) k = ix3 0 n k := by
  funext b; fin_cases b <;> rfl

theorem right_v51 (n : Fin 4096) (k d : Fin 1024) : ridx_main_v51 (ix3 0 n d) k = ix2 k d := by
  funext b; fin_cases b <;> rfl

theorem at_v52 (n : Fin 4096) (d : Fin 1024) : idx_main_v52 (ix3 0 n d) = ix3 0 0 d := by
  funext b; fin_cases b <;> rfl

theorem at_v59 (n : Fin 4096) (d : Fin 1024) : idx_main_v59 (ix2 0 n) d = ix3 0 n d := by
  funext b; fin_cases b <;> rfl

section
variable (H : Holds x0 x1 x3 x4 x5 x6 x7 x8 a u x t g p s w)
include H

theorem ga_val (n : Fin 4096) (d : Fin 512) : val_main_v1 (F := Ideal) x1 (ix3 0 n d) = (((rowOf a u x t n).ga d : ℝ) : EReal) := by
  rw [val_main_v1_apply, at_v1, H.hu]; rfl

theorem gp_val (n : Fin 4096) (d : Fin 512) : val_main_v34 (F := Ideal) x1 (ix3 0 n d) = (((rowOf a u x t n).gp d : ℝ) : EReal) := by
  rw [val_main_v34_apply, at_v34, H.hu]; rfl

theorem p_val (n : Fin 4096) (q : Fin 4) (k : Fin 128) : val_main_v35 (F := Ideal) x1 (ix4 0 n q k) = (((rowOf a u x t n).p (col q k) : ℝ) : EReal) := by
  rw [val_main_v35_apply, at_v35, pooled_val H.hu]; rfl

theorem wp_val (q : Fin 4) (k j : Fin 128) : val_main_v36 (F := Ideal) x6 (ix3 q k j) = (((parOf g p s w).wp q k j : ℝ) : EReal) := by
  rw [val_main_v36_apply, at_v36, H.hp]; rfl

theorem z_val (n : Fin 4096) (d : Fin 512) : val_main_v39 (F := Ideal) x1 x6 (ix3 0 n d) = (((rowOf a u x t n).z (parOf g p s w) d : ℝ) : EReal) := by
  rw [val_main_v39_apply, at_v39, val_main_v38_apply, at_v38, val_main_v37_apply]
  unfold Row.z
  refine real_sum _ _ fun k => ?_
  rw [left_v37, right_v37, wp_val H, p_val H, ← EReal.coe_mul, mul_comm]

theorem ps_val (d : Fin 512) : val_main_v41 (F := Ideal) x7 (ix3 0 0 d) = (((parOf g p s w).ps d : ℝ) : EReal) := by
  rw [val_main_v41_apply, at_v41, val_main_v40_apply, at_v40, H.hs]; rfl

theorem yp_val (n : Fin 4096) (d : Fin 512) : val_main_v43 (F := Ideal) x1 x6 x7 (ix3 0 n d) = (((rowOf a u x t n).yp (parOf g p s w) d : ℝ) : EReal) := by
  rw [val_main_v43_apply, z_val H, val_main_v42_apply, at_v42, ps_val H]
  exact (EReal.coe_mul _ _).symm

theorem sga_val (n : Fin 4096) (d : Fin 512) : val_main_v44_2 (F := Ideal) x1 (ix3 0 n d) = ((sg ((rowOf a u x t n).ga d) : ℝ) : EReal) := by
  rw [val_main_v44_2_apply, val_main_call0_v4_apply, val_main_call0_cst_0_apply, val_main_call0_v3_apply, val_main_call0_v2_apply,
    val_main_call0_cst_apply, val_main_call0_v1_apply, val_main_call0_v0_apply, ga_val H]
  show Ideal.div (Ideal.ofBits FTy.f32 0x3F800000#32) (Ideal.ofBits FTy.f32 0x3F800000#32 + Ideal.exp (-(((rowOf a u x t n).ga d : ℝ) : EReal))) = _
  rw [ofBits_one, ← EReal.coe_neg, Ideal.exp_coe, ← EReal.coe_add, div_coe_coe _ _ (by positivity)]
  rfl

theorem sgp_val (n : Fin 4096) (d : Fin 512) : val_main_v46_2 (F := Ideal) x1 (ix3 0 n d) = ((sg ((rowOf a u x t n).gp d) : ℝ) : EReal) := by
  rw [val_main_v46_2_apply, val_main_call1_v4_apply, val_main_call1_cst_0_apply, val_main_call1_v3_apply, val_main_call1_v2_apply,
    val_main_call1_cst_apply, val_main_call1_v1_apply, val_main_call1_v0_apply, gp_val H]
  show Ideal.div (Ideal.ofBits FTy.f32 0x3F800000#32) (Ideal.ofBits FTy.f32 0x3F800000#32 + Ideal.exp (-(((rowOf a u x t n).gp d : ℝ) : EReal))) = _
  rw [ofBits_one, ← EReal.coe_neg, Ideal.exp_coe, ← EReal.coe_add, div_coe_coe _ _ (by positivity)]
  rfl

theorem silua_val (n : Fin 4096) (d : Fin 512) : val_main_v44_0 (F := Ideal) x1 (ix3 0 n d) = ((silu ((rowOf a u x t n).ga d) : ℝ) : EReal) := by
  rw [val_main_v44_0_apply, ga_val H, sga_val H]
  exact (EReal.coe_mul _ _).symm

theorem silup_val (n : Fin 4096) (d : Fin 512) : val_main_v46_0 (F := Ideal) x1 (ix3 0 n d) = ((silu ((rowOf a u x t n).gp d) : ℝ) : EReal) := by
  rw [val_main_v46_0_apply, gp_val H, sgp_val H]
  exact (EReal.coe_mul _ _).symm

theorem br_val (n : Fin 4096) (m : Fin 1024) : val_main_v48 (F := Ideal) x0 x1 x6 x7 (ix3 0 n m) = (((rowOf a u x t n).br (parOf g p s w) m : ℝ) : EReal) := by
  rcases halves m with ⟨c, rfl⟩ | ⟨c, rfl⟩
  · rw [Row.br_left]
    have e : val_main_v45 (F := Ideal) x0 x1 (ix3 0 n c) = ((silu ((rowOf a u x t n).ga c) * (rowOf a u x t n).a c : ℝ) : EReal) := by
      rw [val_main_v45_apply, silua_val H, H.ha]
      exact (EReal.coe_mul _ _).symm
    rw [← e]
    unfold val_main_v48
    generalize val_main_v45 (F := Ideal) x0 x1 = y0
    generalize val_main_v47 (F := Ideal) x1 x6 x7 = y1
    pointwise
    exact dif_pos c.isLt
  · rw [Row.br_right]
    have e : val_main_v47 (F := Ideal) x1 x6 x7 (ix3 0 n c) = ((silu ((rowOf a u x t n).gp c) * (rowOf a u x t n).yp (parOf g p s w) c : ℝ) : EReal) := by
      rw [val_main_v47_apply, silup_val H, yp_val H]
      exact (EReal.coe_mul _ _).symm
    rw [← e]
    unfold val_main_v48
    generalize val_main_v45 (F := Ideal) x0 x1 = y0
    generalize val_main_v47 (F := Ideal) x1 x6 x7 = y1
    pointwise
    rw [dif_neg (by show ¬ (512 + c.val < 512); omega)]
    exact congrArg (fun z => y1 (ix3 0 n z)) (Fin.ext (by show 512 + c.val - 512 = c.val; omega))

theorem gate_val (d : Fin 1024) : val_main_v49 (F := Ideal) x5 (ix3 0 0 d) = (((parOf g p s w).g d : ℝ) : EReal) := by
  rw [val_main_v49_apply, at_v49, val_main_v0_apply, at_v0, H.hg]; rfl

theorem w_val (k d : Fin 1024) : val_main_v50 (F := Ideal) x8 (ix2 k d) = (((parOf g p s w).w k d : ℝ) : EReal) := by
  rw [val_main_v50_apply, at_v50, H.hw]; rfl

theorem y_val (n : Fin 4096) (d : Fin 1024) : val_main_v51 (F := Ideal) x0 x1 x6 x7 x8 (ix3 0 n d) = (((rowOf a u x t n).y (parOf g p s w) d : ℝ) : EReal) := by
  rw [val_main_v51_apply]
  unfold Row.y
  refine real_sum _ _ fun k => ?_
  rw [left_v51, right_v51, br_val H, w_val H, ← EReal.coe_mul]

theorem e_val (n : Fin 4096) (d : Fin 1024) : val_main_v55 (F := Ideal) x0 x1 x3 x4 x5 x6 x7 x8 (ix3 0 n d) = (((rowOf a u x t n).e (parOf g p s w) d : ℝ) : EReal) := by
  rw [val_main_v55_apply, val_main_v54_apply, val_main_v53_apply, val_main_v52_apply, at_v52, gate_val H, y_val H, H.hx, H.ht]
  show ((x n d : ℝ) : EReal) + ((_ : ℝ) : EReal) * ((_ : ℝ) : EReal) - ((t n d : ℝ) : EReal) = _
  rw [← EReal.coe_mul, ← EReal.coe_add, ← EReal.coe_sub]
  rfl

/-- The derivative of the loss by the output, result 1. -/
theorem dx_val (n : Fin 4096) (d : Fin 1024) : val_main_v69 (F := Ideal) x0 x1 x3 x4 x5 x6 x7 x8 (ix3 0 n d) = (((rowOf a u x t n).dx (parOf g p s w) d : ℝ) : EReal) := by
  rw [val_main_v69_apply, val_main_v68_apply, val_main_v67_apply, val_main_v65_apply, val_main_v64_apply, val_main_cst_9_apply,
    val_main_cst_10_apply, val_main_v66_apply, val_main_cst_11_apply, val_main_v58_apply, val_main_v57_apply, val_main_cst_apply, e_val H]
  show Ideal.div (Ideal.ofBits FTy.f32 0x3F000000#32 * Ideal.ofBits FTy.f32 0x3F800000#32) (Ideal.ofBits FTy.f32 0x44800000#32)
    * (Ideal.ofBits FTy.f32 0x40000000#32 * ((_ : ℝ) : EReal)) = _
  rw [ofBits_half, ofBits_one, ofBits_1024, ofBits_two, ← EReal.coe_mul, div_coe_coe _ _ (by norm_num), ← EReal.coe_mul, ← EReal.coe_mul]
  congr 1
  unfold Row.dx
  ring

theorem row_loss (n : Fin 4096) : val_main_v61 (F := Ideal) x0 x1 x3 x4 x5 x6 x7 x8 (ix2 0 n)
    = (((∑ d, (rowOf a u x t n).e (parOf g p s w) d * (rowOf a u x t n).e (parOf g p s w) d) / 1024 : ℝ) : EReal) := by
  rw [val_main_v61_apply, val_main_v59_apply, val_main_cst_5_apply, val_main_v60_apply, val_main_cst_6_apply,
    real_sum _ (fun d => (rowOf a u x t n).e (parOf g p s w) d * (rowOf a u x t n).e (parOf g p s w) d) fun d => by
      rw [at_v59, val_main_v56_apply, e_val H]
      exact (EReal.coe_mul _ _).symm]
  show Ideal.div (Ideal.ofBits FTy.f32 0x00000000#32 + ((_ : ℝ) : EReal)) (Ideal.ofBits FTy.f32 0x44800000#32) = _
  rw [ofBits_zero, ofBits_1024, zero_add, div_coe_coe _ _ (by norm_num)]

/-- The loss, result 10. -/
theorem loss_val (i : S_.Idx) : val_main_v63 (F := Ideal) x0 x1 x3 x4 x5 x6 x7 x8 i = ((loss (parOf g p s w) (rowOf a u x t) : ℝ) : EReal) := by
  have one : ∀ j : S1x4096.Idx, j = ix2 0 (j 1) := fun j => by
    funext b; fin_cases b
    · exact Subsingleton.elim (α := Fin 1) _ _
    · rfl
  let L : Fin 4096 → ℝ := fun n => (∑ d, (rowOf a u x t n).e (parOf g p s w) d * (rowOf a u x t n).e (parOf g p s w) d) / 1024
  have total : (∑ j : S1x4096.Idx, L (j 1)) = ∑ n, L n :=
    Fintype.sum_equiv ⟨fun j : S1x4096.Idx => (j 1 : Fin 4096), fun n => ix2 0 n, fun j => (one j).symm, fun n => rfl⟩ _ _ fun j => rfl
  rw [val_main_v63_apply, val_main_cst_8_apply, val_main_v62_apply, val_main_cst_7_apply,
    real_sum _ (fun j : S1x4096.Idx => L (j 1)) fun j => by rw [one j]; exact row_loss H _, total]
  show Ideal.ofBits FTy.f32 0x3F000000#32 * (Ideal.ofBits FTy.f32 0x00000000#32 + ((_ : ℝ) : EReal)) = _
  rw [ofBits_half, ofBits_zero, zero_add, ← EReal.coe_mul]
  congr 1
  show 1 / 2 * ∑ n, L n = _
  unfold loss
  rw [← Finset.sum_div]
  ring

end

end Cert.OutReferenceIdeal.Out
end
-- ==== Proof.Out.RefB.lean ====
module

public import proofs.«01_k».proof.Proof.Out.RefF
public import Idealize.ShloMosaic.Lib.TwoAxisContraction

@[expose] public section

/-! The reference's gradients over real numbers. -/

set_option maxRecDepth 16384

noncomputable section

open Idealize.ShloMosaic Idealize.ShloMosaic.TcCoe

namespace Cert.OutReferenceIdeal.Out

open Cert.OutReferenceIdeal Cert.OutReferenceIdeal.Read Cert.Out Cert.Attn

variable {x0 : (⟨S1x4096x512, .f32⟩ : BufTy).Contents (Elt Ideal)} {x1 : (⟨S1x4096x1984, .f32⟩ : BufTy).Contents (Elt Ideal)}
variable {x3 x4 : (⟨S1x4096x1024, .f32⟩ : BufTy).Contents (Elt Ideal)} {x5 : (⟨S1x3072, .f32⟩ : BufTy).Contents (Elt Ideal)}
variable {x6 : (⟨S1x4x128x128, .f32⟩ : BufTy).Contents (Elt Ideal)} {x7 : (⟨S1x512, .f32⟩ : BufTy).Contents (Elt Ideal)}
variable {x8 : (⟨S1x1024x1024, .f32⟩ : BufTy).Contents (Elt Ideal)}
variable {a : Fin 4096 → Fin 512 → ℝ} {u : Fin 4096 → Fin 1984 → ℝ} {x t : Fin 4096 → Fin 1024 → ℝ} {g : Fin 3072 → ℝ}
variable {p : Fin 4 → Fin 128 → Fin 128 → ℝ} {s : Fin 512 → ℝ} {w : Fin 1024 → Fin 1024 → ℝ}

theorem at_v70 (n : Fin 4096) (d : Fin 1024) : idx_main_v70 (ix3 0 n d) = ix3 0 0 d := by
  funext b; fin_cases b <;> rfl

theorem at_v73 (n : Fin 4096) (d : Fin 1024) : idx_main_v73 (ix2 0 d) n = ix3 0 n d := by
  funext b; fin_cases b <;> rfl

theorem at_v74 (d : Fin 1024) : idx_main_v74 (ix3 0 0 d) = ix2 0 d := by
  funext b; apply Fin.ext; match b with
  | ⟨0, _⟩ => rfl
  | ⟨1, _⟩ => show ((0 * 1 + 0) * 1024 + d.val) % 1024 = d.val; omega

theorem at_v76 (m d : Fin 1024) : idx_main_v76 (ix2 m d) = ix2 d m := by
  funext b; fin_cases b <;> rfl

theorem left_v77 (n : Fin 4096) (m d : Fin 1024) : lidx_main_v77 (ix3 0 n m) d = ix3 0 n d := by
  funext b; fin_cases b <;> rfl

theorem right_v77 (n : Fin 4096) (m d : Fin 1024) : ridx_main_v77 (ix3 0 n m) d = ix2 m d := by
  funext b; fin_cases b <;> rfl

theorem at_v78 (m d : Fin 1024) : idx_main_v78 (ix3 0 m d) = ix2 m d := by
  funext b; fin_cases b <;> rfl

theorem at_v80 (d : Fin 1024) : idx_main_v80 (ix2 0 d) = ix1 d := by
  funext b; fin_cases b; rfl

theorem at_v81 (n : Fin 4096) (c : Fin 512) : idx_main_v81 (ix3 0 n c) = ix3 0 n (left c) := by
  funext b; fin_cases b <;> rfl

theorem at_v82 (n : Fin 4096) (c : Fin 512) : idx_main_v82 (ix3 0 n c) = ix3 0 n (right c) := by
  funext b; fin_cases b <;> rfl

theorem at_v90 (n : Fin 4096) (d : Fin 512) : idx_main_v90 (ix2 0 d) n = ix3 0 n d := by
  funext b; fin_cases b <;> rfl

theorem at_v91 (d : Fin 512) : idx_main_v91 (ix3 0 0 d) = ix2 0 d := by
  funext b; apply Fin.ext; match b with
  | ⟨0, _⟩ => rfl
  | ⟨1, _⟩ => show ((0 * 1 + 0) * 512 + d.val) % 512 = d.val; omega

theorem at_v92 (n : Fin 4096) (d : Fin 512) : idx_main_v92 (ix3 0 n d) = ix3 0 0 d := by
  funext b; fin_cases b <;> rfl

theorem at_v95 (d : Fin 512) : idx_main_v95 (ix2 0 d) = ix1 d := by
  funext b; fin_cases b; rfl

theorem at_v96 (n : Fin 4096) (q : Fin 4) (k : Fin 128) : idx_main_v96 (ix4 0 n q k) = ix3 0 n (col q k) := by
  funext b; apply Fin.ext; match b with
  | ⟨0, _⟩ => rfl
  | ⟨1, _⟩ => show (((0 * 4096 + n.val) * 4 + q.val) * 128 + k.val) / 512 % 4096 = n.val; omega
  | ⟨2, _⟩ => show (((0 * 4096 + n.val) * 4 + q.val) * 128 + k.val) % 512 = q.val * 128 + k.val; omega

theorem at_v97 (n : Fin 4096) (q : Fin 4) (j : Fin 128) : idx_main_v97 (ix4 q j 0 n) = ix4 0 n q j := by
  funext b; fin_cases b <;> rfl

theorem left_v98 (n : Fin 4096) (q : Fin 4) (k j : Fin 128) : lidx_main_v98 (ix4 q 0 n k) j = ix4 q j 0 n := by
  funext b; fin_cases b <;> rfl

theorem right_v98 (n : Fin 4096) (q : Fin 4) (k j : Fin 128) : ridx_main_v98 (ix4 q 0 n k) j = ix3 q k j := by
  funext b; fin_cases b <;> rfl

theorem at_v99 (n : Fin 4096) (q : Fin 4) (j : Fin 128) : idx_main_v99 (ix4 0 n q j) = ix4 q 0 n j := by
  funext b; fin_cases b <;> rfl

theorem at_v101 (q : Fin 4) (k j : Fin 128) : idx_main_v101 (ix3 q k j) = ix3 q j k := by
  funext b; fin_cases b <;> rfl

theorem at_v102 (q : Fin 4) (k j : Fin 128) : idx_main_v102 (ix4 0 q k j) = ix3 q k j := by
  funext b; fin_cases b <;> rfl

theorem at_v103 (n : Fin 4096) (d : Fin 512) : idx_main_v103 (ix3 0 n d) = ix4 0 n (grp d) (low d) := by
  funext b; apply Fin.ext; match b with
  | ⟨0, _⟩ => rfl
  | ⟨1, _⟩ => show ((0 * 4096 + n.val) * 512 + d.val) / 512 % 4096 = n.val; omega
  | ⟨2, _⟩ => show ((0 * 4096 + n.val) * 512 + d.val) / 128 % 4 = d.val / 128; omega
  | ⟨3, _⟩ => show ((0 * 4096 + n.val) * 512 + d.val) % 128 = d.val % 128; omega

/-- The product over positions, at an index. -/
theorem v75_at (l : FVec Ideal S1x4096x1024 .f32) (r : FVec Ideal S1x4096x1024 .f32) (d m : Fin 1024) :
    Host.dotGeneral (φ₁ := .f32) (φ₂ := .f32) dot_S1x4096x1024_S1x4096x1024_S1024x1024_01_01_2_2_n_n none l r (ix2 d m) = ∑ n : Fin 4096, l (ix3 0 n d) * r (ix3 0 n m) := by
  let D := dot_S1x4096x1024_S1x4096x1024_S1024x1024_01_01_2_2_n_n
  simp only [Host.dotGeneral]
  rw [Ideal.dotGeneral_apply, ← Equiv.sum_comp (ValueIdx.contrEquiv2 D 1 4096 rfl rfl rfl).symm, Fintype.sum_prod_type, Fin.sum_univ_one]
  refine Finset.sum_congr rfl fun n _ => ?_
  have h0 := ValueIdx.contrEquiv2_symm_val0 D 1 4096 rfl rfl rfl (0, n)
  have h1 := ValueIdx.contrEquiv2_symm_val1 D 1 4096 rfl rfl rfl (0, n)
  have el : D.lhsIdx (ix2 d m) ((ValueIdx.contrEquiv2 D 1 4096 rfl rfl rfl).symm (0, n)) = ix3 0 n d := by
    funext b; apply Fin.ext
    match b with
    | ⟨0, _⟩ => exact h0
    | ⟨1, _⟩ => exact h1
    | ⟨2, _⟩ => rfl
  have er : D.rhsIdx (ix2 d m) ((ValueIdx.contrEquiv2 D 1 4096 rfl rfl rfl).symm (0, n)) = ix3 0 n m := by
    funext b; apply Fin.ext
    match b with
    | ⟨0, _⟩ => exact h0
    | ⟨1, _⟩ => exact h1
    | ⟨2, _⟩ => rfl
  rw [el, er]

theorem v100_at (l : FVec Ideal S4x128x1x4096 .f32) (r : FVec Ideal S1x4096x4x128 .f32) (q : Fin 4) (j k : Fin 128) :
    Host.dotGeneral (φ₁ := .f32) (φ₂ := .f32) dot_S4x128x1x4096_S1x4096x4x128_S4x128x128_23_01_1_3_0_2 none l r (ix3 q j k)
      = ∑ n : Fin 4096, l (ix4 q j 0 n) * r (ix4 0 n q k) := by
  let D := dot_S4x128x1x4096_S1x4096x4x128_S4x128x128_23_01_1_3_0_2
  simp only [Host.dotGeneral]
  rw [Ideal.dotGeneral_apply, ← Equiv.sum_comp (ValueIdx.contrEquiv2 D 1 4096 rfl rfl rfl).symm, Fintype.sum_prod_type, Fin.sum_univ_one]
  refine Finset.sum_congr rfl fun n _ => ?_
  have h0 := ValueIdx.contrEquiv2_symm_val0 D 1 4096 rfl rfl rfl (0, n)
  have h1 := ValueIdx.contrEquiv2_symm_val1 D 1 4096 rfl rfl rfl (0, n)
  have el : D.lhsIdx (ix3 q j k) ((ValueIdx.contrEquiv2 D 1 4096 rfl rfl rfl).symm (0, n)) = ix4 q j 0 n := by
    funext b; apply Fin.ext
    match b with
    | ⟨0, _⟩ => rfl
    | ⟨1, _⟩ => rfl
    | ⟨2, _⟩ => exact h0
    | ⟨3, _⟩ => exact h1
  have er : D.rhsIdx (ix3 q j k) ((ValueIdx.contrEquiv2 D 1 4096 rfl rfl rfl).symm (0, n)) = ix4 0 n q k := by
    funext b; apply Fin.ext
    match b with
    | ⟨0, _⟩ => exact h0
    | ⟨1, _⟩ => exact h1
    | ⟨2, _⟩ => rfl
    | ⟨3, _⟩ => rfl
  rw [el, er]

/-- A sum over two leading axes of size one. -/
theorem sum_ones {N : ℕ} (h : (⟨3, ![1, 1, N]⟩ : Shape).ReducesTo [0, 1] ⟨1, ![N]⟩) (v : (⟨3, ![1, 1, N]⟩ : Shape).Idx → EReal) (init : EReal)
    (d : Fin N) : Ideal.hostReduceAdd h v init (ix1 d) = init + v (ix3 0 0 d) := by
  have hp : ∀ i : (⟨3, ![1, 1, N]⟩ : Shape).Idx, h.drop i = ix1 d ↔ ∃ k : Unit, (fun _ : Unit => (ix3 0 0 d : (⟨3, ![1, 1, N]⟩ : Shape).Idx)) k = i := by
    intro i
    constructor
    · intro e
      refine ⟨(), ?_⟩
      funext b
      match b with
      | ⟨0, _⟩ => exact Subsingleton.elim (α := Fin 1) _ _
      | ⟨1, _⟩ => exact Subsingleton.elim (α := Fin 1) _ _
      | ⟨2, _⟩ => exact Fin.ext (congrArg Fin.val (congrFun e 0)).symm
    · rintro ⟨_, rfl⟩
      funext b
      match b with
      | ⟨0, _⟩ => rfl
  exact congrArg (init + ·) ((Finset.sum_filter_eq_sum_of_fiber _ _ (fun _ _ _ => rfl) hp v).trans (by simp))

section
variable (H : Holds x0 x1 x3 x4 x5 x6 x7 x8 a u x t g p s w)
include H

theorem dy_val (n : Fin 4096) (d : Fin 1024) : val_main_v71 (F := Ideal) x0 x1 x3 x4 x5 x6 x7 x8 (ix3 0 n d) = (((rowOf a u x t n).dy (parOf g p s w) d : ℝ) : EReal) := by
  rw [val_main_v71_apply, val_main_v70_apply, at_v70, gate_val H, dx_val H]
  exact (EReal.coe_mul _ _).symm.trans (congrArg _ (mul_comm _ _))

theorem gate_sum (d : Fin 1024) : val_main_v74 (F := Ideal) x0 x1 x3 x4 x5 x6 x7 x8 (ix3 0 0 d) = ((dgate (parOf g p s w) (rowOf a u x t) d : ℝ) : EReal) := by
  rw [val_main_v74_apply, at_v74, val_main_v73_apply, val_main_cst_12_apply,
    real_sum _ (fun n => (rowOf a u x t n).dx (parOf g p s w) d * (rowOf a u x t n).y (parOf g p s w) d) fun n => by
      rw [at_v73, val_main_v72_apply, dx_val H, y_val H]
      exact (EReal.coe_mul _ _).symm]
  show Ideal.ofBits FTy.f32 0x00000000#32 + _ = _
  rw [ofBits_zero, zero_add]
  rfl

/-- The output weights' gradient, result 6. -/
theorem dw_val (m d : Fin 1024) : val_main_v78 (F := Ideal) x0 x1 x3 x4 x5 x6 x7 x8 (ix3 0 m d) = ((dw (parOf g p s w) (rowOf a u x t) m d : ℝ) : EReal) := by
  rw [val_main_v78_apply, at_v78, val_main_v76_apply, at_v76]
  unfold val_main_v75 dw
  refine (v75_at _ _ d m).trans (real_sum _ _ fun n => ?_)
  rw [dy_val H, br_val H, ← EReal.coe_mul, mul_comm]

theorem db_val (n : Fin 4096) (m : Fin 1024) : val_main_v77 (F := Ideal) x0 x1 x3 x4 x5 x6 x7 x8 (ix3 0 n m) = (((rowOf a u x t n).db (parOf g p s w) m : ℝ) : EReal) := by
  rw [val_main_v77_apply]
  unfold Row.db
  refine real_sum _ _ fun d => ?_
  rw [left_v77, right_v77, dy_val H, w_val H, ← EReal.coe_mul]

theorem dyp_val (n : Fin 4096) (c : Fin 512) : val_main_v83 (F := Ideal) x0 x1 x3 x4 x5 x6 x7 x8 (ix3 0 n c) = (((rowOf a u x t n).dyp (parOf g p s w) c : ℝ) : EReal) := by
  rw [val_main_v83_apply, silup_val H, val_main_v82_apply, at_v82, db_val H]
  exact (EReal.coe_mul _ _).symm.trans (congrArg _ (mul_comm _ _))

/-- The attention's gradient, result 2. -/
theorem da_val (n : Fin 4096) (c : Fin 512) : val_main_v86 (F := Ideal) x0 x1 x3 x4 x5 x6 x7 x8 (ix3 0 n c) = (((rowOf a u x t n).da (parOf g p s w) c : ℝ) : EReal) := by
  rw [val_main_v86_apply, silua_val H, val_main_v81_apply, at_v81, db_val H]
  exact (EReal.coe_mul _ _).symm.trans (congrArg _ (mul_comm _ _))

theorem a_val (n : Fin 4096) (c : Fin 512) : x0 (ix3 0 n c) = (((rowOf a u x t n).a c : ℝ) : EReal) := H.ha n c

theorem slopea_val (n : Fin 4096) (d : Fin 512) : val_main_v44_1 (F := Ideal) x1 (ix3 0 n d)
    = ((sg ((rowOf a u x t n).ga d) * (1 - sg ((rowOf a u x t n).ga d)) : ℝ) : EReal) := by
  rw [val_main_v44_1_apply, val_main_call0_v7_apply, val_main_call0_v6_apply, val_main_call0_cst_1_apply, sga_val H]
  show ((_ : ℝ) : EReal) * (Ideal.ofBits FTy.f32 0x3F800000#32 - ((_ : ℝ) : EReal)) = _
  rw [ofBits_one, ← EReal.coe_sub, ← EReal.coe_mul]

theorem slopep_val (n : Fin 4096) (d : Fin 512) : val_main_v46_1 (F := Ideal) x1 (ix3 0 n d)
    = ((sg ((rowOf a u x t n).gp d) * (1 - sg ((rowOf a u x t n).gp d)) : ℝ) : EReal) := by
  rw [val_main_v46_1_apply, val_main_call1_v7_apply, val_main_call1_v6_apply, val_main_call1_cst_1_apply, sgp_val H]
  show ((_ : ℝ) : EReal) * (Ideal.ofBits FTy.f32 0x3F800000#32 - ((_ : ℝ) : EReal)) = _
  rw [ofBits_one, ← EReal.coe_sub, ← EReal.coe_mul]

/-- The attention's gate's gradient, result 3. -/
theorem dga_val (n : Fin 4096) (c : Fin 512) : val_main_v104 (F := Ideal) x0 x1 x3 x4 x5 x6 x7 x8 (ix3 0 n c) = (((rowOf a u x t n).dga (parOf g p s w) c : ℝ) : EReal) := by
  rw [val_main_v104_apply, val_main_v88_apply, val_main_call3_v1_apply, val_main_call3_v2_apply, val_main_call3_v0_apply, val_main_v87_apply,
    val_main_v81_apply, at_v81, db_val H, a_val H, ga_val H, sga_val H, slopea_val H]
  show ((_ : ℝ) : EReal) * ((_ : ℝ) : EReal) * ((_ : ℝ) : EReal) + ((_ : ℝ) : EReal) * (((_ : ℝ) : EReal) * ((_ : ℝ) : EReal)) * ((_ : ℝ) : EReal) = _
  rw [← EReal.coe_mul, ← EReal.coe_mul, ← EReal.coe_mul, ← EReal.coe_mul, ← EReal.coe_add]
  congr 1
  unfold Row.dga silu'
  ring

/-- The pooling's gate's gradient, result 4. -/
theorem dgp_val (n : Fin 4096) (c : Fin 512) : val_main_v105 (F := Ideal) x0 x1 x3 x4 x5 x6 x7 x8 (ix3 0 n c) = (((rowOf a u x t n).dgp (parOf g p s w) c : ℝ) : EReal) := by
  rw [val_main_v105_apply, val_main_v85_apply, val_main_call2_v1_apply, val_main_call2_v2_apply, val_main_call2_v0_apply, val_main_v84_apply,
    val_main_v82_apply, at_v82, db_val H, yp_val H, gp_val H, sgp_val H, slopep_val H]
  show ((_ : ℝ) : EReal) * ((_ : ℝ) : EReal) * ((_ : ℝ) : EReal) + ((_ : ℝ) : EReal) * (((_ : ℝ) : EReal) * ((_ : ℝ) : EReal)) * ((_ : ℝ) : EReal) = _
  rw [← EReal.coe_mul, ← EReal.coe_mul, ← EReal.coe_mul, ← EReal.coe_mul, ← EReal.coe_add]
  congr 1
  unfold Row.dgp silu'
  ring

theorem scale_sum (d : Fin 512) : val_main_v91 (F := Ideal) x0 x1 x3 x4 x5 x6 x7 x8 (ix3 0 0 d) = ((dps (parOf g p s w) (rowOf a u x t) d : ℝ) : EReal) := by
  rw [val_main_v91_apply, at_v91, val_main_v90_apply, val_main_cst_14_apply,
    real_sum _ (fun n => (rowOf a u x t n).dyp (parOf g p s w) d * (rowOf a u x t n).z (parOf g p s w) d) fun n => by
      rw [at_v90, val_main_v89_apply, dyp_val H, z_val H]
      exact (EReal.coe_mul _ _).symm.trans (congrArg _ (mul_comm _ _))]
  show Ideal.ofBits FTy.f32 0x00000000#32 + _ = _
  rw [ofBits_zero, zero_add]
  rfl

theorem dz_val (n : Fin 4096) (q : Fin 4) (j : Fin 128) : val_main_v97 (F := Ideal) x0 x1 x3 x4 x5 x6 x7 x8 (ix4 q j 0 n)
    = (((rowOf a u x t n).dz (parOf g p s w) (col q j) : ℝ) : EReal) := by
  rw [val_main_v97_apply, at_v97, val_main_v96_apply, at_v96, val_main_v93_apply, dyp_val H, val_main_v92_apply, at_v92, ps_val H]
  exact (EReal.coe_mul _ _).symm

/-- The pooled channels' gradient, result 5. -/
theorem dp_val (n : Fin 4096) (c : Fin 512) : val_main_v103 (F := Ideal) x0 x1 x3 x4 x5 x6 x7 x8 (ix3 0 n c) = (((rowOf a u x t n).dp (parOf g p s w) c : ℝ) : EReal) := by
  rw [val_main_v103_apply, at_v103, val_main_v99_apply, at_v99, val_main_v98_apply]
  unfold Row.dp
  refine real_sum _ _ fun j => ?_
  rw [left_v98, right_v98, dz_val H, wp_val H, ← EReal.coe_mul]

/-- The pooling weights' gradient, result 9. -/
theorem dwp_val (q : Fin 4) (k j : Fin 128) : val_main_v102 (F := Ideal) x0 x1 x3 x4 x5 x6 x7 x8 (ix4 0 q k j) = ((dwp (parOf g p s w) (rowOf a u x t) q k j : ℝ) : EReal) := by
  rw [val_main_v102_apply, at_v102, val_main_v101_apply, at_v101]
  unfold val_main_v100 dwp
  refine (v100_at _ _ q j k).trans (real_sum _ _ fun n => ?_)
  rw [dz_val H, p_val H, ← EReal.coe_mul, mul_comm]

/-- The gate's gradient, result 7. -/
theorem dgate_val (d : Fin 1024) : val_main_v80 (F := Ideal) x0 x1 x3 x4 x5 x6 x7 x8 (ix2 0 d) = ((dgate (parOf g p s w) (rowOf a u x t) d : ℝ) : EReal) := by
  rw [val_main_v80_apply, at_v80, ← gate_sum H d]
  unfold val_main_v79
  generalize val_main_v74 (F := Ideal) x0 x1 x3 x4 x5 x6 x7 x8 = y
  refine (sum_ones _ y _ d).trans ?_
  show Ideal.ofBits FTy.f32 0x00000000#32 + _ = _
  rw [ofBits_zero, zero_add]

/-- The pooling scale's gradient, result 8. -/
theorem dps_val (d : Fin 512) : val_main_v95 (F := Ideal) x0 x1 x3 x4 x5 x6 x7 x8 (ix2 0 d) = ((dps (parOf g p s w) (rowOf a u x t) d : ℝ) : EReal) := by
  rw [val_main_v95_apply, at_v95, ← scale_sum H d]
  unfold val_main_v94
  generalize val_main_v91 (F := Ideal) x0 x1 x3 x4 x5 x6 x7 x8 = y
  refine (sum_ones _ y _ d).trans ?_
  show Ideal.ofBits FTy.f32 0x00000000#32 + _ = _
  rw [ofBits_zero, zero_add]

end

end Cert.OutReferenceIdeal.Out
end
-- ==== Proof.Out.Eq.lean ====
module

public import proofs.«01_k».proof.Defs
public import proofs.«01_k».proof.Proof.Gen.Pre_out_finite
public import proofs.«01_k».proof.Proof.Finite
public import proofs.«01_k».proof.Proof.Out.Host
public import proofs.«01_k».proof.Proof.Out.Run
public import proofs.«01_k».proof.Proof.Out.RefB

@[expose] public section

/-! Over finite arguments the output stage's ten results are its reference's. -/

set_option maxRecDepth 16384

noncomputable section

open Idealize.ShloMosaic Idealize.ShloMosaic.TcCoe

namespace Cert.OutKernelIdeal.Out

open Cert.OutKernelIdeal Cert.OutKernelIdeal.Gen Cert.Out Cert.Attn

variable (m : (ℓ : Loc nD τ sig) → Buf (Elt Ideal) ℓ) (c : Dev nD)

abbrev x0 : (⟨S1x4096x512, .f32⟩ : BufTy).Contents (Elt Ideal) := m ((c.tc : Thread nD τ).loc main_arg0)
abbrev x1 : (⟨S1x4096x1984, .f32⟩ : BufTy).Contents (Elt Ideal) := m ((c.tc : Thread nD τ).loc main_arg1)
abbrev x3 : (⟨S1x4096x1024, .f32⟩ : BufTy).Contents (Elt Ideal) := m ((c.tc : Thread nD τ).loc main_arg3)
abbrev x4 : (⟨S1x4096x1024, .f32⟩ : BufTy).Contents (Elt Ideal) := m ((c.tc : Thread nD τ).loc main_arg4)
abbrev x5 : (⟨S1x3072, .f32⟩ : BufTy).Contents (Elt Ideal) := m ((c.tc : Thread nD τ).loc main_arg5)
abbrev x6 : (⟨S1x4x128x128, .f32⟩ : BufTy).Contents (Elt Ideal) := m ((c.tc : Thread nD τ).loc main_arg6)
abbrev x7 : (⟨S1x512, .f32⟩ : BufTy).Contents (Elt Ideal) := m ((c.tc : Thread nD τ).loc main_arg7)
abbrev x8 : (⟨S1x1024x1024, .f32⟩ : BufTy).Contents (Elt Ideal) := m ((c.tc : Thread nD τ).loc main_arg8)

/-- The arguments' real numbers. -/
def rA (n : Fin 4096) (d : Fin 512) : ℝ := EReal.toReal (x0 m c (ix3 0 n d))
def rU (n : Fin 4096) (d : Fin 1984) : ℝ := EReal.toReal (x1 m c (ix3 0 n d))
def rX (n : Fin 4096) (d : Fin 1024) : ℝ := EReal.toReal (x3 m c (ix3 0 n d))
def rT (n : Fin 4096) (d : Fin 1024) : ℝ := EReal.toReal (x4 m c (ix3 0 n d))
def rG (d : Fin 3072) : ℝ := EReal.toReal (x5 m c (ix2 0 d))
def rP (n : Fin 4) (k j : Fin 128) : ℝ := EReal.toReal (x6 m c (ix4 0 n k j))
def rS (d : Fin 512) : ℝ := EReal.toReal (x7 m c (ix2 0 d))
def rW (k d : Fin 1024) : ℝ := EReal.toReal (x8 m c (ix3 0 k d))

abbrev par : Par := parOf (rG m c) (rP m c) (rS m c) (rW m c)
abbrev row : Fin 4096 → Row := rowOf (rA m c) (rU m c) (rX m c) (rT m c)

theorem holds (h : Pre_OutKernelIdeal_out_finite (hPre_out_finite := Cert.Pre_out_finite.Gen.facts) m) :
    Holds m c (rA m c) (rU m c) (rX m c) (rT m c) (rG m c) (rP m c) (rS m c) (rW m c) := by
  obtain ⟨h0, h1, h3, h4, h5, h6, h7, h8⟩ := h c
  exact {
    ha := fun _ _ => real_of_lt _ (congrFun h0 _)
    hu := fun _ _ => real_of_lt _ (congrFun h1 _)
    hx := fun _ _ => real_of_lt _ (congrFun h3 _)
    ht := fun _ _ => real_of_lt _ (congrFun h4 _)
    hg := fun _ => real_of_lt _ (congrFun h5 _)
    hp := fun _ _ _ => real_of_lt _ (congrFun h6 _)
    hs := fun _ => real_of_lt _ (congrFun h7 _)
    hw := fun _ _ => real_of_lt _ (congrFun h8 _) }

theorem refHolds (h : Pre_OutKernelIdeal_out_finite (hPre_out_finite := Cert.Pre_out_finite.Gen.facts) m) :
    Cert.OutReferenceIdeal.Out.Holds (x0 m c) (x1 m c) (x3 m c) (x4 m c) (x5 m c) (x6 m c) (x7 m c) (x8 m c)
      (rA m c) (rU m c) (rX m c) (rT m c) (rG m c) (rP m c) (rS m c) (rW m c) :=
  have H := holds m c h
  ⟨H.ha, H.hu, H.hx, H.ht, H.hg, H.hp, H.hs, H.hw⟩

theorem two {n : ℕ} (i : (⟨2, ![1, n]⟩ : Shape).Idx) : i = ix2 0 (i 1) := by
  funext a; fin_cases a
  · exact Subsingleton.elim (α := Fin 1) _ _
  · rfl

theorem three {n k : ℕ} (i : (⟨3, ![1, n, k]⟩ : Shape).Idx) : i = ix3 0 (i 1) (i 2) := by
  funext a; fin_cases a
  · exact Subsingleton.elim (α := Fin 1) _ _
  · rfl
  · rfl

theorem four {n k l : ℕ} (i : (⟨4, ![1, n, k, l]⟩ : Shape).Idx) : i = ix4 0 (i 1) (i 2) (i 3) := by
  funext a; fin_cases a
  · exact Subsingleton.elim (α := Fin 1) _ _
  · rfl
  · rfl
  · rfl

/-- After the call its arrays hold what the last grid point left in them. -/
theorem array (w : Fin cfg0.W) :
    Pipeline.withArrays cfg0.spec c (V0 m c) (fun w => (dats m 0 c).arrAt w cfg0.N) (Proc.devRef .tc (Pipeline.arrRef cfg0.spec w)) = (dats m 0 c).arrAt w cfg0.N :=
  (dats m 0 c).withArrays_arrAt sharedIn0 (V0 m c) (A_eq m c) w

open Cert.OutReferenceIdeal.Read Cert.OutReferenceIdeal.Out

variable {m} (h : Pre_OutKernelIdeal_out_finite (hPre_out_finite := Cert.Pre_out_finite.Gen.facts) m)
include h

theorem dx_eq : tail m c main_v24 = val_main_v69 (F := Ideal) (x0 m c) (x1 m c) (x3 m c) (x4 m c) (x5 m c) (x6 m c) (x7 m c) (x8 m c) := by
  funext i
  obtain ⟨n, d, rfl⟩ : ∃ (n : Fin 4096) (d : Fin 1024), i = ix3 0 n d := ⟨_, _, three i⟩
  have H := holds m c h
  have K := refHolds m c h
  exact ((dx_res _ n d).trans (congrFun ((array m c 12).trans (arr12 (found H))) _)).trans (dx_val K n d).symm

theorem dattn_eq : tail m c main_v23 = val_main_v86 (F := Ideal) (x0 m c) (x1 m c) (x3 m c) (x4 m c) (x5 m c) (x6 m c) (x7 m c) (x8 m c) := by
  funext i
  obtain ⟨n, d, rfl⟩ : ∃ (n : Fin 4096) (d : Fin 512), i = ix3 0 n d := ⟨_, _, three i⟩
  have H := holds m c h
  have K := refHolds m c h
  refine ((dattn_res _ n d).trans (congrFun ((array m c 13).trans (arr13 (found H))) _)).trans ?_
  rw [da_val K n d]
  exact congrArg (fun k : Fin 4096 => (((row m c k).da (par m c) d : ℝ) : EReal)) (Fin.ext (show n.val / 32 * 32 + n.val % 32 = n.val by omega))

theorem dga_eq : tail m c main_v25 = val_main_v104 (F := Ideal) (x0 m c) (x1 m c) (x3 m c) (x4 m c) (x5 m c) (x6 m c) (x7 m c) (x8 m c) := by
  funext i
  obtain ⟨n, d, rfl⟩ : ∃ (n : Fin 4096) (d : Fin 512), i = ix3 0 n d := ⟨_, _, three i⟩
  have H := holds m c h
  have K := refHolds m c h
  exact ((dga_res _ n d).trans (congrFun ((array m c 14).trans (arr14 (found H))) _)).trans (dga_val K n d).symm

theorem dgp_eq : tail m c main_v26 = val_main_v105 (F := Ideal) (x0 m c) (x1 m c) (x3 m c) (x4 m c) (x5 m c) (x6 m c) (x7 m c) (x8 m c) := by
  funext i
  obtain ⟨n, d, rfl⟩ : ∃ (n : Fin 4096) (d : Fin 512), i = ix3 0 n d := ⟨_, _, three i⟩
  have H := holds m c h
  have K := refHolds m c h
  exact ((dgp_res _ n d).trans (congrFun ((array m c 15).trans (arr15 (found H))) _)).trans (dgp_val K n d).symm

theorem dp_eq : tail m c main_v27 = val_main_v103 (F := Ideal) (x0 m c) (x1 m c) (x3 m c) (x4 m c) (x5 m c) (x6 m c) (x7 m c) (x8 m c) := by
  funext i
  obtain ⟨n, d, rfl⟩ : ∃ (n : Fin 4096) (d : Fin 512), i = ix3 0 n d := ⟨_, _, three i⟩
  have H := holds m c h
  have K := refHolds m c h
  exact ((dp_res _ n d).trans (congrFun ((array m c 16).trans (arr16 (found H))) _)).trans (dp_val K n d).symm

theorem dw_eq : tail m c main_v28 = val_main_v78 (F := Ideal) (x0 m c) (x1 m c) (x3 m c) (x4 m c) (x5 m c) (x6 m c) (x7 m c) (x8 m c) := by
  funext i
  obtain ⟨n, d, rfl⟩ : ∃ (n : Fin 1024) (d : Fin 1024), i = ix3 0 n d := ⟨_, _, three i⟩
  have H := holds m c h
  have K := refHolds m c h
  exact ((dw_res _ n d).trans (congrFun ((array m c 17).trans (arr17 (found H))) _)).trans (dw_val K n d).symm

theorem dgate_eq : (dats m 0 c).arrAt 18 cfg0.N = val_main_v80 (F := Ideal) (x0 m c) (x1 m c) (x3 m c) (x4 m c) (x5 m c) (x6 m c) (x7 m c) (x8 m c) := by
  funext i
  obtain ⟨d, rfl⟩ : ∃ (d : Fin 1024), i = ix2 0 d := ⟨_, two i⟩
  have H := holds m c h
  have K := refHolds m c h
  exact (congrFun (arr18 (found H)) _).trans (dgate_val K d).symm

theorem dps_eq : (dats m 0 c).arrAt 19 cfg0.N = val_main_v95 (F := Ideal) (x0 m c) (x1 m c) (x3 m c) (x4 m c) (x5 m c) (x6 m c) (x7 m c) (x8 m c) := by
  funext i
  obtain ⟨d, rfl⟩ : ∃ (d : Fin 512), i = ix2 0 d := ⟨_, two i⟩
  have H := holds m c h
  have K := refHolds m c h
  exact (congrFun (arr19 (found H)) _).trans (dps_val K d).symm

theorem dwp_eq : tail m c main_v29 = val_main_v102 (F := Ideal) (x0 m c) (x1 m c) (x3 m c) (x4 m c) (x5 m c) (x6 m c) (x7 m c) (x8 m c) := by
  funext i
  obtain ⟨q, k, j, rfl⟩ : ∃ (q : Fin 4) (k j : Fin 128), i = ix4 0 q k j := ⟨_, _, _, four i⟩
  have H := holds m c h
  have K := refHolds m c h
  exact ((dwp_res _ q k j).trans (congrFun ((array m c 20).trans (arr20 (found H))) _)).trans (dwp_val K q k j).symm

theorem loss_eq : tail m c main_v30 = val_main_v63 (F := Ideal) (x0 m c) (x1 m c) (x3 m c) (x4 m c) (x5 m c) (x6 m c) (x7 m c) (x8 m c) := by
  funext i
  obtain rfl : i = ix0 := funext fun a => a.elim0
  have H := holds m c h
  have K := refHolds m c h
  exact ((loss_res _).trans (congrFun ((array m c 21).trans (arr21 (found H))) _)).trans (loss_val K _).symm

end Cert.OutKernelIdeal.Out
-- ==== Proof.Fwd.Spec.lean ====
module

public import Idealize.ShloMosaic.PureOps.Ideal
public import Idealize.ShloMosaic.PureOps.Ideal.Laws
public import Idealize.ShloMosaic.Lib.Pointwise

@[expose] public section

/-! The stage's forward pass on one row: the normalised and modulated row, its projection, the values of one head. -/

noncomputable section

open Idealize.ShloMosaic

namespace Cert.Fwd

/-- The reciprocal root of a row's mean square, of `n` entries. -/
def inv {k : ℕ} (n : BitVec 32) (f : Fin k → EReal) : EReal :=
  Ideal.rsqrt (Ideal.div (∑ j, f j * f j) (Ideal.ofBits FTy.f32 n) + Ideal.ofBits FTy.f32 0x358637BD#32)

/-- A row normalised, scaled by its gain, modulated. -/
def hrow (x g sc sh : Fin 1024 → EReal) (d : Fin 1024) : EReal :=
  x d * inv 0x44800000#32 x * g d * (Ideal.ofBits FTy.f32 0x3F800000#32 + sc d) + sh d

/-- One column of the projection. -/
def proj (h w : Fin 1024 → EReal) : EReal := ∑ d, h d * w d

/-- One column of the product of the normalised low-rank row with the values' weights. -/
def val (c g w : Fin 128 → EReal) : EReal := ∑ k, c k * inv 0x43000000#32 c * g k * w k

/-- What the stage works on: the context's rows before the latents', each with its scale and shift, and the weights. -/
structure Par where
  x : Fin 4352 → Fin 1024 → EReal
  sc : Fin 4352 → Fin 1024 → EReal
  sh : Fin 4352 → Fin 1024 → EReal
  g : Fin 1024 → EReal
  w : Fin 1984 → Fin 1024 → EReal
  kg : Fin 128 → EReal
  kv : Fin 4 → Fin 128 → Fin 256 → EReal

namespace Par
variable (p : Par)

def h (n : Fin 4352) : Fin 1024 → EReal := hrow (p.x n) p.g (p.sc n) (p.sh n)
def u (n : Fin 4352) (j : Fin 1984) : EReal := proj (p.h n) (p.w j)
def v (a : Fin 4) (n : Fin 4352) (j : Fin 128) : EReal :=
  val (fun k => p.u n ⟨256 + k.val, by omega⟩) p.kg (fun k => p.kv a k ⟨128 + j.val, by omega⟩)

end Par

/-- The stage's parameters as the argument arrays hold them. -/
def parOf (x : Vec Ideal ⟨3, ![1, 4096, 1024]⟩ .f32) (ctx : Vec Ideal ⟨3, ![1, 256, 1024]⟩ .f32) (mod : Vec Ideal ⟨2, ![1, 3072]⟩ .f32)
    (modc : Vec Ideal ⟨1, ![3072]⟩ .f32) (g : Vec Ideal ⟨2, ![1, 1024]⟩ .f32) (w : Vec Ideal ⟨3, ![1, 1024, 1984]⟩ .f32)
    (kg : Vec Ideal ⟨2, ![1, 128]⟩ .f32) (kv : Vec Ideal ⟨3, ![1, 128, 1024]⟩ .f32) : Par where
  x n d := if h : n.val < 256 then ctx (ix3 0 ⟨n.val, h⟩ d) else x (ix3 0 ⟨n.val - 256, by omega⟩ d)
  sc n d := if n.val < 256 then modc (ix1 ⟨1024 + d.val, by omega⟩) else mod (ix2 0 ⟨1024 + d.val, by omega⟩)
  sh n d := if n.val < 256 then modc (ix1 ⟨d.val, by omega⟩) else mod (ix2 0 ⟨d.val, by omega⟩)
  g d := g (ix2 0 d)
  w j d := w (ix3 0 d j)
  kg k := kg (ix2 0 k)
  kv a k j := kv (ix3 0 k ⟨a.val * 256 + j.val, by omega⟩)

end Cert.Fwd
end
-- ==== Proof.Fwd.Tile.lean ====
module

public import proofs.«01_k».proof.Proof.Gen.FwdKernelIdeal.Skeleton
public import proofs.«01_k».proof.Proof.Fwd.Spec
public import Idealize.ShloMosaic.Lib.Pointwise
public import Idealize.ShloMosaic.Lib.Pipeline.ValueKit.Tiles

@[expose] public section

/-! One step of the forward call: the blocks of the projection and of the values that it leaves, entry by entry. -/

set_option maxRecDepth 16384

noncomputable section

open Idealize.ShloMosaic

namespace Cert.FwdKernelIdeal.Fwd

open Cert.FwdKernelIdeal Cert.FwdKernelIdeal.Gen Cert.Fwd

theorem ofBits_zero : Ideal.ofBits FTy.f32 0x00000000#32 = (0 : EReal) := by simp [Ideal.ofBits, Ideal.ieee]

/-- What a step reads that these two blocks depend on. -/
structure Ins where
  i : grid0.Coords
  x0 : Vec Ideal S256x1024 .f32
  x1 : Vec Ideal S256x1024 .f32
  x2 : Vec Ideal S1x3x1024 .f32
  x3 : Vec Ideal S1x1024 .f32
  x4 : Vec Ideal S1984x1024 .bf16
  x7 : Vec Ideal S1x128 .f32
  x8 : Vec Ideal S4x128x256 .bf16

/-- The weights' row for column `n` of the padded projection. -/
def wrow (n : Fin 2048) : Fin 1984 := ⟨if n.val < 512 then n.val else n.val - 64, by split <;> omega⟩

/-- The rows of the step: the context's at the first point, the latents' after it. -/
theorem rows_first (i : grid0.Coords) (h : (i 0).val = 0) (a b : Vec Ideal S256x1024 .f32) (r : Fin 256) (d : Fin 1024) :
    k0_pay6 i a b (ix2 r d) = a (ix2 r d) := by
  have e : Scalar.cmpi .slt (BitVec.ofNat 32 (i 0).val) 1#32 = 1#1 := by rw [h]; rfl
  show Scalar.select (Scalar.cmpi .slt (BitVec.ofNat 32 (i 0).val) 1#32) (shapeCast S256x1024 a shapeCasts_S256x1024_S256x1024)
    (shapeCast S256x1024 b shapeCasts_S256x1024_S256x1024) (ix2 r d) = a (ix2 r d)
  rw [e]
  show shapeCast S256x1024 a shapeCasts_S256x1024_S256x1024 (ix2 r d) = _
  pointwise

theorem rows_later (i : grid0.Coords) (h : (i 0).val ≠ 0) (h17 : (i 0).val < 17) (a b : Vec Ideal S256x1024 .f32) (r : Fin 256) (d : Fin 1024) :
    k0_pay6 i a b (ix2 r d) = b (ix2 r d) := by
  have e : Scalar.cmpi .slt (BitVec.ofNat 32 (i 0).val) 1#32 = 0#1 := by
    generalize (i 0).val = n at h h17
    interval_cases n <;> first | exact absurd rfl h | rfl
  show Scalar.select (Scalar.cmpi .slt (BitVec.ofNat 32 (i 0).val) 1#32) (shapeCast S256x1024 a shapeCasts_S256x1024_S256x1024)
    (shapeCast S256x1024 b shapeCasts_S256x1024_S256x1024) (ix2 r d) = b (ix2 r d)
  rw [e]
  show shapeCast S256x1024 b shapeCasts_S256x1024_S256x1024 (ix2 r d) = _
  pointwise

section Pays
variable (v19 : FVec Ideal S256x1024 .f32) (v20 : Vec Ideal S1x1024 .f32) (v22 v24 : FVec Ideal S1x1024 .f32) (v26 : FVec Ideal S256 .f32)

theorem pay10_at (r : Fin 256) (d : Fin 1024) : k0_pay10 v19 v20 v22 v24 v26 (ix2 r d)
    = v19 (ix2 r d) * Ideal.rsqrt (Ideal.div (v26 (ix1 r)) (Ideal.ofBits FTy.f32 0x44800000#32) + Ideal.ofBits FTy.f32 0x358637BD#32) * v20 (ix2 0 d)
      * (Ideal.ofBits FTy.f32 0x3F800000#32 + v24 (ix2 0 d)) + v22 (ix2 0 d) := by
  pointwise [k0_pay10]

theorem pay14_at (h : FVec Ideal S256x1024 .bf16) (w : Vec Ideal S512x1024 .bf16) (r : Fin 256) (j : Fin 512) :
    k0_pay14 h w (ix2 r j) = ∑ d : Fin 1024, h (ix2 r d) * w (ix2 j d) := by
  pointwise [k0_pay14, dot_S256x1024_S512x1024_S256x512_1_1_0_0_n_n]

theorem pay12_eq (w : Vec Ideal S512x1024 .bf16) : k0_pay12 v19 v20 v22 v24 v26 w = k0_pay14 (k0_pay10 v19 v20 v22 v24 v26) w := rfl
theorem pay13_eq (w : Vec Ideal S512x1024 .bf16) : k0_pay13 v19 v20 v22 v24 v26 w = k0_pay14 (k0_pay10 v19 v20 v22 v24 v26) w := rfl

theorem iota_at (r : Fin 256) (j : Fin 512) : iota .tc S256x512 32 [1] iota_S256x512_d1_w32 (ix2 r j) = BitVec.ofNat 32 j.val := by
  simp [iota, ix2]

theorem pay11_sel (w : Vec Ideal S512x1024 .bf16) (r : Fin 256) (j : Fin 512) : k0_pay11 v19 v20 v22 v24 v26 w (ix2 r j)
    = Scalar.select (Scalar.cmpi .slt (BitVec.ofNat 32 j.val) 448#32)
        (k0_pay14 (k0_pay10 v19 v20 v22 v24 v26) w (ix2 r j)) (Ideal.ofBits FTy.f32 0x00000000#32) := by
  rw [← iota_at r j]
  rfl

theorem lt_448 : ∀ j : Fin 512, j.val < 448 → Scalar.cmpi .slt (BitVec.ofNat 32 j.val) 448#32 = 1#1 := by decide +kernel
theorem ge_448 : ∀ j : Fin 512, ¬j.val < 448 → Scalar.cmpi .slt (BitVec.ofNat 32 j.val) 448#32 = 0#1 := by decide +kernel

theorem pay11_at (w : Vec Ideal S512x1024 .bf16) (r : Fin 256) (j : Fin 512) (hj : j.val < 448) :
    k0_pay11 v19 v20 v22 v24 v26 w (ix2 r j) = k0_pay14 (k0_pay10 v19 v20 v22 v24 v26) w (ix2 r j) := by
  rw [pay11_sel, lt_448 j hj]
  rfl

theorem pay11_pad (w : Vec Ideal S512x1024 .bf16) (r : Fin 256) (j : Fin 512) (hj : ¬j.val < 448) :
    k0_pay11 v19 v20 v22 v24 v26 w (ix2 r j) = 0 := by
  rw [pay11_sel, ge_448 j hj]
  exact ofBits_zero

end Pays

theorem pay9_at (i : grid0.Coords) (a b : Vec Ideal S256x1024 .f32) (r : Fin 256) :
    k0_pay9 i a b (ix1 r) = ∑ d : Fin 1024, k0_pay6 i a b (ix2 r d) * k0_pay6 i a b (ix2 r d) := by
  unfold k0_pay9
  generalize k0_pay6 i a b = v
  pointwise

theorem pay7_at (v : Vec Ideal S1x1x1024 .f32) (d : Fin 1024) : k0_pay7 v (ix2 0 d) = v (ix3 0 0 d) := by pointwise [k0_pay7]
theorem pay8_at (v : Vec Ideal S1x1x1024 .f32) (d : Fin 1024) : k0_pay8 v (ix2 0 d) = v (ix3 0 0 d) := by pointwise [k0_pay8]

theorem pay21_at (u : FVec Ideal S256x512 .f32) (g : Vec Ideal S1x128 .f32) (r : Fin 256) (k : Fin 128) : k0_pay21 u g (ix2 r k)
    = u (ix2 r ⟨256 + k.val, by omega⟩) * Cert.Fwd.inv 0x43000000#32 (fun j : Fin 128 => u (ix2 r ⟨256 + j.val, by omega⟩)) * g (ix2 0 k) := by
  unfold Cert.Fwd.inv
  pointwise [k0_pay21]

theorem pay30_at (c : FVec Ideal S256x128 .bf16) (w : Vec Ideal S1x128x256 .bf16) (r : Fin 256) (j : Fin 256) :
    k0_pay30 c w (ix2 r j) = ∑ k : Fin 128, c (ix2 r k) * w (ix3 0 k j) := by
  pointwise [k0_pay30, dot_S256x128_S128x256_S256x256_1_0_0_1_n_n]

theorem pay2_at (v : FVec Ideal S256x256 .f32) (r : Fin 256) (j : Fin 128) : k0_pay2 v (ix3 0 r j) = v (ix2 r ⟨128 + j.val, by omega⟩) := by
  pointwise [k0_pay2]

namespace Ins

variable (b : Ins)

def rows : FVec Ideal S256x1024 .f32 := k0_pay6 b.i b.x0 b.x1

/-- The shift and the scale. -/
def shift : FVec Ideal S1x1024 .f32 := k0_pay7 (View.ld b.x2 (Rect.unit ![0, 0, 0] ![1, 1, 1024] inb_S1x3x1024_S1x1x1024_0_0_0))
def scale : FVec Ideal S1x1024 .f32 := k0_pay8 (View.ld b.x2 (Rect.unit ![0, 1, 0] ![1, 1, 1024] inb_S1x3x1024_S1x1x1024_0_1_0))

def h : FVec Ideal S256x1024 .bf16 := k0_pay10 b.rows b.x3 b.shift b.scale (k0_pay9 b.i b.x0 b.x1)

/-- The low-rank block of the projection, its normalised latent part, one head's keys and values. -/
def lo : FVec Ideal S256x512 .f32 :=
  k0_pay11 b.rows b.x3 b.shift b.scale (k0_pay9 b.i b.x0 b.x1) (View.ld b.x4 (Rect.unit ![0, 0] ![512, 1024] inb_S1984x1024_S512x1024_0_0))
def ck : FVec Ideal S256x128 .bf16 := k0_pay21 b.lo b.x7

/-- The blocks that a step leaves. -/
def uG : Vec Ideal S256x2048 .f32 := fun v =>
  if 448 ≤ (v 1).val ∧ (v 1).val < 512 then 0 else ∑ d : Fin 1024, b.h (ix2 (v 0) d) * b.x4 (ix2 (wrow (v 1)) d)
def vG : Vec Ideal S4x256x128 .bf16 := fun v =>
  ∑ k : Fin 128, b.ck (ix2 (v 1) k) * b.x8 (ix3 (v 0) k ⟨128 + (v 2).val, by have : (v 2).val < 128 := (v 2).isLt; omega⟩)

theorem h_at (r : Fin 256) (d : Fin 1024) : b.h (ix2 r d)
    = hrow (fun d => b.rows (ix2 r d)) (fun d => b.x3 (ix2 0 d)) (fun d => b.x2 (ix3 0 1 d)) (fun d => b.x2 (ix3 0 0 d)) d := by
  have e0 : b.shift (ix2 0 d) = b.x2 (ix3 0 0 d) := (pay7_at _ d).trans (View.ld_unit_apply_of _ _ _ _ _ _ fun i => by fin_cases i <;> simp [ix3])
  have e1 : b.scale (ix2 0 d) = b.x2 (ix3 0 1 d) := (pay8_at _ d).trans (View.ld_unit_apply_of _ _ _ _ _ _ fun i => by fin_cases i <;> simp [ix3])
  unfold h hrow Cert.Fwd.inv
  rw [pay10_at, pay9_at, e0, e1]
  rfl

theorem u_piece (o n : ℕ) (hn : n + 512 ≤ 2048) (h512 : 512 ≤ n) (ho : o = n - 64) (inw) (inb)
    (x : (Rect.unit (s := S256x2048) ![0, n] S256x512.size inb).shape.Idx) :
    k0_pay14 b.h (View.ld b.x4 (Rect.unit ![o, 0] ![512, 1024] inw)) x = b.uG ((Rect.unit (s := S256x2048) ![0, n] S256x512.size inb).emb x) := by
  obtain ⟨r, j, rfl⟩ : ∃ (r : Fin 256) (j : Fin 512), x = ix2 r j := ⟨x 0, x 1, by funext i; fin_cases i <;> rfl⟩
  have e : (Rect.unit (s := S256x2048) ![0, n] S256x512.size inb).emb (ix2 r j) = ix2 r ⟨n + j.val, by omega⟩ := by
    funext i; apply Fin.ext; refine (Rect.idx_unit_val _ _ _ _ _).trans ?_; fin_cases i <;> simp [ix2]
  rw [e, pay14_at]
  unfold uG
  rw [if_neg (by show ¬(448 ≤ n + j.val ∧ n + j.val < 512); omega)]
  refine Finset.sum_congr rfl fun d _ => congrArg (b.h (ix2 r d) * ·) ?_
  refine View.ld_unit_apply_of _ _ _ _ _ _ fun i => ?_
  match i with
  | ⟨0, _⟩ => show (if n + j.val < 512 then n + j.val else n + j.val - 64) = o + j.val; rw [if_neg (by omega)]; omega
  | ⟨1, _⟩ => show d.val = 0 + d.val; omega

theorem lo_at (r : Fin 256) (j : Fin 512) (hj : j.val < 448) : b.lo (ix2 r j)
    = ∑ d : Fin 1024, b.h (ix2 r d) * b.x4 (ix2 ⟨j.val, by omega⟩ d) := by
  unfold lo
  rw [pay11_at _ _ _ _ _ _ _ _ hj, pay14_at]
  refine Finset.sum_congr rfl fun d _ => congrArg (b.h (ix2 r d) * ·) ?_
  exact View.ld_unit_apply_of _ _ _ _ _ _ fun i => by fin_cases i <;> simp [ix2]

theorem lo_piece (inb) (x : (Rect.unit (s := S256x2048) ![0, 0] S256x512.size inb).shape.Idx) :
    b.lo x = b.uG ((Rect.unit (s := S256x2048) ![0, 0] S256x512.size inb).emb x) := by
  obtain ⟨r, j, rfl⟩ : ∃ (r : Fin 256) (j : Fin 512), x = ix2 r j := ⟨x 0, x 1, by funext i; fin_cases i <;> rfl⟩
  have e : (Rect.unit (s := S256x2048) ![0, 0] S256x512.size inb).emb (ix2 r j) = ix2 r ⟨j.val, by omega⟩ := by
    funext i; apply Fin.ext; refine (Rect.idx_unit_val _ _ _ _ _).trans ?_; fin_cases i <;> simp [ix2]
  rw [e]
  unfold uG
  by_cases hj : j.val < 448
  · rw [if_neg (by show ¬(448 ≤ j.val ∧ j.val < 512); omega), lo_at b r j hj]
    refine Finset.sum_congr rfl fun d _ => congrArg (b.h (ix2 r d) * ·) (congrArg (fun z => b.x4 (ix2 z d)) (Fin.ext ?_))
    show j.val = if j.val < 512 then j.val else j.val - 64
    rw [if_pos j.isLt]
  · rw [if_pos (by show 448 ≤ j.val ∧ j.val < 512; omega)]
    exact pay11_pad _ _ _ _ _ _ r j hj

theorem v_piece (n : ℕ) (hn : n < 4) (inw) (inb) (x : (Rect.unit (s := S4x256x128) ![n, 0, 0] S1x256x128.size inb).shape.Idx) :
    k0_pay2 (k0_pay30 b.ck (View.ld b.x8 (Rect.unit ![n, 0, 0] ![1, 128, 256] inw))) x
      = b.vG ((Rect.unit (s := S4x256x128) ![n, 0, 0] S1x256x128.size inb).emb x) := by
  obtain ⟨r, j, rfl⟩ : ∃ (r : Fin 256) (j : Fin 128), x = ix3 0 r j := ⟨x 1, x 2, by
    funext i; fin_cases i
    · exact Subsingleton.elim (α := Fin 1) _ _
    · rfl
    · rfl⟩
  have e : (Rect.unit (s := S4x256x128) ![n, 0, 0] S1x256x128.size inb).emb (ix3 0 r j) = ix3 ⟨n, hn⟩ r j := by
    funext i; apply Fin.ext; refine (Rect.idx_unit_val _ _ _ _ _).trans ?_; fin_cases i <;> simp [ix3]
  rw [e, pay2_at, pay30_at]
  unfold vG
  refine Finset.sum_congr rfl fun k _ => congrArg (b.ck (ix2 r k) * ·) ?_
  exact View.ld_unit_apply_of _ _ _ _ _ _ fun i => by fin_cases i <;> simp [ix3]

/-- The step at tile `t` reads the rows of that tile. -/
structure Reads (t : Fin 17) (p : Par) : Prop where
  rows : ∀ (r : Fin 256) d, b.rows (ix2 r d) = p.x ⟨t.val * 256 + r.val, by omega⟩ d
  sc : ∀ (r : Fin 256) d, b.x2 (ix3 0 1 d) = p.sc ⟨t.val * 256 + r.val, by omega⟩ d
  sh : ∀ (r : Fin 256) d, b.x2 (ix3 0 0 d) = p.sh ⟨t.val * 256 + r.val, by omega⟩ d
  g : ∀ d, b.x3 (ix2 0 d) = p.g d
  w : ∀ j d, b.x4 (ix2 j d) = p.w j d
  kg : ∀ k, b.x7 (ix2 0 k) = p.kg k
  kv : ∀ a k j, b.x8 (ix3 a k j) = p.kv a k j

variable {b} {t : Fin 17} {p : Par} (R : b.Reads t p)
include R

theorem h_par (r : Fin 256) (d : Fin 1024) : b.h (ix2 r d) = p.h ⟨t.val * 256 + r.val, by omega⟩ d := by
  rw [h_at]
  unfold Par.h
  rw [funext (R.rows r), funext R.g, funext (R.sc r), funext (R.sh r)]

theorem u_par (r : Fin 256) (n : Fin 2048) (j : Fin 1984) (hn : n.val = if j.val < 448 then j.val else j.val + 64) :
    b.uG (ix2 r n) = p.u ⟨t.val * 256 + r.val, by omega⟩ j := by
  have e : wrow n = j := by
    apply Fin.ext
    show (if n.val < 512 then n.val else n.val - 64) = j.val
    split at hn <;> split <;> omega
  unfold uG Par.u proj
  rw [if_neg (by show ¬(448 ≤ n.val ∧ n.val < 512); split at hn <;> omega)]
  refine Finset.sum_congr rfl fun d _ => ?_
  show b.h (ix2 r d) * b.x4 (ix2 (wrow n) d) = _
  rw [h_par R, e, R.w]

theorem lo_par (r : Fin 256) (j : Fin 512) (hj : j.val < 448) : b.lo (ix2 r j) = p.u ⟨t.val * 256 + r.val, by omega⟩ ⟨j.val, by omega⟩ := by
  rw [lo_at b r j hj]
  unfold Par.u proj
  refine Finset.sum_congr rfl fun d _ => ?_
  rw [h_par R, R.w]

theorem v_par (a : Fin 4) (r : Fin 256) (j : Fin 128) : b.vG (ix3 a r j) = p.v a ⟨t.val * 256 + r.val, by omega⟩ j := by
  have c : ∀ k : Fin 128, b.lo (ix2 r ⟨256 + k.val, by omega⟩) = p.u ⟨t.val * 256 + r.val, by omega⟩ ⟨256 + k.val, by omega⟩ := fun k =>
    lo_par R r ⟨256 + k.val, by omega⟩ (by show 256 + k.val < 448; omega)
  unfold vG Par.v val
  refine Finset.sum_congr rfl fun k _ => ?_
  show b.ck (ix2 r k) * b.x8 (ix3 a k _) = _
  rw [R.kv]
  refine congrArg (· * _) ?_
  unfold ck
  rw [pay21_at, R.kg, funext c, c]

end Ins

end Cert.FwdKernelIdeal.Fwd
end
-- ==== Proof.Fwd.Blk.lean ====
module

public import proofs.«01_k».proof.Proof.Gen.FwdKernelIdeal.Frame
public import proofs.«01_k».proof.Proof.Fwd.Tile
public import Idealize.ShloMosaic.Lib.Pipeline.ReadBack
public import Idealize.ShloMosaic.Lib.Pipeline.ValueKit.Tiles

@[expose] public section

/-! What one step of the forward call leaves in its blocks of the projection and of the values. -/

set_option maxRecDepth 16384

noncomputable section

open Idealize.ShloMosaic

namespace Cert.FwdKernelIdeal.Fwd

open Cert.FwdKernelIdeal Cert.FwdKernelIdeal.Gen Cert.Fwd

theorem z2 : (![0, 0] : Fin 2 → Nat) = fun _ => 0 := funext fun a => by fin_cases a <;> rfl

variable (c : Dev nD) (i : grid0.Coords)
variable (a1 : Memref sig .tc .vmem S256x1024 .f32) (h1 : a1.IsWhole)
  (a2 : Memref sig .tc .vmem S256x1024 .f32) (h2 : a2.IsWhole)
  (a3 : Memref sig .tc .vmem S1x3x1024 .f32) (h3 : a3.IsWhole)
  (a4 : Memref sig .tc .vmem S1x1024 .f32) (h4 : a4.IsWhole)
  (a5 : Memref sig .tc .vmem S1984x1024 .bf16) (h5 : a5.IsWhole)
  (a6 : Memref sig .tc .vmem S1x256 .f32) (h6 : a6.IsWhole)
  (a7 : Memref sig .tc .vmem S4x256x256 .bf16) (h7 : a7.IsWhole)
  (a8 : Memref sig .tc .vmem S1x128 .f32) (h8 : a8.IsWhole)
  (a9 : Memref sig .tc .vmem S4x128x256 .bf16) (h9 : a9.IsWhole)
  (a10 : Memref sig .tc .vmem S1x192 .f32) (h10 : a10.IsWhole)
  (a11 : Memref sig .tc .vmem S1x192 .f32) (h11 : a11.IsWhole)
  (a12 : Memref sig .tc .vmem S1x8x256 .f32) (h12 : a12.IsWhole)
  (a13 : Memref sig .tc .vmem S256x256 .f32) (h13 : a13.IsWhole)
  (a14 : Memref sig .tc .vmem S256x2048 .f32) (h14 : a14.IsWhole)
  (a15 : Memref sig .tc .vmem S4x256x256 .bf16) (h15 : a15.IsWhole)
  (a16 : Memref sig .tc .vmem S4x256x256 .bf16) (h16 : a16.IsWhole)
  (a17 : Memref sig .tc .vmem S4x256x128 .bf16) (h17 : a17.IsWhole)
  (a18 : Memref sig .tc .vmem S2x256 .f32) (h18 : a18.IsWhole)
variable (x0 : Vec Ideal S256x1024 .f32) (x1 : Vec Ideal S256x1024 .f32) (x2 : Vec Ideal S1x3x1024 .f32) (x3 : Vec Ideal S1x1024 .f32) (x4 : Vec Ideal S1984x1024 .bf16) (x5 : Vec Ideal S1x256 .f32) (x6 : Vec Ideal S4x256x256 .bf16) (x7 : Vec Ideal S1x128 .f32) (x8 : Vec Ideal S4x128x256 .bf16) (x9 : Vec Ideal S1x192 .f32) (x10 : Vec Ideal S1x192 .f32) (x11 : Vec Ideal S1x8x256 .f32) (x12 : Vec Ideal S256x256 .f32)

theorem out13 : out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 = (Ins.mk i x0 x1 x2 x3 x4 x7 x8).uG := by
  unfold out0_A_13
  rw [View.read_writes_eq_canon _ _ _ (cover0_A_13 _ _ _ _ _ _ _ _ _ _ _ _ _ _ _ _ _ _ _ _ _ _ _ _ _ _ _ _ _ _ _ _ _ _ _ _ _ _ _ _ _ _ _ _ _ _ _ _ _ _ _)]
  funext y
  refine View.canon_apply_of_pieces (Ins.mk i x0 x1 x2 x3 x4 x7 x8).uG _ (View.PiecesOf.mem ?_) y (cover0_A_13 _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, Memref.IsWhole.read_unread, View.ld_unit_zero (S := S256x1024) z2, View.ld_unit_zero (S := S1x1024) z2, View.ld_unit_zero (S := S1x128) z2]
  exact ⟨fun x => Ins.u_piece (Ins.mk i x0 x1 x2 x3 x4 x7 x8) 1472 1536 (by omega) (by omega) rfl inb_S1984x1024_S512x1024_1472_0 inb_S256x2048_S256x512_0_1536 x,
    fun x => Ins.u_piece (Ins.mk i x0 x1 x2 x3 x4 x7 x8) 960 1024 (by omega) (by omega) rfl inb_S1984x1024_S512x1024_960_0 inb_S256x2048_S256x512_0_1024 x,
    fun x => Ins.u_piece (Ins.mk i x0 x1 x2 x3 x4 x7 x8) 448 512 (by omega) (by omega) rfl inb_S1984x1024_S512x1024_448_0 inb_S256x2048_S256x512_0_512 x,
    fun x => Ins.lo_piece (Ins.mk i x0 x1 x2 x3 x4 x7 x8) inb_S256x2048_S256x512_0_0 x, trivial⟩

theorem out16 : out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 = (Ins.mk i x0 x1 x2 x3 x4 x7 x8).vG := by
  unfold out0_A_16
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _)]
  funext y
  refine View.canon_apply_of_pieces (Ins.mk i x0 x1 x2 x3 x4 x7 x8).vG _ (View.PiecesOf.mem ?_) y (cover0_A_16 _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, Memref.IsWhole.read_unread, View.ld_unit_zero (S := S256x1024) z2, View.ld_unit_zero (S := S1x1024) z2, View.ld_unit_zero (S := S1x128) z2]
  exact ⟨fun x => Ins.v_piece (Ins.mk i x0 x1 x2 x3 x4 x7 x8) 3 (by omega) inb_S4x128x256_S1x128x256_3_0_0 inb_S4x256x128_S1x256x128_3_0_0 x,
    fun x => Ins.v_piece (Ins.mk i x0 x1 x2 x3 x4 x7 x8) 2 (by omega) inb_S4x128x256_S1x128x256_2_0_0 inb_S4x256x128_S1x256x128_2_0_0 x,
    fun x => Ins.v_piece (Ins.mk i x0 x1 x2 x3 x4 x7 x8) 1 (by omega) inb_S4x128x256_S1x128x256_1_0_0 inb_S4x256x128_S1x256x128_1_0_0 x,
    fun x => Ins.v_piece (Ins.mk i x0 x1 x2 x3 x4 x7 x8) 0 (by omega) inb_S4x128x256_S1x128x256_0_0_0 inb_S4x256x128_S1x256x128_0_0_0 x, trivial⟩

end Cert.FwdKernelIdeal.Fwd
end
-- ==== Proof.Fwd.Arr.lean ====
module

public import proofs.«01_k».proof.Proof.Fwd.Blk
public import Idealize.ShloMosaic.Lib.Pipeline.ValueKit.Geometry

@[expose] public section

/-! The arrays of the projection and of the values that the forward call leaves, row by row. -/

set_option maxRecDepth 16384

noncomputable section

open Idealize.ShloMosaic Idealize.ShloMosaic.TcCoe

namespace Cert.FwdKernelIdeal.Fwd

open Cert.FwdKernelIdeal Cert.FwdKernelIdeal.Gen Cert.Fwd
open Idealize.ShloMosaic.Pipeline (Dat)

variable (m : (ℓ : Loc nD τ sig) → Buf (Elt Ideal) ℓ) (c : Dev nD)

theorem lt17 (t : Fin cfg0.N) : t.val < 17 := lt_of_lt_of_eq t.isLt (show cfg0.N = 17 from N_0)

/-- The tile of a point. -/
def tile (t : Fin cfg0.N) : Fin 17 := ⟨t.val, lt17 t⟩

theorem coord0 : ∀ t : Fin cfg0.N, (grid0.coords t 0).val = t.val := (by decide +kernel : ∀ t : Fin grid0.N, _)

theorem idxIn : ∀ t : Fin cfg0.N, (win0_0.index t 0 = 0 ∧ win0_0.index t 1 = 0) ∧ (win0_1.index t 0 = t.val - 1 ∧ win0_1.index t 1 = 0)
    ∧ (win0_2.index t 0 = min t.val 1 ∧ win0_2.index t 1 = 0 ∧ win0_2.index t 2 = 0) ∧ (win0_3.index t 0 = 0 ∧ win0_3.index t 1 = 0)
    ∧ (win0_4.index t 0 = 0 ∧ win0_4.index t 1 = 0) ∧ (win0_7.index t 0 = 0 ∧ win0_7.index t 1 = 0)
    ∧ (win0_8.index t 0 = 0 ∧ win0_8.index t 1 = 0 ∧ win0_8.index t 2 = 0) :=
  (by decide +kernel : ∀ t : Fin grid0.N, _)

theorem idxOut : ∀ t : Fin cfg0.N, (win0_13.index t 0 = t.val ∧ win0_13.index t 1 = 0)
    ∧ (win0_16.index t 0 = 0 ∧ win0_16.index t 1 = t.val ∧ win0_16.index t 2 = 0) :=
  (by decide +kernel : ∀ t : Fin grid0.N, _)

theorem at0 (t : Fin cfg0.N) (r : Fin 256) (d : Fin 1024) : iblk m c 0 t (ix2 r d) = V m c main_v33 (ix2 r d) := by
  have h := (idxIn t).1
  unfold iblk
  rw [View.read_apply]
  show V m c main_v33 _ = V m c main_v33 _
  congr 1
  funext a
  apply Fin.ext
  match a with
  | ⟨0, _⟩ => show win0_0.index t 0 * 256 + 1 * r.val = r.val; rw [h.1]; omega
  | ⟨1, _⟩ => show win0_0.index t 1 * 1024 + 1 * d.val = d.val; rw [h.2]; omega

theorem at1 (t : Fin cfg0.N) (r : Fin 256) (d : Fin 1024) : iblk m c 1 t (ix2 r d) = V m c main_v34 (ix2 ⟨(t.val - 1) * 256 + r.val, by have := lt17 t; omega⟩ d) := by
  have h := (idxIn t).2.1
  unfold iblk
  rw [View.read_apply]
  show V m c main_v34 _ = V m c main_v34 _
  congr 1
  funext a
  apply Fin.ext
  match a with
  | ⟨0, _⟩ => show win0_1.index t 0 * 256 + 1 * r.val = (t.val - 1) * 256 + r.val; rw [h.1]; omega
  | ⟨1, _⟩ => show win0_1.index t 1 * 1024 + 1 * d.val = d.val; rw [h.2]; omega

theorem at2 (t : Fin cfg0.N) (k : Fin 3) (d : Fin 1024) : iblk m c 2 t (ix3 0 k d) = V m c main_v23 (ix3 ⟨min t.val 1, by omega⟩ k d) := by
  have h := (idxIn t).2.2.1
  unfold iblk
  rw [View.read_apply]
  show V m c main_v23 _ = V m c main_v23 _
  congr 1
  funext a
  apply Fin.ext
  match a with
  | ⟨0, _⟩ => show win0_2.index t 0 * 1 + 1 * 0 = min t.val 1; rw [h.1]; omega
  | ⟨1, _⟩ => show win0_2.index t 1 * 3 + 1 * k.val = k.val; rw [h.2.1]; omega
  | ⟨2, _⟩ => show win0_2.index t 2 * 1024 + 1 * d.val = d.val; rw [h.2.2]; omega

theorem at3 (t : Fin cfg0.N) (d : Fin 1024) : iblk m c 3 t (ix2 0 d) = V m c main_arg4 (ix2 0 d) := by
  have h := (idxIn t).2.2.2.1
  unfold iblk
  rw [View.read_apply]
  show V m c main_arg4 _ = V m c main_arg4 _
  congr 1
  funext a
  apply Fin.ext
  match a with
  | ⟨0, _⟩ => show win0_3.index t 0 * 1 + 1 * 0 = 0; rw [h.1]
  | ⟨1, _⟩ => show win0_3.index t 1 * 1024 + 1 * d.val = d.val; rw [h.2]; omega

theorem at4 (t : Fin cfg0.N) (j : Fin 1984) (d : Fin 1024) : iblk m c 4 t (ix2 j d) = V m c main_v37 (ix2 j d) := by
  have h := (idxIn t).2.2.2.2.1
  unfold iblk
  rw [View.read_apply]
  show V m c main_v37 _ = V m c main_v37 _
  congr 1
  funext a
  apply Fin.ext
  match a with
  | ⟨0, _⟩ => show win0_4.index t 0 * 1984 + 1 * j.val = j.val; rw [h.1]; omega
  | ⟨1, _⟩ => show win0_4.index t 1 * 1024 + 1 * d.val = d.val; rw [h.2]; omega

theorem at7 (t : Fin cfg0.N) (k : Fin 128) : iblk m c 7 t (ix2 0 k) = V m c main_arg8 (ix2 0 k) := by
  have h := (idxIn t).2.2.2.2.2.1
  unfold iblk
  rw [View.read_apply]
  show V m c main_arg8 _ = V m c main_arg8 _
  congr 1
  funext a
  apply Fin.ext
  match a with
  | ⟨0, _⟩ => show win0_7.index t 0 * 1 + 1 * 0 = 0; rw [h.1]
  | ⟨1, _⟩ => show win0_7.index t 1 * 128 + 1 * k.val = k.val; rw [h.2]; omega

theorem at8 (t : Fin cfg0.N) (n : Fin 4) (k : Fin 128) (j : Fin 256) : iblk m c 8 t (ix3 n k j) = V m c main_v32 (ix3 n k j) := by
  have h := (idxIn t).2.2.2.2.2.2
  unfold iblk
  rw [View.read_apply]
  show V m c main_v32 _ = V m c main_v32 _
  congr 1
  funext a
  apply Fin.ext
  match a with
  | ⟨0, _⟩ => show win0_8.index t 0 * 4 + 1 * n.val = n.val; rw [h.1]; omega
  | ⟨1, _⟩ => show win0_8.index t 1 * 128 + 1 * k.val = k.val; rw [h.2.1]; omega
  | ⟨2, _⟩ => show win0_8.index t 2 * 256 + 1 * j.val = j.val; rw [h.2.2]; omega

/-- The arrays that the call finds hold these parameters. -/
structure Found (p : Par) : Prop where
  ctx : ∀ (r : Fin 256) d, V m c main_v33 (ix2 r d) = p.x ⟨r.val, by omega⟩ d
  x : ∀ (n : Fin 4096) d, V m c main_v34 (ix2 n d) = p.x ⟨256 + n.val, by omega⟩ d
  sc : ∀ (n : Fin 4352) d, V m c main_v23 (ix3 ⟨min (n.val / 256) 1, by omega⟩ 1 d) = p.sc n d
  sh : ∀ (n : Fin 4352) d, V m c main_v23 (ix3 ⟨min (n.val / 256) 1, by omega⟩ 0 d) = p.sh n d
  g : ∀ d, V m c main_arg4 (ix2 0 d) = p.g d
  w : ∀ j d, V m c main_v37 (ix2 j d) = p.w j d
  kg : ∀ k, V m c main_arg8 (ix2 0 k) = p.kg k
  kv : ∀ n k j, V m c main_v32 (ix3 n k j) = p.kv n k j

/-- What the step at point `t` reads. -/
def ins (t : Fin cfg0.N) : Ins :=
  ⟨grid0.coords t, iblk m c 0 t, iblk m c 1 t, iblk m c 2 t, iblk m c 3 t, iblk m c 4 t, iblk m c 7 t, iblk m c 8 t⟩

theorem part1 {A B C D : Type} {o : A × B × C × D} {a b c d} (h : o = (a, b, c, d)) : o.1 = a := by rw [h]
theorem part4 {A B C D : Type} {o : A × B × C × D} {a b c d} (h : o = (a, b, c, d)) : o.2.2.2 = d := by rw [h]

theorem outs13 (t : Fin cfg0.N) : (outsAt0 m c t).1 = (ins m c t).uG :=
  (part1 (outsAt0.eq_1 m c t)).trans (out13 ..)
theorem outs16 (t : Fin cfg0.N) : (outsAt0 m c t).2.2.2 = (ins m c t).vG :=
  (part4 (outsAt0.eq_1 m c t)).trans (out16 ..)

section
variable {m c} {p : Par} (H : Found m c p)
include H

theorem reads_rows (t : Fin cfg0.N) (r : Fin 256) (d : Fin 1024) : k0_pay6 (grid0.coords t) (iblk m c 0 t) (iblk m c 1 t) (ix2 r d)
    = p.x ⟨t.val * 256 + r.val, by have := lt17 t; omega⟩ d := by
  have h17 := lt17 t
  by_cases h : t.val = 0
  · refine (rows_first _ ((coord0 t).trans h) _ _ r d).trans ((at0 m c t r d).trans ((H.ctx r d).trans ?_))
    exact congrArg (fun n => p.x n d) (Fin.ext (by show r.val = t.val * 256 + r.val; omega))
  · refine (rows_later _ (by rw [coord0 t]; exact h) (by rw [coord0 t]; exact h17) _ _ r d).trans ((at1 m c t r d).trans ((H.x _ d).trans ?_))
    exact congrArg (fun n => p.x n d) (Fin.ext (by show 256 + ((t.val - 1) * 256 + r.val) = t.val * 256 + r.val; omega))

omit H in
theorem side (t : Fin cfg0.N) (r : Fin 256) : (⟨min t.val 1, by omega⟩ : Fin 2) = ⟨min ((t.val * 256 + r.val) / 256) 1, by omega⟩ := by
  apply Fin.ext
  show min t.val 1 = min ((t.val * 256 + r.val) / 256) 1
  rw [show (t.val * 256 + r.val) / 256 = t.val by omega]

theorem reads_sc (t : Fin cfg0.N) (r : Fin 256) (d : Fin 1024) : iblk m c 2 t (ix3 0 1 d) = p.sc ⟨t.val * 256 + r.val, by have := lt17 t; omega⟩ d := by
  rw [at2, side t r]
  exact H.sc ⟨t.val * 256 + r.val, by have := lt17 t; omega⟩ d

theorem reads_sh (t : Fin cfg0.N) (r : Fin 256) (d : Fin 1024) : iblk m c 2 t (ix3 0 0 d) = p.sh ⟨t.val * 256 + r.val, by have := lt17 t; omega⟩ d := by
  rw [at2, side t r]
  exact H.sh ⟨t.val * 256 + r.val, by have := lt17 t; omega⟩ d

theorem r_rows (t : Fin cfg0.N) (r : Fin 256) d : (ins m c t).rows (ix2 r d) = p.x ⟨t.val * 256 + r.val, by have := lt17 t; omega⟩ d := by
  unfold Ins.rows
  exact reads_rows H t r d

theorem r_g (t : Fin cfg0.N) d : (ins m c t).x3 (ix2 0 d) = p.g d := by
  refine (at3 m c t d).trans ?_
  exact H.g d

theorem r_w (t : Fin cfg0.N) j d : (ins m c t).x4 (ix2 j d) = p.w j d := by
  refine (at4 m c t j d).trans ?_
  exact H.w j d

theorem r_kg (t : Fin cfg0.N) k : (ins m c t).x7 (ix2 0 k) = p.kg k := by
  refine (at7 m c t k).trans ?_
  exact H.kg k

theorem r_kv (t : Fin cfg0.N) a k j : (ins m c t).x8 (ix3 a k j) = p.kv a k j := by
  refine (at8 m c t a k j).trans ?_
  exact H.kv a k j

theorem r_sc (t : Fin cfg0.N) (r : Fin 256) d : (ins m c t).x2 (ix3 0 1 d) = p.sc ⟨t.val * 256 + r.val, by have := lt17 t; omega⟩ d :=
  reads_sc H t r d

theorem r_sh (t : Fin cfg0.N) (r : Fin 256) d : (ins m c t).x2 (ix3 0 0 d) = p.sh ⟨t.val * 256 + r.val, by have := lt17 t; omega⟩ d :=
  reads_sh H t r d

theorem reads (t : Fin cfg0.N) : (ins m c t).Reads (tile t) p :=
  ⟨fun r d => r_rows H t r d, fun r d => r_sc H t r d, fun r d => r_sh H t r d, fun d => r_g H t d, fun j d => r_w H t j d, fun k => r_kg H t k, fun n k j => r_kv H t n k j⟩

/-- The array of the projection: zero in the columns put between, elsewhere a row's projection. -/
def uArr (p : Par) : Vec Ideal S4352x2048 .f32 := fun v =>
  if 448 ≤ (v 1).val ∧ (v 1).val < 512 then 0 else p.u (v 0) (wrow (v 1))

theorem arr13 : (dats m 0 c).arrAt 13 cfg0.N = uArr p := by
  refine (dats m 0 c).arrAt_eq_of_covers 13 _ (by decide +kernel) fun t hf y => ?_
  have h := (idxOut t).1
  have h17 := lt17 t
  rw [after0_13, outs13]
  obtain ⟨r, n, rfl⟩ : ∃ (r : Fin 256) (n : Fin 2048), y = ix2 r n := ⟨y 0, y 1, by funext i; fin_cases i <;> rfl⟩
  have e : ((cfg0.win 13).blk t).view.emb (ix2 r n) = ix2 ⟨t.val * 256 + r.val, by omega⟩ n := by
    funext a
    apply Fin.ext
    match a with
    | ⟨0, _⟩ => show win0_13.index t 0 * 256 + 1 * r.val = t.val * 256 + r.val; rw [h.1]; omega
    | ⟨1, _⟩ => show win0_13.index t 1 * 2048 + 1 * n.val = n.val; rw [h.2]; omega
  rw [e]
  by_cases hn : 448 ≤ n.val ∧ n.val < 512
  · exact (if_pos hn).trans (if_pos hn).symm
  · refine (Ins.u_par (reads H t) r n (wrow n) ?_).trans (if_neg hn).symm
    show n.val = if (if n.val < 512 then n.val else n.val - 64) < 448 then (if n.val < 512 then n.val else n.val - 64) else (if n.val < 512 then n.val else n.val - 64) + 64
    split <;> split <;> omega

theorem arr16 : (dats m 0 c).arrAt 16 cfg0.N = (fun v => p.v (v 0) (v 1) (v 2) : Vec Ideal S4x4352x128 .bf16) := by
  refine (dats m 0 c).arrAt_eq_of_covers 16 _ (by decide +kernel) fun t hf y => ?_
  have h := (idxOut t).2
  have h17 := lt17 t
  rw [after0_16, outs16]
  obtain ⟨n, r, j, rfl⟩ : ∃ (n : Fin 4) (r : Fin 256) (j : Fin 128), y = ix3 n r j := ⟨y 0, y 1, y 2, by funext i; fin_cases i <;> rfl⟩
  have e : ((cfg0.win 16).blk t).view.emb (ix3 n r j) = ix3 n ⟨t.val * 256 + r.val, by omega⟩ j := by
    funext a
    apply Fin.ext
    match a with
    | ⟨0, _⟩ => show win0_16.index t 0 * 4 + 1 * n.val = n.val; rw [h.1]; omega
    | ⟨1, _⟩ => show win0_16.index t 1 * 256 + 1 * r.val = t.val * 256 + r.val; rw [h.2.1]; omega
    | ⟨2, _⟩ => show win0_16.index t 2 * 128 + 1 * j.val = j.val; rw [h.2.2]; omega
  rw [e]
  exact Ins.v_par (reads H t) n r j
end

end Cert.FwdKernelIdeal.Fwd
end
-- ==== Proof.Fwd.Host.lean ====
module

public import proofs.«01_k».proof.Proof.Fwd.Arr
public import Idealize.ShloMosaic.Lib.StableHlo.ReadAt

@[expose] public section

/-! What the host code prepares for the forward call and what it makes of its results, read entry by entry. -/

set_option maxRecDepth 16384

noncomputable section

open Idealize.ShloMosaic Idealize.ShloMosaic.TcCoe

namespace Cert.FwdKernelIdeal.Fwd

open Cert.FwdKernelIdeal Cert.FwdKernelIdeal.Gen Cert.Fwd

variable (m : (ℓ : Loc nD τ sig) → Buf (Elt Ideal) ℓ) (c : Dev nD)

theorem ctx_at (r : Fin 256) (d : Fin 1024) : (V m c main_v33 (ix2 r d) : EReal) = (m ((c.tc : Thread nD τ).loc main_arg1) (ix3 0 r d) : EReal) := by
  unfold V V0 hostOps0
  after_reads_at

theorem x_at (n : Fin 4096) (d : Fin 1024) : (V m c main_v34 (ix2 n d) : EReal) = (m ((c.tc : Thread nD τ).loc main_arg0) (ix3 0 n d) : EReal) := by
  unfold V V0 hostOps0
  after_reads_at

theorem scc_at (d : Fin 1024) : (V m c main_v23 (ix3 0 1 d) : EReal) = (m ((c.tc : Thread nD τ).loc main_arg3) (ix1 ⟨1024 + d.val, by omega⟩) : EReal) := by
  unfold V V0 hostOps0
  after_reads_at

theorem scx_at (d : Fin 1024) : (V m c main_v23 (ix3 1 1 d) : EReal) = (m ((c.tc : Thread nD τ).loc main_arg2) (ix2 0 ⟨1024 + d.val, by omega⟩) : EReal) := by
  unfold V V0 hostOps0
  after_reads_at

theorem shc_at (d : Fin 1024) : (V m c main_v23 (ix3 0 0 d) : EReal) = (m ((c.tc : Thread nD τ).loc main_arg3) (ix1 ⟨d.val, by omega⟩) : EReal) := by
  unfold V V0 hostOps0
  after_reads_at

theorem shx_at (d : Fin 1024) : (V m c main_v23 (ix3 1 0 d) : EReal) = (m ((c.tc : Thread nD τ).loc main_arg2) (ix2 0 ⟨d.val, by omega⟩) : EReal) := by
  unfold V V0 hostOps0
  after_reads_at

theorem g_at (d : Fin 1024) : (V m c main_arg4 (ix2 0 d) : EReal) = (m ((c.tc : Thread nD τ).loc main_arg4) (ix2 0 d) : EReal) := by
  unfold V V0 hostOps0
  after_reads_at

theorem w_at (j : Fin 1984) (d : Fin 1024) : (V m c main_v37 (ix2 j d) : EReal) = (m ((c.tc : Thread nD τ).loc main_arg5) (ix3 0 d j) : EReal) := by
  unfold V V0 hostOps0
  after_reads_at

theorem kg_at (k : Fin 128) : (V m c main_arg8 (ix2 0 k) : EReal) = (m ((c.tc : Thread nD τ).loc main_arg8) (ix2 0 k) : EReal) := by
  unfold V V0 hostOps0
  after_reads_at

theorem kv_at (n : Fin 4) (k : Fin 128) (j : Fin 256) : (V m c main_v32 (ix3 n k j) : EReal) = (m ((c.tc : Thread nD τ).loc main_arg9) (ix3 0 k ⟨n.val * 256 + j.val, by omega⟩) : EReal) := by
  unfold V V0 hostOps0
  after_reads_at

section After
variable (A : Valuation τ sig (Elt Ideal))

theorem u_res (n : Fin 4096) (j : Fin 1984) (l : Fin 2048) (hl : l.val = if j.val < 448 then j.val else j.val + 64) :
    (StableHlo.after (List.flatten [hostOps1]) A (Proc.devRef .tc main_v43) (ix3 0 n j) : EReal)
    = (A (Proc.devRef .tc main_v38_0) (ix2 ⟨256 + n.val, by omega⟩ l) : EReal) := by
  unfold hostOps1
  after_reads_at
  by_cases h : j.val < 448
  · rw [if_pos h] at hl
    rw [dif_pos h]
    after_reads_at
    refine congrArg (A (Proc.devRef .tc main_v38_0)) ?_
    congr 1
    apply Fin.ext
    exact hl.symm
  · rw [if_neg h] at hl
    rw [dif_neg h]
    after_reads_at
    refine congrArg (A (Proc.devRef .tc main_v38_0)) ?_
    congr 1
    apply Fin.ext
    rw [hl]
    show 512 + (j.val - 448) = j.val + 64
    omega

theorem uc_res (n : Fin 256) (j : Fin 1984) (l : Fin 2048) (hl : l.val = if j.val < 448 then j.val else j.val + 64) :
    (StableHlo.after (List.flatten [hostOps1]) A (Proc.devRef .tc main_v45) (ix3 0 n j) : EReal)
    = (A (Proc.devRef .tc main_v38_0) (ix2 ⟨n.val, by omega⟩ l) : EReal) := by
  unfold hostOps1
  after_reads_at
  by_cases h : j.val < 448
  · rw [if_pos h] at hl
    rw [dif_pos h]
    after_reads_at
    refine congrArg (A (Proc.devRef .tc main_v38_0)) ?_
    congr 1
    apply Fin.ext
    exact hl.symm
  · rw [if_neg h] at hl
    rw [dif_neg h]
    after_reads_at
    refine congrArg (A (Proc.devRef .tc main_v38_0)) ?_
    congr 1
    apply Fin.ext
    rw [hl]
    show 512 + (j.val - 448) = j.val + 64
    omega

theorem v_res (a : Fin 4) (n : Fin 4352) (j : Fin 128) :
    (StableHlo.after (List.flatten [hostOps1]) A (Proc.devRef .tc main_v46) (ix4 0 a n j) : EReal)
    = (A (Proc.devRef .tc main_v38_3) (ix3 a n j) : EReal) := by
  unfold hostOps1
  after_reads_at

end After

abbrev x0 : Vec Ideal S1x4096x1024 .f32 := m ((c.tc : Thread nD τ).loc main_arg0)
abbrev x1 : Vec Ideal S1x256x1024 .f32 := m ((c.tc : Thread nD τ).loc main_arg1)
abbrev x2 : Vec Ideal S1x3072 .f32 := m ((c.tc : Thread nD τ).loc main_arg2)
abbrev x3 : Vec Ideal S3072 .f32 := m ((c.tc : Thread nD τ).loc main_arg3)
abbrev x4 : Vec Ideal S1x1024 .f32 := m ((c.tc : Thread nD τ).loc main_arg4)
abbrev x5 : Vec Ideal S1x1024x1984 .f32 := m ((c.tc : Thread nD τ).loc main_arg5)
abbrev x8 : Vec Ideal S1x128 .f32 := m ((c.tc : Thread nD τ).loc main_arg8)
abbrev x9 : Vec Ideal S1x128x1024 .f32 := m ((c.tc : Thread nD τ).loc main_arg9)

abbrev par : Par := parOf (x0 m c) (x1 m c) (x2 m c) (x3 m c) (x4 m c) (x5 m c) (x8 m c) (x9 m c)

theorem side_ctx (n : Fin 4352) (h : n.val < 256) : (⟨min (n.val / 256) 1, by omega⟩ : Fin 2) = 0 := by
  apply Fin.ext; show min (n.val / 256) 1 = 0; omega
theorem side_x (n : Fin 4352) (h : ¬n.val < 256) : (⟨min (n.val / 256) 1, by omega⟩ : Fin 2) = 1 := by
  apply Fin.ext; show min (n.val / 256) 1 = 1; omega

theorem found : Found m c (par m c) where
  ctx r d := by
    rw [ctx_at]
    dsimp only [par, parOf]
    split
    · rfl
    · rename_i h; exact absurd r.isLt h
  x n d := by
    rw [x_at]
    dsimp only [par, parOf]
    split
    · omega
    · exact congrArg (fun k => x0 m c (ix3 0 k d)) (Fin.ext (show n.val = 256 + n.val - 256 by omega))
  sc n d := by
    dsimp only [par, parOf]
    by_cases h : n.val < 256
    · rw [side_ctx n h, scc_at]; exact (if_pos h).symm
    · rw [side_x n h, scx_at]; exact (if_neg h).symm
  sh n d := by
    dsimp only [par, parOf]
    by_cases h : n.val < 256
    · rw [side_ctx n h, shc_at]; exact (if_pos h).symm
    · rw [side_x n h, shx_at]; exact (if_neg h).symm
  g d := g_at m c d
  w j d := w_at m c j d
  kg k := kg_at m c k
  kv n k j := kv_at m c n k j

end Cert.FwdKernelIdeal.Fwd
end
-- ==== Proof.Fwd.Run.lean ====
module

public import proofs.«01_k».proof.Proof.Gen.FwdKernelIdeal.Frame
public import Idealize.ShloMosaic.PureOps.Ideal

@[expose] public section

/-! The forward call's run, its three results read off the memory it ends in. -/

set_option maxRecDepth 16384

noncomputable section

namespace Cert.FwdKernelIdeal.Fwd

open Idealize.ShloMosaic Idealize.ShloMosaic.TcCoe
open Idealize.SL Idealize.SL.Sem
open Cert.FwdKernelIdeal Cert.FwdKernelIdeal.Gen

variable (m : (ℓ : Loc nD τ sig) → Buf (Elt Ideal) ℓ) (ρ : Dev nD → PrngReg)

/-- What the host code after the call leaves in a buffer. -/
abbrev tail (c : Dev nD) (b : Ref sig .tc) : Buf (Elt Ideal) ((c.tc : Thread nD τ).loc b) :=
  Pipeline.afterTail₀ cfgs (dats m) 0 (V0 m) [hostOps1] c b

/-- Every fair execution ends with the three results as the host code leaves them, the arguments as launched. -/
theorem run_fwd : θ_run defs (onTc (τ := τ) (main (F := Ideal))) ⟨m, fun _ => 0, ρ⟩ (fun r => ∀ c : Dev nD,
      r.2.mem ((c.tc : Thread nD τ).loc main_v43) = tail m c main_v43
      ∧ r.2.mem ((c.tc : Thread nD τ).loc main_v45) = tail m c main_v45
      ∧ r.2.mem ((c.tc : Thread nD τ).loc main_v46) = tail m c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => by
    obtain ⟨h, ha⟩ := h
    exact ⟨(h c).2 main_v43 (by decide), (h c).2 main_v45 (by decide), (h c).2 main_v46 (by decide), ha c⟩) (θ_run_and (run_main m ρ) (unchanged m ρ))

end Cert.FwdKernelIdeal.Fwd
end
-- ==== Proof.Fwd.Ref.lean ====
module

public import proofs.«01_k».proof.Proof.Gen.FwdReferenceIdeal.Read
public import proofs.«01_k».proof.Proof.Fwd.Spec
public import Idealize.ShloMosaic.Lib.Pointwise

@[expose] public section

/-! The reference's projections and values, row by row. -/

set_option maxRecDepth 16384

noncomputable section

open Idealize.ShloMosaic Idealize.ShloMosaic.TcCoe

namespace Cert.FwdReferenceIdeal.Fwd

open Cert.FwdReferenceIdeal Cert.FwdReferenceIdeal.Gen Cert.FwdReferenceIdeal.Read Cert.Fwd

theorem ofBits_zero : Ideal.ofBits FTy.f32 0x00000000#32 = (0 : EReal) := by simp [Ideal.ofBits, Ideal.ieee]

variable (x0 : (⟨S1x4096x1024, .f32⟩ : BufTy).Contents (Elt Ideal)) (x1 : (⟨S1x256x1024, .f32⟩ : BufTy).Contents (Elt Ideal))
variable (x2 : (⟨S1x3072, .f32⟩ : BufTy).Contents (Elt Ideal)) (x3 : (⟨S3072, .f32⟩ : BufTy).Contents (Elt Ideal))
variable (x4 : (⟨S1x1024, .f32⟩ : BufTy).Contents (Elt Ideal)) (x5 : (⟨S1x1024x1984, .f32⟩ : BufTy).Contents (Elt Ideal))
variable (x8 : (⟨S1x128, .f32⟩ : BufTy).Contents (Elt Ideal)) (x9 : (⟨S1x128x1024, .f32⟩ : BufTy).Contents (Elt Ideal))

theorem lat_row (n : Fin 4096) (d k : Fin 1024) : idx_main_v2 (idx_main_v3 (idx_main_v9 (ix3 0 n d))) k = ix3 0 n k := by
  funext b; apply Fin.ext; match b with
  | ⟨0, _⟩ => rfl
  | ⟨1, _⟩ => rfl
  | ⟨2, _⟩ => rfl

theorem lat_gain (n : Fin 4096) (d : Fin 1024) : idx_main_v0 (idx_main_v11 (idx_main_v12 (ix3 0 n d))) = ix2 0 d := by
  funext b; apply Fin.ext; match b with
  | ⟨0, _⟩ => rfl
  | ⟨1, _⟩ => show d.val % 1024 = d.val; omega

theorem lat_scale (n : Fin 4096) (d : Fin 1024) : idx_main_v14 (idx_main_v15 (idx_main_v18 (ix3 0 n d))) = ix2 0 ⟨1024 + d.val, by omega⟩ := by
  funext b; apply Fin.ext; match b with
  | ⟨0, _⟩ => rfl
  | ⟨1, _⟩ => rfl

theorem lat_shift (n : Fin 4096) (d : Fin 1024) : idx_main_v20 (idx_main_v21 (idx_main_v22 (ix3 0 n d))) = ix2 0 ⟨d.val, by omega⟩ := by
  funext b; apply Fin.ext; match b with
  | ⟨0, _⟩ => rfl
  | ⟨1, _⟩ => first | rfl | exact Nat.zero_add _

theorem lat_h (n : Fin 4096) (d : Fin 1024) : val_main_v23 (F := Ideal) x0 x2 x4 (ix3 0 n d)
    = hrow (fun d => x0 (ix3 0 n d)) (fun d => x4 (ix2 0 d)) (fun d => x2 (ix2 0 ⟨1024 + d.val, by omega⟩)) (fun d => x2 (ix2 0 ⟨d.val, by omega⟩)) d := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_cst_apply, val_main_cst_0_apply, val_main_cst_1_apply, val_main_cst_2_apply, lat_row, lat_gain, lat_scale, lat_shift]
  unfold hrow Cert.Fwd.inv
  rw [← zero_add (∑ j, x0 (ix3 0 n j) * x0 (ix3 0 n j)), ← ofBits_zero]
  rfl

theorem ctx_row (n : Fin 256) (d k : Fin 1024) : idx_main_v26 (idx_main_v27 (idx_main_v33 (ix3 0 n d))) k = ix3 0 n k := by
  funext b; apply Fin.ext; match b with
  | ⟨0, _⟩ => rfl
  | ⟨1, _⟩ => rfl
  | ⟨2, _⟩ => rfl

theorem ctx_gain (n : Fin 256) (d : Fin 1024) : idx_main_v24 (idx_main_v35 (idx_main_v36 (ix3 0 n d))) = ix2 0 d := by
  funext b; apply Fin.ext; match b with
  | ⟨0, _⟩ => rfl
  | ⟨1, _⟩ => show d.val % 1024 = d.val; omega

theorem ctx_scale (n : Fin 256) (d : Fin 1024) : idx_main_v38 (idx_main_v41 (idx_main_v42 (ix3 0 n d))) = ix1 ⟨1024 + d.val, by omega⟩ := by
  funext b; apply Fin.ext; match b with
  | ⟨0, _⟩ => rfl

theorem ctx_shift (n : Fin 256) (d : Fin 1024) : idx_main_v44 (idx_main_v45 (idx_main_v46 (ix3 0 n d))) = ix1 ⟨d.val, by omega⟩ := by
  funext b; apply Fin.ext; match b with
  | ⟨0, _⟩ => first | rfl | exact Nat.zero_add _

theorem ctx_h (n : Fin 256) (d : Fin 1024) : val_main_v47 (F := Ideal) x1 x3 x4 (ix3 0 n d)
    = hrow (fun d => x1 (ix3 0 n d)) (fun d => x4 (ix2 0 d)) (fun d => x3 (ix1 ⟨1024 + d.val, by omega⟩)) (fun d => x3 (ix1 ⟨d.val, by omega⟩)) d := by
  simp only [val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_cst_3_apply, val_main_cst_4_apply, val_main_cst_5_apply, val_main_cst_6_apply, ctx_row, ctx_gain, ctx_scale, ctx_shift]
  unfold hrow Cert.Fwd.inv
  rw [← zero_add (∑ j, x1 (ix3 0 n j) * x1 (ix3 0 n j)), ← ofBits_zero]
  rfl

theorem lat_left (n : Fin 4096) (j : Fin 1984) (k : Fin 1024) : lidx_main_v49 (ix3 0 n j) k = ix3 0 n k := by
  funext b; apply Fin.ext; match b with
  | ⟨0, _⟩ => rfl
  | ⟨1, _⟩ => rfl
  | ⟨2, _⟩ => rfl

theorem lat_right (n : Fin 4096) (j : Fin 1984) (k : Fin 1024) : idx_main_v48 (ridx_main_v49 (ix3 0 n j) k) = ix3 0 k j := by
  funext b; apply Fin.ext; match b with
  | ⟨0, _⟩ => rfl
  | ⟨1, _⟩ => show (k.val * 1984 + j.val) / 1984 % 1024 = k.val; omega
  | ⟨2, _⟩ => show (k.val * 1984 + j.val) % 1984 = j.val; omega

theorem lat_u (n : Fin 4096) (j : Fin 1984) : val_main_v49 (F := Ideal) x0 x2 x4 x5 (ix3 0 n j) = (parOf x0 x1 x2 x3 x4 x5 x8 x9).u ⟨256 + n.val, by omega⟩ j := by
  have e : (parOf x0 x1 x2 x3 x4 x5 x8 x9).h ⟨256 + n.val, by omega⟩ = hrow (fun d => x0 (ix3 0 n d)) (fun d => x4 (ix2 0 d)) (fun d => x2 (ix2 0 ⟨1024 + d.val, by omega⟩)) (fun d => x2 (ix2 0 ⟨d.val, by omega⟩)) := by
    unfold Par.h parOf
    congr 1
    · funext d; exact (dif_neg (show ¬256 + n.val < 256 by omega)).trans (congrArg (fun k => x0 (ix3 0 k d)) (Fin.ext (show 256 + n.val - 256 = n.val by omega)))
    · funext d; exact if_neg (show ¬256 + n.val < 256 by omega)
    · funext d; exact if_neg (show ¬256 + n.val < 256 by omega)
  rw [val_main_v49_apply]
  unfold Par.u proj
  rw [e]
  refine Finset.sum_congr rfl fun k _ => ?_
  rw [lat_left, lat_h, val_main_v48_apply, lat_right]
  rfl

theorem ctx_left (n : Fin 256) (j : Fin 1984) (k : Fin 1024) : lidx_main_v51 (ix3 0 n j) k = ix3 0 n k := by
  funext b; apply Fin.ext; match b with
  | ⟨0, _⟩ => rfl
  | ⟨1, _⟩ => rfl
  | ⟨2, _⟩ => rfl

theorem ctx_right (n : Fin 256) (j : Fin 1984) (k : Fin 1024) : idx_main_v50 (ridx_main_v51 (ix3 0 n j) k) = ix3 0 k j := by
  funext b; apply Fin.ext; match b with
  | ⟨0, _⟩ => rfl
  | ⟨1, _⟩ => show (k.val * 1984 + j.val) / 1984 % 1024 = k.val; omega
  | ⟨2, _⟩ => show (k.val * 1984 + j.val) % 1984 = j.val; omega

theorem ctx_u (n : Fin 256) (j : Fin 1984) : val_main_v51 (F := Ideal) x1 x3 x4 x5 (ix3 0 n j) = (parOf x0 x1 x2 x3 x4 x5 x8 x9).u ⟨n.val, by omega⟩ j := by
  have e : (parOf x0 x1 x2 x3 x4 x5 x8 x9).h ⟨n.val, by omega⟩ = hrow (fun d => x1 (ix3 0 n d)) (fun d => x4 (ix2 0 d)) (fun d => x3 (ix1 ⟨1024 + d.val, by omega⟩)) (fun d => x3 (ix1 ⟨d.val, by omega⟩)) := by
    unfold Par.h parOf
    congr 1
    · funext d; exact dif_pos (show n.val < 256 by omega)
    · funext d; exact if_pos (show n.val < 256 by omega)
    · funext d; exact if_pos (show n.val < 256 by omega)
  rw [val_main_v51_apply]
  unfold Par.u proj
  rw [e]
  refine Finset.sum_congr rfl fun k _ => ?_
  rw [ctx_left, ctx_h, val_main_v50_apply, ctx_right]
  rfl

theorem ctx_low (n : Fin 256) (k : Fin 128) : idx_main_v52 (ix3 0 n k) = ix3 0 n ⟨256 + k.val, by omega⟩ := by
  funext b; apply Fin.ext; match b with
  | ⟨0, _⟩ => rfl
  | ⟨1, _⟩ => rfl
  | ⟨2, _⟩ => rfl

theorem ctx_lrow (n : Fin 256) (d k : Fin 128) : idx_main_v54 (idx_main_v55 (idx_main_v61 (ix3 0 n d))) k = ix3 0 n k := by
  funext b; apply Fin.ext; match b with
  | ⟨0, _⟩ => rfl
  | ⟨1, _⟩ => rfl
  | ⟨2, _⟩ => rfl

theorem ctx_lgain (n : Fin 256) (d : Fin 128) : idx_main_v63 (idx_main_v64 (ix3 0 n d)) = ix2 0 d := by
  funext b; apply Fin.ext; match b with
  | ⟨0, _⟩ => rfl
  | ⟨1, _⟩ => rfl

theorem ctx_head (n : Fin 256) (a : Fin 4) (j : Fin 128) : idx_main_v68 (idx_main_v69 (ix4 0 n a j)) = ix3 0 n ⟨a.val * 256 + (128 + j.val), by omega⟩ := by
  funext b; apply Fin.ext; match b with
  | ⟨0, _⟩ => rfl
  | ⟨1, _⟩ => show (((0 * 256 + n.val) * 4 + a.val) * 256 + (128 + j.val)) / 1024 % 256 = n.val; omega
  | ⟨2, _⟩ => show (((0 * 256 + n.val) * 4 + a.val) * 256 + (128 + j.val)) % 1024 = a.val * 256 + (128 + j.val); omega

theorem ctx_vleft (n : Fin 256) (j : Fin 1024) (k : Fin 128) : lidx_main_v67 (ix3 0 n j) k = ix3 0 n k := by
  funext b; apply Fin.ext; match b with
  | ⟨0, _⟩ => rfl
  | ⟨1, _⟩ => rfl
  | ⟨2, _⟩ => rfl

theorem ctx_vright (n : Fin 256) (j : Fin 1024) (k : Fin 128) : idx_main_v66 (ridx_main_v67 (ix3 0 n j) k) = ix3 0 k j := by
  funext b; apply Fin.ext; match b with
  | ⟨0, _⟩ => rfl
  | ⟨1, _⟩ => show (k.val * 1024 + j.val) / 1024 % 128 = k.val; omega
  | ⟨2, _⟩ => show (k.val * 1024 + j.val) % 1024 = j.val; omega

theorem ctx_c (n : Fin 256) (k : Fin 128) : val_main_v65 (F := Ideal) x1 x3 x4 x5 x8 (ix3 0 n k)
    = (parOf x0 x1 x2 x3 x4 x5 x8 x9).u ⟨n.val, by omega⟩ ⟨256 + k.val, by omega⟩ * Cert.Fwd.inv 0x43000000#32 (fun k : Fin 128 => (parOf x0 x1 x2 x3 x4 x5 x8 x9).u ⟨n.val, by omega⟩ ⟨256 + k.val, by omega⟩) * x8 (ix2 0 k) := by
  simp only [val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_cst_7_apply, val_main_cst_8_apply, val_main_cst_9_apply, ctx_lrow, ctx_lgain, ctx_low, ctx_u x0 x1 x2 x3 x4 x5 x8 x9]
  unfold Cert.Fwd.inv
  rw [← zero_add (∑ k : Fin 128, (parOf x0 x1 x2 x3 x4 x5 x8 x9).u ⟨n.val, by omega⟩ ⟨256 + k.val, by omega⟩ * (parOf x0 x1 x2 x3 x4 x5 x8 x9).u ⟨n.val, by omega⟩ ⟨256 + k.val, by omega⟩), ← ofBits_zero]
  rfl

theorem ctx_v (n : Fin 256) (a : Fin 4) (j : Fin 128) : val_main_v69 (F := Ideal) x1 x3 x4 x5 x8 x9 (ix4 0 n a j) = (parOf x0 x1 x2 x3 x4 x5 x8 x9).v a ⟨n.val, by omega⟩ j := by
  rw [val_main_v69_apply, val_main_v68_apply, ctx_head, val_main_v67_apply]
  unfold Par.v val
  refine Finset.sum_congr rfl fun k _ => ?_
  rw [ctx_vleft, ctx_c x0 x1 x2 x3 x4 x5 x8 x9, val_main_v66_apply, ctx_vright]
  rfl

theorem lat_low (n : Fin 4096) (k : Fin 128) : idx_main_v70 (ix3 0 n k) = ix3 0 n ⟨256 + k.val, by omega⟩ := by
  funext b; apply Fin.ext; match b with
  | ⟨0, _⟩ => rfl
  | ⟨1, _⟩ => rfl
  | ⟨2, _⟩ => rfl

theorem lat_lrow (n : Fin 4096) (d k : Fin 128) : idx_main_v72 (idx_main_v73 (idx_main_v79 (ix3 0 n d))) k = ix3 0 n k := by
  funext b; apply Fin.ext; match b with
  | ⟨0, _⟩ => rfl
  | ⟨1, _⟩ => rfl
  | ⟨2, _⟩ => rfl

theorem lat_lgain (n : Fin 4096) (d : Fin 128) : idx_main_v81 (idx_main_v82 (ix3 0 n d)) = ix2 0 d := by
  funext b; apply Fin.ext; match b with
  | ⟨0, _⟩ => rfl
  | ⟨1, _⟩ => rfl

theorem lat_head (n : Fin 4096) (a : Fin 4) (j : Fin 128) : idx_main_v86 (idx_main_v87 (ix4 0 n a j)) = ix3 0 n ⟨a.val * 256 + (128 + j.val), by omega⟩ := by
  funext b; apply Fin.ext; match b with
  | ⟨0, _⟩ => rfl
  | ⟨1, _⟩ => show (((0 * 4096 + n.val) * 4 + a.val) * 256 + (128 + j.val)) / 1024 % 4096 = n.val; omega
  | ⟨2, _⟩ => show (((0 * 4096 + n.val) * 4 + a.val) * 256 + (128 + j.val)) % 1024 = a.val * 256 + (128 + j.val); omega

theorem lat_vleft (n : Fin 4096) (j : Fin 1024) (k : Fin 128) : lidx_main_v85 (ix3 0 n j) k = ix3 0 n k := by
  funext b; apply Fin.ext; match b with
  | ⟨0, _⟩ => rfl
  | ⟨1, _⟩ => rfl
  | ⟨2, _⟩ => rfl

theorem lat_vright (n : Fin 4096) (j : Fin 1024) (k : Fin 128) : idx_main_v84 (ridx_main_v85 (ix3 0 n j) k) = ix3 0 k j := by
  funext b; apply Fin.ext; match b with
  | ⟨0, _⟩ => rfl
  | ⟨1, _⟩ => show (k.val * 1024 + j.val) / 1024 % 128 = k.val; omega
  | ⟨2, _⟩ => show (k.val * 1024 + j.val) % 1024 = j.val; omega

theorem lat_c (n : Fin 4096) (k : Fin 128) : val_main_v83 (F := Ideal) x0 x2 x4 x5 x8 (ix3 0 n k)
    = (parOf x0 x1 x2 x3 x4 x5 x8 x9).u ⟨256 + n.val, by omega⟩ ⟨256 + k.val, by omega⟩ * Cert.Fwd.inv 0x43000000#32 (fun k : Fin 128 => (parOf x0 x1 x2 x3 x4 x5 x8 x9).u ⟨256 + n.val, by omega⟩ ⟨256 + k.val, by omega⟩) * x8 (ix2 0 k) := by
  simp only [val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_cst_10_apply, val_main_cst_11_apply, val_main_cst_12_apply, lat_lrow, lat_lgain, lat_low, lat_u x0 x1 x2 x3 x4 x5 x8 x9]
  unfold Cert.Fwd.inv
  rw [← zero_add (∑ k : Fin 128, (parOf x0 x1 x2 x3 x4 x5 x8 x9).u ⟨256 + n.val, by omega⟩ ⟨256 + k.val, by omega⟩ * (parOf x0 x1 x2 x3 x4 x5 x8 x9).u ⟨256 + n.val, by omega⟩ ⟨256 + k.val, by omega⟩), ← ofBits_zero]
  rfl

theorem lat_v (n : Fin 4096) (a : Fin 4) (j : Fin 128) : val_main_v87 (F := Ideal) x0 x2 x4 x5 x8 x9 (ix4 0 n a j) = (parOf x0 x1 x2 x3 x4 x5 x8 x9).v a ⟨256 + n.val, by omega⟩ j := by
  rw [val_main_v87_apply, val_main_v86_apply, lat_head, val_main_v85_apply]
  unfold Par.v val
  refine Finset.sum_congr rfl fun k _ => ?_
  rw [lat_vleft, lat_c x0 x1 x2 x3 x4 x5 x8 x9, val_main_v84_apply, lat_vright]
  rfl

theorem joined (A : FVec Ideal S1x256x4x128 .f32) (B : FVec Ideal S1x4096x4x128 .f32) (n : Fin 4352) (a : Fin 4) (j : Fin 128) :
    concatenate S1x4352x4x128 1 [⟨S1x256x4x128, A⟩, ⟨S1x4096x4x128, B⟩] concatenates_S1x256x4x128_S1x4096x4x128_S1x4352x4x128_d1 (ix4 0 n a j)
      = if h : n.val < 256 then A (ix4 0 ⟨n.val, h⟩ a j) else B (ix4 0 ⟨n.val - 256, by omega⟩ a j) := by
  pointwise

theorem turned (n : Fin 4352) (a : Fin 4) (j : Fin 128) : idx_main_v89 (ix4 0 a n j) = ix4 0 n a j := by
  funext b; fin_cases b <;> rfl

theorem v_val (a : Fin 4) (n : Fin 4352) (j : Fin 128) : val_main_v90 (F := Ideal) x0 x1 x2 x3 x4 x5 x8 x9 (ix4 0 a n j)
    = (parOf x0 x1 x2 x3 x4 x5 x8 x9).v a n j := by
  rw [val_main_v90_apply, val_main_v89_apply, turned]
  unfold val_main_v88
  refine (joined _ _ n a j).trans ?_
  by_cases h : n.val < 256
  · rw [dif_pos h]
    exact ctx_v x0 x1 x2 x3 x4 x5 x8 x9 ⟨n.val, h⟩ a j
  · rw [dif_neg h]
    refine (lat_v x0 x1 x2 x3 x4 x5 x8 x9 ⟨n.val - 256, by omega⟩ a j).trans ?_
    exact congrArg (fun n => (parOf x0 x1 x2 x3 x4 x5 x8 x9).v a n j) (Fin.ext (show 256 + (n.val - 256) = n.val by omega))

end Cert.FwdReferenceIdeal.Fwd
end
-- ==== Proof.Fwd.Eq.lean ====
module

public import proofs.«01_k».proof.Proof.Fwd.Host
public import proofs.«01_k».proof.Proof.Fwd.Run
public import proofs.«01_k».proof.Proof.Fwd.Ref

@[expose] public section

/-! The forward call's projections and values are its reference's. -/

set_option maxRecDepth 16384

noncomputable section

open Idealize.ShloMosaic Idealize.ShloMosaic.TcCoe

namespace Cert.FwdKernelIdeal.Fwd

open Cert.FwdKernelIdeal Cert.FwdKernelIdeal.Gen Cert.Fwd

variable (m : (ℓ : Loc nD τ sig) → Buf (Elt Ideal) ℓ) (c : Dev nD)

theorem three {n k : ℕ} (i : (⟨3, ![1, n, k]⟩ : Shape).Idx) : i = ix3 0 (i 1) (i 2) := by
  funext a; fin_cases a
  · exact Subsingleton.elim (α := Fin 1) _ _
  · rfl
  · rfl

theorem four {n k l : ℕ} (i : (⟨4, ![1, n, k, l]⟩ : Shape).Idx) : i = ix4 0 (i 1) (i 2) (i 3) := by
  funext a; fin_cases a
  · exact Subsingleton.elim (α := Fin 1) _ _
  · rfl
  · rfl
  · rfl

/-- After the call its arrays hold what the last grid point left in them. -/
theorem array (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr cfg0.spec (by decide) c (V0 m c) _ w

open Cert.FwdReferenceIdeal.Read Cert.FwdReferenceIdeal.Fwd

/-- The column of the padded projection that holds column `j`. -/
def uCol (j : Fin 1984) : Fin 2048 := ⟨if j.val < 448 then j.val else j.val + 64, by split <;> omega⟩

theorem uArr_at (p : Par) (n : Fin 4352) (j : Fin 1984) : uArr p (ix2 n (uCol j)) = p.u n j := by
  have e : (uCol j).val = if j.val < 448 then j.val else j.val + 64 := rfl
  have k : wrow (uCol j) = j := by
    apply Fin.ext
    show (if (uCol j).val < 512 then (uCol j).val else (uCol j).val - 64) = j.val
    split at e <;> split <;> omega
  refine (if_neg ?_).trans (congrArg (p.u n) k)
  show ¬(448 ≤ (uCol j).val ∧ (uCol j).val < 512)
  split at e <;> omega

theorem u_eq : tail m c main_v43 = val_main_v49 (F := Ideal) (x0 m c) (x2 m c) (x4 m c) (x5 m c) := by
  funext i
  obtain ⟨n, j, rfl⟩ : ∃ (n : Fin 4096) (j : Fin 1984), i = ix3 0 n j := ⟨_, _, three i⟩
  refine ((u_res _ n j (uCol j) rfl).trans (congrFun ((array m c 13).trans (arr13 (found m c))) _)).trans ?_
  exact (uArr_at _ _ j).trans (lat_u (x0 m c) (x1 m c) (x2 m c) (x3 m c) (x4 m c) (x5 m c) (x8 m c) (x9 m c) n j).symm

theorem uc_eq : tail m c main_v45 = val_main_v51 (F := Ideal) (x1 m c) (x3 m c) (x4 m c) (x5 m c) := by
  funext i
  obtain ⟨n, j, rfl⟩ : ∃ (n : Fin 256) (j : Fin 1984), i = ix3 0 n j := ⟨_, _, three i⟩
  refine ((uc_res _ n j (uCol j) rfl).trans (congrFun ((array m c 13).trans (arr13 (found m c))) _)).trans ?_
  exact (uArr_at _ _ j).trans (ctx_u (x0 m c) (x1 m c) (x2 m c) (x3 m c) (x4 m c) (x5 m c) (x8 m c) (x9 m c) n j).symm

theorem v_eq : tail m c main_v46 = val_main_v90 (F := Ideal) (x0 m c) (x1 m c) (x2 m c) (x3 m c) (x4 m c) (x5 m c) (x8 m c) (x9 m c) := by
  funext i
  obtain ⟨a, n, j, rfl⟩ : ∃ (a : Fin 4) (n : Fin 4352) (j : Fin 128), i = ix4 0 a n j := ⟨_, _, _, four i⟩
  refine ((v_res _ a n j).trans (congrFun ((array m c 16).trans (arr16 (found m c))) _)).trans ?_
  exact (v_val (x0 m c) (x1 m c) (x2 m c) (x3 m c) (x4 m c) (x5 m c) (x8 m c) (x9 m c) a n j).symm

end Cert.FwdKernelIdeal.Fwd
end
-- ==== Proof.Adam.Spec.lean ====
module

public import Idealize.ShloMosaic.PureOps.Ideal

@[expose] public section

/-! The optimiser's step on one entry: the two moments' new values and the change of the weight. -/

noncomputable section

open Idealize.ShloMosaic

namespace Cert.Adam

/-- The new first moment: nine tenths of the old one, a tenth of the gradient. -/
def mom (g m : EReal) : EReal := Ideal.ofBits FTy.f32 0x3F666666#32 * m + Ideal.ofBits FTy.f32 0x3DCCCCCD#32 * g

/-- The new second moment, of the gradient's square. -/
def sq (g v : EReal) : EReal := Ideal.ofBits FTy.f32 0x3F7FBE77#32 * v + Ideal.ofBits FTy.f32 0x3A83126F#32 * (g * g)

/-- The change of the weight: the corrected first moment over the root of the corrected second, and the weight's decay. -/
def step (w g m v : EReal) : EReal :=
  Ideal.ofBits FTy.f32 0xBA83126F#32
    * (Ideal.div (Ideal.div (mom g m) (Ideal.ofBits FTy.f32 0x3F26BD02#32))
        (Ideal.sqrt (Ideal.div (sq g v) (Ideal.ofBits FTy.f32 0x3C231ACC#32)) + Ideal.ofBits FTy.f32 0x322BCC77#32)
      + Ideal.ofBits FTy.f32 0x3C23D70A#32 * w)

end Cert.Adam
end
-- ==== Proof.Adam.Arr.lean ====
module

public import proofs.«01_k».proof.Proof.Gen.AdamKernelIdeal.Frame
public import proofs.«01_k».proof.Proof.Adam.Spec
public import Idealize.ShloMosaic.Lib.Pipeline.Value
public import Idealize.ShloMosaic.Lib.Pointwise
public import Idealize.ShloMosaic.Lib.Pipeline.ReadBack
public import Idealize.ShloMosaic.Lib.Pipeline.ValueKit.Geometry

@[expose] public section

/-! What the optimiser's call leaves in its arrays: every entry is the step on the same entry of the arrays it reads. -/

set_option maxRecDepth 16384

noncomputable section

open Idealize.ShloMosaic Idealize.ShloMosaic.TcCoe

namespace Cert.AdamKernelIdeal.Adam

open Cert.AdamKernelIdeal Cert.AdamKernelIdeal.Gen Cert.Adam

theorem z2 : (![0, 0] : Fin 2 → Nat) = fun _ => 0 := funext fun a => by fin_cases a <;> rfl

/-! The body's vectors, entry by entry, for both tiles' shapes. -/

section Pay

theorem mom0 (g m : Vec Ideal S496x256 .f32) (y) : k0_pay3 g m y = mom (g y) (m y) := by
  unfold k0_pay3 k0_pay2
  simp only [shapeCast_self]
  rfl

theorem sq0 (g v : Vec Ideal S496x256 .f32) (y) : k0_pay4 g v y = sq (g y) (v y) := by
  unfold k0_pay4 k0_pay2
  simp only [shapeCast_self]
  rfl

theorem step0 (w g m v : Vec Ideal S496x256 .f32) (y) : k0_pay5 g m v w y = step (w y) (g y) (m y) (v y) := by
  unfold k0_pay5 step
  simp only [shapeCast_self]
  rw [← mom0 g m y, ← sq0 g v y]
  rfl

theorem mom1 (g m : Vec Ideal S64x1024 .f32) (y) : k0_pay8 g m y = mom (g y) (m y) := by
  unfold k0_pay8 k0_pay7
  simp only [shapeCast_self]
  rfl

theorem sq1 (g v : Vec Ideal S64x1024 .f32) (y) : k0_pay9 g v y = sq (g y) (v y) := by
  unfold k0_pay9 k0_pay7
  simp only [shapeCast_self]
  rfl

theorem step1 (w g m v : Vec Ideal S64x1024 .f32) (y) : k0_pay10 g m v w y = step (w y) (g y) (m y) (v y) := by
  unfold k0_pay10 step
  simp only [shapeCast_self]
  rw [← mom1 g m y, ← sq1 g v y]
  rfl

end Pay

/-! What the body leaves in each output's tile, of the inputs' tiles. -/

section Tiles

variable (x0 : Vec Ideal S496x256 .f32) (x1 : Vec Ideal S64x1024 .f32) (x2 : Vec Ideal S496x256 .f32) (x3 : Vec Ideal S64x1024 .f32)
  (x4 : Vec Ideal S496x256 .f32) (x5 : Vec Ideal S64x1024 .f32) (x6 : Vec Ideal S496x256 .f32) (x7 : Vec Ideal S64x1024 .f32)

theorem out8 : out0_8 x0 x1 x2 x3 x4 x5 x6 x7 = k0_pay5 x2 x4 x6 x0 := by
  unfold out0_8
  rw [View.canon_cons_unit_zero (S := S496x256) z2]
  simp only [View.ld_unit_zero (S := S496x256) z2]

theorem out10 : out0_10 x0 x1 x2 x3 x4 x5 x6 x7 = k0_pay3 x2 x4 := by
  unfold out0_10
  rw [View.canon_cons_unit_zero (S := S496x256) z2]
  simp only [View.ld_unit_zero (S := S496x256) z2]

theorem out12 : out0_12 x0 x1 x2 x3 x4 x5 x6 x7 = k0_pay4 x2 x6 := by
  unfold out0_12
  rw [View.canon_cons_unit_zero (S := S496x256) z2]
  simp only [View.ld_unit_zero (S := S496x256) z2]

theorem out9 : out0_9 x0 x1 x2 x3 x4 x5 x6 x7 = k0_pay10 x3 x5 x7 x1 := by
  unfold out0_9
  rw [View.canon_cons_unit_zero (S := S64x1024) z2]
  simp only [View.ld_unit_zero (S := S64x1024) z2]

theorem out11 : out0_11 x0 x1 x2 x3 x4 x5 x6 x7 = k0_pay8 x3 x5 := by
  unfold out0_11
  rw [View.canon_cons_unit_zero (S := S64x1024) z2]
  simp only [View.ld_unit_zero (S := S64x1024) z2]

theorem out13 : out0_13 x0 x1 x2 x3 x4 x5 x6 x7 = k0_pay9 x3 x7 := by
  unfold out0_13
  rw [View.canon_cons_unit_zero (S := S64x1024) z2]
  simp only [View.ld_unit_zero (S := S64x1024) z2]

end Tiles

/-! Where a tile's entry lies in its array: the first weight's arrays are cut by columns, the second's by rows. -/

variable (m : (ℓ : Loc nD τ sig) → Buf (Elt Ideal) ℓ) (c : Dev nD)

theorem lt4 (t : Fin cfg0.N) : t.val < 4 := lt_of_lt_of_eq t.isLt (show cfg0.N = 4 from N_0)

theorem idx0 : ∀ t : Fin cfg0.N, (win0_0.index t 0 = 0 ∧ win0_0.index t 1 = t.val) ∧ (win0_2.index t 0 = 0 ∧ win0_2.index t 1 = t.val) ∧ (win0_4.index t 0 = 0 ∧ win0_4.index t 1 = t.val) ∧ (win0_6.index t 0 = 0 ∧ win0_6.index t 1 = t.val) ∧ (win0_8.index t 0 = 0 ∧ win0_8.index t 1 = t.val) ∧ (win0_10.index t 0 = 0 ∧ win0_10.index t 1 = t.val) ∧ (win0_12.index t 0 = 0 ∧ win0_12.index t 1 = t.val) :=
  (by decide +kernel : ∀ t : Fin grid0.N, _)

theorem idx1 : ∀ t : Fin cfg0.N, (win0_1.index t 0 = t.val ∧ win0_1.index t 1 = 0) ∧ (win0_3.index t 0 = t.val ∧ win0_3.index t 1 = 0) ∧ (win0_5.index t 0 = t.val ∧ win0_5.index t 1 = 0) ∧ (win0_7.index t 0 = t.val ∧ win0_7.index t 1 = 0) ∧ (win0_9.index t 0 = t.val ∧ win0_9.index t 1 = 0) ∧ (win0_11.index t 0 = t.val ∧ win0_11.index t 1 = 0) ∧ (win0_13.index t 0 = t.val ∧ win0_13.index t 1 = 0) :=
  (by decide +kernel : ∀ t : Fin grid0.N, _)

/-- The place of a tile's entry in the first weight's arrays, and in the second's. -/
abbrev place0 (t : Fin cfg0.N) (r : Fin 496) (d : Fin 256) : S496x1024.Idx := ix2 r ⟨t.val * 256 + d.val, by have := lt4 t; omega⟩

abbrev place1 (t : Fin cfg0.N) (r : Fin 64) (d : Fin 1024) : S256x1024.Idx := ix2 ⟨t.val * 64 + r.val, by have := lt4 t; omega⟩ d

theorem at0 (t : Fin cfg0.N) (r : Fin 496) (d : Fin 256) : iblk m c 0 t (ix2 r d) = V m c main_v1 (place0 t r d) := by
  have h := (idx0 t).1
  unfold iblk
  rw [View.read_apply]
  show V m c main_v1 _ = V m c main_v1 _
  congr 1
  funext a
  apply Fin.ext
  match a with
  | ⟨0, _⟩ => show win0_0.index t 0 * 496 + 1 * r.val = r.val; rw [h.1]; omega
  | ⟨1, _⟩ => show win0_0.index t 1 * 256 + 1 * d.val = t.val * 256 + d.val; rw [h.2]; omega

theorem at1 (t : Fin cfg0.N) (r : Fin 64) (d : Fin 1024) : iblk m c 1 t (ix2 r d) = V m c main_v2 (place1 t r d) := by
  have h := (idx1 t).1
  unfold iblk
  rw [View.read_apply]
  show V m c main_v2 _ = V m c main_v2 _
  congr 1
  funext a
  apply Fin.ext
  match a with
  | ⟨0, _⟩ => show win0_1.index t 0 * 64 + 1 * r.val = t.val * 64 + r.val; rw [h.1]; omega
  | ⟨1, _⟩ => show win0_1.index t 1 * 1024 + 1 * d.val = d.val; rw [h.2]; omega

theorem at2 (t : Fin cfg0.N) (r : Fin 496) (d : Fin 256) : iblk m c 2 t (ix2 r d) = V m c main_v4 (place0 t r d) := by
  have h := (idx0 t).2.1
  unfold iblk
  rw [View.read_apply]
  show V m c main_v4 _ = V m c main_v4 _
  congr 1
  funext a
  apply Fin.ext
  match a with
  | ⟨0, _⟩ => show win0_2.index t 0 * 496 + 1 * r.val = r.val; rw [h.1]; omega
  | ⟨1, _⟩ => show win0_2.index t 1 * 256 + 1 * d.val = t.val * 256 + d.val; rw [h.2]; omega

theorem at3 (t : Fin cfg0.N) (r : Fin 64) (d : Fin 1024) : iblk m c 3 t (ix2 r d) = V m c main_v5 (place1 t r d) := by
  have h := (idx1 t).2.1
  unfold iblk
  rw [View.read_apply]
  show V m c main_v5 _ = V m c main_v5 _
  congr 1
  funext a
  apply Fin.ext
  match a with
  | ⟨0, _⟩ => show win0_3.index t 0 * 64 + 1 * r.val = t.val * 64 + r.val; rw [h.1]; omega
  | ⟨1, _⟩ => show win0_3.index t 1 * 1024 + 1 * d.val = d.val; rw [h.2]; omega

theorem at4 (t : Fin cfg0.N) (r : Fin 496) (d : Fin 256) : iblk m c 4 t (ix2 r d) = V m c main_v7 (place0 t r d) := by
  have h := (idx0 t).2.2.1
  unfold iblk
  rw [View.read_apply]
  show V m c main_v7 _ = V m c main_v7 _
  congr 1
  funext a
  apply Fin.ext
  match a with
  | ⟨0, _⟩ => show win0_4.index t 0 * 496 + 1 * r.val = r.val; rw [h.1]; omega
  | ⟨1, _⟩ => show win0_4.index t 1 * 256 + 1 * d.val = t.val * 256 + d.val; rw [h.2]; omega

theorem at5 (t : Fin cfg0.N) (r : Fin 64) (d : Fin 1024) : iblk m c 5 t (ix2 r d) = V m c main_v8 (place1 t r d) := by
  have h := (idx1 t).2.2.1
  unfold iblk
  rw [View.read_apply]
  show V m c main_v8 _ = V m c main_v8 _
  congr 1
  funext a
  apply Fin.ext
  match a with
  | ⟨0, _⟩ => show win0_5.index t 0 * 64 + 1 * r.val = t.val * 64 + r.val; rw [h.1]; omega
  | ⟨1, _⟩ => show win0_5.index t 1 * 1024 + 1 * d.val = d.val; rw [h.2]; omega

theorem at6 (t : Fin cfg0.N) (r : Fin 496) (d : Fin 256) : iblk m c 6 t (ix2 r d) = V m c main_v10 (place0 t r d) := by
  have h := (idx0 t).2.2.2.1
  unfold iblk
  rw [View.read_apply]
  show V m c main_v10 _ = V m c main_v10 _
  congr 1
  funext a
  apply Fin.ext
  match a with
  | ⟨0, _⟩ => show win0_6.index t 0 * 496 + 1 * r.val = r.val; rw [h.1]; omega
  | ⟨1, _⟩ => show win0_6.index t 1 * 256 + 1 * d.val = t.val * 256 + d.val; rw [h.2]; omega

theorem at7 (t : Fin cfg0.N) (r : Fin 64) (d : Fin 1024) : iblk m c 7 t (ix2 r d) = V m c main_v11 (place1 t r d) := by
  have h := (idx1 t).2.2.2.1
  unfold iblk
  rw [View.read_apply]
  show V m c main_v11 _ = V m c main_v11 _
  congr 1
  funext a
  apply Fin.ext
  match a with
  | ⟨0, _⟩ => show win0_7.index t 0 * 64 + 1 * r.val = t.val * 64 + r.val; rw [h.1]; omega
  | ⟨1, _⟩ => show win0_7.index t 1 * 1024 + 1 * d.val = d.val; rw [h.2]; omega

theorem emb8 (t : Fin cfg0.N) (r : Fin 496) (d : Fin 256) : ((cfg0.win 8).blk t).view.emb (ix2 r d) = place0 t r d := by
  have h := (idx0 t).2.2.2.2.1
  funext a
  apply Fin.ext
  match a with
  | ⟨0, _⟩ => show win0_8.index t 0 * 496 + 1 * r.val = r.val; rw [h.1]; omega
  | ⟨1, _⟩ => show win0_8.index t 1 * 256 + 1 * d.val = t.val * 256 + d.val; rw [h.2]; omega

theorem emb9 (t : Fin cfg0.N) (r : Fin 64) (d : Fin 1024) : ((cfg0.win 9).blk t).view.emb (ix2 r d) = place1 t r d := by
  have h := (idx1 t).2.2.2.2.1
  funext a
  apply Fin.ext
  match a with
  | ⟨0, _⟩ => show win0_9.index t 0 * 64 + 1 * r.val = t.val * 64 + r.val; rw [h.1]; omega
  | ⟨1, _⟩ => show win0_9.index t 1 * 1024 + 1 * d.val = d.val; rw [h.2]; omega

theorem emb10 (t : Fin cfg0.N) (r : Fin 496) (d : Fin 256) : ((cfg0.win 10).blk t).view.emb (ix2 r d) = place0 t r d := by
  have h := (idx0 t).2.2.2.2.2.1
  funext a
  apply Fin.ext
  match a with
  | ⟨0, _⟩ => show win0_10.index t 0 * 496 + 1 * r.val = r.val; rw [h.1]; omega
  | ⟨1, _⟩ => show win0_10.index t 1 * 256 + 1 * d.val = t.val * 256 + d.val; rw [h.2]; omega

theorem emb11 (t : Fin cfg0.N) (r : Fin 64) (d : Fin 1024) : ((cfg0.win 11).blk t).view.emb (ix2 r d) = place1 t r d := by
  have h := (idx1 t).2.2.2.2.2.1
  funext a
  apply Fin.ext
  match a with
  | ⟨0, _⟩ => show win0_11.index t 0 * 64 + 1 * r.val = t.val * 64 + r.val; rw [h.1]; omega
  | ⟨1, _⟩ => show win0_11.index t 1 * 1024 + 1 * d.val = d.val; rw [h.2]; omega

theorem emb12 (t : Fin cfg0.N) (r : Fin 496) (d : Fin 256) : ((cfg0.win 12).blk t).view.emb (ix2 r d) = place0 t r d := by
  have h := (idx0 t).2.2.2.2.2.2
  funext a
  apply Fin.ext
  match a with
  | ⟨0, _⟩ => show win0_12.index t 0 * 496 + 1 * r.val = r.val; rw [h.1]; omega
  | ⟨1, _⟩ => show win0_12.index t 1 * 256 + 1 * d.val = t.val * 256 + d.val; rw [h.2]; omega

theorem emb13 (t : Fin cfg0.N) (r : Fin 64) (d : Fin 1024) : ((cfg0.win 13).blk t).view.emb (ix2 r d) = place1 t r d := by
  have h := (idx1 t).2.2.2.2.2.2
  funext a
  apply Fin.ext
  match a with
  | ⟨0, _⟩ => show win0_13.index t 0 * 64 + 1 * r.val = t.val * 64 + r.val; rw [h.1]; omega
  | ⟨1, _⟩ => show win0_13.index t 1 * 1024 + 1 * d.val = d.val; rw [h.2]; omega

/-! The arrays after the last grid point. -/

theorem arr8 : (dats m 0 c).arrAt 8 cfg0.N = (fun v => step (V m c main_v1 v) (V m c main_v4 v) (V m c main_v7 v) (V m c main_v10 v) : Vec Ideal S496x1024 .f32) := by
  refine (dats m 0 c).arrAt_eq_of_covers 8 _ (by decide +kernel) fun t hf y => ?_
  obtain ⟨r, d, rfl⟩ : ∃ (r : Fin 496) (d : Fin 256), y = ix2 r d := ⟨y 0, y 1, by funext i; fin_cases i <;> rfl⟩
  rw [after0_8, out8, emb8]
  refine (step0 _ _ _ _ (ix2 r d)).trans ?_
  rw [at0, at2, at4, at6]

theorem arr10 : (dats m 0 c).arrAt 10 cfg0.N = (fun v => mom (V m c main_v4 v) (V m c main_v7 v) : Vec Ideal S496x1024 .f32) := by
  refine (dats m 0 c).arrAt_eq_of_covers 10 _ (by decide +kernel) fun t hf y => ?_
  obtain ⟨r, d, rfl⟩ : ∃ (r : Fin 496) (d : Fin 256), y = ix2 r d := ⟨y 0, y 1, by funext i; fin_cases i <;> rfl⟩
  rw [after0_10, out10, emb10]
  refine (mom0 _ _ (ix2 r d)).trans ?_
  rw [at2, at4]

theorem arr12 : (dats m 0 c).arrAt 12 cfg0.N = (fun v => sq (V m c main_v4 v) (V m c main_v10 v) : Vec Ideal S496x1024 .f32) := by
  refine (dats m 0 c).arrAt_eq_of_covers 12 _ (by decide +kernel) fun t hf y => ?_
  obtain ⟨r, d, rfl⟩ : ∃ (r : Fin 496) (d : Fin 256), y = ix2 r d := ⟨y 0, y 1, by funext i; fin_cases i <;> rfl⟩
  rw [after0_12, out12, emb12]
  refine (sq0 _ _ (ix2 r d)).trans ?_
  rw [at2, at6]

theorem arr9 : (dats m 0 c).arrAt 9 cfg0.N = (fun v => step (V m c main_v2 v) (V m c main_v5 v) (V m c main_v8 v) (V m c main_v11 v) : Vec Ideal S256x1024 .f32) := by
  refine (dats m 0 c).arrAt_eq_of_covers 9 _ (by decide +kernel) fun t hf y => ?_
  obtain ⟨r, d, rfl⟩ : ∃ (r : Fin 64) (d : Fin 1024), y = ix2 r d := ⟨y 0, y 1, by funext i; fin_cases i <;> rfl⟩
  rw [after0_9, out9, emb9]
  refine (step1 _ _ _ _ (ix2 r d)).trans ?_
  rw [at1, at3, at5, at7]

theorem arr11 : (dats m 0 c).arrAt 11 cfg0.N = (fun v => mom (V m c main_v5 v) (V m c main_v8 v) : Vec Ideal S256x1024 .f32) := by
  refine (dats m 0 c).arrAt_eq_of_covers 11 _ (by decide +kernel) fun t hf y => ?_
  obtain ⟨r, d, rfl⟩ : ∃ (r : Fin 64) (d : Fin 1024), y = ix2 r d := ⟨y 0, y 1, by funext i; fin_cases i <;> rfl⟩
  rw [after0_11, out11, emb11]
  refine (mom1 _ _ (ix2 r d)).trans ?_
  rw [at3, at5]

theorem arr13 : (dats m 0 c).arrAt 13 cfg0.N = (fun v => sq (V m c main_v5 v) (V m c main_v11 v) : Vec Ideal S256x1024 .f32) := by
  refine (dats m 0 c).arrAt_eq_of_covers 13 _ (by decide +kernel) fun t hf y => ?_
  obtain ⟨r, d, rfl⟩ : ∃ (r : Fin 64) (d : Fin 1024), y = ix2 r d := ⟨y 0, y 1, by funext i; fin_cases i <;> rfl⟩
  rw [after0_13, out13, emb13]
  refine (sq1 _ _ (ix2 r d)).trans ?_
  rw [at3, at7]

end Cert.AdamKernelIdeal.Adam
end
-- ==== Proof.Adam.Host.lean ====
module

public import proofs.«01_k».proof.Proof.Adam.Arr
public import Idealize.ShloMosaic.Lib.StableHlo.ReadAt

@[expose] public section

/-! What the host code prepares for the optimiser's call and what it makes of its results, read entry by entry. -/

set_option maxRecDepth 16384

noncomputable section

open Idealize.ShloMosaic Idealize.ShloMosaic.TcCoe

namespace Cert.AdamKernelIdeal.Adam

open Cert.AdamKernelIdeal Cert.AdamKernelIdeal.Gen

section Before
variable (m : (ℓ : Loc nD τ sig) → Buf (Elt Ideal) ℓ) (c : Dev nD)

/-- The arrays of `w_in`: the weight, its gradient, its moments. -/
theorem found0 (a : Fin 496) (b : Fin 1024) : (V m c main_v1 (ix2 a b) : EReal) = (m ((c.tc : Thread nD τ).loc main_arg0) (ix3 0 b a) : EReal)
    ∧ (V m c main_v4 (ix2 a b) : EReal) = (m ((c.tc : Thread nD τ).loc main_arg2) (ix3 0 b a) : EReal)
    ∧ (V m c main_v7 (ix2 a b) : EReal) = (m ((c.tc : Thread nD τ).loc main_arg4) (ix3 0 b a) : EReal)
    ∧ (V m c main_v10 (ix2 a b) : EReal) = (m ((c.tc : Thread nD τ).loc main_arg6) (ix3 0 b a) : EReal) := by
  unfold V V0 hostOps0
  refine ⟨?_, ?_, ?_, ?_⟩ <;> after_reads_at

/-- The arrays of `w_out`: the weight, its gradient, its moments. -/
theorem found1 (a : Fin 256) (b : Fin 1024) : (V m c main_v2 (ix2 a b) : EReal) = (m ((c.tc : Thread nD τ).loc main_arg1) (ix3 0 a b) : EReal)
    ∧ (V m c main_v5 (ix2 a b) : EReal) = (m ((c.tc : Thread nD τ).loc main_arg3) (ix3 0 a b) : EReal)
    ∧ (V m c main_v8 (ix2 a b) : EReal) = (m ((c.tc : Thread nD τ).loc main_arg5) (ix3 0 a b) : EReal)
    ∧ (V m c main_v11 (ix2 a b) : EReal) = (m ((c.tc : Thread nD τ).loc main_arg7) (ix3 0 a b) : EReal) := by
  unfold V V0 hostOps0
  refine ⟨?_, ?_, ?_, ?_⟩ <;> after_reads_at

end Before

section After
variable (A : Valuation τ sig (Elt Ideal))

/-- The results of `w_in`: its change, its new moments. -/
theorem left0 (a : Fin 496) (b : Fin 1024) : (StableHlo.after (List.flatten [hostOps1]) A (Proc.devRef .tc main_v14) (ix3 0 b a) : EReal) = (A (Proc.devRef .tc main_v12_0) (ix2 a b) : EReal)
    ∧ (StableHlo.after (List.flatten [hostOps1]) A (Proc.devRef .tc main_v17) (ix3 0 b a) : EReal) = (A (Proc.devRef .tc main_v12_2) (ix2 a b) : EReal)
    ∧ (StableHlo.after (List.flatten [hostOps1]) A (Proc.devRef .tc main_v20) (ix3 0 b a) : EReal) = (A (Proc.devRef .tc main_v12_4) (ix2 a b) : EReal) := by
  unfold hostOps1
  refine ⟨?_, ?_, ?_⟩ <;> after_reads_at

/-- The results of `w_out`: its change, its new moments. -/
theorem left1 (a : Fin 256) (b : Fin 1024) : (StableHlo.after (List.flatten [hostOps1]) A (Proc.devRef .tc main_v15) (ix3 0 a b) : EReal) = (A (Proc.devRef .tc main_v12_1) (ix2 a b) : EReal)
    ∧ (StableHlo.after (List.flatten [hostOps1]) A (Proc.devRef .tc main_v18) (ix3 0 a b) : EReal) = (A (Proc.devRef .tc main_v12_3) (ix2 a b) : EReal)
    ∧ (StableHlo.after (List.flatten [hostOps1]) A (Proc.devRef .tc main_v21) (ix3 0 a b) : EReal) = (A (Proc.devRef .tc main_v12_5) (ix2 a b) : EReal) := by
  unfold hostOps1
  refine ⟨?_, ?_, ?_⟩ <;> after_reads_at

end After

end Cert.AdamKernelIdeal.Adam
end
-- ==== Proof.Adam.Ref.lean ====
module

public import proofs.«01_k».proof.Proof.Gen.AdamReferenceIdeal.Read
public import proofs.«01_k».proof.Proof.Adam.Spec

@[expose] public section

/-! The reference's optimiser, entry by entry. -/

set_option maxRecDepth 16384

noncomputable section

open Idealize.ShloMosaic Idealize.ShloMosaic.TcCoe

namespace Cert.AdamReferenceIdeal.Adam

open Cert.AdamReferenceIdeal Cert.AdamReferenceIdeal.Read Cert.Adam

theorem mom0 (g m : Vec Ideal S1x1024x496 .f32) (y) : val_main_v4 (F := Ideal) g m y = mom (g y) (m y) := rfl

theorem sq0 (g v : Vec Ideal S1x1024x496 .f32) (y) : val_main_v10 (F := Ideal) g v y = sq (g y) (v y) := rfl

theorem step0 (w g m v : Vec Ideal S1x1024x496 .f32) (y) : val_main_v23 (F := Ideal) w g m v y = step (w y) (g y) (m y) (v y) := by
  unfold step
  rw [← mom0 g m y, ← sq0 g v y]
  rfl

theorem mom1 (g m : Vec Ideal S1x256x1024 .f32) (y) : val_main_v28 (F := Ideal) g m y = mom (g y) (m y) := rfl

theorem sq1 (g v : Vec Ideal S1x256x1024 .f32) (y) : val_main_v34 (F := Ideal) g v y = sq (g y) (v y) := rfl

theorem step1 (w g m v : Vec Ideal S1x256x1024 .f32) (y) : val_main_v47 (F := Ideal) w g m v y = step (w y) (g y) (m y) (v y) := by
  unfold step
  rw [← mom1 g m y, ← sq1 g v y]
  rfl

end Cert.AdamReferenceIdeal.Adam
end
-- ==== Proof.Adam.Eq.lean ====
module

public import proofs.«01_k».proof.Proof.Adam.Host
public import proofs.«01_k».proof.Proof.Adam.Ref

@[expose] public section

/-! The optimiser's call: its run with its results read off, and each of them the reference's. -/

set_option maxRecDepth 16384

noncomputable section

open Idealize.ShloMosaic Idealize.ShloMosaic.TcCoe
open Idealize.SL Idealize.SL.Sem

namespace Cert.AdamKernelIdeal.Adam

open Cert.AdamKernelIdeal Cert.AdamKernelIdeal.Gen Cert.Adam

variable (m : (ℓ : Loc nD τ sig) → Buf (Elt Ideal) ℓ) (ρ : Dev nD → PrngReg) (c : Dev nD)

/-- What the host code after the call leaves in a buffer. -/
abbrev tail (c : Dev nD) (b : Ref sig .tc) : Buf (Elt Ideal) ((c.tc : Thread nD τ).loc b) :=
  Pipeline.afterTail₀ cfgs (dats m) 0 (V0 m) [hostOps1] c b

/-- Every fair execution ends with the results as the host code leaves them, the arguments as launched. -/
theorem run_adam : θ_run defs (onTc (τ := τ) (main (F := Ideal))) ⟨m, fun _ => 0, ρ⟩ (fun r => ∀ c : Dev nD,
      r.2.mem ((c.tc : Thread nD τ).loc main_v14) = tail m c main_v14
      ∧ r.2.mem ((c.tc : Thread nD τ).loc main_v15) = tail m c main_v15
      ∧ r.2.mem ((c.tc : Thread nD τ).loc main_v17) = tail m c main_v17
      ∧ r.2.mem ((c.tc : Thread nD τ).loc main_v18) = tail m c main_v18
      ∧ r.2.mem ((c.tc : Thread nD τ).loc main_v20) = tail m c main_v20
      ∧ r.2.mem ((c.tc : Thread nD τ).loc main_v21) = tail m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨h, ha⟩ := h
    exact ⟨(h c).2 main_v14 (by decide), (h c).2 main_v15 (by decide), (h c).2 main_v17 (by decide), (h c).2 main_v18 (by decide), (h c).2 main_v20 (by decide), (h c).2 main_v21 (by decide), ha c⟩) (θ_run_and (run_main m ρ) (unchanged m ρ))

theorem three {n k : ℕ} (i : (⟨3, ![1, n, k]⟩ : Shape).Idx) : i = ix3 0 (i 1) (i 2) := by
  funext a; fin_cases a
  · exact Subsingleton.elim (α := Fin 1) _ _
  · rfl
  · rfl

/-- After the call its arrays hold what the last grid point left in them. -/
theorem array (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr cfg0.spec (by decide) c (V0 m c) _ w

open Cert.AdamReferenceIdeal.Read

/-- An argument. -/
abbrev arg (b : Ref sig .tc) := m ((c.tc : Thread nD τ).loc b)

theorem step_eq0 : tail m c main_v14 = val_main_v23 (F := Ideal) (arg m c main_arg0) (arg m c main_arg2) (arg m c main_arg4) (arg m c main_arg6) := by
  funext i
  obtain ⟨a, b, rfl⟩ : ∃ (a : Fin 1024) (b : Fin 496), i = ix3 0 a b := ⟨_, _, three i⟩
  have h := found0 m c b a
  refine ((left0 _ b a).1.trans (congrFun ((array m c 8).trans (arr8 m c)) _)).trans ?_
  show step (V m c main_v1 (ix2 b a)) (V m c main_v4 (ix2 b a)) (V m c main_v7 (ix2 b a)) (V m c main_v10 (ix2 b a)) = _
  rw [h.1, h.2.1, h.2.2.1, h.2.2.2]
  exact (Cert.AdamReferenceIdeal.Adam.step0 (arg m c main_arg0) (arg m c main_arg2) (arg m c main_arg4) (arg m c main_arg6) _).symm

theorem mom_eq0 : tail m c main_v17 = val_main_v4 (F := Ideal) (arg m c main_arg2) (arg m c main_arg4) := by
  funext i
  obtain ⟨a, b, rfl⟩ : ∃ (a : Fin 1024) (b : Fin 496), i = ix3 0 a b := ⟨_, _, three i⟩
  have h := found0 m c b a
  refine ((left0 _ b a).2.1.trans (congrFun ((array m c 10).trans (arr10 m c)) _)).trans ?_
  show mom (V m c main_v4 (ix2 b a)) (V m c main_v7 (ix2 b a)) = _
  rw [h.2.1, h.2.2.1]
  exact (Cert.AdamReferenceIdeal.Adam.mom0 (arg m c main_arg2) (arg m c main_arg4) _).symm

theorem sq_eq0 : tail m c main_v20 = val_main_v10 (F := Ideal) (arg m c main_arg2) (arg m c main_arg6) := by
  funext i
  obtain ⟨a, b, rfl⟩ : ∃ (a : Fin 1024) (b : Fin 496), i = ix3 0 a b := ⟨_, _, three i⟩
  have h := found0 m c b a
  refine ((left0 _ b a).2.2.trans (congrFun ((array m c 12).trans (arr12 m c)) _)).trans ?_
  show sq (V m c main_v4 (ix2 b a)) (V m c main_v10 (ix2 b a)) = _
  rw [h.2.1, h.2.2.2]
  exact (Cert.AdamReferenceIdeal.Adam.sq0 (arg m c main_arg2) (arg m c main_arg6) _).symm

theorem step_eq1 : tail m c main_v15 = val_main_v47 (F := Ideal) (arg m c main_arg1) (arg m c main_arg3) (arg m c main_arg5) (arg m c main_arg7) := by
  funext i
  obtain ⟨a, b, rfl⟩ : ∃ (a : Fin 256) (b : Fin 1024), i = ix3 0 a b := ⟨_, _, three i⟩
  have h := found1 m c a b
  refine ((left1 _ a b).1.trans (congrFun ((array m c 9).trans (arr9 m c)) _)).trans ?_
  show step (V m c main_v2 (ix2 a b)) (V m c main_v5 (ix2 a b)) (V m c main_v8 (ix2 a b)) (V m c main_v11 (ix2 a b)) = _
  rw [h.1, h.2.1, h.2.2.1, h.2.2.2]
  exact (Cert.AdamReferenceIdeal.Adam.step1 (arg m c main_arg1) (arg m c main_arg3) (arg m c main_arg5) (arg m c main_arg7) _).symm

theorem mom_eq1 : tail m c main_v18 = val_main_v28 (F := Ideal) (arg m c main_arg3) (arg m c main_arg5) := by
  funext i
  obtain ⟨a, b, rfl⟩ : ∃ (a : Fin 256) (b : Fin 1024), i = ix3 0 a b := ⟨_, _, three i⟩
  have h := found1 m c a b
  refine ((left1 _ a b).2.1.trans (congrFun ((array m c 11).trans (arr11 m c)) _)).trans ?_
  show mom (V m c main_v5 (ix2 a b)) (V m c main_v8 (ix2 a b)) = _
  rw [h.2.1, h.2.2.1]
  exact (Cert.AdamReferenceIdeal.Adam.mom1 (arg m c main_arg3) (arg m c main_arg5) _).symm

theorem sq_eq1 : tail m c main_v21 = val_main_v34 (F := Ideal) (arg m c main_arg3) (arg m c main_arg7) := by
  funext i
  obtain ⟨a, b, rfl⟩ : ∃ (a : Fin 256) (b : Fin 1024), i = ix3 0 a b := ⟨_, _, three i⟩
  have h := found1 m c a b
  refine ((left1 _ a b).2.2.trans (congrFun ((array m c 13).trans (arr13 m c)) _)).trans ?_
  show sq (V m c main_v5 (ix2 a b)) (V m c main_v11 (ix2 a b)) = _
  rw [h.2.1, h.2.2.2]
  exact (Cert.AdamReferenceIdeal.Adam.sq1 (arg m c main_arg3) (arg m c main_arg7) _).symm

end Cert.AdamKernelIdeal.Adam
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.Pre_out_finite
public import proofs.«01_k».proof.Proof.Gen.OutReferenceIdeal.Run
public import proofs.«01_k».proof.Proof.Gen.OutReferenceIdeal.Read
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Attn.Run
public import proofs.«01_k».proof.Proof.Attn.Eq
public import proofs.«01_k».proof.Proof.Out.Run
public import proofs.«01_k».proof.Proof.Out.Eq
public import Idealize.ShloMosaic.Adequacy
public import Idealize.ShloMosaic.Init
public import proofs.«01_k».proof.Proof.Fwd.Eq
public import proofs.«01_k».proof.Proof.Adam.Eq

@[expose] public section

noncomputable section

namespace Cert.Proof

open Idealize.ShloMosaic Idealize.SL.Sem Cert.Kernel

/-- The frame of the kernel over real words. -/
theorem frame_kernel : Cert.quiescent_Kernel (hKernel := Cert.Kernel.Gen.facts) := fun m ρ _ => Cert.Kernel.Gen.frame m ρ

/-- The frame of the ideal kernel, at any arguments and at finite ones. -/
theorem frame_ideal : Cert.quiescent_KernelIdeal (hKernelIdeal := Cert.KernelIdeal.Gen.facts) := fun m ρ _ => Cert.KernelIdeal.Gen.frame m ρ

theorem frame_ideal_finite : Cert.quiescent_KernelIdeal_pre_finite (hKernelIdeal := Cert.KernelIdeal.Gen.facts) (hPre_finite := Cert.Pre_finite.Gen.facts) :=
  fun m ρ _ => Cert.KernelIdeal.Gen.frame m ρ

/-- The reference ends with its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => And.intro (fun c => (h c).2.2.2.2) (Idealize.ShloMosaic.sem_eq_zero_of_no_sems (by decide) r.2))
    (Cert.ReferenceIdeal.Value.run (F := Ideal) m ρ)

theorem frame_reference_finite : Cert.quiescent_ReferenceIdeal_pre_finite (hReferenceIdeal := Cert.ReferenceIdeal.Gen.facts) (hPre_finite := Cert.Pre_finite.Gen.facts) :=
  fun m ρ _ => frame_reference m ρ trivial

/-- The two named constants are what their names say. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale" .f32 0x3D93CD3A#32 (((Real.sqrt 192)⁻¹ : ℝ) : EReal) rfl⟩

/-- Over finite arguments the attention's output and its three gradients are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hfin hagree
  refine ⟨fun c => Cert.KernelIdeal.Gen.W8 m ρ c (Proc.devRef .tc Cert.KernelIdeal.main_v21), fun c => Cert.KernelIdeal.Gen.W8 m ρ c (Proc.devRef .tc Cert.KernelIdeal.main_v23),
    fun c => Cert.KernelIdeal.Gen.W8 m ρ c (Proc.devRef .tc Cert.KernelIdeal.main_v27), fun c => Cert.KernelIdeal.Gen.W8 m ρ c (Proc.devRef .tc Cert.KernelIdeal.main_v28),
    (θ_run Cert.KernelIdeal.defs _ _).mono (fun _ h => h.1) (Cert.KernelIdeal.Attn.run_main (F := Ideal) m ρ), ?_⟩
  refine (θ_run Cert.ReferenceIdeal.defs _ _).mono (fun r h c => ?_) (Cert.ReferenceIdeal.Value.run (F := Ideal) m' ρ')
  obtain ⟨h0, h1, h2, h3, ha⟩ := h c
  obtain ⟨a0, a1, a2, a3⟩ := hagree c
  obtain ⟨r0, r1, r2, r3⟩ := Cert.KernelIdeal.Attn.results m ρ c hfin
  refine ⟨?_, ?_, ?_, ?_, ha⟩
  · rw [h0, Cert.ReferenceIdeal.Read.val_main_v36_eq, a0, a1, a2]; exact r0.symm
  · rw [h1, Cert.ReferenceIdeal.Read.val_main_v59_eq, a0, a1, a2, a3]; exact r1.symm
  · rw [h2, Cert.ReferenceIdeal.Read.val_main_v58_eq, a0, a1, a2, a3]; exact r2.symm
  · rw [h3, Cert.ReferenceIdeal.Read.val_main_v41_eq, a0, a1, a3]; exact r3.symm

/-- The output stage's frames. -/
theorem out_frame_kernel : Cert.quiescent_OutKernel (hOutKernel := Cert.OutKernel.Gen.facts) := fun m ρ _ => Cert.OutKernel.Gen.frame m ρ

theorem out_frame_ideal : Cert.quiescent_OutKernelIdeal (hOutKernelIdeal := Cert.OutKernelIdeal.Gen.facts) := fun m ρ _ => Cert.OutKernelIdeal.Gen.frame m ρ

theorem out_frame_ideal_finite : Cert.quiescent_OutKernelIdeal_pre_out_finite (hOutKernelIdeal := Cert.OutKernelIdeal.Gen.facts)
    (hPre_out_finite := Cert.Pre_out_finite.Gen.facts) := fun m ρ _ => Cert.OutKernelIdeal.Gen.frame m ρ

theorem out_frame_reference : Cert.quiescent_OutReferenceIdeal (hOutReferenceIdeal := Cert.OutReferenceIdeal.Gen.facts) := fun m ρ _ =>
  (θ_run Cert.OutReferenceIdeal.defs _ _).mono (fun r h => And.intro (fun c => (h c).2.2.2.2.2.2.2.2.2.2) (Idealize.ShloMosaic.sem_eq_zero_of_no_sems (by decide) r.2))
    (Cert.OutReferenceIdeal.Value.run (F := Ideal) m ρ)

theorem out_frame_reference_finite : Cert.quiescent_OutReferenceIdeal_pre_out_finite (hOutReferenceIdeal := Cert.OutReferenceIdeal.Gen.facts)
    (hPre_out_finite := Cert.Pre_out_finite.Gen.facts) := fun m ρ _ => out_frame_reference m ρ trivial

/-- The output stage has no named constant. -/
theorem out_preserves : Cert.preserves_OutKernel_OutKernelIdeal := trivial

/-- Over finite arguments the output stage's loss and gradients are its reference's. -/
theorem out_algebraic : Cert.algebraic_OutKernelIdeal_OutReferenceIdeal_pre_out_finite (hOutKernelIdeal := Cert.OutKernelIdeal.Gen.facts)
    (hOutReferenceIdeal := Cert.OutReferenceIdeal.Gen.facts) (hPre_out_finite := Cert.Pre_out_finite.Gen.facts) := by
  intro m ρ m' ρ' hfin hagree
  refine ⟨fun c => Cert.OutKernelIdeal.Out.tail m c Cert.OutKernelIdeal.main_v24,
    fun c => Cert.OutKernelIdeal.Out.tail m c Cert.OutKernelIdeal.main_v23,
    fun c => Cert.OutKernelIdeal.Out.tail m c Cert.OutKernelIdeal.main_v25,
    fun c => Cert.OutKernelIdeal.Out.tail m c Cert.OutKernelIdeal.main_v26,
    fun c => Cert.OutKernelIdeal.Out.tail m c Cert.OutKernelIdeal.main_v27,
    fun c => Cert.OutKernelIdeal.Out.tail m c Cert.OutKernelIdeal.main_v28,
    fun c => (Cert.OutKernelIdeal.Gen.dats m 0 c).arrAt 18 Cert.OutKernelIdeal.cfg0.N,
    fun c => (Cert.OutKernelIdeal.Gen.dats m 0 c).arrAt 19 Cert.OutKernelIdeal.cfg0.N,
    fun c => Cert.OutKernelIdeal.Out.tail m c Cert.OutKernelIdeal.main_v29,
    fun c => Cert.OutKernelIdeal.Out.tail m c Cert.OutKernelIdeal.main_v30,
    Cert.OutKernelIdeal.Out.run_out m ρ, ?_⟩
  refine (θ_run Cert.OutReferenceIdeal.defs _ _).mono (fun r h c => ?_) (Cert.OutReferenceIdeal.Value.run (F := Ideal) m' ρ')
  obtain ⟨h0, h1, h2, h3, h4, h5, h6, h7, h8, h9, ha⟩ := h c
  obtain ⟨a0, a1, -, a3, a4, a5, a6, a7, a8⟩ := hagree c
  refine ⟨?_, ?_, ?_, ?_, ?_, ?_, ?_, ?_, ?_, ?_, ha⟩
  · rw [h0, Cert.OutReferenceIdeal.Read.val_main_v69_eq, a0, a1, a3, a4, a5, a6, a7, a8]; exact (Cert.OutKernelIdeal.Out.dx_eq c hfin).symm
  · rw [h1, Cert.OutReferenceIdeal.Read.val_main_v86_eq, a0, a1, a3, a4, a5, a6, a7, a8]; exact (Cert.OutKernelIdeal.Out.dattn_eq c hfin).symm
  · rw [h2, Cert.OutReferenceIdeal.Read.val_main_v104_eq, a0, a1, a3, a4, a5, a6, a7, a8]; exact (Cert.OutKernelIdeal.Out.dga_eq c hfin).symm
  · rw [h3, Cert.OutReferenceIdeal.Read.val_main_v105_eq, a0, a1, a3, a4, a5, a6, a7, a8]; exact (Cert.OutKernelIdeal.Out.dgp_eq c hfin).symm
  · rw [h4, Cert.OutReferenceIdeal.Read.val_main_v103_eq, a0, a1, a3, a4, a5, a6, a7, a8]; exact (Cert.OutKernelIdeal.Out.dp_eq c hfin).symm
  · rw [h5, Cert.OutReferenceIdeal.Read.val_main_v78_eq, a0, a1, a3, a4, a5, a6, a7, a8]; exact (Cert.OutKernelIdeal.Out.dw_eq c hfin).symm
  · rw [h6, Cert.OutReferenceIdeal.Read.val_main_v80_eq, a0, a1, a3, a4, a5, a6, a7, a8]; exact (Cert.OutKernelIdeal.Out.dgate_eq c hfin).symm
  · rw [h7, Cert.OutReferenceIdeal.Read.val_main_v95_eq, a0, a1, a3, a4, a5, a6, a7, a8]; exact (Cert.OutKernelIdeal.Out.dps_eq c hfin).symm
  · rw [h8, Cert.OutReferenceIdeal.Read.val_main_v102_eq, a0, a1, a3, a4, a5, a6, a7, a8]; exact (Cert.OutKernelIdeal.Out.dwp_eq c hfin).symm
  · rw [h9, Cert.OutReferenceIdeal.Read.val_main_v63_eq, a0, a1, a3, a4, a5, a6, a7, a8]; exact (Cert.OutKernelIdeal.Out.loss_eq c hfin).symm

/-- The forward call of the input norm, the projections, the head norms and the rotary embedding: the frames, and the values of three results. -/
theorem fwd_frame_kernel : Cert.quiescent_FwdKernel (hFwdKernel := Cert.FwdKernel.Gen.facts) := fun m ρ _ => Cert.FwdKernel.Gen.frame m ρ

theorem fwd_frame_ideal : Cert.quiescent_FwdKernelIdeal (hFwdKernelIdeal := Cert.FwdKernelIdeal.Gen.facts) := fun m ρ _ => Cert.FwdKernelIdeal.Gen.frame m ρ

theorem fwd_frame_reference : Cert.quiescent_FwdReferenceIdeal (hFwdReferenceIdeal := Cert.FwdReferenceIdeal.Gen.facts) := fun m ρ _ =>
  (θ_run Cert.FwdReferenceIdeal.defs _ _).mono (fun r h => And.intro (fun c => (h c).2.2.2) (Idealize.ShloMosaic.sem_eq_zero_of_no_sems (by decide) r.2))
    (Cert.FwdReferenceIdeal.Value.run (F := Ideal) m ρ)

theorem fwd_preserves : Cert.preserves_FwdKernel_FwdKernelIdeal := trivial

/-- The forward call's projections and values are its reference's, at any arguments. -/
theorem fwd_algebraic : Cert.algebraic_FwdKernelIdeal_FwdReferenceIdeal (hFwdKernelIdeal := Cert.FwdKernelIdeal.Gen.facts)
    (hFwdReferenceIdeal := Cert.FwdReferenceIdeal.Gen.facts) := by
  intro m ρ m' ρ' _ hagree
  refine ⟨fun c => Cert.FwdKernelIdeal.Fwd.tail m c Cert.FwdKernelIdeal.main_v43, fun c => Cert.FwdKernelIdeal.Fwd.tail m c Cert.FwdKernelIdeal.main_v45,
    fun c => Cert.FwdKernelIdeal.Fwd.tail m c Cert.FwdKernelIdeal.main_v46, Cert.FwdKernelIdeal.Fwd.run_fwd m ρ, ?_⟩
  refine (θ_run Cert.FwdReferenceIdeal.defs _ _).mono (fun r h c => ?_) (Cert.FwdReferenceIdeal.Value.run (F := Ideal) m' ρ')
  obtain ⟨h0, h1, h2, ha⟩ := h c
  obtain ⟨a0, a1, a2, a3, a4, a5, -, -, a8, a9, -⟩ := hagree c
  refine ⟨?_, ?_, ?_, ha⟩
  · rw [h0, Cert.FwdReferenceIdeal.Read.val_main_v49_eq, a0, a2, a4, a5]; exact (Cert.FwdKernelIdeal.Fwd.u_eq m c).symm
  · rw [h1, Cert.FwdReferenceIdeal.Read.val_main_v51_eq, a1, a3, a4, a5]; exact (Cert.FwdKernelIdeal.Fwd.uc_eq m c).symm
  · rw [h2, Cert.FwdReferenceIdeal.Read.val_main_v90_eq, a0, a1, a2, a3, a4, a5, a8, a9]; exact (Cert.FwdKernelIdeal.Fwd.v_eq m c).symm

/-- The optimiser's call: the frames, and the values of all it returns but the copies of the gradients. -/
theorem adam_frame_kernel : Cert.quiescent_AdamKernel (hAdamKernel := Cert.AdamKernel.Gen.facts) := fun m ρ _ => Cert.AdamKernel.Gen.frame m ρ

theorem adam_frame_ideal : Cert.quiescent_AdamKernelIdeal (hAdamKernelIdeal := Cert.AdamKernelIdeal.Gen.facts) := fun m ρ _ => Cert.AdamKernelIdeal.Gen.frame m ρ

theorem adam_frame_reference : Cert.quiescent_AdamReferenceIdeal (hAdamReferenceIdeal := Cert.AdamReferenceIdeal.Gen.facts) := fun m ρ _ =>
  (θ_run Cert.AdamReferenceIdeal.defs _ _).mono (fun r h => And.intro (fun c => (h c).2.2.2.2.2.2) (Idealize.ShloMosaic.sem_eq_zero_of_no_sems (by decide) r.2))
    (Cert.AdamReferenceIdeal.Value.run (F := Ideal) m ρ)

theorem adam_preserves : Cert.preserves_AdamKernel_AdamKernelIdeal := trivial

/-- The optimiser's changes and new moments are its reference's, at any arguments. -/
theorem adam_algebraic : Cert.algebraic_AdamKernelIdeal_AdamReferenceIdeal (hAdamKernelIdeal := Cert.AdamKernelIdeal.Gen.facts)
    (hAdamReferenceIdeal := Cert.AdamReferenceIdeal.Gen.facts) := by
  intro m ρ m' ρ' _ hagree
  refine ⟨fun c => Cert.AdamKernelIdeal.Adam.tail m c Cert.AdamKernelIdeal.main_v14,
    fun c => Cert.AdamKernelIdeal.Adam.tail m c Cert.AdamKernelIdeal.main_v15,
    fun c => Cert.AdamKernelIdeal.Adam.tail m c Cert.AdamKernelIdeal.main_v17,
    fun c => Cert.AdamKernelIdeal.Adam.tail m c Cert.AdamKernelIdeal.main_v18,
    fun c => Cert.AdamKernelIdeal.Adam.tail m c Cert.AdamKernelIdeal.main_v20,
    fun c => Cert.AdamKernelIdeal.Adam.tail m c Cert.AdamKernelIdeal.main_v21,
    Cert.AdamKernelIdeal.Adam.run_adam m ρ, ?_⟩
  refine (θ_run Cert.AdamReferenceIdeal.defs _ _).mono (fun r h c => ?_) (Cert.AdamReferenceIdeal.Value.run (F := Ideal) m' ρ')
  obtain ⟨h0, h1, h2, h3, h4, h5, ha⟩ := h c
  obtain ⟨a0, a1, a2, a3, a4, a5, a6, a7⟩ := hagree c
  refine ⟨?_, ?_, ?_, ?_, ?_, ?_, ha⟩
  · rw [h0, Cert.AdamReferenceIdeal.Read.val_main_v23_eq, a0, a2, a4, a6]; exact (Cert.AdamKernelIdeal.Adam.step_eq0 m c).symm
  · rw [h1, Cert.AdamReferenceIdeal.Read.val_main_v47_eq, a1, a3, a5, a7]; exact (Cert.AdamKernelIdeal.Adam.step_eq1 m c).symm
  · rw [h2, Cert.AdamReferenceIdeal.Read.val_main_v4_eq, a2, a4]; exact (Cert.AdamKernelIdeal.Adam.mom_eq0 m c).symm
  · rw [h3, Cert.AdamReferenceIdeal.Read.val_main_v28_eq, a3, a5]; exact (Cert.AdamKernelIdeal.Adam.mom_eq1 m c).symm
  · rw [h4, Cert.AdamReferenceIdeal.Read.val_main_v10_eq, a2, a6]; exact (Cert.AdamKernelIdeal.Adam.sq_eq0 m c).symm
  · rw [h5, Cert.AdamReferenceIdeal.Read.val_main_v34_eq, a3, a7]; exact (Cert.AdamKernelIdeal.Adam.sq_eq1 m c).symm

theorem claim : Cert.Claim := ⟨Cert.Kernel.Gen.facts, Cert.KernelIdeal.Gen.facts, Cert.ReferenceIdeal.Gen.facts, Cert.OutKernel.Gen.facts,
  Cert.OutKernelIdeal.Gen.facts, Cert.OutReferenceIdeal.Gen.facts, Cert.FwdKernel.Gen.facts, Cert.FwdKernelIdeal.Gen.facts, Cert.FwdReferenceIdeal.Gen.facts,
  Cert.AdamKernel.Gen.facts, Cert.AdamKernelIdeal.Gen.facts, Cert.AdamReferenceIdeal.Gen.facts, Cert.Pre_finite.Gen.facts, Cert.Pre_out_finite.Gen.facts,
  frame_kernel, frame_ideal, frame_ideal_finite, frame_reference, frame_reference_finite,
  out_frame_kernel, out_frame_ideal, out_frame_ideal_finite, out_frame_reference, out_frame_reference_finite,
  fwd_frame_kernel, fwd_frame_ideal, fwd_frame_reference, adam_frame_kernel, adam_frame_ideal, adam_frame_reference,
  preserves, algebraic, out_preserves, out_algebraic, fwd_preserves, fwd_algebraic,
  adam_preserves, adam_algebraic⟩

end Cert.Proof

end
